-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v182)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v182) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v64_1)) (v1 : (c : Dev Cert.Kernel3Ideal.nD) → Buf (Elt Ideal) ((c.tc : Thread Cert.Kernel3Ideal.nD Cert.Kernel3Ideal.τ).loc Cert.Kernel3Ideal.main_v64_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v64_1) = v0 c
          ∧ r.2.mem ((c.tc : Thread Cert.Kernel3Ideal.nD Cert.Kernel3Ideal.τ).loc Cert.Kernel3Ideal.main_v64_4) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x8192x4x128 : Shape := ⟨4, ![2, 8192, 4, 128]⟩
abbrev S2x8192x4x256 : Shape := ⟨4, ![2, 8192, 4, 256]⟩
abbrev S2x8192x4x64 : Shape := ⟨4, ![2, 8192, 4, 64]⟩
abbrev S2x8192x256 : Shape := ⟨3, ![2, 8192, 256]⟩
abbrev S2x8192x64 : Shape := ⟨3, ![2, 8192, 64]⟩
abbrev S32x4 : Shape := ⟨2, ![32, 4]⟩
abbrev S1x4x64 : Shape := ⟨3, ![1, 4, 64]⟩
abbrev S1x128 : Shape := ⟨2, ![1, 128]⟩
abbrev S1x256x4x128 : Shape := ⟨4, ![1, 256, 4, 128]⟩
abbrev S_ : Shape := ⟨0, ![]⟩

class Facts : Prop where
  bcast_S_S2x8192x4x128 : S_.BroadcastsInDim S2x8192x4x128 (![] : Fin 0 → Fin S2x8192x4x128.rank)
  reducesTo_S2x8192x4x128_S_d0_1_2_3 : S2x8192x4x128.ReducesTo [0, 1, 2, 3] S_
  h_S_ : 0 < S_.numel
  bcast_S_S2x8192x4x256 : S_.BroadcastsInDim S2x8192x4x256 (![] : Fin 0 → Fin S2x8192x4x256.rank)
  reducesTo_S2x8192x4x256_S_d0_1_2_3 : S2x8192x4x256.ReducesTo [0, 1, 2, 3] S_
  bcast_S_S2x8192x4x64 : S_.BroadcastsInDim S2x8192x4x64 (![] : Fin 0 → Fin S2x8192x4x64.rank)
  reducesTo_S2x8192x4x64_S_d0_1_2_3 : S2x8192x4x64.ReducesTo [0, 1, 2, 3] S_
  bcast_S_S2x8192x256 : S_.BroadcastsInDim S2x8192x256 (![] : Fin 0 → Fin S2x8192x256.rank)
  reducesTo_S2x8192x256_S_d0_1_2 : S2x8192x256.ReducesTo [0, 1, 2] S_
  bcast_S_S2x8192x64 : S_.BroadcastsInDim S2x8192x64 (![] : Fin 0 → Fin S2x8192x64.rank)
  reducesTo_S2x8192x64_S_d0_1_2 : S2x8192x64.ReducesTo [0, 1, 2] S_
  bcast_S_S32x4 : S_.BroadcastsInDim S32x4 (![] : Fin 0 → Fin S32x4.rank)
  reducesTo_S32x4_S_d0_1 : S32x4.ReducesTo [0, 1] S_
  bcast_S_S1x4x64 : S_.BroadcastsInDim S1x4x64 (![] : Fin 0 → Fin S1x4x64.rank)
  reducesTo_S1x4x64_S_d0_1_2 : S1x4x64.ReducesTo [0, 1, 2] S_

variable [Facts]

def fn_part2 {F : FTy → Type} [FloatOps F] (main_arg7 : FVec F S32x4 .f32) (main_arg8 : FVec F S1x4x64 .f32) (main_v33 : IVec S_ 1) : IVec S_ 1 :=
  let main_v34 : FVec F S32x4 .f32 := Host.absf main_arg7
  let main_cst_12 : FVec F S_ .f32 := constant S_ .f32 0x7F800000#32
  let main_v35 : FVec F S32x4 .f32 := broadcastInDim S32x4 ![] bcast_S_S32x4 main_cst_12
  let main_v36 : IVec S32x4 1 := cmpf .olt main_v34 main_v35
  let main_c_13 : IVec S_ 1 := constantI S_ 1 1#1
  let main_v37 : IVec S_ 1 := (fun x v => Host.reduce IntOp.andi x v reducesTo_S32x4_S_d0_1 h_S_) main_v36 main_c_13
  let main_v38 : IVec S_ 1 := andi main_v33 main_v37
  let main_v39 : FVec F S1x4x64 .f32 := Host.absf main_arg8
  let main_cst_14 : FVec F S_ .f32 := constant S_ .f32 0x7F800000#32
  let main_v40 : FVec F S1x4x64 .f32 := broadcastInDim S1x4x64 ![] bcast_S_S1x4x64 main_cst_14
  let main_v41 : IVec S1x4x64 1 := cmpf .olt main_v39 main_v40
  let main_c_15 : IVec S_ 1 := constantI S_ 1 1#1
  let main_v42 : IVec S_ 1 := (fun x v => Host.reduce IntOp.andi x v reducesTo_S1x4x64_S_d0_1_2 h_S_) main_v41 main_c_15
  let main_v43 : IVec S_ 1 := andi main_v38 main_v42
  main_v43

def fn_part1 {F : FTy → Type} [FloatOps F] (main_arg4 : FVec F S2x8192x4x64 .f32) (main_arg5 : FVec F S2x8192x256 .f32) (main_arg6 : FVec F S2x8192x64 .f32) (main_arg7 : FVec F S32x4 .f32) (main_arg8 : FVec F S1x4x64 .f32) (main_v13 : IVec S_ 1) (main_v16 : IVec S2x8192x4x256 1) : IVec S_ 1 :=
  let main_c_5 : IVec S_ 1 := constantI S_ 1 1#1
  let main_v17 : IVec S_ 1 := (fun x v => Host.reduce IntOp.andi x v reducesTo_S2x8192x4x256_S_d0_1_2_3 h_S_) main_v16 main_c_5
  let main_v18 : IVec S_ 1 := andi main_v13 main_v17
  let main_v19 : FVec F S2x8192x4x64 .f32 := Host.absf main_arg4
  let main_cst_6 : FVec F S_ .f32 := constant S_ .f32 0x7F800000#32
  let main_v20 : FVec F S2x8192x4x64 .f32 := broadcastInDim S2x8192x4x64 ![] bcast_S_S2x8192x4x64 main_cst_6
  let main_v21 : IVec S2x8192x4x64 1 := cmpf .olt main_v19 main_v20
  let main_c_7 : IVec S_ 1 := constantI S_ 1 1#1
  let main_v22 : IVec S_ 1 := (fun x v => Host.reduce IntOp.andi x v reducesTo_S2x8192x4x64_S_d0_1_2_3 h_S_) main_v21 main_c_7
  let main_v23 : IVec S_ 1 := andi main_v18 main_v22
  let main_v24 : FVec F S2x8192x256 .f32 := Host.absf main_arg5
  let main_cst_8 : FVec F S_ .f32 := constant S_ .f32 0x7F800000#32
  let main_v25 : FVec F S2x8192x256 .f32 := broadcastInDim S2x8192x256 ![] bcast_S_S2x8192x256 main_cst_8
  let main_v26 : IVec S2x8192x256 1 := cmpf .olt main_v24 main_v25
  let main_c_9 : IVec S_ 1 := constantI S_ 1 1#1
  let main_v27 : IVec S_ 1 := (fun x v => Host.reduce IntOp.andi x v reducesTo_S2x8192x256_S_d0_1_2 h_S_) main_v26 main_c_9
  let main_v28 : IVec S_ 1 := andi main_v23 main_v27
  let main_v29 : FVec F S2x8192x64 .f32 := Host.absf main_arg6
  let main_cst_10 : FVec F S_ .f32 := constant S_ .f32 0x7F800000#32
  let main_v30 : FVec F S2x8192x64 .f32 := broadcastInDim S2x8192x64 ![] bcast_S_S2x8192x64 main_cst_10
  let main_v31 : IVec S2x8192x64 1 := cmpf .olt main_v29 main_v30
  let main_c_11 : IVec S_ 1 := constantI S_ 1 1#1
  let main_v32 : IVec S_ 1 := (fun x v => Host.reduce IntOp.andi x v reducesTo_S2x8192x64_S_d0_1_2 h_S_) main_v31 main_c_11
  let main_v33 : IVec S_ 1 := andi main_v28 main_v32
  fn_part2 (F := F) main_arg7 main_arg8 main_v33

def fn {F : FTy → Type} [FloatOps F] (main_arg0 : FVec F S2x8192x4x128 .f32) (main_arg1 : FVec F S2x8192x4x128 .f32) (main_arg2 : FVec F S2x8192x4x128 .f32) (main_arg3 : FVec F S2x8192x4x256 .f32) (main_arg4 : FVec F S2x8192x4x64 .f32) (main_arg5 : FVec F S2x8192x256 .f32) (main_arg6 : FVec F S2x8192x64 .f32) (main_arg7 : FVec F S32x4 .f32) (main_arg8 : FVec F S1x4x64 .f32) (main_arg9 : FVec F S1x128 .f32) (main_arg10 : FVec F S1x256x4x128 .f32) : IVec S_ 1 :=
  let main_v0 : FVec F S2x8192x4x128 .f32 := Host.absf main_arg0
  let main_cst : FVec F S_ .f32 := constant S_ .f32 0x7F800000#32
  let main_v1 : FVec F S2x8192x4x128 .f32 := broadcastInDim S2x8192x4x128 ![] bcast_S_S2x8192x4x128 main_cst
  let main_v2 : IVec S2x8192x4x128 1 := cmpf .olt main_v0 main_v1
  let main_c : IVec S_ 1 := constantI S_ 1 1#1
  let main_v3 : IVec S_ 1 := (fun x v => Host.reduce IntOp.andi x v reducesTo_S2x8192x4x128_S_d0_1_2_3 h_S_) main_v2 main_c
  let main_v4 : FVec F S2x8192x4x128 .f32 := Host.absf main_arg1
  let main_cst_0 : FVec F S_ .f32 := constant S_ .f32 0x7F800000#32
  let main_v5 : FVec F S2x8192x4x128 .f32 := broadcastInDim S2x8192x4x128 ![] bcast_S_S2x8192x4x128 main_cst_0
  let main_v6 : IVec S2x8192x4x128 1 := cmpf .olt main_v4 main_v5
  let main_c_1 : IVec S_ 1 := constantI S_ 1 1#1
  let main_v7 : IVec S_ 1 := (fun x v => Host.reduce IntOp.andi x v reducesTo_S2x8192x4x128_S_d0_1_2_3 h_S_) main_v6 main_c_1
  let main_v8 : IVec S_ 1 := andi main_v3 main_v7
  let main_v9 : FVec F S2x8192x4x128 .f32 := Host.absf main_arg2
  let main_cst_2 : FVec F S_ .f32 := constant S_ .f32 0x7F800000#32
  let main_v10 : FVec F S2x8192x4x128 .f32 := broadcastInDim S2x8192x4x128 ![] bcast_S_S2x8192x4x128 main_cst_2
  let main_v11 : IVec S2x8192x4x128 1 := cmpf .olt main_v9 main_v10
  let main_c_3 : IVec S_ 1 := constantI S_ 1 1#1
  let main_v12 : IVec S_ 1 := (fun x v => Host.reduce IntOp.andi x v reducesTo_S2x8192x4x128_S_d0_1_2_3 h_S_) main_v11 main_c_3
  let main_v13 : IVec S_ 1 := andi main_v8 main_v12
  let main_v14 : FVec F S2x8192x4x256 .f32 := Host.absf main_arg3
  let main_cst_4 : FVec F S_ .f32 := constant S_ .f32 0x7F800000#32
  let main_v15 : FVec F S2x8192x4x256 .f32 := broadcastInDim S2x8192x4x256 ![] bcast_S_S2x8192x4x256 main_cst_4
  let main_v16 : IVec S2x8192x4x256 1 := cmpf .olt main_v14 main_v15
  fn_part1 (F := F) main_arg4 main_arg5 main_arg6 main_arg7 main_arg8 main_v13 main_v16
-- ==== Kernel.lean ====
abbrev S2x8192x4x128 : Shape := ⟨4, ![2, 8192, 4, 128]⟩
abbrev S2x8192x4x256 : Shape := ⟨4, ![2, 8192, 4, 256]⟩
abbrev S2x8192x4x64 : Shape := ⟨4, ![2, 8192, 4, 64]⟩
abbrev S2x8192x256 : Shape := ⟨3, ![2, 8192, 256]⟩
abbrev S2x8192x64 : Shape := ⟨3, ![2, 8192, 64]⟩
abbrev S32x4 : Shape := ⟨2, ![32, 4]⟩
abbrev S1x4x64 : Shape := ⟨3, ![1, 4, 64]⟩
abbrev S1x128 : Shape := ⟨2, ![1, 128]⟩
abbrev S1x256x4x128 : Shape := ⟨4, ![1, 256, 4, 128]⟩
abbrev S272 : Shape := ⟨1, ![272]⟩
abbrev S_ : Shape := ⟨0, ![]⟩
abbrev S2x8192x4x1x128 : Shape := ⟨5, ![2, 8192, 4, 1, 128]⟩
abbrev S2x8192x4x2x128 : Shape := ⟨5, ![2, 8192, 4, 2, 128]⟩
abbrev S2x8192x1024 : Shape := ⟨3, ![2, 8192, 1024]⟩
abbrev S2x8192x512 : Shape := ⟨3, ![2, 8192, 512]⟩
abbrev S2x8192x4x384 : Shape := ⟨4, ![2, 8192, 4, 384]⟩
abbrev S2x8192x1536 : Shape := ⟨3, ![2, 8192, 1536]⟩
abbrev S2x8192x128 : Shape := ⟨3, ![2, 8192, 128]⟩
abbrev S2x8192x384 : Shape := ⟨3, ![2, 8192, 384]⟩
abbrev S1x4 : Shape := ⟨2, ![1, 4]⟩
abbrev S4 : Shape := ⟨1, ![4]⟩
abbrev S256 : Shape := ⟨1, ![256]⟩
abbrev S512 : Shape := ⟨1, ![512]⟩
abbrev S256x1 : Shape := ⟨2, ![256, 1]⟩
abbrev S1x512 : Shape := ⟨2, ![1, 512]⟩
abbrev S256x512 : Shape := ⟨2, ![256, 512]⟩
abbrev S1x256x512 : Shape := ⟨3, ![1, 256, 512]⟩
abbrev S256x512x1 : Shape := ⟨3, ![256, 512, 1]⟩
abbrev S32 : Shape := ⟨1, ![32]⟩
abbrev S1x1x32 : Shape := ⟨3, ![1, 1, 32]⟩
abbrev S256x512x32 : Shape := ⟨3, ![256, 512, 32]⟩
abbrev S4x256x512 : Shape := ⟨3, ![4, 256, 512]⟩
abbrev S5x256x512 : Shape := ⟨3, ![5, 256, 512]⟩
abbrev S1x5x256x512 : Shape := ⟨4, ![1, 5, 256, 512]⟩
abbrev S3x5x256x512 : Shape := ⟨4, ![3, 5, 256, 512]⟩
abbrev S4x512 : Shape := ⟨2, ![4, 512]⟩
abbrev S2048 : Shape := ⟨1, ![2048]⟩
abbrev S2048x1 : Shape := ⟨2, ![2048, 1]⟩
abbrev S2048x128 : Shape := ⟨2, ![2048, 128]⟩
abbrev S256x4x128 : Shape := ⟨3, ![256, 4, 128]⟩
abbrev S4x256x128 : Shape := ⟨3, ![4, 256, 128]⟩
abbrev S4x64 : Shape := ⟨2, ![4, 64]⟩
abbrev S128 : Shape := ⟨1, ![128]⟩
abbrev S1x256x1024 : Shape := ⟨3, ![1, 256, 1024]⟩
abbrev S1 : Shape := ⟨1, ![1]⟩
abbrev S1x512x1024 : Shape := ⟨3, ![1, 512, 1024]⟩
abbrev S1x256x1536 : Shape := ⟨3, ![1, 256, 1536]⟩
abbrev S1x512x384 : Shape := ⟨3, ![1, 512, 384]⟩
abbrev S1024x128 : Shape := ⟨2, ![1024, 128]⟩
abbrev S1024x256 : Shape := ⟨2, ![1024, 256]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x512 : Shape := ⟨2, ![512, 512]⟩
abbrev S1x1x256x512 : Shape := ⟨4, ![1, 1, 256, 512]⟩
abbrev S2048x512 : Shape := ⟨2, ![2048, 512]⟩
abbrev S1x256x384 : Shape := ⟨3, ![1, 256, 384]⟩
abbrev S256x384 : Shape := ⟨2, ![256, 384]⟩
abbrev S1024x384 : Shape := ⟨2, ![1024, 384]⟩
abbrev S512x384 : Shape := ⟨2, ![512, 384]⟩
abbrev S1024x512 : Shape := ⟨2, ![1024, 512]⟩
abbrev S1024 : Shape := ⟨1, ![1024]⟩
abbrev S1024x1 : Shape := ⟨2, ![1024, 1]⟩
abbrev S1x512x256 : Shape := ⟨3, ![1, 512, 256]⟩
abbrev S512x256 : Shape := ⟨2, ![512, 256]⟩
abbrev S1x64 : Shape := ⟨2, ![1, 64]⟩
abbrev S1x1 : Shape := ⟨2, ![1, 1]⟩
abbrev S256x256 : Shape := ⟨2, ![256, 256]⟩

abbrev nBuf : Space → Nat
  | .hbm => 263
  | .vmem => 22
  | .smem => 2
  | _ => 0

abbrev hbmTy0_0 (i : Nat) : BufTy := match i % 128 with
  | 0 => ⟨S2x8192x4x128, .f32⟩
  | 1 => ⟨S2x8192x4x128, .f32⟩
  | 2 => ⟨S2x8192x4x128, .f32⟩
  | 3 => ⟨S2x8192x4x256, .f32⟩
  | 4 => ⟨S2x8192x4x64, .f32⟩
  | 5 => ⟨S2x8192x256, .f32⟩
  | 6 => ⟨S2x8192x64, .f32⟩
  | 7 => ⟨S32x4, .f32⟩
  | 8 => ⟨S1x4x64, .f32⟩
  | 9 => ⟨S1x128, .f32⟩
  | 10 => ⟨S1x256x4x128, .f32⟩
  | 11 => ⟨S2x8192x4x128, .i32⟩
  | 12 => ⟨S_, .i32⟩
  | 13 => ⟨S2x8192x4x128, .i32⟩
  | 14 => ⟨S2x8192x4x128, .i1⟩
  | 15 => ⟨S_, .f32⟩
  | 16 => ⟨S2x8192x4x128, .f32⟩
  | 17 => ⟨S2x8192x4x128, .f32⟩
  | 18 => ⟨S_, .f32⟩
  | 19 => ⟨S_, .f32⟩
  | 20 => ⟨S2x8192x4x128, .f32⟩
  | 21 => ⟨S2x8192x4x128, .f32⟩
  | 22 => ⟨S_, .f32⟩
  | 23 => ⟨S_, .f32⟩
  | 24 => ⟨S2x8192x4x128, .f32⟩
  | 25 => ⟨S2x8192x4x128, .f32⟩
  | 26 => ⟨S2x8192x4x1x128, .f32⟩
  | 27 => ⟨S2x8192x4x1x128, .f32⟩
  | 28 => ⟨S2x8192x4x2x128, .f32⟩
  | 29 => ⟨S2x8192x4x2x128, .bf16⟩
  | 30 => ⟨S2x8192x1024, .bf16⟩
  | 31 => ⟨S2x8192x512, .f32⟩
  | 32 => ⟨S2x8192x512, .f32⟩
  | 33 => ⟨S2x8192x1024, .f32⟩
  | 34 => ⟨S2x8192x1024, .bf16⟩
  | 35 => ⟨S_, .f32⟩
  | 36 => ⟨S2x8192x4x256, .f32⟩
  | 37 => ⟨S2x8192x4x256, .f32⟩
  | 38 => ⟨S_, .f32⟩
  | 39 => ⟨S2x8192x4x64, .f32⟩
  | 40 => ⟨S2x8192x4x64, .f32⟩
  | 41 => ⟨S_, .f32⟩
  | 42 => ⟨S2x8192x4x64, .f32⟩
  | 43 => ⟨S2x8192x4x128, .f32⟩
  | 44 => ⟨S2x8192x4x384, .f32⟩
  | 45 => ⟨S2x8192x4x384, .bf16⟩
  | 46 => ⟨S2x8192x1536, .bf16⟩
  | 47 => ⟨S_, .f32⟩
  | 48 => ⟨S2x8192x64, .f32⟩
  | 49 => ⟨S2x8192x128, .f32⟩
  | 50 => ⟨S2x8192x384, .f32⟩
  | 51 => ⟨S2x8192x384, .bf16⟩
  | 52 => ⟨S1x4, .f32⟩
  | 53 => ⟨S4, .f32⟩
  | 54 => ⟨S256, .i32⟩
  | 55 => ⟨S512, .i32⟩
  | 56 => ⟨S256x1, .i32⟩
  | 57 => ⟨S_, .i32⟩
  | 58 => ⟨S256x1, .i32⟩
  | 59 => ⟨S256x1, .i32⟩
  | 60 => ⟨S1x512, .i32⟩
  | 61 => ⟨S256x512, .i32⟩
  | 62 => ⟨S256x512, .i32⟩
  | 63 => ⟨S256x512, .i32⟩
  | 64 => ⟨S_, .i32⟩
  | 65 => ⟨S256x512, .i32⟩
  | 66 => ⟨S256x512, .i1⟩
  | 67 => ⟨S1x256x512, .i1⟩
  | 68 => ⟨S_, .i32⟩
  | 69 => ⟨S256x512, .i32⟩
  | 70 => ⟨S256x512, .i32⟩
  | 71 => ⟨S_, .i32⟩
  | 72 => ⟨S256x512, .i32⟩
  | 73 => ⟨S256x512, .i32⟩
  | 74 => ⟨S_, .i32⟩
  | 75 => ⟨S256x512, .i32⟩
  | 76 => ⟨S256x512, .i32⟩
  | 77 => ⟨S256x512, .f32⟩
  | 78 => ⟨S_, .f32⟩
  | 79 => ⟨S256x512, .f32⟩
  | 80 => ⟨S256x512, .f32⟩
  | 81 => ⟨S256x512, .f32⟩
  | 82 => ⟨S_, .f32⟩
  | 83 => ⟨S256x512, .f32⟩
  | 84 => ⟨S256x512, .f32⟩
  | 85 => ⟨S_, .f32⟩
  | 86 => ⟨S256x512, .f32⟩
  | 87 => ⟨S256x512, .f32⟩
  | 88 => ⟨S256x512, .i32⟩
  | 89 => ⟨S_, .i32⟩
  | 90 => ⟨S256x512, .i32⟩
  | 91 => ⟨S256x512, .i32⟩
  | 92 => ⟨S_, .i32⟩
  | 93 => ⟨S256x512, .i32⟩
  | 94 => ⟨S256x512, .i32⟩
  | 95 => ⟨S_, .i32⟩
  | 96 => ⟨S256x512, .i32⟩
  | 97 => ⟨S256x512, .i1⟩
  | 98 => ⟨S256x512, .i32⟩
  | 99 => ⟨S256x512x1, .i32⟩
  | 100 => ⟨S32, .i32⟩
  | 101 => ⟨S1x1x32, .i32⟩
  | 102 => ⟨S256x512x32, .i32⟩
  | 103 => ⟨S256x512x32, .i32⟩
  | 104 => ⟨S256x512x32, .i1⟩
  | 105 => ⟨S256x512x32, .f32⟩
  | 106 => ⟨S4x256x512, .f32⟩
  | 107 => ⟨S_, .f32⟩
  | 108 => ⟨S_, .f32⟩
  | 109 => ⟨S4x256x512, .i1⟩
  | 110 => ⟨S4x256x512, .f32⟩
  | 111 => ⟨S4x256x512, .f32⟩
  | 112 => ⟨S_, .f32⟩
  | 113 => ⟨S_, .f32⟩
  | 114 => ⟨S256x512, .f32⟩
  | 115 => ⟨S256x512, .f32⟩
  | 116 => ⟨S256x512, .f32⟩
  | 117 => ⟨S1x256x512, .f32⟩
  | 118 => ⟨S1x256x512, .f32⟩
  | 119 => ⟨S5x256x512, .f32⟩
  | 120 => ⟨S256x1, .i32⟩
  | 121 => ⟨S_, .i32⟩
  | 122 => ⟨S256x1, .i32⟩
  | 123 => ⟨S256x1, .i32⟩
  | 124 => ⟨S1x512, .i32⟩
  | 125 => ⟨S256x512, .i32⟩
  | 126 => ⟨S256x512, .i32⟩
  | 127 => ⟨S256x512, .i32⟩
  | _ => ⟨S2x8192x4x128, .f32⟩

abbrev hbmTy0_1 (i : Nat) : BufTy := match i % 128 with
  | 0 => ⟨S_, .i32⟩
  | 1 => ⟨S256x512, .i32⟩
  | 2 => ⟨S256x512, .i1⟩
  | 3 => ⟨S1x256x512, .i1⟩
  | 4 => ⟨S_, .i32⟩
  | 5 => ⟨S256x512, .i32⟩
  | 6 => ⟨S256x512, .i32⟩
  | 7 => ⟨S_, .i32⟩
  | 8 => ⟨S256x512, .i32⟩
  | 9 => ⟨S256x512, .i32⟩
  | 10 => ⟨S_, .i32⟩
  | 11 => ⟨S256x512, .i32⟩
  | 12 => ⟨S256x512, .i32⟩
  | 13 => ⟨S256x512, .f32⟩
  | 14 => ⟨S_, .f32⟩
  | 15 => ⟨S256x512, .f32⟩
  | 16 => ⟨S256x512, .f32⟩
  | 17 => ⟨S256x512, .f32⟩
  | 18 => ⟨S_, .f32⟩
  | 19 => ⟨S256x512, .f32⟩
  | 20 => ⟨S256x512, .f32⟩
  | 21 => ⟨S_, .f32⟩
  | 22 => ⟨S256x512, .f32⟩
  | 23 => ⟨S256x512, .f32⟩
  | 24 => ⟨S256x512, .i32⟩
  | 25 => ⟨S_, .i32⟩
  | 26 => ⟨S256x512, .i32⟩
  | 27 => ⟨S256x512, .i32⟩
  | 28 => ⟨S_, .i32⟩
  | 29 => ⟨S256x512, .i32⟩
  | 30 => ⟨S256x512, .i32⟩
  | 31 => ⟨S_, .i32⟩
  | 32 => ⟨S256x512, .i32⟩
  | 33 => ⟨S256x512, .i1⟩
  | 34 => ⟨S256x512, .i32⟩
  | 35 => ⟨S256x512x1, .i32⟩
  | 36 => ⟨S32, .i32⟩
  | 37 => ⟨S1x1x32, .i32⟩
  | 38 => ⟨S256x512x32, .i32⟩
  | 39 => ⟨S256x512x32, .i32⟩
  | 40 => ⟨S256x512x32, .i1⟩
  | 41 => ⟨S256x512x32, .f32⟩
  | 42 => ⟨S4x256x512, .f32⟩
  | 43 => ⟨S_, .f32⟩
  | 44 => ⟨S_, .f32⟩
  | 45 => ⟨S4x256x512, .i1⟩
  | 46 => ⟨S4x256x512, .f32⟩
  | 47 => ⟨S4x256x512, .f32⟩
  | 48 => ⟨S_, .f32⟩
  | 49 => ⟨S_, .f32⟩
  | 50 => ⟨S256x512, .f32⟩
  | 51 => ⟨S256x512, .f32⟩
  | 52 => ⟨S256x512, .f32⟩
  | 53 => ⟨S1x256x512, .f32⟩
  | 54 => ⟨S1x256x512, .f32⟩
  | 55 => ⟨S5x256x512, .f32⟩
  | 56 => ⟨S256x1, .i32⟩
  | 57 => ⟨S_, .i32⟩
  | 58 => ⟨S256x1, .i32⟩
  | 59 => ⟨S256x1, .i32⟩
  | 60 => ⟨S1x512, .i32⟩
  | 61 => ⟨S256x512, .i32⟩
  | 62 => ⟨S256x512, .i32⟩
  | 63 => ⟨S256x512, .i32⟩
  | 64 => ⟨S_, .i32⟩
  | 65 => ⟨S256x512, .i32⟩
  | 66 => ⟨S256x512, .i1⟩
  | 67 => ⟨S1x256x512, .i1⟩
  | 68 => ⟨S_, .i32⟩
  | 69 => ⟨S256x512, .i32⟩
  | 70 => ⟨S256x512, .i32⟩
  | 71 => ⟨S_, .i32⟩
  | 72 => ⟨S256x512, .i32⟩
  | 73 => ⟨S256x512, .i32⟩
  | 74 => ⟨S_, .i32⟩
  | 75 => ⟨S256x512, .i32⟩
  | 76 => ⟨S256x512, .i32⟩
  | 77 => ⟨S256x512, .f32⟩
  | 78 => ⟨S_, .f32⟩
  | 79 => ⟨S256x512, .f32⟩
  | 80 => ⟨S256x512, .f32⟩
  | 81 => ⟨S256x512, .f32⟩
  | 82 => ⟨S_, .f32⟩
  | 83 => ⟨S256x512, .f32⟩
  | 84 => ⟨S256x512, .f32⟩
  | 85 => ⟨S_, .f32⟩
  | 86 => ⟨S256x512, .f32⟩
  | 87 => ⟨S256x512, .f32⟩
  | 88 => ⟨S256x512, .i32⟩
  | 89 => ⟨S_, .i32⟩
  | 90 => ⟨S256x512, .i32⟩
  | 91 => ⟨S256x512, .i32⟩
  | 92 => ⟨S_, .i32⟩
  | 93 => ⟨S256x512, .i32⟩
  | 94 => ⟨S256x512, .i32⟩
  | 95 => ⟨S_, .i32⟩
  | 96 => ⟨S256x512, .i32⟩
  | 97 => ⟨S256x512, .i1⟩
  | 98 => ⟨S256x512, .i32⟩
  | 99 => ⟨S256x512x1, .i32⟩
  | 100 => ⟨S32, .i32⟩
  | 101 => ⟨S1x1x32, .i32⟩
  | 102 => ⟨S256x512x32, .i32⟩
  | 103 => ⟨S256x512x32, .i32⟩
  | 104 => ⟨S256x512x32, .i1⟩
  | 105 => ⟨S256x512x32, .f32⟩
  | 106 => ⟨S4x256x512, .f32⟩
  | 107 => ⟨S_, .f32⟩
  | 108 => ⟨S_, .f32⟩
  | 109 => ⟨S4x256x512, .i1⟩
  | 110 => ⟨S4x256x512, .f32⟩
  | 111 => ⟨S4x256x512, .f32⟩
  | 112 => ⟨S_, .f32⟩
  | 113 => ⟨S_, .f32⟩
  | 114 => ⟨S256x512, .f32⟩
  | 115 => ⟨S256x512, .f32⟩
  | 116 => ⟨S256x512, .f32⟩
  | 117 => ⟨S1x256x512, .f32⟩
  | 118 => ⟨S1x256x512, .f32⟩
  | 119 => ⟨S5x256x512, .f32⟩
  | 120 => ⟨S1x5x256x512, .f32⟩
  | 121 => ⟨S1x5x256x512, .f32⟩
  | 122 => ⟨S1x5x256x512, .f32⟩
  | 123 => ⟨S3x5x256x512, .f32⟩
  | 124 => ⟨S4x512, .f32⟩
  | 125 => ⟨S2048, .f32⟩
  | 126 => ⟨S2048x1, .f32⟩
  | 127 => ⟨S2048x128, .f32⟩
  | _ => ⟨S2x8192x4x128, .f32⟩

abbrev hbmTy0_2 (i : Nat) : BufTy := match i % 128 with
  | 0 => ⟨S256x4x128, .f32⟩
  | 1 => ⟨S4x256x128, .f32⟩
  | 2 => ⟨S4x256x128, .bf16⟩
  | 3 => ⟨S4x64, .f32⟩
  | 4 => ⟨S128, .f32⟩
  | 5 => ⟨S1x128, .f32⟩
  | 6 => ⟨S2x8192x1024, .bf16⟩
  | _ => ⟨S2x8192x4x128, .f32⟩

abbrev hbmTy (i : Nat) : BufTy := match i / 128 with
  | 0 => hbmTy0_0 i
  | 1 => hbmTy0_1 i
  | 2 => hbmTy0_2 i
  | _ => ⟨S2x8192x4x128, .f32⟩

abbrev bufTy : (tb : Table) → Fin (tcTables nBuf tb) → BufTy
  | .hbm, ⟨i, _⟩ => hbmTy i
  | .local _ .vmem, ⟨0, _⟩ => ⟨S1x256x1024, .bf16⟩
  | .local _ .vmem, ⟨1, _⟩ => ⟨S1x256x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x256x1536, .bf16⟩
  | .local _ .vmem, ⟨5, _⟩ => ⟨S1x256x1536, .bf16⟩
  | .local _ .vmem, ⟨6, _⟩ => ⟨S1x512x384, .bf16⟩
  | .local _ .vmem, ⟨7, _⟩ => ⟨S1x512x384, .bf16⟩
  | .local _ .vmem, ⟨8, _⟩ => ⟨S1x5x256x512, .f32⟩
  | .local _ .vmem, ⟨9, _⟩ => ⟨S1x5x256x512, .f32⟩
  | .local _ .vmem, ⟨10, _⟩ => ⟨S2048x128, .f32⟩
  | .local _ .vmem, ⟨11, _⟩ => ⟨S4x64, .f32⟩
  | .local _ .vmem, ⟨12, _⟩ => ⟨S1x128, .f32⟩
  | .local _ .vmem, ⟨13, _⟩ => ⟨S4x256x128, .bf16⟩
  | .local _ .vmem, ⟨14, _⟩ => ⟨S1x256x1024, .bf16⟩
  | .local _ .vmem, ⟨15, _⟩ => ⟨S1x256x1024, .bf16⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S1024x128, .f32⟩
  | .local _ .vmem, ⟨20, _⟩ => ⟨S1024x128, .f32⟩
  | .local _ .vmem, ⟨21, _⟩ => ⟨S1024x256, .f32⟩
  | .local _ .smem, ⟨0, _⟩ => ⟨S272, .i32⟩
  | .local _ .smem, ⟨1, _⟩ => ⟨S272, .i32⟩
  | _, _ => ⟨S2x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c_1 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v5 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_cst_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_14 : Ref sig .tc := ⟨.hbm, 82, rfl⟩
abbrev main_v53 : Ref sig .tc := ⟨.hbm, 83, rfl⟩
abbrev main_v54 : Ref sig .tc := ⟨.hbm, 84, rfl⟩
abbrev main_cst_15 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_16 : Ref sig .tc := ⟨.hbm, 89, rfl⟩
abbrev main_v58 : Ref sig .tc := ⟨.hbm, 90, rfl⟩
abbrev main_v59 : Ref sig .tc := ⟨.hbm, 91, rfl⟩
abbrev main_c_17 : Ref sig .tc := ⟨.hbm, 92, rfl⟩
abbrev main_v60 : Ref sig .tc := ⟨.hbm, 93, rfl⟩
abbrev main_v61 : Ref sig .tc := ⟨.hbm, 94, rfl⟩
abbrev main_c_18 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_19 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v73 : Ref sig .tc := ⟨.hbm, 111, rfl⟩
abbrev main_cst_20 : Ref sig .tc := ⟨.hbm, 112, rfl⟩
abbrev main_cst_21 : Ref sig .tc := ⟨.hbm, 113, rfl⟩
abbrev main_call4_v0 : Ref sig .tc := ⟨.hbm, 114, rfl⟩
abbrev main_call4_v1 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_c_22 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_23 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_24 : Ref sig .tc := ⟨.hbm, 132, rfl⟩
abbrev main_v88 : Ref sig .tc := ⟨.hbm, 133, rfl⟩
abbrev main_v89 : Ref sig .tc := ⟨.hbm, 134, rfl⟩
abbrev main_c_25 : Ref sig .tc := ⟨.hbm, 135, rfl⟩
abbrev main_v90 : Ref sig .tc := ⟨.hbm, 136, rfl⟩
abbrev main_v91 : Ref sig .tc := ⟨.hbm, 137, rfl⟩
abbrev main_c_26 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_27 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_28 : Ref sig .tc := ⟨.hbm, 146, rfl⟩
abbrev main_v98 : Ref sig .tc := ⟨.hbm, 147, rfl⟩
abbrev main_v99 : Ref sig .tc := ⟨.hbm, 148, rfl⟩
abbrev main_cst_29 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_c_30 : Ref sig .tc := ⟨.hbm, 153, rfl⟩
abbrev main_v103 : Ref sig .tc := ⟨.hbm, 154, rfl⟩
abbrev main_v104 : Ref sig .tc := ⟨.hbm, 155, rfl⟩
abbrev main_c_31 : Ref sig .tc := ⟨.hbm, 156, rfl⟩
abbrev main_v105 : Ref sig .tc := ⟨.hbm, 157, rfl⟩
abbrev main_v106 : Ref sig .tc := ⟨.hbm, 158, rfl⟩
abbrev main_c_32 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_33 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_v118 : Ref sig .tc := ⟨.hbm, 175, rfl⟩
abbrev main_cst_34 : Ref sig .tc := ⟨.hbm, 176, rfl⟩
abbrev main_cst_35 : Ref sig .tc := ⟨.hbm, 177, rfl⟩
abbrev main_call7_v0 : Ref sig .tc := ⟨.hbm, 178, rfl⟩
abbrev main_call7_v1 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_c_36 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_c_37 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_c_38 : Ref sig .tc := ⟨.hbm, 196, rfl⟩
abbrev main_v133 : Ref sig .tc := ⟨.hbm, 197, rfl⟩
abbrev main_v134 : Ref sig .tc := ⟨.hbm, 198, rfl⟩
abbrev main_c_39 : Ref sig .tc := ⟨.hbm, 199, rfl⟩
abbrev main_v135 : Ref sig .tc := ⟨.hbm, 200, rfl⟩
abbrev main_v136 : Ref sig .tc := ⟨.hbm, 201, rfl⟩
abbrev main_c_40 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_cst_41 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_cst_42 : Ref sig .tc := ⟨.hbm, 210, rfl⟩
abbrev main_v143 : Ref sig .tc := ⟨.hbm, 211, rfl⟩
abbrev main_v144 : Ref sig .tc := ⟨.hbm, 212, rfl⟩
abbrev main_cst_43 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_c_44 : Ref sig .tc := ⟨.hbm, 217, rfl⟩
abbrev main_v148 : Ref sig .tc := ⟨.hbm, 218, rfl⟩
abbrev main_v149 : Ref sig .tc := ⟨.hbm, 219, rfl⟩
abbrev main_c_45 : Ref sig .tc := ⟨.hbm, 220, rfl⟩
abbrev main_v150 : Ref sig .tc := ⟨.hbm, 221, rfl⟩
abbrev main_v151 : Ref sig .tc := ⟨.hbm, 222, rfl⟩
abbrev main_c_46 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_47 : Ref sig .tc := ⟨.hbm, 235, rfl⟩
abbrev main_call9_v0 : Ref sig .tc := ⟨.hbm, 236, rfl⟩
abbrev main_call9_v1 : Ref sig .tc := ⟨.hbm, 237, rfl⟩
abbrev main_call9_v2 : Ref sig .tc := ⟨.hbm, 238, rfl⟩
abbrev main_v163 : Ref sig .tc := ⟨.hbm, 239, rfl⟩
abbrev main_cst_48 : Ref sig .tc := ⟨.hbm, 240, rfl⟩
abbrev main_cst_49 : Ref sig .tc := ⟨.hbm, 241, rfl⟩
abbrev main_call10_v0 : Ref sig .tc := ⟨.hbm, 242, rfl⟩
abbrev main_call10_v1 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 272], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let c256_i32 : BitVec 32 := 256#32
  let v15 : BitVec 32 := Scalar.muli v1 c256_i32
  let c256_i32_4 : BitVec 32 := 256#32
  let v16 : BitVec 32 := Scalar.addi v15 c256_i32_4
  let c1_i32 : BitVec 32 := 1#32
  let v17 : BitVec 32 := Scalar.subi v16 c1_i32
  let c0_i32_5 : BitVec 32 := 0#32
  let v19 : BitVec 1 := Scalar.cmpi .sgt v17 c0_i32_5
  let v20 : BitVec 32 := Scalar.extui v19
  let c0_i32_6 : BitVec 32 := 0#32
  let v21 : BitVec 1 := Scalar.cmpi .slt v17 c0_i32_6
  let v22 : BitVec 32 := Scalar.extui v21
  let v23 : BitVec 32 := Scalar.subi v20 v22
  let c512_i32 : BitVec 32 := 512#32
  let c0_i32_7 : BitVec 32 := 0#32
  let v24 : BitVec 1 := Scalar.cmpi .sgt c512_i32 c0_i32_7
  let v25 : BitVec 32 := Scalar.extui v24
  let c0_i32_8 : BitVec 32 := 0#32
  let v26 : BitVec 1 := Scalar.cmpi .slt c512_i32 c0_i32_8
  let v27 : BitVec 32 := Scalar.extui v26
  let v28 : BitVec 32 := Scalar.subi v25 v27
  let v29 : BitVec 1 := Scalar.cmpi .ne v23 v28
  let v30 : BitVec 32 := Scalar.remsi v17 c512_i32
  let c0_i32_9 : BitVec 32 := 0#32
  let v31 : BitVec 1 := Scalar.cmpi .ne v30 c0_i32_9
  let v32 : BitVec 1 := Scalar.andi v29 v31
  let v18 : BitVec 32 := Scalar.divsi v17 c512_i32
  let c1_i32_10 : BitVec 32 := 1#32
  let v33 : BitVec 32 := Scalar.subi v18 c1_i32_10
  let v34 : BitVec 32 := Scalar.select v32 v33 v18
  let v35 : BitVec 1 := Scalar.cmpi .eq v3 v34
  let v36 : BitVec 32 := Scalar.extui v35
  let c0_i32_11 : BitVec 32 := 0#32
  let v37 : BitVec 1 := Scalar.cmpi .ne v36 c0_i32_11
  v37

def cc0_transform_0 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S272) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S272) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S272) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S272) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S272.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S272) ![v0.toNat] S1.size (k0_off1_inb i)) numel1_S1
  let v2 : Index := Scalar.indexCast arg1
  let v3 : BitVec 32 := pf.at 1 (Rect.unit (s := S272) ![v2.toNat] S1.size (k0_off1_inb i)) numel1_S1
  let c2_i32 : BitVec 32 := 2#32
  let v4 : BitVec 32 := Scalar.muli v3 c2_i32
  let v5 : BitVec 32 := Scalar.subi v1 v4
  let c0_i32 : BitVec 32 := 0#32
  let c2_i32_0 : BitVec 32 := 2#32
  let v6 : BitVec 32 := Scalar.maxsi c0_i32 v5
  let v7 : BitVec 32 := Scalar.minsi c2_i32_0 v6
  let c0_i32_1 : BitVec 32 := 0#32
  let c0_i32_2 : BitVec 32 := 0#32
  let c0_i32_3 : BitVec 32 := 0#32
  let c0_i32_4 : BitVec 32 := 0#32
  ![v7.toNat, c0_i32_1.toNat, c0_i32_2.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S272) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x5x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x4x128 : Shape := ⟨4, ![2, 8192, 4, 128]⟩
abbrev S2x8192x4x256 : Shape := ⟨4, ![2, 8192, 4, 256]⟩
abbrev S2x8192x4x64 : Shape := ⟨4, ![2, 8192, 4, 64]⟩
abbrev S2x8192x256 : Shape := ⟨3, ![2, 8192, 256]⟩
abbrev S2x8192x64 : Shape := ⟨3, ![2, 8192, 64]⟩
abbrev S32x4 : Shape := ⟨2, ![32, 4]⟩
abbrev S1x4x64 : Shape := ⟨3, ![1, 4, 64]⟩
abbrev S1x128 : Shape := ⟨2, ![1, 128]⟩
abbrev S1x256x4x128 : Shape := ⟨4, ![1, 256, 4, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x64 : Shape := ⟨2, ![4, 64]⟩
abbrev S1x64 : Shape := ⟨2, ![1, 64]⟩
abbrev S64 : Shape := ⟨1, ![64]⟩
abbrev S_ : Shape := ⟨0, ![]⟩
abbrev S2x8192x4x2x64 : Shape := ⟨5, ![2, 8192, 4, 2, 64]⟩
abbrev S2x2x4x8192x8192 : Shape := ⟨5, ![2, 2, 4, 8192, 8192]⟩
abbrev S8192x8192x1 : Shape := ⟨3, ![8192, 8192, 1]⟩
abbrev S8192x8192x4 : Shape := ⟨3, ![8192, 8192, 4]⟩
abbrev S4x8192x8192 : Shape := ⟨3, ![4, 8192, 8192]⟩
abbrev S1x1x4x8192x8192 : Shape := ⟨5, ![1, 1, 4, 8192, 8192]⟩
abbrev S2x2x4x8192 : Shape := ⟨4, ![2, 2, 4, 8192]⟩
abbrev S2x2x4x8192x1 : Shape := ⟨5, ![2, 2, 4, 8192, 1]⟩
abbrev S2x1x4x8192x8192 : Shape := ⟨5, ![2, 1, 4, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S128 : Shape := ⟨1, ![128]⟩
abbrev S1x1x1x128 : Shape := ⟨4, ![1, 1, 1, 128]⟩
abbrev S2x8192x512 : Shape := ⟨3, ![2, 8192, 512]⟩
abbrev S2x8192x8192x4 : Shape := ⟨4, ![2, 8192, 8192, 4]⟩
abbrev S2x4x8192 : Shape := ⟨3, ![2, 4, 8192]⟩
abbrev S2x4x8192x1 : Shape := ⟨4, ![2, 4, 8192, 1]⟩
abbrev S2x256x4x8192 : Shape := ⟨4, ![2, 256, 4, 8192]⟩
abbrev S256x4x128 : Shape := ⟨3, ![256, 4, 128]⟩
abbrev S4x128x2x8192 : Shape := ⟨4, ![4, 128, 2, 8192]⟩
abbrev S2x8192x1024 : Shape := ⟨3, ![2, 8192, 1024]⟩

abbrev nBuf : Space → Nat
  | .hbm => 170
  | .vmem => 0
  | .smem => 0
  | _ => 0

abbrev hbmTy0_0 (i : Nat) : BufTy := match i % 128 with
  | 0 => ⟨S2x8192x4x128, .f32⟩
  | 1 => ⟨S2x8192x4x128, .f32⟩
  | 2 => ⟨S2x8192x4x128, .f32⟩
  | 3 => ⟨S2x8192x4x256, .f32⟩
  | 4 => ⟨S2x8192x4x64, .f32⟩
  | 5 => ⟨S2x8192x256, .f32⟩
  | 6 => ⟨S2x8192x64, .f32⟩
  | 7 => ⟨S32x4, .f32⟩
  | 8 => ⟨S1x4x64, .f32⟩
  | 9 => ⟨S1x128, .f32⟩
  | 10 => ⟨S1x256x4x128, .f32⟩
  | 11 => ⟨S8192, .i32⟩
  | 12 => ⟨S8192x1, .i32⟩
  | 13 => ⟨S1x8192, .i32⟩
  | 14 => ⟨S8192x8192, .i32⟩
  | 15 => ⟨S8192x8192, .i32⟩
  | 16 => ⟨S8192x8192, .i32⟩
  | 17 => ⟨S4x64, .f32⟩
  | 18 => ⟨S1x64, .f32⟩
  | 19 => ⟨S64, .f32⟩
  | 20 => ⟨S1x64, .f32⟩
  | 21 => ⟨S64, .f32⟩
  | 22 => ⟨S64, .f32⟩
  | 23 => ⟨S_, .f32⟩
  | 24 => ⟨S_, .f32⟩
  | 25 => ⟨S_, .f32⟩
  | 26 => ⟨S1x64, .f32⟩
  | 27 => ⟨S64, .f32⟩
  | 28 => ⟨S1x64, .f32⟩
  | 29 => ⟨S64, .f32⟩
  | 30 => ⟨S64, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S2x8192x4x2x64, .f32⟩
  | 38 => ⟨S2x8192x4x2x64, .f32⟩
  | 39 => ⟨S2x2x4x8192x8192, .f32⟩
  | 40 => ⟨S_, .f32⟩
  | 41 => ⟨S2x2x4x8192x8192, .f32⟩
  | 42 => ⟨S2x2x4x8192x8192, .f32⟩
  | 43 => ⟨S_, .i32⟩
  | 44 => ⟨S8192x8192, .i32⟩
  | 45 => ⟨S8192x8192, .i32⟩
  | 46 => ⟨S_, .i32⟩
  | 47 => ⟨S8192x8192, .i32⟩
  | 48 => ⟨S8192x8192, .i32⟩
  | 49 => ⟨S8192x8192, .f32⟩
  | 50 => ⟨S_, .f32⟩
  | 51 => ⟨S8192x8192, .f32⟩
  | 52 => ⟨S8192x8192, .f32⟩
  | 53 => ⟨S8192x8192, .f32⟩
  | 54 => ⟨S_, .f32⟩
  | 55 => ⟨S8192x8192, .f32⟩
  | 56 => ⟨S8192x8192, .f32⟩
  | 57 => ⟨S_, .f32⟩
  | 58 => ⟨S8192x8192, .f32⟩
  | 59 => ⟨S8192x8192, .f32⟩
  | 60 => ⟨S8192x8192, .i32⟩
  | 61 => ⟨S_, .i32⟩
  | 62 => ⟨S8192x8192, .i32⟩
  | 63 => ⟨S8192x8192, .i32⟩
  | 64 => ⟨S_, .i32⟩
  | 65 => ⟨S8192x8192, .i32⟩
  | 66 => ⟨S8192x8192, .i32⟩
  | 67 => ⟨S_, .i32⟩
  | 68 => ⟨S8192x8192, .i32⟩
  | 69 => ⟨S8192x8192, .i1⟩
  | 70 => ⟨S8192x8192, .i32⟩
  | 71 => ⟨S_, .i32⟩
  | 72 => ⟨S8192x8192, .i32⟩
  | 73 => ⟨S8192x8192, .i1⟩
  | 74 => ⟨S_, .i32⟩
  | 75 => ⟨S8192x8192, .i32⟩
  | 76 => ⟨S8192x8192, .i32⟩
  | 77 => ⟨S8192x8192, .i32⟩
  | 78 => ⟨S8192x8192x1, .i32⟩
  | 79 => ⟨S8192x8192x4, .f32⟩
  | 80 => ⟨S4x8192x8192, .f32⟩
  | 81 => ⟨S_, .i32⟩
  | 82 => ⟨S8192x8192, .i32⟩
  | 83 => ⟨S8192x8192, .i1⟩
  | 84 => ⟨S1x1x4x8192x8192, .f32⟩
  | 85 => ⟨S2x2x4x8192x8192, .f32⟩
  | 86 => ⟨S2x2x4x8192x8192, .f32⟩
  | 87 => ⟨S_, .f32⟩
  | 88 => ⟨S_, .f32⟩
  | 89 => ⟨S2x2x4x8192x8192, .i1⟩
  | 90 => ⟨S2x2x4x8192x8192, .f32⟩
  | 91 => ⟨S2x2x4x8192x8192, .f32⟩
  | 92 => ⟨S_, .f32⟩
  | 93 => ⟨S2x2x4x8192, .f32⟩
  | 94 => ⟨S2x2x4x8192x1, .f32⟩
  | 95 => ⟨S2x2x4x8192x8192, .f32⟩
  | 96 => ⟨S2x2x4x8192x8192, .f32⟩
  | 97 => ⟨S2x2x4x8192x8192, .f32⟩
  | 98 => ⟨S_, .f32⟩
  | 99 => ⟨S2x2x4x8192, .f32⟩
  | 100 => ⟨S2x2x4x8192x1, .f32⟩
  | 101 => ⟨S2x2x4x8192x8192, .f32⟩
  | 102 => ⟨S2x2x4x8192x8192, .f32⟩
  | 103 => ⟨S2x1x4x8192x8192, .f32⟩
  | 104 => ⟨S2x4x8192x8192, .f32⟩
  | 105 => ⟨S2x1x4x8192x8192, .f32⟩
  | 106 => ⟨S2x4x8192x8192, .f32⟩
  | 107 => ⟨S2x4x8192x8192, .f32⟩
  | 108 => ⟨S2x4x8192x8192, .f32⟩
  | 109 => ⟨S2x4x8192x8192, .f32⟩
  | 110 => ⟨S2x4x128x8192, .f32⟩
  | 111 => ⟨S2x8192x4x128, .f32⟩
  | 112 => ⟨S2x8192x4x128, .f32⟩
  | 113 => ⟨S_, .f32⟩
  | 114 => ⟨S2x8192x4, .f32⟩
  | 115 => ⟨S2x8192x4x1, .f32⟩
  | 116 => ⟨S_, .f32⟩
  | 117 => ⟨S2x8192x4x1, .f32⟩
  | 118 => ⟨S2x8192x4x1, .f32⟩
  | 119 => ⟨S_, .f32⟩
  | 120 => ⟨S2x8192x4x1, .f32⟩
  | 121 => ⟨S2x8192x4x1, .f32⟩
  | 122 => ⟨S2x8192x4x1, .f32⟩
  | 123 => ⟨S2x8192x4x128, .f32⟩
  | 124 => ⟨S2x8192x4x128, .f32⟩
  | 125 => ⟨S128, .f32⟩
  | 126 => ⟨S1x1x1x128, .f32⟩
  | 127 => ⟨S2x8192x4x128, .f32⟩
  | _ => ⟨S2x8192x4x128, .f32⟩

abbrev hbmTy0_1 (i : Nat) : BufTy := match i % 128 with
  | 0 => ⟨S2x8192x4x128, .f32⟩
  | 1 => ⟨S_, .f32⟩
  | 2 => ⟨S2x8192x4x128, .f32⟩
  | 3 => ⟨S2x8192x4x128, .f32⟩
  | 4 => ⟨S2x8192x512, .f32⟩
  | 5 => ⟨S2x8192x8192x4, .f32⟩
  | 6 => ⟨S2x4x8192x8192, .f32⟩
  | 7 => ⟨S2x8192x8192x4, .f32⟩
  | 8 => ⟨S2x4x8192x8192, .f32⟩
  | 9 => ⟨S2x4x8192x8192, .f32⟩
  | 10 => ⟨S_, .f32⟩
  | 11 => ⟨S2x4x8192x8192, .f32⟩
  | 12 => ⟨S2x4x8192x8192, .f32⟩
  | 13 => ⟨S1x8192, .i32⟩
  | 14 => ⟨S8192x1, .i32⟩
  | 15 => ⟨S8192x8192, .i32⟩
  | 16 => ⟨S8192x8192, .i32⟩
  | 17 => ⟨S8192x8192, .i1⟩
  | 18 => ⟨S_, .f32⟩
  | 19 => ⟨S_, .f32⟩
  | 20 => ⟨S2x4x8192x8192, .i1⟩
  | 21 => ⟨S2x4x8192x8192, .f32⟩
  | 22 => ⟨S2x4x8192x8192, .f32⟩
  | 23 => ⟨S_, .f32⟩
  | 24 => ⟨S2x4x8192, .f32⟩
  | 25 => ⟨S2x4x8192x1, .f32⟩
  | 26 => ⟨S2x4x8192x8192, .f32⟩
  | 27 => ⟨S2x4x8192x8192, .f32⟩
  | 28 => ⟨S2x4x8192x8192, .f32⟩
  | 29 => ⟨S_, .f32⟩
  | 30 => ⟨S2x4x8192, .f32⟩
  | 31 => ⟨S2x4x8192x1, .f32⟩
  | 32 => ⟨S2x4x8192x8192, .f32⟩
  | 33 => ⟨S2x4x8192x8192, .f32⟩
  | 34 => ⟨S2x256x4x8192, .f32⟩
  | 35 => ⟨S2x8192x4x256, .f32⟩
  | 36 => ⟨S256x4x128, .f32⟩
  | 37 => ⟨S4x128x2x8192, .f32⟩
  | 38 => ⟨S2x8192x4x128, .f32⟩
  | 39 => ⟨S2x8192x512, .f32⟩
  | 40 => ⟨S2x8192x1024, .f32⟩
  | 41 => ⟨S2x8192x1024, .bf16⟩
  | _ => ⟨S2x8192x4x128, .f32⟩

abbrev hbmTy (i : Nat) : BufTy := match i / 128 with
  | 0 => hbmTy0_0 i
  | 1 => hbmTy0_1 i
  | _ => ⟨S2x8192x4x128, .f32⟩

abbrev bufTy : (tb : Table) → Fin (tcTables nBuf tb) → BufTy
  | .hbm, ⟨i, _⟩ => hbmTy i
  | _, _ => ⟨S2x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_v29 : Ref sig .tc := ⟨.hbm, 45, rfl⟩
abbrev main_c_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_cst_17 : Ref sig .tc := ⟨.hbm, 116, rfl⟩
abbrev main_v83 : Ref sig .tc := ⟨.hbm, 117, rfl⟩
abbrev main_v84 : Ref sig .tc := ⟨.hbm, 118, rfl⟩
abbrev main_cst_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_19 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_20 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_21 : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_v109 : Ref sig .tc := ⟨.hbm, 150, rfl⟩
abbrev main_cst_22 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_23 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩

abbrev nD : Nat := 1
abbrev τ : Topo := Topo.v7x

variable {F : FTy → Type} [FloatOps F]
-- ==== Kernel2.lean ====
abbrev S2x8192x1024 : Shape := ⟨3, ![2, 8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x8192x1024 : Shape := ⟨3, ![2, 8192, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S2x8192x1024, .f32⟩
  | .hbm, ⟨6, _⟩ => ⟨S1024x1024, .f32⟩
  | .hbm, ⟨7, _⟩ => ⟨S2x8192x1024, .f32⟩
  | .hbm, ⟨8, _⟩ => ⟨S_, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S1x1x1024, .f32⟩
  | .hbm, ⟨36, _⟩ => ⟨S2x8192x1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024x2240 : Shape := ⟨3, ![1, 1024, 2240]⟩
abbrev S1x384 : Shape := ⟨2, ![1, 384]⟩
abbrev S1x384x4x192 : Shape := ⟨4, ![1, 384, 4, 192]⟩
abbrev S1x256 : Shape := ⟨2, ![1, 256]⟩
abbrev S1x256x4x128 : Shape := ⟨4, ![1, 256, 4, 128]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1024x2240 : Shape := ⟨2, ![1024, 2240]⟩
abbrev S1024x64 : Shape := ⟨2, ![1024, 64]⟩
abbrev S1024x2176 : Shape := ⟨2, ![1024, 2176]⟩
abbrev S1024x128 : Shape := ⟨2, ![1024, 128]⟩
abbrev S1024x32 : Shape := ⟨2, ![1024, 32]⟩
abbrev S1024x2432 : Shape := ⟨2, ![1024, 2432]⟩
abbrev S384x4x192 : Shape := ⟨3, ![384, 4, 192]⟩
abbrev S384x4x64 : Shape := ⟨3, ![384, 4, 64]⟩
abbrev S384x4x128 : Shape := ⟨3, ![384, 4, 128]⟩
abbrev S384x512 : Shape := ⟨2, ![384, 512]⟩
abbrev S384x4x32 : Shape := ⟨3, ![384, 4, 32]⟩
abbrev S384x1536 : Shape := ⟨2, ![384, 1536]⟩
abbrev S256x4x128 : Shape := ⟨3, ![256, 4, 128]⟩
abbrev S4x128x256 : Shape := ⟨3, ![4, 128, 256]⟩
abbrev S384 : Shape := ⟨1, ![384]⟩
abbrev S256 : Shape := ⟨1, ![256]⟩
abbrev S16384x1024 : Shape := ⟨2, ![16384, 1024]⟩
abbrev S131072x128 : Shape := ⟨2, ![131072, 128]⟩
abbrev S16384x1536 : Shape := ⟨2, ![16384, 1536]⟩
abbrev S16384x320 : Shape := ⟨2, ![16384, 320]⟩
abbrev S16384x384 : Shape := ⟨2, ![16384, 384]⟩
abbrev S512x1024 : Shape := ⟨2, ![512, 1024]⟩
abbrev S512x128 : Shape := ⟨2, ![512, 128]⟩
abbrev S4096x128 : Shape := ⟨2, ![4096, 128]⟩
abbrev S512x1536 : Shape := ⟨2, ![512, 1536]⟩
abbrev S512x320 : Shape := ⟨2, ![512, 320]⟩
abbrev S512x384 : Shape := ⟨2, ![512, 384]⟩
abbrev S512x2432 : Shape := ⟨2, ![512, 2432]⟩
abbrev S512 : Shape := ⟨1, ![512]⟩
abbrev S512x1 : Shape := ⟨2, ![512, 1]⟩
abbrev S1x128x256 : Shape := ⟨3, ![1, 128, 256]⟩
abbrev S128x256 : Shape := ⟨2, ![128, 256]⟩
abbrev S512x256 : Shape := ⟨2, ![512, 256]⟩
abbrev S512x64 : Shape := ⟨2, ![512, 64]⟩

abbrev nBuf : Space → Nat
  | .hbm => 85
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S1x1024x2240, .f32⟩
  | .hbm, ⟨2, _⟩ => ⟨S1x384, .f32⟩
  | .hbm, ⟨3, _⟩ => ⟨S1x384x4x192, .f32⟩
  | .hbm, ⟨4, _⟩ => ⟨S1x256, .f32⟩
  | .hbm, ⟨5, _⟩ => ⟨S1x256x4x128, .f32⟩
  | .hbm, ⟨6, _⟩ => ⟨S8192, .i32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S8192, .f32⟩
  | .hbm, ⟨24, _⟩ => ⟨S8192x1, .f32⟩
  | .hbm, ⟨25, _⟩ => ⟨S1x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x64, .f32⟩
  | .hbm, ⟨32, _⟩ => ⟨S1x8192x1x64, .f32⟩
  | .hbm, ⟨33, _⟩ => ⟨S1x8192x2x64, .f32⟩
  | .hbm, ⟨34, _⟩ => ⟨S8192x128, .f32⟩
  | .hbm, ⟨35, _⟩ => ⟨S8192x32, .f32⟩
  | .hbm, ⟨36, _⟩ => ⟨S8192x64, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S1024x2240, .f32⟩
  | .hbm, ⟨41, _⟩ => ⟨S1024x64, .f32⟩
  | .hbm, ⟨42, _⟩ => ⟨S1024x2176, .f32⟩
  | .hbm, ⟨43, _⟩ => ⟨S_, .f32⟩
  | .hbm, ⟨44, _⟩ => ⟨S1024x64, .f32⟩
  | .hbm, ⟨45, _⟩ => ⟨S1024x128, .f32⟩
  | .hbm, ⟨46, _⟩ => ⟨S1024x32, .f32⟩
  | .hbm, ⟨47, _⟩ => ⟨S1024x32, .f32⟩
  | .hbm, ⟨48, _⟩ => ⟨S1024x64, .f32⟩
  | .hbm, ⟨49, _⟩ => ⟨S_, .f32⟩
  | .hbm, ⟨50, _⟩ => ⟨S1024x64, .f32⟩
  | .hbm, ⟨51, _⟩ => ⟨S1024x128, .f32⟩
  | .hbm, ⟨52, _⟩ => ⟨S1024x2432, .f32⟩
  | .hbm, ⟨53, _⟩ => ⟨S1024x2432, .bf16⟩
  | .hbm, ⟨54, _⟩ => ⟨S384x4x192, .f32⟩
  | .hbm, ⟨55, _⟩ => ⟨S384x4x64, .f32⟩
  | .hbm, ⟨56, _⟩ => ⟨S384x4x128, .f32⟩
  | .hbm, ⟨57, _⟩ => ⟨S384x512, .f32⟩
  | .hbm, ⟨58, _⟩ => ⟨S_, .f32⟩
  | .hbm, ⟨59, _⟩ => ⟨S384x4x64, .f32⟩
  | .hbm, ⟨60, _⟩ => ⟨S384x4x128, .f32⟩
  | .hbm, ⟨61, _⟩ => ⟨S384x512, .f32⟩
  | .hbm, ⟨62, _⟩ => ⟨S384x4x32, .f32⟩
  | .hbm, ⟨63, _⟩ => ⟨S384x4x32, .f32⟩
  | .hbm, ⟨64, _⟩ => ⟨S384x4x64, .f32⟩
  | .hbm, ⟨65, _⟩ => ⟨S_, .f32⟩
  | .hbm, ⟨66, _⟩ => ⟨S384x4x64, .f32⟩
  | .hbm, ⟨67, _⟩ => ⟨S384x4x128, .f32⟩
  | .hbm, ⟨68, _⟩ => ⟨S384x512, .f32⟩
  | .hbm, ⟨69, _⟩ => ⟨S384x1536, .f32⟩
  | .hbm, ⟨70, _⟩ => ⟨S384x1536, .bf16⟩
  | .hbm, ⟨71, _⟩ => ⟨S256x4x128, .f32⟩
  | .hbm, ⟨72, _⟩ => ⟨S4x128x256, .f32⟩
  | .hbm, ⟨73, _⟩ => ⟨S4x128x256, .bf16⟩
  | .hbm, ⟨74, _⟩ => ⟨S384, .f32⟩
  | .hbm, ⟨75, _⟩ => ⟨S1x384, .f32⟩
  | .hbm, ⟨76, _⟩ => ⟨S256, .f32⟩
  | .hbm, ⟨77, _⟩ => ⟨S1x256, .f32⟩
  | .hbm, ⟨78, _⟩ => ⟨S16384x1024, .f32⟩
  | .hbm, ⟨79, _⟩ => ⟨S16384x1024, .bf16⟩
  | .hbm, ⟨80, _⟩ => ⟨S131072x128, .f32⟩
  | .hbm, ⟨81, _⟩ => ⟨S16384x1024, .bf16⟩
  | .hbm, ⟨82, _⟩ => ⟨S16384x1536, .bf16⟩
  | .hbm, ⟨83, _⟩ => ⟨S16384x320, .f32⟩
  | .hbm, ⟨84, _⟩ => ⟨S16384x384, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1024x2432, .bf16⟩
  | .local _ .vmem, ⟨7, _⟩ => ⟨S1x384, .f32⟩
  | .local _ .vmem, ⟨8, _⟩ => ⟨S384x1536, .bf16⟩
  | .local _ .vmem, ⟨9, _⟩ => ⟨S1x256, .f32⟩
  | .local _ .vmem, ⟨10, _⟩ => ⟨S4x128x256, .bf16⟩
  | .local _ .vmem, ⟨11, _⟩ => ⟨S512x1024, .bf16⟩
  | .local _ .vmem, ⟨12, _⟩ => ⟨S512x1024, .bf16⟩
  | .local _ .vmem, ⟨13, _⟩ => ⟨S4096x128, .f32⟩
  | .local _ .vmem, ⟨14, _⟩ => ⟨S4096x128, .f32⟩
  | .local _ .vmem, ⟨15, _⟩ => ⟨S512x1024, .bf16⟩
  | .local _ .vmem, ⟨16, _⟩ => ⟨S512x1024, .bf16⟩
  | .local _ .vmem, ⟨17, _⟩ => ⟨S512x1536, .bf16⟩
  | .local _ .vmem, ⟨18, _⟩ => ⟨S512x1536, .bf16⟩
  | .local _ .vmem, ⟨19, _⟩ => ⟨S512x320, .f32⟩
  | .local _ .vmem, ⟨20, _⟩ => ⟨S512x320, .f32⟩
  | .local _ .vmem, ⟨21, _⟩ => ⟨S512x384, .bf16⟩
  | .local _ .vmem, ⟨22, _⟩ => ⟨S512x384, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64_0 : Ref sig .tc := ⟨.hbm, 79, rfl⟩
abbrev main_v64_1 : Ref sig .tc := ⟨.hbm, 80, rfl⟩
abbrev main_v64_2 : Ref sig .tc := ⟨.hbm, 81, rfl⟩
abbrev main_v64_3 : Ref sig .tc := ⟨.hbm, 82, rfl⟩
abbrev main_v64_4 : Ref sig .tc := ⟨.hbm, 83, rfl⟩
abbrev main_v64_5 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x320 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S2x8192x1024 : Shape := ⟨3, ![2, 8192, 1024]⟩
abbrev S1x1024x2240 : Shape := ⟨3, ![1, 1024, 2240]⟩
abbrev S1x384 : Shape := ⟨2, ![1, 384]⟩
abbrev S1x384x4x192 : Shape := ⟨4, ![1, 384, 4, 192]⟩
abbrev S1x256 : Shape := ⟨2, ![1, 256]⟩
abbrev S1x256x4x128 : Shape := ⟨4, ![1, 256, 4, 128]⟩
abbrev S8192 : Shape := ⟨1, ![8192]⟩
abbrev S1024x2240 : Shape := ⟨2, ![1024, 2240]⟩
abbrev S2x8192x2240 : Shape := ⟨3, ![2, 8192, 2240]⟩
abbrev S2x8192x512 : Shape := ⟨3, ![2, 8192, 512]⟩
abbrev S2x8192x4x128 : Shape := ⟨4, ![2, 8192, 4, 128]⟩
abbrev S2x8192x256 : Shape := ⟨3, ![2, 8192, 256]⟩
abbrev S256 : Shape := ⟨1, ![256]⟩
abbrev S_ : Shape := ⟨0, ![]⟩
abbrev S2x8192 : Shape := ⟨2, ![2, 8192]⟩
abbrev S2x8192x1 : Shape := ⟨3, ![2, 8192, 1]⟩
abbrev S1x1x256 : Shape := ⟨3, ![1, 1, 256]⟩
abbrev S2x8192x64 : Shape := ⟨3, ![2, 8192, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S2x8192x32 : Shape := ⟨3, ![2, 8192, 32]⟩
abbrev S1x8192x32 : Shape := ⟨3, ![1, 8192, 32]⟩
abbrev S2x8192x1x4x128 : Shape := ⟨5, ![2, 8192, 1, 4, 128]⟩
abbrev S2x8192x2x4x128 : Shape := ⟨5, ![2, 8192, 2, 4, 128]⟩
abbrev S131072x128 : Shape := ⟨2, ![131072, 128]⟩
abbrev S2x8192x320 : Shape := ⟨3, ![2, 8192, 320]⟩
abbrev S16384x320 : Shape := ⟨2, ![16384, 320]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x2240, .f32⟩
  | .hbm, ⟨2, _⟩ => ⟨S1x384, .f32⟩
  | .hbm, ⟨3, _⟩ => ⟨S1x384x4x192, .f32⟩
  | .hbm, ⟨4, _⟩ => ⟨S1x256, .f32⟩
  | .hbm, ⟨5, _⟩ => ⟨S1x256x4x128, .f32⟩
  | .hbm, ⟨6, _⟩ => ⟨S8192, .i32⟩
  | .hbm, ⟨7, _⟩ => ⟨S1024x2240, .f32⟩
  | .hbm, ⟨8, _⟩ => ⟨S2x8192x2240, .f32⟩
  | .hbm, ⟨9, _⟩ => ⟨S2x8192x512, .f32⟩
  | .hbm, ⟨10, _⟩ => ⟨S2x8192x4x128, .f32⟩
  | .hbm, ⟨11, _⟩ => ⟨S2x8192x512, .f32⟩
  | .hbm, ⟨12, _⟩ => ⟨S2x8192x4x128, .f32⟩
  | .hbm, ⟨13, _⟩ => ⟨S2x8192x256, .f32⟩
  | .hbm, ⟨14, _⟩ => ⟨S256, .f32⟩
  | .hbm, ⟨15, _⟩ => ⟨S2x8192x256, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x256, .f32⟩
  | .hbm, ⟨27, _⟩ => ⟨S2x8192x256, .f32⟩
  | .hbm, ⟨28, _⟩ => ⟨S1x1x256, .f32⟩
  | .hbm, ⟨29, _⟩ => ⟨S2x8192x256, .f32⟩
  | .hbm, ⟨30, _⟩ => ⟨S2x8192x256, .f32⟩
  | .hbm, ⟨31, _⟩ => ⟨S2x8192x64, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S8192, .f32⟩
  | .hbm, ⟨49, _⟩ => ⟨S8192x1, .f32⟩
  | .hbm, ⟨50, _⟩ => ⟨S1x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x32, .f32⟩
  | .hbm, ⟨55, _⟩ => ⟨S8192x32, .f32⟩
  | .hbm, ⟨56, _⟩ => ⟨S2x8192x32, .f32⟩
  | .hbm, ⟨57, _⟩ => ⟨S2x8192x32, .f32⟩
  | .hbm, ⟨58, _⟩ => ⟨S1x8192x32, .f32⟩
  | .hbm, ⟨59, _⟩ => ⟨S2x8192x32, .f32⟩
  | .hbm, ⟨60, _⟩ => ⟨S2x8192x32, .f32⟩
  | .hbm, ⟨61, _⟩ => ⟨S1x8192x32, .f32⟩
  | .hbm, ⟨62, _⟩ => ⟨S2x8192x32, .f32⟩
  | .hbm, ⟨63, _⟩ => ⟨S2x8192x32, .f32⟩
  | .hbm, ⟨64, _⟩ => ⟨S2x8192x32, .f32⟩
  | .hbm, ⟨65, _⟩ => ⟨S1x8192x32, .f32⟩
  | .hbm, ⟨66, _⟩ => ⟨S2x8192x32, .f32⟩
  | .hbm, ⟨67, _⟩ => ⟨S2x8192x32, .f32⟩
  | .hbm, ⟨68, _⟩ => ⟨S1x8192x32, .f32⟩
  | .hbm, ⟨69, _⟩ => ⟨S2x8192x32, .f32⟩
  | .hbm, ⟨70, _⟩ => ⟨S2x8192x32, .f32⟩
  | .hbm, ⟨71, _⟩ => ⟨S2x8192x32, .f32⟩
  | .hbm, ⟨72, _⟩ => ⟨S2x8192x64, .f32⟩
  | .hbm, ⟨73, _⟩ => ⟨S2x8192x1x4x128, .f32⟩
  | .hbm, ⟨74, _⟩ => ⟨S2x8192x1x4x128, .f32⟩
  | .hbm, ⟨75, _⟩ => ⟨S2x8192x2x4x128, .f32⟩
  | .hbm, ⟨76, _⟩ => ⟨S131072x128, .f32⟩
  | .hbm, ⟨77, _⟩ => ⟨S2x8192x320, .f32⟩
  | .hbm, ⟨78, _⟩ => ⟨S16384x320, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== Proof.PI.Run.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Writes
public import Idealize.ShloMosaic.Lib.Exec

/-! One run of the projection's body: the pieces it stores into each of its six output blocks. -/

@[expose] public section

set_option maxRecDepth 16384
set_option Elab.async false

noncomputable section

namespace Cert.Kernel3Ideal.Projn

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (c : Dev nD) (i : grid0.Coords)
  (arg1 : Memref sig .tc .vmem S512x1024 .f32) (harg1 : arg1.IsWhole)
  (arg2 : Memref sig .tc .vmem S512x128 .f32) (harg2 : arg2.IsWhole)
  (arg3 : Memref sig .tc .vmem S512x128 .f32) (harg3 : arg3.IsWhole)
  (arg4 : Memref sig .tc .vmem S1024x2432 .bf16) (harg4 : arg4.IsWhole)
  (arg5 : Memref sig .tc .vmem S1x384 .f32) (harg5 : arg5.IsWhole)
  (arg6 : Memref sig .tc .vmem S384x1536 .bf16) (harg6 : arg6.IsWhole)
  (arg7 : Memref sig .tc .vmem S1x256 .f32) (harg7 : arg7.IsWhole)
  (arg8 : Memref sig .tc .vmem S4x128x256 .bf16) (harg8 : arg8.IsWhole)
  (arg9 : Memref sig .tc .vmem S512x1024 .bf16) (harg9 : arg9.IsWhole)
  (arg10 : Memref sig .tc .vmem S4096x128 .f32) (harg10 : arg10.IsWhole)
  (arg11 : Memref sig .tc .vmem S512x1024 .bf16) (harg11 : arg11.IsWhole)
  (arg12 : Memref sig .tc .vmem S512x1536 .bf16) (harg12 : arg12.IsWhole)
  (arg13 : Memref sig .tc .vmem S512x320 .f32) (harg13 : arg13.IsWhole)
  (arg14 : Memref sig .tc .vmem S512x384 .bf16) (harg14 : arg14.IsWhole)
  (x0 : Vec F S512x1024 .f32)
  (x1 : Vec F S512x128 .f32)
  (x2 : Vec F S512x128 .f32)
  (x3 : Vec F S1024x2432 .bf16)
  (x4 : Vec F S1x384 .f32)
  (x5 : Vec F S384x1536 .bf16)
  (x6 : Vec F S1x256 .f32)
  (x7 : Vec F S4x128x256 .bf16)

/-- The eight inputs at their blocks. -/
def ins : sProp 𝕄 :=
  iprop((arg1.view.loc (c : Thread nD τ) ↦[arg1.view.set]{fullShare} arg1.view.rep x0)
    ∗ (arg2.view.loc (c : Thread nD τ) ↦[arg2.view.set]{fullShare} arg2.view.rep x1)
    ∗ (arg3.view.loc (c : Thread nD τ) ↦[arg3.view.set]{fullShare} arg3.view.rep x2)
    ∗ (arg4.view.loc (c : Thread nD τ) ↦[arg4.view.set]{fullShare} arg4.view.rep x3)
    ∗ (arg5.view.loc (c : Thread nD τ) ↦[arg5.view.set]{fullShare} arg5.view.rep x4)
    ∗ (arg6.view.loc (c : Thread nD τ) ↦[arg6.view.set]{fullShare} arg6.view.rep x5)
    ∗ (arg7.view.loc (c : Thread nD τ) ↦[arg7.view.set]{fullShare} arg7.view.rep x6)
    ∗ (arg8.view.loc (c : Thread nD τ) ↦[arg8.view.set]{fullShare} arg8.view.rep x7))

/-- What a run of the body comes to: the pieces it stores into each of the six output blocks, and the proof that it runs to a
    continuation holding them. -/
structure BodyRun where
  p0 : List (View.Piece (Elt F) S512x1024 .bf16)
  p1 : List (View.Piece (Elt F) S4096x128 .f32)
  p2 : List (View.Piece (Elt F) S512x1024 .bf16)
  p3 : List (View.Piece (Elt F) S512x1536 .bf16)
  p4 : List (View.Piece (Elt F) S512x320 .f32)
  p5 : List (View.Piece (Elt F) S512x384 .bf16)
  spec : ∀ (E : Set ℕ) (K : PUnit → sProp 𝕄),
    iprop(ins c arg1 arg2 arg3 arg4 arg5 arg6 arg7 arg8 x0 x1 x2 x3 x4 x5 x6 x7
      ∗ (∃ f, arg9.view.loc (c : Thread nD τ) ↦[arg9.view.set]{fullShare} f)
      ∗ (∃ f, arg10.view.loc (c : Thread nD τ) ↦[arg10.view.set]{fullShare} f)
      ∗ (∃ f, arg11.view.loc (c : Thread nD τ) ↦[arg11.view.set]{fullShare} f)
      ∗ (∃ f, arg12.view.loc (c : Thread nD τ) ↦[arg12.view.set]{fullShare} f)
      ∗ (∃ f, arg13.view.loc (c : Thread nD τ) ↦[arg13.view.set]{fullShare} f)
      ∗ (∃ f, arg14.view.loc (c : Thread nD τ) ↦[arg14.view.set]{fullShare} f)
      ∗ (iprop(ins c arg1 arg2 arg3 arg4 arg5 arg6 arg7 arg8 x0 x1 x2 x3 x4 x5 x6 x7
          ∗ (∃ f, arg9.view.loc (c : Thread nD τ) ↦[arg9.view.set]{fullShare} arg9.view.writes (Elt F) f p0)
          ∗ (∃ f, arg10.view.loc (c : Thread nD τ) ↦[arg10.view.set]{fullShare} arg10.view.writes (Elt F) f p1)
          ∗ (∃ f, arg11.view.loc (c : Thread nD τ) ↦[arg11.view.set]{fullShare} arg11.view.writes (Elt F) f p2)
          ∗ (∃ f, arg12.view.loc (c : Thread nD τ) ↦[arg12.view.set]{fullShare} arg12.view.writes (Elt F) f p3)
          ∗ (∃ f, arg13.view.loc (c : Thread nD τ) ↦[arg13.view.set]{fullShare} arg13.view.writes (Elt F) f p4)
          ∗ (∃ f, arg14.view.loc (c : Thread nD τ) ↦[arg14.view.set]{fullShare} arg14.view.writes (Elt F) f p5)) -∗ K ⟨⟩))
    ⊢ wp frame (wpE (defs₀ (F := F)) Variants.none c none) E
        (cc0_proj i arg1 harg1 arg2 harg2 arg3 harg3 arg4 harg4 arg5 harg5 arg6 harg6 arg7 harg7 arg8 harg8 arg9 harg9 arg10 harg10 arg11 harg11 arg12 harg12 arg13 harg13 arg14 harg14) K

set_option backward.proofsInPublic true in
set_option maxHeartbeats 4000000 in
/-- The body runs, storing each of its six results. -/
def run : BodyRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 :=
  ⟨_, _, _, _, _, _, fun E K => by
    unfold ins
    rw [cc0_proj_eq_skeleton]; unfold cc0_proj_skel
    iintro ⟨⟨H0, H1, H2, H3, H4, H5, H6, H7⟩, ⟨%f0, HO0⟩, ⟨%f1, HO1⟩, ⟨%f2, HO2⟩, ⟨%f3, HO3⟩, ⟨%f4, HO4⟩, ⟨%f5, HO5⟩, Hk⟩
    sl_exec
    sl_step
    iapply Hk
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [HO0]; · iexists f0; iexact HO0
    isplitl [HO1]; · iexists f1; iexact HO1
    isplitl [HO2]; · iexists f2; iexact HO2
    isplitl [HO3]; · iexists f3; iexact HO3
    isplitl [HO4]; · iexists f4; iexact HO4
    iexists f5; iexact HO5⟩

end

end Cert.Kernel3Ideal.Projn
-- ==== Proof.PI.Frame.lean ====
module

public import proofs.«01_k».proof.Proof.Gen.Kernel3Ideal.Points
public import proofs.«01_k».proof.Proof.PI.Run
public import Idealize.ShloMosaic.Lib.Pipeline.TableIdle
public import Idealize.ShloMosaic.Lib.Pipeline.Value

/-! The projection's frame: it runs from any memory, its arguments end unchanged, and each result array is what the points wrote. -/

@[expose] public section

set_option maxRecDepth 16384
set_option Elab.async false

noncomputable section

namespace Cert.Kernel3Ideal.Projn

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 4000000 in
/-- @main up to the region, at the certificate's variants `𝒱₀`: the host operations then the region
    . -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of window 0 holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of window 1 holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of window 2 holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The buffer of window 3 holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The buffer of window 4 holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The buffer of window 5 holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The buffer of window 6 holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The buffer of window 7 holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

section
variable (c : Dev nD) (i : grid0.Coords)
  (arg1 : Memref sig .tc .vmem S512x1024 .f32) (harg1 : arg1.IsWhole)
  (arg2 : Memref sig .tc .vmem S512x128 .f32) (harg2 : arg2.IsWhole)
  (arg3 : Memref sig .tc .vmem S512x128 .f32) (harg3 : arg3.IsWhole)
  (arg4 : Memref sig .tc .vmem S1024x2432 .bf16) (harg4 : arg4.IsWhole)
  (arg5 : Memref sig .tc .vmem S1x384 .f32) (harg5 : arg5.IsWhole)
  (arg6 : Memref sig .tc .vmem S384x1536 .bf16) (harg6 : arg6.IsWhole)
  (arg7 : Memref sig .tc .vmem S1x256 .f32) (harg7 : arg7.IsWhole)
  (arg8 : Memref sig .tc .vmem S4x128x256 .bf16) (harg8 : arg8.IsWhole)
  (arg9 : Memref sig .tc .vmem S512x1024 .bf16) (harg9 : arg9.IsWhole)
  (arg10 : Memref sig .tc .vmem S4096x128 .f32) (harg10 : arg10.IsWhole)
  (arg11 : Memref sig .tc .vmem S512x1024 .bf16) (harg11 : arg11.IsWhole)
  (arg12 : Memref sig .tc .vmem S512x1536 .bf16) (harg12 : arg12.IsWhole)
  (arg13 : Memref sig .tc .vmem S512x320 .f32) (harg13 : arg13.IsWhole)
  (arg14 : Memref sig .tc .vmem S512x384 .bf16) (harg14 : arg14.IsWhole)
  (x0 : Vec F S512x1024 .f32)
  (x1 : Vec F S512x128 .f32)
  (x2 : Vec F S512x128 .f32)
  (x3 : Vec F S1024x2432 .bf16)
  (x4 : Vec F S1x384 .f32)
  (x5 : Vec F S384x1536 .bf16)
  (x6 : Vec F S1x256 .f32)
  (x7 : Vec F S4x128x256 .bf16)
/-- The pieces stored into `arg9` fill it. -/
theorem cover0 (y : S512x1024.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p0, y ∈ pc.1.set :=
  View.cover_of_tiledL (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p0 S512x128.size (by sl_kernel_rfl) y
/-- The pieces stored into `arg11` fill it. -/
theorem cover2 (y : S512x1024.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p2, y ∈ pc.1.set :=
  View.cover_of_tiledL (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p2 S512x1024.size (by sl_kernel_rfl) y
/-- The pieces stored into `arg12` fill it. -/
theorem cover3 (y : S512x1536.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p3, y ∈ pc.1.set :=
  View.cover_of_tiledBy (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p3 S512x128.size (by sl_kernel_rfl) y
/-- The pieces stored into `arg13` fill it. -/
theorem cover4 (y : S512x320.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p4, y ∈ pc.1.set :=
  View.cover_of_tiledBy (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p4 ![512, 64] (by sl_kernel_rfl) y
/-- The pieces stored into `arg14` fill it. -/
theorem cover5 (y : S512x384.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p5, y ∈ pc.1.set :=
  View.cover_of_tiledBy (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p5 S512x128.size (by sl_kernel_rfl) y
/-- Every eighth row from row `j`: the rows whose number leaves `j`. -/
theorem mem_strided (j : ℕ) (hj : j < 8) (r : Rect S4096x128) (ho : r.off = ![j, 0]) (hs : r.size = ![512, 128]) (ht : r.stride = ![8, 1]) (y : S4096x128.Idx) (hy : (y 0).val % 8 = j) : y ∈ r.set := by
  rw [LoadRect.mem_set]
  intro a
  rw [ho, hs, ht]
  have h0 : (y 0).val < 4096 := (y 0).isLt
  have h1 : (y 1).val < 128 := (y 1).isLt
  match a with
  | ⟨0,_⟩ => exact ⟨(y 0).val / 8, by show _ < 512; omega, by show (y 0).val = j + 8 * ((y 0).val / 8); omega⟩
  | ⟨1,_⟩ => exact ⟨(y 1).val, by show _ < 128; omega, by show (y 1).val = 0 + 1 * (y 1).val; omega⟩
/-- The pieces stored into `arg10`, every eighth row each, fill it. -/
theorem cover1 (y : S4096x128.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p1, y ∈ pc.1.set := by
  have h8 : (y 0).val % 8 < 8 := Nat.mod_lt _ (by decide)
  unfold run; dsimp only
  rcases (show (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 from by omega) with h | h | h | h | h | h | h | h
  · exact ⟨_, (List.Mem.tail _ (List.Mem.tail _ (List.Mem.tail _ (List.Mem.tail _ (List.Mem.tail _ (List.Mem.tail _ (List.Mem.tail _ (List.Mem.head _)))))))), mem_strided 0 (by decide) _ rfl rfl rfl y h⟩
  · exact ⟨_, (List.Mem.tail _ (List.Mem.tail _ (List.Mem.tail _ (List.Mem.tail _ (List.Mem.tail _ (List.Mem.tail _ (List.Mem.head _))))))), mem_strided 1 (by decide) _ rfl rfl rfl y h⟩
  · exact ⟨_, (List.Mem.tail _ (List.Mem.tail _ (List.Mem.tail _ (List.Mem.tail _ (List.Mem.tail _ (List.Mem.head _)))))), mem_strided 2 (by decide) _ rfl rfl rfl y h⟩
  · exact ⟨_, (List.Mem.tail _ (List.Mem.tail _ (List.Mem.tail _ (List.Mem.tail _ (List.Mem.head _))))), mem_strided 3 (by decide) _ rfl rfl rfl y h⟩
  · exact ⟨_, (List.Mem.tail _ (List.Mem.tail _ (List.Mem.tail _ (List.Mem.head _)))), mem_strided 4 (by decide) _ rfl rfl rfl y h⟩
  · exact ⟨_, (List.Mem.tail _ (List.Mem.tail _ (List.Mem.head _))), mem_strided 5 (by decide) _ rfl rfl rfl y h⟩
  · exact ⟨_, (List.Mem.tail _ (List.Mem.head _)), mem_strided 6 (by decide) _ rfl rfl rfl y h⟩
  · exact ⟨_, (List.Mem.head _), mem_strided 7 (by decide) _ rfl rfl rfl y h⟩
end

/-- The body's run at point `t`, on the point's buffers and blocks. -/
def runAt (c : Dev nD) (t : Fin cfg0.N) : BodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (iblk m c 0 t) (iblk m c 1 t) (iblk m c 2 t) (iblk m c 3 t) (iblk m c 4 t) (iblk m c 5 t) (iblk m c 6 t) (iblk m c 7 t) :=
  run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (iblk m c 0 t) (iblk m c 1 t) (iblk m c 2 t) (iblk m c 3 t) (iblk m c 4 t) (iblk m c 5 t) (iblk m c 6 t) (iblk m c 7 t)
/-- What the body leaves in the block of window 8. -/
def out8 (c : Dev nD) (t : Fin cfg0.N) : Vec F S512x1024 .bf16 := View.canon (runAt m c t).p0
/-- What the body leaves in the block of window 9. -/
def out9 (c : Dev nD) (t : Fin cfg0.N) : Vec F S4096x128 .f32 := View.canon (runAt m c t).p1
/-- What the body leaves in the block of window 10. -/
def out10 (c : Dev nD) (t : Fin cfg0.N) : Vec F S512x1024 .bf16 := View.canon (runAt m c t).p2
/-- What the body leaves in the block of window 11. -/
def out11 (c : Dev nD) (t : Fin cfg0.N) : Vec F S512x1536 .bf16 := View.canon (runAt m c t).p3
/-- What the body leaves in the block of window 12. -/
def out12 (c : Dev nD) (t : Fin cfg0.N) : Vec F S512x320 .f32 := View.canon (runAt m c t).p4
/-- What the body leaves in the block of window 13. -/
def out13 (c : Dev nD) (t : Fin cfg0.N) : Vec F S512x384 .bf16 := View.canon (runAt m c t).p5

/-- The proof data: each input's buffer at its block, each output's at what the body stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 m c t
    | ⟨9, _⟩ => out9 m c t
    | ⟨10, _⟩ => out10 m c t
    | ⟨11, _⟩ => out11 m c t
    | ⟨12, _⟩ => out12 m c t
    | ⟨13, _⟩ => out13 m c t
  Φ _ := Pipeline.ΦA spec0 c
  q _ := fullShare
  owed _ := 0
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]
theorem after0_11 (c : Dev nD) (t : Fin cfg0.N) : (dats m 0 c).after 11 t = out11 m c t := by dsimp only [dats]
theorem after0_12 (c : Dev nD) (t : Fin cfg0.N) : (dats m 0 c).after 12 t = out12 m c t := by dsimp only [dats]
theorem after0_13 (c : Dev nD) (t : Fin cfg0.N) : (dats m 0 c).after 13 t = out13 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: its run on the point's blocks, the stored pieces filling each output. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runAt m c t).spec Set.univ _)
  isplitl [H0 H1 H2 H3 H4 H5 H6 H7]
  · unfold ins
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    iapply rep_of_owns; iexact H7
  isplitl [H8]
  · unfold owns; icases H8 with ⟨%f, -, H⟩; iexists f; iexact H
  isplitl [H9]
  · unfold owns; icases H9 with ⟨%f, -, H⟩; iexists f; iexact H
  isplitl [H10]
  · unfold owns; icases H10 with ⟨%f, -, H⟩; iexists f; iexact H
  isplitl [H11]
  · unfold owns; icases H11 with ⟨%f, -, H⟩; iexists f; iexact H
  isplitl [H12]
  · unfold owns; icases H12 with ⟨%f, -, H⟩; iexists f; iexact H
  isplitl [H13]
  · unfold owns; icases H13 with ⟨%f, -, H⟩; iexists f; iexact H
  unfold ins
  iintro ⟨⟨H0, H1, H2, H3, H4, H5, H6, H7⟩, ⟨%f8, H8⟩, ⟨%f9, H9⟩, ⟨%f10, H10⟩, ⟨%f11, H11⟩, ⟨%f12, H12⟩, ⟨%f13, H13⟩⟩
  isplitl [HΦ]; · iexact HΦ
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]
  · unfold owns; iexists _; isplitr
    swap; · iexact H8
    ipureintro
    exact View.read_writes_eq_canon _ _ _ (cover0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (iblk m c 0 t) (iblk m c 1 t) (iblk m c 2 t) (iblk m c 3 t) (iblk m c 4 t) (iblk m c 5 t) (iblk m c 6 t) (iblk m c 7 t))
  isplitl [H9]
  · unfold owns; iexists _; isplitr
    swap; · iexact H9
    ipureintro
    exact View.read_writes_eq_canon _ _ _ (cover1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (iblk m c 0 t) (iblk m c 1 t) (iblk m c 2 t) (iblk m c 3 t) (iblk m c 4 t) (iblk m c 5 t) (iblk m c 6 t) (iblk m c 7 t))
  isplitl [H10]
  · unfold owns; iexists _; isplitr
    swap; · iexact H10
    ipureintro
    exact View.read_writes_eq_canon _ _ _ (cover2 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (iblk m c 0 t) (iblk m c 1 t) (iblk m c 2 t) (iblk m c 3 t) (iblk m c 4 t) (iblk m c 5 t) (iblk m c 6 t) (iblk m c 7 t))
  isplitl [H11]
  · unfold owns; iexists _; isplitr
    swap; · iexact H11
    ipureintro
    exact View.read_writes_eq_canon _ _ _ (cover3 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (iblk m c 0 t) (iblk m c 1 t) (iblk m c 2 t) (iblk m c 3 t) (iblk m c 4 t) (iblk m c 5 t) (iblk m c 6 t) (iblk m c 7 t))
  isplitl [H12]
  · unfold owns; iexists _; isplitr
    swap; · iexact H12
    ipureintro
    exact View.read_writes_eq_canon _ _ _ (cover4 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (iblk m c 0 t) (iblk m c 1 t) (iblk m c 2 t) (iblk m c 3 t) (iblk m c 4 t) (iblk m c 5 t) (iblk m c 6 t) (iblk m c 7 t))
  · unfold owns; iexists _; isplitr
    swap; · iexact H13
    ipureintro
    exact View.read_writes_eq_canon _ _ _ (cover5 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (iblk m c 0 t) (iblk m c 1 t) (iblk m c 2 t) (iblk m c 3 t) (iblk m c 4 t) (iblk m c 5 t) (iblk m c 6 t) (iblk m c 7 t))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 4000000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem args_kept {r} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_kept m h.1 c, h.2⟩) (run_main_quiescent m ρ)

end Cert.Kernel3Ideal.Projn
-- ==== Proof.Projn.Spec.lean ====
module

public import Idealize.ShloMosaic.Lib.Pipeline.ValueKit
public import Idealize.ShloMosaic.Lib.Pointwise

/-! One token's keys, values and latent row of the input projection, over the extended reals. -/

@[expose] public section
noncomputable section
namespace Cert.Projn
open Idealize.ShloMosaic

/-- The input row times the weights. -/
def zRow (x : Fin 1024 → EReal) (w : Fin 1024 → Fin 2240 → EReal) (n : Fin 2240) : EReal := ∑ k : Fin 1024, x k * w k n
/-- A row over the root of its mean square, scaled. -/
def nrm (y g : Fin 256 → EReal) (d : Fin 256) : EReal :=
  y d * Ideal.rsqrt (Ideal.div (∑ x : Fin 256, y x * y x) (Ideal.ofBits .f32 0x43800000#32) + Ideal.ofBits .f32 0x358637BD#32) * g d
/-- The angle of a position and a pair. -/
def ang (q j : ℕ) : EReal :=
  FloatOps.sitofp (F := Ideal) FTy.f32 (BitVec.ofNat 32 q) *
      Ideal.div 1
        (Ideal.pow (Ideal.ofBits FTy.f32 1176256512#32)
          (Ideal.div (Ideal.ofBits FTy.f32 1073741824#32 * FloatOps.sitofp (F := Ideal) FTy.f32 (BitVec.ofNat 32 j))
            (Ideal.ofBits FTy.f32 1115684864#32)))
/-- The rotated part of the row. -/
def rot (z : Fin 2240 → EReal) (q : ℕ) (x : Fin 64) : EReal :=
  if h : x.val < 32 then z ⟨2176 + x.val, by omega⟩ * Ideal.cos (ang q x.val) - z ⟨2176 + (32 + x.val), by omega⟩ * Ideal.sin (ang q x.val)
  else z ⟨2176 + (x.val - 32), by omega⟩ * Ideal.sin (ang q (x.val - 32)) + z ⟨2176 + (32 + (x.val - 32)), by omega⟩ * Ideal.cos (ang q (x.val - 32))
/-- The normed latent, then the rotated part. -/
def latRow (z : Fin 2240 → EReal) (g : Fin 256 → EReal) (q : ℕ) (d : Fin 320) : EReal :=
  if h : d.val < 256 then nrm (fun x => z ⟨1920 + x.val, by omega⟩) g ⟨d.val, h⟩ else rot z q ⟨d.val - 256, by omega⟩
/-- The four keys, then the four values. -/
def kvRow (z : Fin 2240 → EReal) (j : Fin 8) (e : Fin 128) : EReal := z ⟨512 + 128 * j.val + e.val, by omega⟩
/-- The swapped part's column. -/
def swp (x : Fin 64) : Fin 2240 := if h : x.val < 32 then ⟨2176 + (32 + x.val), by omega⟩ else ⟨2176 + (x.val - 32), by omega⟩
/-- The rotation as two products with a sine that carries the sign. -/
theorem rot_eq (z : Fin 2240 → EReal) (q : ℕ) (x : Fin 64) (C S : EReal)
    (hC : C = if x.val < 32 then Ideal.cos (ang q x.val) else Ideal.cos (ang q (x.val - 32)))
    (hS : S = if x.val < 32 then -Ideal.sin (ang q x.val) else Ideal.sin (ang q (x.val - 32))) :
    z ⟨2176 + x.val, by omega⟩ * C + z (swp x) * S = rot z q x := by
  unfold rot swp
  subst hC hS
  by_cases h : x.val < 32
  · simp only [dif_pos h, if_pos h]
    rw [mul_neg, ← sub_eq_add_neg]
  · simp only [dif_neg h, if_neg h]
    have e : (⟨2176 + x.val, by omega⟩ : Fin 2240) = ⟨2176 + (32 + (x.val - 32)), by omega⟩ := Fin.ext (by show 2176 + x.val = 2176 + (32 + (x.val - 32)); omega)
    rw [e, add_comm]
end Cert.Projn
-- ==== Proof.Projn.Body.lean ====
module

public import proofs.«01_k».proof.Proof.PI.Frame
public import proofs.«01_k».proof.Proof.Projn.Spec
public import Idealize.ShloMosaic.Lib.Pipeline.ValueKit
public import Idealize.ShloMosaic.Lib.Pointwise
public import Idealize.ShloMosaic.Lib.StableHlo.ReadAt
public import Idealize.ShloMosaic.Lib.StableHlo.RunRead
public import Idealize.ShloMosaic.Lib.Tactic.CleanTypes

/-! What the projection's body stores, read at an index. -/

@[expose] public section
set_option maxRecDepth 16384
set_option Elab.async false
noncomputable section
namespace Cert.Kernel3Ideal.Projn
open Cert.Projn
open Cert.Kernel3Ideal Cert.Kernel3Ideal.Gen
open Idealize.ShloMosaic
open Idealize.ShloMosaic.TcCoe Idealize.ShloMosaic.Tactic

theorem z_at (v0 : Vec Ideal S512x1024 .f32) (v3 : Vec Ideal S1024x2432 .bf16) (r : Fin 512) (n : Fin 2432) :
    k0_pay6 v0 v3 (ix2 r n) = ∑ k : Fin 1024, v0 (ix2 r k) * v3 (ix2 k n) := by
  unfold k0_pay6
  rw [shapeCast_self, shapeCast_self]
  pointwise
theorem nrm_at (y : FVec Ideal S512x256 .f32) (g : Vec Ideal S1x256 .f32) (r : Fin 512) (d : Fin 256) :
    k0_pay1 y (mulf y y) g (ix2 r d) = y (ix2 r d) * Ideal.rsqrt (Ideal.div (∑ x : Fin 256, y (ix2 r x) * y (ix2 r x)) (Ideal.ofBits .f32 0x43800000#32) + Ideal.ofBits .f32 0x358637BD#32) * g (ix2 0 d) := by
  unfold k0_pay1
  dsimp only
  rw [shapeCast_self (s := S1x256)]
  pointwise
theorem lat_at (z : FVec Ideal S512x2432 .f32) (r : Fin 512) (d : Fin 256) : k0_pay43 z (ix2 r d) = z (ix2 r ⟨1920 + d.val, by omega⟩) := by
  unfold k0_pay43; pointwise
theorem rot_at (z : FVec Ideal S512x2432 .f32) (C S : FVec Ideal S512x128 .f32) (r : Fin 512) (x : Fin 64) :
    k0_pay3 z C S (ix2 r x) = z (ix2 r ⟨2176 + x.val, by omega⟩) * C (ix2 r ⟨x.val, by omega⟩) + z (ix2 r ⟨2304 + x.val, by omega⟩) * S (ix2 r ⟨x.val, by omega⟩) := by
  unfold k0_pay3 k0_pay2; dsimp only; pointwise
theorem kv0_at (z : FVec Ideal S512x2432 .f32) (r : Fin 512) (e : Fin 128) : k0_pay21 z (ix2 r e) = z (ix2 r ⟨512 + 128 * 0 + e.val, by omega⟩) := by
  have h : k0_pay21 z (ix2 r e) = z (ix2 r ⟨512 + e.val, by omega⟩) := by unfold k0_pay21 k0_pay20; pointwise
  refine h.trans (congrArg (fun n => z (ix2 r n)) (Fin.ext ?_))
  show 512 + e.val = 512 + 128 * 0 + e.val
  omega
theorem kv1_at (z : FVec Ideal S512x2432 .f32) (r : Fin 512) (e : Fin 128) : k0_pay22 z (ix2 r e) = z (ix2 r ⟨512 + 128 * 1 + e.val, by omega⟩) := by
  have h : k0_pay22 z (ix2 r e) = z (ix2 r ⟨512 + (128 + e.val), by omega⟩) := by unfold k0_pay22 k0_pay20; pointwise
  refine h.trans (congrArg (fun n => z (ix2 r n)) (Fin.ext ?_))
  show 512 + (128 + e.val) = 512 + 128 * 1 + e.val
  omega
theorem kv2_at (z : FVec Ideal S512x2432 .f32) (r : Fin 512) (e : Fin 128) : k0_pay23 z (ix2 r e) = z (ix2 r ⟨512 + 128 * 2 + e.val, by omega⟩) := by
  have h : k0_pay23 z (ix2 r e) = z (ix2 r ⟨512 + (256 + e.val), by omega⟩) := by unfold k0_pay23 k0_pay20; pointwise
  refine h.trans (congrArg (fun n => z (ix2 r n)) (Fin.ext ?_))
  show 512 + (256 + e.val) = 512 + 128 * 2 + e.val
  omega
theorem kv3_at (z : FVec Ideal S512x2432 .f32) (r : Fin 512) (e : Fin 128) : k0_pay24 z (ix2 r e) = z (ix2 r ⟨512 + 128 * 3 + e.val, by omega⟩) := by
  have h : k0_pay24 z (ix2 r e) = z (ix2 r ⟨512 + (384 + e.val), by omega⟩) := by unfold k0_pay24 k0_pay20; pointwise
  refine h.trans (congrArg (fun n => z (ix2 r n)) (Fin.ext ?_))
  show 512 + (384 + e.val) = 512 + 128 * 3 + e.val
  omega
theorem kv4_at (z : FVec Ideal S512x2432 .f32) (r : Fin 512) (e : Fin 128) : k0_pay25 z (ix2 r e) = z (ix2 r ⟨512 + 128 * 4 + e.val, by omega⟩) := by
  have h : k0_pay25 z (ix2 r e) = z (ix2 r ⟨512 + (512 + e.val), by omega⟩) := by unfold k0_pay25 k0_pay20; pointwise
  refine h.trans (congrArg (fun n => z (ix2 r n)) (Fin.ext ?_))
  show 512 + (512 + e.val) = 512 + 128 * 4 + e.val
  omega
theorem kv5_at (z : FVec Ideal S512x2432 .f32) (r : Fin 512) (e : Fin 128) : k0_pay26 (k0_pay20 z) (ix2 r e) = z (ix2 r ⟨512 + 128 * 5 + e.val, by omega⟩) := by
  have h : k0_pay26 (k0_pay20 z) (ix2 r e) = z (ix2 r ⟨512 + (640 + e.val), by omega⟩) := by unfold k0_pay26 k0_pay20; pointwise
  refine h.trans (congrArg (fun n => z (ix2 r n)) (Fin.ext ?_))
  show 512 + (640 + e.val) = 512 + 128 * 5 + e.val
  omega
theorem kv6_at (z : FVec Ideal S512x2432 .f32) (r : Fin 512) (e : Fin 128) : k0_pay27 (k0_pay20 z) (ix2 r e) = z (ix2 r ⟨512 + 128 * 6 + e.val, by omega⟩) := by
  have h : k0_pay27 (k0_pay20 z) (ix2 r e) = z (ix2 r ⟨512 + (768 + e.val), by omega⟩) := by unfold k0_pay27 k0_pay20; pointwise
  refine h.trans (congrArg (fun n => z (ix2 r n)) (Fin.ext ?_))
  show 512 + (768 + e.val) = 512 + 128 * 6 + e.val
  omega
theorem kv7_at (z : FVec Ideal S512x2432 .f32) (r : Fin 512) (e : Fin 128) : k0_pay28 (k0_pay20 z) (ix2 r e) = z (ix2 r ⟨512 + 128 * 7 + e.val, by omega⟩) := by
  have h : k0_pay28 (k0_pay20 z) (ix2 r e) = z (ix2 r ⟨512 + (896 + e.val), by omega⟩) := by unfold k0_pay28 k0_pay20; pointwise
  refine h.trans (congrArg (fun n => z (ix2 r n)) (Fin.ext ?_))
  show 512 + (896 + e.val) = 512 + 128 * 7 + e.val
  omega
theorem sq_eq (z : FVec Ideal S512x2432 .f32) : k0_pay44 z = mulf (k0_pay43 z) (k0_pay43 z) := rfl
theorem cos_eq (x : Vec Ideal S512x128 .f32) : k0_pay31 x = x := by unfold k0_pay31; exact shapeCast_self _ _
theorem sin_eq (x : Vec Ideal S512x128 .f32) : k0_pay32 x = x := by unfold k0_pay32; exact shapeCast_self _ _

variable (m : (ℓ : Loc nD τ sig) → Buf (Elt Ideal) ℓ) (c : Dev nD)
theorem v63_at (i : Fin 16384) (d : Fin 1024) : V m c main_v63 (ix2 i d) = m (c, Proc.tc.devRef main_arg0) (ix3 ⟨i.val / 8192, by omega⟩ ⟨i.val % 8192, by omega⟩ d) := by
  unfold V; repeat after_reads_at
  all_goals (try simp only [id])
  all_goals pointwise
theorem v62_at (d : Fin 256) : V m c main_v62 (ix2 0 d) = m (c, Proc.tc.devRef main_arg4) (ix2 0 d) := by
  unfold V; repeat after_reads_at
  all_goals (try simp only [id])
  all_goals pointwise
theorem v23_at (q : Fin 8192) (x : Fin 64) : V m c main_v23 (ix2 q ⟨x.val, by omega⟩) = if x.val < 32 then Ideal.cos (ang q.val x.val) else Ideal.cos (ang q.val (x.val - 32)) := by
  unfold V; repeat after_reads_at
  all_goals (try simp only [id])
  all_goals unfold ang
  pointwise
  have hx : x.val % 64 = x.val := Nat.mod_eq_of_lt x.isLt
  simp only [hx]
  split_ifs <;> rfl
theorem v28_at (q : Fin 8192) (x : Fin 64) : V m c main_v28 (ix2 q ⟨x.val, by omega⟩) = if x.val < 32 then -Ideal.sin (ang q.val x.val) else Ideal.sin (ang q.val (x.val - 32)) := by
  unfold V; repeat after_reads_at
  all_goals (try simp only [id])
  all_goals unfold ang
  pointwise
  have hx : x.val % 64 = x.val := Nat.mod_eq_of_lt x.isLt
  simp only [hx]
  split_ifs <;> rfl
theorem v40_lo (k : Fin 1024) (n : Fin 2240) : V m c main_v40 (ix2 k ⟨n.val, by omega⟩) = m (c, Proc.tc.devRef main_arg1) (ix3 0 k n) := by
  have hn := n.isLt
  unfold V; repeat after_reads_at
  all_goals (try simp only [id])
  pointwise
  split_ifs
  all_goals first
    | (exfalso; omega)
    | rfl
    | exact congrArg (fun n => m (c, Proc.tc.devRef main_arg1) (ix3 0 k n)) (Fin.ext (by show 2176 + (n.val - 2176) = n.val; omega))
set_option maxHeartbeats 1000000 in
theorem v40_sw0 (k : Fin 1024) (x : Fin 64) (h : x.val < 32) : V m c main_v40 (ix2 k ⟨2304 + x.val, by omega⟩) = m (c, Proc.tc.devRef main_arg1) (ix3 0 k ⟨2176 + (32 + x.val), by omega⟩) := by
  unfold V; repeat after_reads_at
  all_goals (try simp only [id])
  pointwise
  split_ifs
  all_goals first
    | (exfalso; omega)
    | exact congrArg (fun n => m (c, Proc.tc.devRef main_arg1) (ix3 0 k n)) (Fin.ext (by show 2176 + (32 + (2304 + x.val - 2176 - 128)) = 2176 + (32 + x.val); omega))
set_option maxHeartbeats 1000000 in
theorem v40_sw1 (k : Fin 1024) (x : Fin 64) (h : ¬ x.val < 32) : V m c main_v40 (ix2 k ⟨2304 + x.val, by omega⟩) = m (c, Proc.tc.devRef main_arg1) (ix3 0 k ⟨2176 + (x.val - 32), by omega⟩) := by
  have hx := x.isLt
  unfold V; repeat after_reads_at
  all_goals (try simp only [id])
  pointwise
  split_ifs
  all_goals first
    | (exfalso; omega)
    | exact congrArg (fun n => m (c, Proc.tc.devRef main_arg1) (ix3 0 k n)) (Fin.ext (by show 2176 + (2304 + x.val - 2176 - 128 - 32) = 2176 + (x.val - 32); omega))
theorem v40_sw (k : Fin 1024) (x : Fin 64) : V m c main_v40 (ix2 k ⟨2304 + x.val, by omega⟩) = m (c, Proc.tc.devRef main_arg1) (ix3 0 k (swp x)) := by
  by_cases h : x.val < 32
  · exact (v40_sw0 m c k x h).trans (congrArg (fun n => m (c, Proc.tc.devRef main_arg1) (ix3 0 k n)) (show _ = swp x by unfold swp; rw [dif_pos h]))
  · exact (v40_sw1 m c k x h).trans (congrArg (fun n => m (c, Proc.tc.devRef main_arg1) (ix3 0 k n)) (show _ = swp x by unfold swp; rw [dif_neg h]))
end Cert.Kernel3Ideal.Projn
-- ==== Proof.Projn.Out.lean ====
module

public import proofs.«01_k».proof.Proof.Projn.Body
public import Idealize.ShloMosaic.Lib.VecWindow

/-! The two blocks the projection leaves, read at an index. -/

@[expose] public section
set_option maxRecDepth 16384
set_option Elab.async false
noncomputable section
namespace Cert.Kernel3Ideal.Projn
open Cert.Projn
open Cert.Kernel3Ideal Cert.Kernel3Ideal.Gen
open Idealize.ShloMosaic
open Idealize.ShloMosaic.TcCoe Idealize.ShloMosaic.Tactic

/-- A block laid from pieces that agree with `G` holds `G` wherever a piece lies. -/
theorem canon_eq_of {S : Shape} {e : EltTy} (G : S.Idx → Elt Ideal e) (L : List (View.Piece (Elt Ideal) S e)) (y : S.Idx)
    (hp : ∀ p ∈ L, ∀ x, p.2 x = G (p.1.emb x)) (hc : ∃ p ∈ L, y ∈ p.1.set) : View.canon L y = G y := by
  induction L with
  | nil => obtain ⟨p, h, _⟩ := hc; exact absurd h (List.not_mem_nil)
  | cons p L ih =>
    by_cases hy : y ∈ p.1.set
    · obtain ⟨x, rfl⟩ := p.1.exists_idx_of_mem hy
      exact (View.canon_cons_emb p.1 p.2 L x).trans (hp p (List.mem_cons_self ..) x)
    · rw [View.canon_cons_of_not_mem p L hy]
      refine ih (fun q hq => hp q (List.mem_cons_of_mem _ hq)) ?_
      obtain ⟨q, hq, hm⟩ := hc
      rcases List.mem_cons.mp hq with rfl | hq
      · exact absurd hm hy
      · exact ⟨q, hq, hm⟩

/-- The keys and values of a block: eight rows per token. -/
def kvG (z : FVec Ideal S512x2432 .f32) : FVec Ideal S4096x128 .f32 := fun y =>
  z (ix2 ⟨(y 0).val / 8, by have : (y 0).val < 4096 := (y 0).isLt; omega⟩ ⟨512 + 128 * ((y 0).val % 8) + (y 1).val, by have : (y 1).val < 128 := (y 1).isLt; omega⟩)
/-- The latent rows of a block. -/
def latG (z : FVec Ideal S512x2432 .f32) (C S : FVec Ideal S512x128 .f32) (g : FVec Ideal S1x256 .f32) : FVec Ideal S512x320 .f32 := fun y =>
  if h : (y 1).val < 256 then k0_pay1 (k0_pay43 z) (mulf (k0_pay43 z) (k0_pay43 z)) g (ix2 (y 0 : Fin 512) ⟨(y 1).val, h⟩)
  else k0_pay3 z C S (ix2 (y 0 : Fin 512) ⟨(y 1).val - 256, by have : (y 1).val < 320 := (y 1).isLt; omega⟩)
theorem idx128 (y : S512x128.Idx) : y = ix2 (y 0 : Fin 512) (y 1 : Fin 128) := by funext a; fin_cases a <;> rfl
theorem idx256 (y : S512x256.Idx) : y = ix2 (y 0 : Fin 512) (y 1 : Fin 256) := by funext a; fin_cases a <;> rfl
theorem idx64 (y : S512x64.Idx) : y = ix2 (y 0 : Fin 512) (y 1 : Fin 64) := by funext a; fin_cases a <;> rfl
theorem kv_piece (z : FVec Ideal S512x2432 .f32) (j : ℕ) (hj : j < 8) (P : FVec Ideal S512x128 .f32)
    (hP : ∀ (r : Fin 512) (e : Fin 128), P (ix2 r e) = z (ix2 r ⟨512 + 128 * j + e.val, by omega⟩))
    (x : S512x128.Idx) (y : S4096x128.Idx) (h0 : (y 0).val = j + 8 * (x 0).val) (h1 : (y 1).val = 0 + 1 * (x 1).val) : P x = kvG z y := by
  refine (congrArg P (idx128 x)).trans ((hP _ _).trans ?_)
  unfold kvG
  have a0 : (x 0 : Fin 512) = ⟨(y 0).val / 8, by have : (y 0).val < 4096 := (y 0).isLt; omega⟩ := Fin.ext (by show (x 0).val = (y 0).val / 8; omega)
  have a1 : (⟨512 + 128 * j + (x 1).val, by have : (x 1).val < 128 := (x 1).isLt; omega⟩ : Fin 2432) = ⟨512 + 128 * ((y 0).val % 8) + (y 1).val, by have : (y 1).val < 128 := (y 1).isLt; omega⟩ :=
    Fin.ext (by show 512 + 128 * j + (x 1).val = 512 + 128 * ((y 0).val % 8) + (y 1).val; omega)
  exact (congrArg (fun r => z (ix2 r _)) a0).trans (congrArg (fun n => z (ix2 _ n)) a1)
/-- The pieces of the keys and values. -/
def kvL (z : FVec Ideal S512x2432 .f32) : List (View.Piece (Elt Ideal) S4096x128 .f32) :=
  [⟨⟨(⟨![7, 0], S512x128.size, ![8, 1], inb_S4096x128_S512x128_7_0_s_8_1⟩ : LoadRect S4096x128), spos_8_1⟩, k0_pay28 (k0_pay20 z)⟩, ⟨⟨(⟨![6, 0], S512x128.size, ![8, 1], inb_S4096x128_S512x128_6_0_s_8_1⟩ : LoadRect S4096x128), spos_8_1⟩, k0_pay27 (k0_pay20 z)⟩, ⟨⟨(⟨![5, 0], S512x128.size, ![8, 1], inb_S4096x128_S512x128_5_0_s_8_1⟩ : LoadRect S4096x128), spos_8_1⟩, k0_pay26 (k0_pay20 z)⟩, ⟨⟨(⟨![4, 0], S512x128.size, ![8, 1], inb_S4096x128_S512x128_4_0_s_8_1⟩ : LoadRect S4096x128), spos_8_1⟩, k0_pay25 z⟩, ⟨⟨(⟨![3, 0], S512x128.size, ![8, 1], inb_S4096x128_S512x128_3_0_s_8_1⟩ : LoadRect S4096x128), spos_8_1⟩, k0_pay24 z⟩, ⟨⟨(⟨![2, 0], S512x128.size, ![8, 1], inb_S4096x128_S512x128_2_0_s_8_1⟩ : LoadRect S4096x128), spos_8_1⟩, k0_pay23 z⟩, ⟨⟨(⟨![1, 0], S512x128.size, ![8, 1], inb_S4096x128_S512x128_1_0_s_8_1⟩ : LoadRect S4096x128), spos_8_1⟩, k0_pay22 z⟩, ⟨⟨(⟨![0, 0], S512x128.size, ![8, 1], inb_S4096x128_S512x128_0_0_s_8_1⟩ : LoadRect S4096x128), spos_8_1⟩, k0_pay21 z⟩]
theorem kvL_ok (z : FVec Ideal S512x2432 .f32) : ∀ p ∈ kvL z, ∀ x, p.2 x = kvG z (p.1.emb x) := by
  unfold kvL
  simp only [List.forall_mem_cons]
  refine ⟨?_, ?_, ?_, ?_, ?_, ?_, ?_, ?_, fun p h => absurd h List.not_mem_nil⟩
  · exact fun x => kv_piece z 7 (by decide) _ (kv7_at z) x _ rfl rfl
  · exact fun x => kv_piece z 6 (by decide) _ (kv6_at z) x _ rfl rfl
  · exact fun x => kv_piece z 5 (by decide) _ (kv5_at z) x _ rfl rfl
  · exact fun x => kv_piece z 4 (by decide) _ (kv4_at z) x _ rfl rfl
  · exact fun x => kv_piece z 3 (by decide) _ (kv3_at z) x _ rfl rfl
  · exact fun x => kv_piece z 2 (by decide) _ (kv2_at z) x _ rfl rfl
  · exact fun x => kv_piece z 1 (by decide) _ (kv1_at z) x _ rfl rfl
  · exact fun x => kv_piece z 0 (by decide) _ (kv0_at z) x _ rfl rfl
/-- The pieces of the latent rows. -/
def latL (z : FVec Ideal S512x2432 .f32) (C S : FVec Ideal S512x128 .f32) (g : FVec Ideal S1x256 .f32) : List (View.Piece (Elt Ideal) S512x320 .f32) :=
  [⟨Rect.unit (s := S512x320) ![0, 256] ![512, 64] inb_S512x320_S512x64_0_256, k0_pay3 z C S⟩, ⟨Rect.unit (s := S512x320) ![0, 0] ![512, 256] inb_S512x320_S512x256_0_0, k0_pay1 (k0_pay43 z) (k0_pay44 z) g⟩]
theorem lat_lo (z : FVec Ideal S512x2432 .f32) (C S : FVec Ideal S512x128 .f32) (g : FVec Ideal S1x256 .f32) (x : S512x256.Idx) (y : S512x320.Idx)
    (h0 : (y 0).val = 0 + 1 * (x 0).val) (h1 : (y 1).val = 0 + 1 * (x 1).val) : k0_pay1 (k0_pay43 z) (k0_pay44 z) g x = latG z C S g y := by
  have hx : (x 1).val < 256 := (x 1).isLt
  have h : (y 1).val < 256 := by omega
  unfold latG
  rw [dif_pos h, sq_eq]
  refine congrArg _ ((idx256 x).trans ?_)
  rw [show (x 0 : Fin 512) = (y 0 : Fin 512) from Fin.ext (by omega), show (x 1 : Fin 256) = ⟨(y 1).val, h⟩ from Fin.ext (by show (x 1).val = (y 1).val; omega)]
  rfl
theorem lat_hi (z : FVec Ideal S512x2432 .f32) (C S : FVec Ideal S512x128 .f32) (g : FVec Ideal S1x256 .f32) (x : S512x64.Idx) (y : S512x320.Idx)
    (h0 : (y 0).val = 0 + 1 * (x 0).val) (h1 : (y 1).val = 256 + 1 * (x 1).val) : k0_pay3 z C S x = latG z C S g y := by
  have hx : (x 1).val < 64 := (x 1).isLt
  have h : ¬ (y 1).val < 256 := by omega
  unfold latG
  rw [dif_neg h]
  refine congrArg _ ((idx64 x).trans ?_)
  rw [show (x 0 : Fin 512) = (y 0 : Fin 512) from Fin.ext (by omega), show (x 1 : Fin 64) = ⟨(y 1).val - 256, by omega⟩ from Fin.ext (by show (x 1).val = (y 1).val - 256; omega)]
  rfl
theorem latL_ok (z : FVec Ideal S512x2432 .f32) (C S : FVec Ideal S512x128 .f32) (g : FVec Ideal S1x256 .f32) : ∀ p ∈ latL z C S g, ∀ x, p.2 x = latG z C S g (p.1.emb x) := by
  unfold latL
  simp only [List.forall_mem_cons]
  refine ⟨?_, ?_, fun p h => absurd h List.not_mem_nil⟩
  · exact fun x => lat_hi z C S g x _ rfl rfl
  · exact fun x => lat_lo z C S g x _ rfl rfl
section
variable (c : Dev nD) (i : grid0.Coords)
  (arg1 : Memref sig .tc .vmem S512x1024 .f32) (harg1 : arg1.IsWhole)
  (arg2 : Memref sig .tc .vmem S512x128 .f32) (harg2 : arg2.IsWhole)
  (arg3 : Memref sig .tc .vmem S512x128 .f32) (harg3 : arg3.IsWhole)
  (arg4 : Memref sig .tc .vmem S1024x2432 .bf16) (harg4 : arg4.IsWhole)
  (arg5 : Memref sig .tc .vmem S1x384 .f32) (harg5 : arg5.IsWhole)
  (arg6 : Memref sig .tc .vmem S384x1536 .bf16) (harg6 : arg6.IsWhole)
  (arg7 : Memref sig .tc .vmem S1x256 .f32) (harg7 : arg7.IsWhole)
  (arg8 : Memref sig .tc .vmem S4x128x256 .bf16) (harg8 : arg8.IsWhole)
  (arg9 : Memref sig .tc .vmem S512x1024 .bf16) (harg9 : arg9.IsWhole)
  (arg10 : Memref sig .tc .vmem S4096x128 .f32) (harg10 : arg10.IsWhole)
  (arg11 : Memref sig .tc .vmem S512x1024 .bf16) (harg11 : arg11.IsWhole)
  (arg12 : Memref sig .tc .vmem S512x1536 .bf16) (harg12 : arg12.IsWhole)
  (arg13 : Memref sig .tc .vmem S512x320 .f32) (harg13 : arg13.IsWhole)
  (arg14 : Memref sig .tc .vmem S512x384 .bf16) (harg14 : arg14.IsWhole)
  (x0 : Vec Ideal S512x1024 .f32)
  (x1 : Vec Ideal S512x128 .f32)
  (x2 : Vec Ideal S512x128 .f32)
  (x3 : Vec Ideal S1024x2432 .bf16)
  (x4 : Vec Ideal S1x384 .f32)
  (x5 : Vec Ideal S384x1536 .bf16)
  (x6 : Vec Ideal S1x256 .f32)
  (x7 : Vec Ideal S4x128x256 .bf16)

theorem p1_eq : (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p1 = kvL (k0_pay6 x0 x3) := by
  have e : (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p1 = kvL (k0_pay6 (arg1.view.readAt (Elt Ideal) (Rect.unit (s := S512x1024) ![0, 0] S512x1024.size inb_S512x1024_S512x1024_0_0).toLoadRect (arg1.view.rep x0)) (arg4.view.readAt (Elt Ideal) (Rect.unit (s := S1024x2432) ![0, 0] S1024x2432.size inb_S1024x2432_S1024x2432_0_0).toLoadRect (arg4.view.rep x3))) := rfl
  rw [e, View.readAt_rep_full, View.readAt_rep_full]
theorem p4_eq : (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p4 = latL (k0_pay6 x0 x3) x1 x2 x6 := by
  have e : (run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).p4 = latL (k0_pay6 (arg1.view.readAt (Elt Ideal) (Rect.unit (s := S512x1024) ![0, 0] S512x1024.size inb_S512x1024_S512x1024_0_0).toLoadRect (arg1.view.rep x0)) (arg4.view.readAt (Elt Ideal) (Rect.unit (s := S1024x2432) ![0, 0] S1024x2432.size inb_S1024x2432_S1024x2432_0_0).toLoadRect (arg4.view.rep x3))) (k0_pay31 (arg2.view.readAt (Elt Ideal) (Rect.unit (s := S512x128) ![0, 0] S512x128.size inb_S512x128_S512x128_0_0).toLoadRect (arg2.view.rep x1))) (k0_pay32 (arg3.view.readAt (Elt Ideal) (Rect.unit (s := S512x128) ![0, 0] S512x128.size inb_S512x128_S512x128_0_0).toLoadRect (arg3.view.rep x2))) (arg7.view.readAt (Elt Ideal) (Rect.unit (s := S1x256) ![0, 0] S1x256.size inb_S1x256_S1x256_0_0).toLoadRect (arg7.view.rep x6)) := rfl
  rw [e, View.readAt_rep_full, View.readAt_rep_full, View.readAt_rep_full, View.readAt_rep_full, View.readAt_rep_full, cos_eq, sin_eq]
end
variable (m : (ℓ : Loc nD τ sig) → Buf (Elt Ideal) ℓ) (c : Dev nD) (t : Fin cfg0.N)
theorem out9_at (y : S4096x128.Idx) : out9 m c t y = kvG (k0_pay6 (iblk m c 0 t) (iblk m c 3 t)) y := by
  refine canon_eq_of (kvG (k0_pay6 (iblk m c 0 t) (iblk m c 3 t))) (runAt m c t).p1 y ?_ (cover1 ..)
  have e : (runAt m c t).p1 = kvL (k0_pay6 (iblk m c 0 t) (iblk m c 3 t)) := p1_eq ..
  rw [e]
  exact kvL_ok _
theorem out12_at (y : S512x320.Idx) : out12 m c t y = latG (k0_pay6 (iblk m c 0 t) (iblk m c 3 t)) (iblk m c 1 t) (iblk m c 2 t) (iblk m c 6 t) y := by
  refine canon_eq_of (latG (k0_pay6 (iblk m c 0 t) (iblk m c 3 t)) (iblk m c 1 t) (iblk m c 2 t) (iblk m c 6 t)) (runAt m c t).p4 y ?_ (cover4 ..)
  have e : (runAt m c t).p4 = latL (k0_pay6 (iblk m c 0 t) (iblk m c 3 t)) (iblk m c 1 t) (iblk m c 2 t) (iblk m c 6 t) := p4_eq ..
  rw [e]
  exact latL_ok _ _ _ _
end Cert.Kernel3Ideal.Projn
-- ==== Proof.Projn.Arr.lean ====
module

public import proofs.«01_k».proof.Proof.Projn.Out
public import Idealize.ShloMosaic.Lib.Pipeline.ValueKit

/-! The two result arrays, whole. -/

@[expose] public section
set_option maxRecDepth 16384
set_option Elab.async false
noncomputable section
namespace Cert.Kernel3Ideal.Projn
open Cert.Projn
open Cert.Kernel3Ideal Cert.Kernel3Ideal.Gen
open Idealize.ShloMosaic
open Idealize.ShloMosaic.TcCoe Idealize.ShloMosaic.Tactic
open Idealize.ShloMosaic.Pipeline (Dat Cfg Window)

variable (m : (ℓ : Loc nD τ sig) → Buf (Elt Ideal) ℓ) (c : Dev nD) (t : Fin cfg0.N)

theorem idx0 : ∀ (t : Fin cfg0.N) (a : Fin 2), cc0_transform_0 (grid0.coords t) a = (![t.val, 0] : Fin 2 → ℕ) a :=
  (by decide +kernel : ∀ (t : Fin grid0.N) (a : Fin 2), cc0_transform_0 (grid0.coords t) a = (![t.val, 0] : Fin 2 → ℕ) a)
theorem idx1 : ∀ (t : Fin cfg0.N) (a : Fin 2), cc0_transform_1 (grid0.coords t) a = (![t.val % 16, 0] : Fin 2 → ℕ) a :=
  (by decide +kernel : ∀ (t : Fin grid0.N) (a : Fin 2), cc0_transform_1 (grid0.coords t) a = (![t.val % 16, 0] : Fin 2 → ℕ) a)
theorem idx2 : ∀ (t : Fin cfg0.N) (a : Fin 2), cc0_transform_2 (grid0.coords t) a = (![t.val % 16, 0] : Fin 2 → ℕ) a :=
  (by decide +kernel : ∀ (t : Fin grid0.N) (a : Fin 2), cc0_transform_2 (grid0.coords t) a = (![t.val % 16, 0] : Fin 2 → ℕ) a)
theorem idx3 : ∀ (t : Fin cfg0.N) (a : Fin 2), cc0_transform_3 (grid0.coords t) a = (![0, 0] : Fin 2 → ℕ) a :=
  (by decide +kernel : ∀ (t : Fin grid0.N) (a : Fin 2), cc0_transform_3 (grid0.coords t) a = (![0, 0] : Fin 2 → ℕ) a)
theorem idx6 : ∀ (t : Fin cfg0.N) (a : Fin 2), cc0_transform_6 (grid0.coords t) a = (![0, 0] : Fin 2 → ℕ) a :=
  (by decide +kernel : ∀ (t : Fin grid0.N) (a : Fin 2), cc0_transform_6 (grid0.coords t) a = (![0, 0] : Fin 2 → ℕ) a)
theorem idx9 : ∀ (t : Fin cfg0.N) (a : Fin 2), cc0_transform_9 (grid0.coords t) a = (![t.val, 0] : Fin 2 → ℕ) a :=
  (by decide +kernel : ∀ (t : Fin grid0.N) (a : Fin 2), cc0_transform_9 (grid0.coords t) a = (![t.val, 0] : Fin 2 → ℕ) a)
theorem idx12 : ∀ (t : Fin cfg0.N) (a : Fin 2), cc0_transform_12 (grid0.coords t) a = (![t.val, 0] : Fin 2 → ℕ) a :=
  (by decide +kernel : ∀ (t : Fin grid0.N) (a : Fin 2), cc0_transform_12 (grid0.coords t) a = (![t.val, 0] : Fin 2 → ℕ) a)

theorem t_lt : t.val < 32 := t.isLt
/-- A row of the point's block, in the whole array. -/
abbrev rT (r : Fin 512) : Fin 16384 := ⟨t.val * 512 + r.val, by have := t_lt t; omega⟩
/-- Its position in its sequence. -/
abbrev qT (r : Fin 512) : Fin 8192 := ⟨t.val % 16 * 512 + r.val, by omega⟩
theorem iblk0_at (r : Fin 512) (j : Fin 1024) : iblk m c (0 : Fin 14) t (ix2 r j) = V m c main_v63 (ix2 (rT t r) j) := by
  unfold iblk
  show V m c main_v63 (((cfg0.win (0 : Fin 14)).rect t).emb (ix2 r j)) = _
  refine congrArg _ (funext fun x => Fin.ext ?_)
  refine ((cfg0.win (0 : Fin 14)).rect_emb_val t _ x rfl).trans ?_
  rw [show (cfg0.win (0 : Fin 14)).index t x = _ from idx0 t x]
  match x with
  | ⟨0,_⟩ => show t.val * 512 + r.val = t.val * 512 + r.val; rfl
  | ⟨1,_⟩ => show 0 * 1024 + j.val = j.val; omega
theorem iblk1_at (r : Fin 512) (j : Fin 128) : iblk m c (1 : Fin 14) t (ix2 r j) = V m c main_v23 (ix2 (qT t r) j) := by
  unfold iblk
  show V m c main_v23 (((cfg0.win (1 : Fin 14)).rect t).emb (ix2 r j)) = _
  refine congrArg _ (funext fun x => Fin.ext ?_)
  refine ((cfg0.win (1 : Fin 14)).rect_emb_val t _ x rfl).trans ?_
  rw [show (cfg0.win (1 : Fin 14)).index t x = _ from idx1 t x]
  match x with
  | ⟨0,_⟩ => show t.val % 16 * 512 + r.val = t.val % 16 * 512 + r.val; rfl
  | ⟨1,_⟩ => show 0 * 128 + j.val = j.val; omega
theorem iblk2_at (r : Fin 512) (j : Fin 128) : iblk m c (2 : Fin 14) t (ix2 r j) = V m c main_v28 (ix2 (qT t r) j) := by
  unfold iblk
  show V m c main_v28 (((cfg0.win (2 : Fin 14)).rect t).emb (ix2 r j)) = _
  refine congrArg _ (funext fun x => Fin.ext ?_)
  refine ((cfg0.win (2 : Fin 14)).rect_emb_val t _ x rfl).trans ?_
  rw [show (cfg0.win (2 : Fin 14)).index t x = _ from idx2 t x]
  match x with
  | ⟨0,_⟩ => show t.val % 16 * 512 + r.val = t.val % 16 * 512 + r.val; rfl
  | ⟨1,_⟩ => show 0 * 128 + j.val = j.val; omega
theorem iblk3_at (r : Fin 1024) (j : Fin 2432) : iblk m c (3 : Fin 14) t (ix2 r j) = V m c main_v40 (ix2 (r) j) := by
  unfold iblk
  show V m c main_v40 (((cfg0.win (3 : Fin 14)).rect t).emb (ix2 r j)) = _
  refine congrArg _ (funext fun x => Fin.ext ?_)
  refine ((cfg0.win (3 : Fin 14)).rect_emb_val t _ x rfl).trans ?_
  rw [show (cfg0.win (3 : Fin 14)).index t x = _ from idx3 t x]
  match x with
  | ⟨0,_⟩ => show 0 * 1024 + r.val = r.val; omega
  | ⟨1,_⟩ => show 0 * 2432 + j.val = j.val; omega
theorem iblk6_at (r : Fin 1) (j : Fin 256) : iblk m c (6 : Fin 14) t (ix2 r j) = V m c main_v62 (ix2 (r) j) := by
  unfold iblk
  show V m c main_v62 (((cfg0.win (6 : Fin 14)).rect t).emb (ix2 r j)) = _
  refine congrArg _ (funext fun x => Fin.ext ?_)
  refine ((cfg0.win (6 : Fin 14)).rect_emb_val t _ x rfl).trans ?_
  rw [show (cfg0.win (6 : Fin 14)).index t x = _ from idx6 t x]
  match x with
  | ⟨0,_⟩ => show 0 * 1 + r.val = r.val; omega
  | ⟨1,_⟩ => show 0 * 256 + j.val = j.val; omega

/-- A token's row of the projection, from the arguments. -/
def zTok (i : ℕ) (hi : i < 16384) : Fin 2240 → EReal :=
  zRow (fun k => m (c, Proc.tc.devRef main_arg0) (ix3 ⟨i / 8192, by omega⟩ ⟨i % 8192, by omega⟩ k)) (fun k n => m (c, Proc.tc.devRef main_arg1) (ix3 0 k n))
/-- The keys and values, from the arguments. -/
def kvArr : S131072x128.Idx → EReal := fun y =>
  kvRow (zTok m c ((y 0).val / 8) (by have : (y 0).val < 131072 := (y 0).isLt; omega)) ⟨(y 0).val % 8, by omega⟩ (y 1)
/-- The latent rows, from the arguments. -/
def latArr : S16384x320.Idx → EReal := fun y =>
  latRow (zTok m c (y 0).val (y 0).isLt) (fun e => m (c, Proc.tc.devRef main_arg4) (ix2 0 e)) ((y 0).val % 8192) (y 1)
theorem zb_lo (r : Fin 512) (n : Fin 2240) : k0_pay6 (iblk m c 0 t) (iblk m c 3 t) (ix2 r ⟨n.val, by omega⟩) = zTok m c (rT t r).val (rT t r).isLt n := by
  refine (z_at _ _ r _).trans ?_
  unfold zTok zRow
  exact Finset.sum_congr rfl fun k _ => congrArg₂ (· * ·) ((iblk0_at m c t r k).trans (v63_at m c _ k)) ((iblk3_at m c t k _).trans (v40_lo m c k n))
theorem zb_sw (r : Fin 512) (x : Fin 64) : k0_pay6 (iblk m c 0 t) (iblk m c 3 t) (ix2 r ⟨2304 + x.val, by omega⟩) = zTok m c (rT t r).val (rT t r).isLt (swp x) := by
  refine (z_at _ _ r _).trans ?_
  unfold zTok zRow
  exact Finset.sum_congr rfl fun k _ => congrArg₂ (· * ·) ((iblk0_at m c t r k).trans (v63_at m c _ k)) ((iblk3_at m c t k _).trans (v40_sw m c k x))
theorem emb9 (r : Fin 4096) (j : Fin 128) : ((cfg0.win (9 : Fin 14)).blk t).view.emb (ix2 r j) = ix2 (⟨t.val * 4096 + r.val, by have := t_lt t; omega⟩ : Fin 131072) j := by
  show ((cfg0.win (9 : Fin 14)).rect t).emb (ix2 r j) = _
  refine funext fun a => Fin.ext ?_
  refine ((cfg0.win (9 : Fin 14)).rect_emb_val t _ a rfl).trans ?_
  rw [show (cfg0.win (9 : Fin 14)).index t a = _ from idx9 t a]
  match a with
  | ⟨0,_⟩ => show t.val * 4096 + r.val = t.val * 4096 + r.val; rfl
  | ⟨1,_⟩ => show 0 * 128 + j.val = j.val; omega
theorem cover_at9 (i : Fin 131072) (d : Fin 128) : ∃ t : Fin cfg0.N, (cfg0.win (9 : Fin 14)).flush t = true ∧ ix2 i d ∈ ((cfg0.win (9 : Fin 14)).blk t).view.set := by
  have hl : i.val / 4096 < cfg0.N := by show i.val / 4096 < 32; omega
  refine ⟨⟨_, hl⟩, flush0_9 _, ?_⟩
  have hi : ((cfg0.win (9 : Fin 14)).blk ⟨_, hl⟩).view.emb (ix2 (⟨i.val % 4096, by omega⟩ : Fin 4096) d) = ix2 i d := by
    refine (emb9 ⟨_, hl⟩ _ d).trans ?_
    refine congrArg (fun i => ix2 i d) (Fin.ext ?_)
    show i.val / 4096 * 4096 + i.val % 4096 = i.val
    omega
  exact hi ▸ View.emb_mem_set _ _
theorem coverArr9 (i : S131072x128.Idx) : ∃ t : Fin cfg0.N, (cfg0.win (9 : Fin 14)).flush t = true ∧ i ∈ ((cfg0.win (9 : Fin 14)).blk t).view.set := by
  have ei : i = ix2 (i 0 : Fin 131072) (i 1 : Fin 128) := by funext a; fin_cases a <;> rfl
  obtain ⟨t, h1, h2⟩ := cover_at9 (i 0 : Fin 131072) (i 1 : Fin 128)
  exact ⟨t, h1, (congrArg (fun z => z ∈ ((cfg0.win (9 : Fin 14)).blk t).view.set) ei).mpr h2⟩
theorem block_idx9 (y : S4096x128.Idx) : y = ix2 (y 0 : Fin 4096) (y 1 : Fin 128) := by funext a; fin_cases a <;> rfl
theorem block9 (r : Fin 4096) (d : Fin 128) : out9 m c t (ix2 r d) = kvArr m c (((cfg0.win (9 : Fin 14)).blk t).view.emb (ix2 r d)) := by
  rw [emb9]
  refine (out9_at m c t _).trans ?_
  have ht := t_lt t
  refine (zb_lo m c t ⟨r.val / 8, by omega⟩ ⟨512 + 128 * (r.val % 8) + d.val, by omega⟩).trans ?_
  show zTok m c (t.val * 512 + r.val / 8) _ _ = kvRow (zTok m c ((t.val * 4096 + r.val) / 8) _) ⟨(t.val * 4096 + r.val) % 8, _⟩ d
  unfold kvRow
  have h0 : (t.val * 4096 + r.val) / 8 = t.val * 512 + r.val / 8 := by omega
  have h1 : (t.val * 4096 + r.val) % 8 = r.val % 8 := by omega
  simp only [h0, h1]
/-- The result array after the call. -/
theorem arr9 : (dats m 0 c).arrAt (9 : Fin 14) cfg0.N = kvArr m c := by
  refine Dat.arrAt_eq_of_emb (dats m 0 c) (9 : Fin 14) (kvArr m c) (fun t hf y => ?_) coverArr9
  refine Eq.trans (b := out9 m c t y) ?_ ?_
  · show (dats m 0 c).after (9 : Fin 14) t y = _
    rw [after0_9]
  · exact (congrArg (fun z : S4096x128.Idx => out9 m c t z = kvArr m c (((cfg0.win (9 : Fin 14)).blk t).view.emb z)) (block_idx9 y)).mpr (block9 m c t (y 0 : Fin 4096) (y 1 : Fin 128))
theorem emb12 (r : Fin 512) (j : Fin 320) : ((cfg0.win (12 : Fin 14)).blk t).view.emb (ix2 r j) = ix2 (⟨t.val * 512 + r.val, by have := t_lt t; omega⟩ : Fin 16384) j := by
  show ((cfg0.win (12 : Fin 14)).rect t).emb (ix2 r j) = _
  refine funext fun a => Fin.ext ?_
  refine ((cfg0.win (12 : Fin 14)).rect_emb_val t _ a rfl).trans ?_
  rw [show (cfg0.win (12 : Fin 14)).index t a = _ from idx12 t a]
  match a with
  | ⟨0,_⟩ => show t.val * 512 + r.val = t.val * 512 + r.val; rfl
  | ⟨1,_⟩ => show 0 * 320 + j.val = j.val; omega
theorem cover_at12 (i : Fin 16384) (d : Fin 320) : ∃ t : Fin cfg0.N, (cfg0.win (12 : Fin 14)).flush t = true ∧ ix2 i d ∈ ((cfg0.win (12 : Fin 14)).blk t).view.set := by
  have hl : i.val / 512 < cfg0.N := by show i.val / 512 < 32; omega
  refine ⟨⟨_, hl⟩, flush0_12 _, ?_⟩
  have hi : ((cfg0.win (12 : Fin 14)).blk ⟨_, hl⟩).view.emb (ix2 (⟨i.val % 512, by omega⟩ : Fin 512) d) = ix2 i d := by
    refine (emb12 ⟨_, hl⟩ _ d).trans ?_
    refine congrArg (fun i => ix2 i d) (Fin.ext ?_)
    show i.val / 512 * 512 + i.val % 512 = i.val
    omega
  exact hi ▸ View.emb_mem_set _ _
theorem coverArr12 (i : S16384x320.Idx) : ∃ t : Fin cfg0.N, (cfg0.win (12 : Fin 14)).flush t = true ∧ i ∈ ((cfg0.win (12 : Fin 14)).blk t).view.set := by
  have ei : i = ix2 (i 0 : Fin 16384) (i 1 : Fin 320) := by funext a; fin_cases a <;> rfl
  obtain ⟨t, h1, h2⟩ := cover_at12 (i 0 : Fin 16384) (i 1 : Fin 320)
  exact ⟨t, h1, (congrArg (fun z => z ∈ ((cfg0.win (12 : Fin 14)).blk t).view.set) ei).mpr h2⟩
theorem block_idx12 (y : S512x320.Idx) : y = ix2 (y 0 : Fin 512) (y 1 : Fin 320) := by funext a; fin_cases a <;> rfl
theorem rot_block (r : Fin 512) (x : Fin 64) : k0_pay3 (k0_pay6 (iblk m c 0 t) (iblk m c 3 t)) (iblk m c 1 t) (iblk m c 2 t) (ix2 r x) = rot (zTok m c (rT t r).val (rT t r).isLt) (qT t r).val x := by
  refine (rot_at _ _ _ r x).trans ?_
  refine Eq.trans ?_ (rot_eq (zTok m c (rT t r).val (rT t r).isLt) (qT t r).val x (iblk m c 1 t (ix2 r ⟨x.val, by omega⟩)) (iblk m c 2 t (ix2 r ⟨x.val, by omega⟩)) ((iblk1_at m c t r _).trans (v23_at m c _ x)) ((iblk2_at m c t r _).trans (v28_at m c _ x)))
  exact congrArg₂ (· + ·) (congrArg (· * _) (zb_lo m c t r ⟨2176 + x.val, by omega⟩)) (congrArg (· * _) (zb_sw m c t r x))
theorem nrm_block (r : Fin 512) (d : Fin 256) : k0_pay1 (k0_pay43 (k0_pay6 (iblk m c 0 t) (iblk m c 3 t))) (mulf (k0_pay43 (k0_pay6 (iblk m c 0 t) (iblk m c 3 t))) (k0_pay43 (k0_pay6 (iblk m c 0 t) (iblk m c 3 t)))) (iblk m c 6 t) (ix2 r d) =
    nrm (fun x => zTok m c (rT t r).val (rT t r).isLt ⟨1920 + x.val, by omega⟩) (fun e => m (c, Proc.tc.devRef main_arg4) (ix2 0 e)) d := by
  have hy : ∀ x : Fin 256, k0_pay43 (k0_pay6 (iblk m c 0 t) (iblk m c 3 t)) (ix2 r x) = zTok m c (rT t r).val (rT t r).isLt ⟨1920 + x.val, by omega⟩ := fun x => (lat_at _ r x).trans (zb_lo m c t r ⟨1920 + x.val, by omega⟩)
  have hg : iblk m c 6 t (ix2 (0 : Fin 1) d) = m (c, Proc.tc.devRef main_arg4) (ix2 0 d) := (iblk6_at m c t 0 d).trans (v62_at m c d)
  refine (nrm_at _ _ r d).trans ?_
  unfold nrm
  refine congrArg₂ (· * ·) (congrArg₂ (· * ·) (hy d) (congrArg (fun s => Ideal.rsqrt (Ideal.div s _ + _)) (Finset.sum_congr rfl fun x _ => congrArg₂ (· * ·) (hy x) (hy x)))) hg
theorem block12 (r : Fin 512) (d : Fin 320) : out12 m c t (ix2 r d) = latArr m c (((cfg0.win (12 : Fin 14)).blk t).view.emb (ix2 r d)) := by
  rw [emb12]
  refine (out12_at m c t _).trans ?_
  have ht := t_lt t
  show _ = latRow (zTok m c (t.val * 512 + r.val) _) _ ((t.val * 512 + r.val) % 8192) d
  have hq : (t.val * 512 + r.val) % 8192 = t.val % 16 * 512 + r.val := by omega
  rw [hq]
  unfold latG latRow
  show (if h : d.val < 256 then _ else _) = _
  by_cases h : d.val < 256
  · rw [dif_pos h, dif_pos h]
    exact nrm_block m c t r ⟨d.val, h⟩
  · rw [dif_neg h, dif_neg h]
    exact rot_block m c t r ⟨d.val - 256, by omega⟩
/-- The result array after the call. -/
theorem arr12 : (dats m 0 c).arrAt (12 : Fin 14) cfg0.N = latArr m c := by
  refine Dat.arrAt_eq_of_emb (dats m 0 c) (12 : Fin 14) (latArr m c) (fun t hf y => ?_) coverArr12
  refine Eq.trans (b := out12 m c t y) ?_ ?_
  · show (dats m 0 c).after (12 : Fin 14) t y = _
    rw [after0_12]
  · exact (congrArg (fun z : S512x320.Idx => out12 m c t z = latArr m c (((cfg0.win (12 : Fin 14)).blk t).view.emb z)) (block_idx12 y)).mpr (block12 m c t (y 0 : Fin 512) (y 1 : Fin 320))
end Cert.Kernel3Ideal.Projn
-- ==== Proof.Projn.Ref.lean ====
module

public import proofs.«01_k».proof.Proof.Projn.Spec
public import proofs.«01_k».proof.Proof.Gen.Reference3Ideal.Run
public import Idealize.ShloMosaic.Lib.StableHlo.ReadAt
public import Idealize.ShloMosaic.Lib.Tactic.CleanTypes

/-! The reference's results read at an index. -/

@[expose] public section
set_option maxRecDepth 16384
set_option Elab.async false
noncomputable section
namespace Cert.Reference3Ideal.Projn
open Cert.Projn
open Cert.Reference3Ideal Cert.Reference3Ideal.Gen Cert.Reference3Ideal.Value
open Idealize.ShloMosaic
open Idealize.ShloMosaic.TcCoe Idealize.ShloMosaic.Tactic

/-- The angles. -/
def angOf : FVec Ideal S8192x32 .f32 := (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32))))))))
theorem angOf_at (q : Fin 8192) (j : Fin 32) : angOf (ix2 q j) = ang q.val j.val := by
  unfold angOf ang; pointwise
/-- The input times the weights. -/
def zOf (X0 : FVec Ideal S2x8192x1024 .f32) (X1 : FVec Ideal S1x1024x2240 .f32) : FVec Ideal S2x8192x2240 .f32 :=
  Host.dotGeneral dot_S2x8192x1024_S1024x2240_S2x8192x2240_2_0_01_1_n_n none X0 (shapeCast _ X1 shapeCasts_S1x1024x2240_S1024x2240)
theorem zOf_at (X0 : FVec Ideal S2x8192x1024 .f32) (X1 : FVec Ideal S1x1024x2240 .f32) (b : Fin 2) (q : Fin 8192) (n : Fin 2240) :
    zOf X0 X1 (ix3 b q n) = zRow (fun k => X0 (ix3 b q k)) (fun k n => X1 (ix3 0 k n)) n := by
  unfold zOf zRow; pointwise
/-- A latent over the root of its mean square, scaled. -/
def nrmOf (Y : FVec Ideal S2x8192x256 .f32) (X4 : FVec Ideal S1x256 .f32) : FVec Ideal S2x8192x256 .f32 :=
  mulf (mulf Y (broadcastInDim S2x8192x256 ![0, 1, 2] bcast_S2x8192x1_S2x8192x256_0_1_2 (Host.rsqrt (addf (Host.divf (broadcastInDim S2x8192x1 ![0, 1] bcast_S2x8192_S2x8192x1_0_1 (Host.reduceAdd (mulf Y Y) (constant S_ .f32 0x00000000#32) reducesTo_S2x8192x256_S2x8192_d2 h_S_)) (broadcastInDim S2x8192x1 ![] bcast_S_S2x8192x1 (constant S_ .f32 0x43800000#32))) (broadcastInDim S2x8192x1 ![] bcast_S_S2x8192x1 (constant S_ .f32 0x358637BD#32)))))) (broadcastInDim S2x8192x256 ![0, 1, 2] bcast_S1x1x256_S2x8192x256_0_1_2 (broadcastInDim S1x1x256 ![2] bcast_S256_S1x1x256_2 (shapeCast _ X4 shapeCasts_S1x256_S256)))
theorem nrmOf_at (Y : FVec Ideal S2x8192x256 .f32) (X4 : FVec Ideal S1x256 .f32) (b : Fin 2) (q : Fin 8192) (d : Fin 256) :
    nrmOf Y X4 (ix3 b q d) = nrm (fun e => Y (ix3 b q e)) (fun e => X4 (ix2 0 e)) d := by
  unfold nrmOf nrm; pointwise
/-- The rotated part. -/
def krOf (Z : FVec Ideal S2x8192x2240 .f32) (A : FVec Ideal S8192x32 .f32) : FVec Ideal S2x8192x64 .f32 :=
  concatenate S2x8192x64 2 [⟨S2x8192x32, (subf (mulf (extractStridedSlice S2x8192x32 ![0, 0, 0] (extractStridedSlice S2x8192x64 ![0, 0, 2176] Z slices_S2x8192x2240_S2x8192x64_0_0_2176) slices_S2x8192x64_S2x8192x32_0_0_0) (broadcastInDim S2x8192x32 ![0, 1, 2] bcast_S1x8192x32_S2x8192x32_0_1_2 (broadcastInDim S1x8192x32 ![1, 2] bcast_S8192x32_S1x8192x32_1_2 (Host.cos A)))) (mulf (extractStridedSlice S2x8192x32 ![0, 0, 32] (extractStridedSlice S2x8192x64 ![0, 0, 2176] Z slices_S2x8192x2240_S2x8192x64_0_0_2176) slices_S2x8192x64_S2x8192x32_0_0_32) (broadcastInDim S2x8192x32 ![0, 1, 2] bcast_S1x8192x32_S2x8192x32_0_1_2 (broadcastInDim S1x8192x32 ![1, 2] bcast_S8192x32_S1x8192x32_1_2 (Host.sin A)))))⟩,
    ⟨S2x8192x32, (addf (mulf (extractStridedSlice S2x8192x32 ![0, 0, 0] (extractStridedSlice S2x8192x64 ![0, 0, 2176] Z slices_S2x8192x2240_S2x8192x64_0_0_2176) slices_S2x8192x64_S2x8192x32_0_0_0) (broadcastInDim S2x8192x32 ![0, 1, 2] bcast_S1x8192x32_S2x8192x32_0_1_2 (broadcastInDim S1x8192x32 ![1, 2] bcast_S8192x32_S1x8192x32_1_2 (Host.sin A)))) (mulf (extractStridedSlice S2x8192x32 ![0, 0, 32] (extractStridedSlice S2x8192x64 ![0, 0, 2176] Z slices_S2x8192x2240_S2x8192x64_0_0_2176) slices_S2x8192x64_S2x8192x32_0_0_32) (broadcastInDim S2x8192x32 ![0, 1, 2] bcast_S1x8192x32_S2x8192x32_0_1_2 (broadcastInDim S1x8192x32 ![1, 2] bcast_S8192x32_S1x8192x32_1_2 (Host.cos A)))))⟩] concatenates_S2x8192x32_S2x8192x32_S2x8192x64_d2
theorem krOf_at (Z : FVec Ideal S2x8192x2240 .f32) (b : Fin 2) (q : Fin 8192) (x : Fin 64) :
    krOf Z angOf (ix3 b q x) = rot (fun n => Z (ix3 b q n)) q.val x := by
  have h1 : ∀ A : FVec Ideal S8192x32 .f32, krOf Z A (ix3 b q x) = if h : x.val < 32 then
      Z (ix3 b q ⟨2176 + x.val, by omega⟩) * Ideal.cos (A (ix2 q ⟨x.val, h⟩)) - Z (ix3 b q ⟨2176 + (32 + x.val), by omega⟩) * Ideal.sin (A (ix2 q ⟨x.val, h⟩))
      else Z (ix3 b q ⟨2176 + (x.val - 32), by omega⟩) * Ideal.sin (A (ix2 q ⟨x.val - 32, by omega⟩)) + Z (ix3 b q ⟨2176 + (32 + (x.val - 32)), by omega⟩) * Ideal.cos (A (ix2 q ⟨x.val - 32, by omega⟩)) := by
    intro A; unfold krOf; pointwise
  rw [h1]
  simp only [angOf_at]
  rfl
theorem lat_at (Z : FVec Ideal S2x8192x2240 .f32) (b : Fin 2) (q : Fin 8192) (x : Fin 256) :
    extractStridedSlice S2x8192x256 ![0, 0, 1920] Z slices_S2x8192x2240_S2x8192x256_0_0_1920 (ix3 b q x) = Z (ix3 b q ⟨1920 + x.val, by omega⟩) := by
  pointwise
theorem cat_at (A : FVec Ideal S2x8192x256 .f32) (B : FVec Ideal S2x8192x64 .f32) (i : Fin 16384) (d : Fin 320) :
    shapeCast S16384x320 (concatenate S2x8192x320 2 [⟨S2x8192x256, A⟩, ⟨S2x8192x64, B⟩] concatenates_S2x8192x256_S2x8192x64_S2x8192x320_d2) shapeCasts_S2x8192x320_S16384x320 (ix2 i d) =
      if h : d.val < 256 then A (ix3 ⟨i.val / 8192, by omega⟩ ⟨i.val % 8192, by omega⟩ ⟨d.val, h⟩) else B (ix3 ⟨i.val / 8192, by omega⟩ ⟨i.val % 8192, by omega⟩ ⟨d.val - 256, by omega⟩) := by
  pointwise
/-- Keys beside values. -/
def kvOf (Z : FVec Ideal S2x8192x2240 .f32) : FVec Ideal S131072x128 .f32 :=
  shapeCast _ (concatenate S2x8192x2x4x128 2 [⟨S2x8192x1x4x128, (broadcastInDim S2x8192x1x4x128 ![0, 1, 3, 4] bcast_S2x8192x4x128_S2x8192x1x4x128_0_1_3_4 (shapeCast _ (extractStridedSlice S2x8192x512 ![0, 0, 512] Z slices_S2x8192x2240_S2x8192x512_0_0_512) shapeCasts_S2x8192x512_S2x8192x4x128))⟩, ⟨S2x8192x1x4x128, (broadcastInDim S2x8192x1x4x128 ![0, 1, 3, 4] bcast_S2x8192x4x128_S2x8192x1x4x128_0_1_3_4 (shapeCast _ (extractStridedSlice S2x8192x512 ![0, 0, 1024] Z slices_S2x8192x2240_S2x8192x512_0_0_1024) shapeCasts_S2x8192x512_S2x8192x4x128))⟩] concatenates_S2x8192x1x4x128_S2x8192x1x4x128_S2x8192x2x4x128_d2) shapeCasts_S2x8192x2x4x128_S131072x128
theorem kvOf_at (Z : FVec Ideal S2x8192x2240 .f32) (R : Fin 131072) (e : Fin 128) :
    kvOf Z (ix2 R e) = kvRow (fun n => Z (ix3 ⟨R.val / 8 / 8192, by omega⟩ ⟨R.val / 8 % 8192, by omega⟩ n)) ⟨R.val % 8, by omega⟩ e := by
  have h1 : kvOf Z (ix2 R e) = if h : R.val / 4 % 2 < 1 then Z (ix3 ⟨R.val / 65536, by omega⟩ ⟨R.val / 8 % 8192, by omega⟩ ⟨512 + (R.val % 4 * 128 + e.val), by omega⟩)
      else Z (ix3 ⟨R.val / 65536, by omega⟩ ⟨R.val / 8 % 8192, by omega⟩ ⟨1024 + (R.val % 4 * 128 + e.val), by omega⟩) := by
    unfold kvOf; pointwise
  rw [h1]
  unfold kvRow
  have e0 : (⟨R.val / 65536, by omega⟩ : Fin 2) = ⟨R.val / 8 / 8192, by omega⟩ := Fin.ext (by show R.val / 65536 = R.val / 8 / 8192; omega)
  rw [e0]
  by_cases h : R.val / 4 % 2 < 1
  · rw [dif_pos h]
    refine congrArg (fun n => Z (ix3 _ _ n)) (Fin.ext ?_)
    show 512 + (R.val % 4 * 128 + e.val) = 512 + 128 * (R.val % 8) + e.val
    omega
  · rw [dif_neg h]
    refine congrArg (fun n => Z (ix3 _ _ n)) (Fin.ext ?_)
    show 1024 + (R.val % 4 * 128 + e.val) = 512 + 128 * (R.val % 8) + e.val
    omega
/-- The latent rows of a reference run. -/
theorem res_lat_at (m : (ℓ : Loc nD τ sig) → Buf (Elt Ideal) ℓ) (c : Dev nD) (i : Fin 16384) (d : Fin 320) :
    (res_main_v64 m c : FVec Ideal S16384x320 .f32) (ix2 i d) =
      latRow (zRow (fun k => (m ((c.tc : Thread nD τ).loc main_arg0) : FVec Ideal S2x8192x1024 .f32) (ix3 ⟨i.val / 8192, by omega⟩ ⟨i.val % 8192, by omega⟩ k)) (fun k n => (m ((c.tc : Thread nD τ).loc main_arg1) : FVec Ideal S1x1024x2240 .f32) (ix3 0 k n)))
        (fun e => (m ((c.tc : Thread nD τ).loc main_arg4) : FVec Ideal S1x256 .f32) (ix2 0 e)) (i.val % 8192) d := by
  have e : res_main_v64 m c = shapeCast S16384x320 (concatenate S2x8192x320 2 [⟨S2x8192x256, nrmOf (extractStridedSlice S2x8192x256 ![0, 0, 1920] (zOf (m ((c.tc : Thread nD τ).loc main_arg0)) (m ((c.tc : Thread nD τ).loc main_arg1))) slices_S2x8192x2240_S2x8192x256_0_0_1920) (m ((c.tc : Thread nD τ).loc main_arg4))⟩,
      ⟨S2x8192x64, krOf (zOf (m ((c.tc : Thread nD τ).loc main_arg0)) (m ((c.tc : Thread nD τ).loc main_arg1))) angOf⟩] concatenates_S2x8192x256_S2x8192x64_S2x8192x320_d2) shapeCasts_S2x8192x320_S16384x320 := by
    unfold res_main_v64 nrmOf krOf zOf angOf
    rfl
  refine (congrFun e (ix2 i d)).trans ((cat_at _ _ i d).trans ?_)
  unfold latRow
  simp only [nrmOf_at, krOf_at, lat_at, zOf_at]
/-- The key and value rows of a reference run. -/
theorem res_kv_at (m : (ℓ : Loc nD τ sig) → Buf (Elt Ideal) ℓ) (c : Dev nD) (R : Fin 131072) (e : Fin 128) :
    kvOf (zOf (m ((c.tc : Thread nD τ).loc main_arg0)) (m ((c.tc : Thread nD τ).loc main_arg1))) (ix2 R e) =
      kvRow (zRow (fun k => (m ((c.tc : Thread nD τ).loc main_arg0) : FVec Ideal S2x8192x1024 .f32) (ix3 ⟨R.val / 8 / 8192, by omega⟩ ⟨R.val / 8 % 8192, by omega⟩ k)) (fun k n => (m ((c.tc : Thread nD τ).loc main_arg1) : FVec Ideal S1x1024x2240 .f32) (ix3 0 k n))) ⟨R.val % 8, by omega⟩ e := by
  rw [kvOf_at]
  simp only [zOf_at]
end Cert.Reference3Ideal.Projn
-- ==== Proof.Outp.Spec.lean ====
module

public import Idealize.ShloMosaic.Lib.Pipeline.ValueKit
public import Idealize.ShloMosaic.Lib.Pointwise

/-! One row of the output projection with its post-norm, over the extended reals. -/

@[expose] public section
noncomputable section
namespace Cert.Outp
open Idealize.ShloMosaic

/-- The scaled input row plus the mixed row times the weights. -/
def preRow (x a : Fin 1024 → EReal) (w : Fin 1024 → Fin 1024 → EReal) (d : Fin 1024) : EReal := Ideal.ofBits .f32 0x3F9837F0#32 * x d + ∑ k : Fin 1024, a k * w k d
/-- A row less its mean. -/
def centred (h : Fin 1024 → EReal) (d : Fin 1024) : EReal := h d - Ideal.div (∑ z : Fin 1024, h z) (Ideal.ofBits .f32 0x44800000#32)
/-- A centred row over the root of its mean square, scaled and shifted. -/
def scaled (y g b : Fin 1024 → EReal) (d : Fin 1024) : EReal :=
  y d * Ideal.rsqrt (Ideal.div (∑ x : Fin 1024, y x * y x) (Ideal.ofBits .f32 0x44800000#32) + Ideal.ofBits .f32 0x3727C5AC#32) * g d + b d
/-- The result's row. -/
def outRow (x a : Fin 1024 → EReal) (w : Fin 1024 → Fin 1024 → EReal) (g b : Fin 1024 → EReal) (d : Fin 1024) : EReal := scaled (centred (preRow x a w)) g b d
end Cert.Outp
-- ==== Proof.Outp.Body.lean ====
module

public import proofs.«01_k».proof.Proof.Outp.Spec
public import proofs.«01_k».proof.Proof.Gen.Kernel2Ideal.Value
public import Idealize.ShloMosaic.Lib.StableHlo.ReadAt
public import Idealize.ShloMosaic.Lib.StableHlo.RunRead
public import Idealize.ShloMosaic.Lib.Tactic.CleanTypes

/-! What the body stores, read at an index, and the arrays its windows read. -/

@[expose] public section
set_option maxRecDepth 16384
set_option Elab.async false
noncomputable section
namespace Cert.Kernel2Ideal.Outp
open Cert.Outp
open Cert.Kernel2Ideal Cert.Kernel2Ideal.Gen
open Idealize.ShloMosaic
open Idealize.ShloMosaic.TcCoe Idealize.ShloMosaic.Tactic

theorem pre_at (v0 : Vec Ideal S512x1024 .bf16) (v2 : Vec Ideal S1024x1024 .bf16) (v5 : Vec Ideal S512x1024 .f32) (r : Fin 512) (d : Fin 1024) :
    (addf (mulf (broadcast S512x1024 (Scalar.ofBits .f32 0x3F9837F0#32)) (shapeCast (α := Ideal .f32) S512x1024 v5 shapeCasts_S512x1024_S512x1024))
      (matmul (φ₁ := .bf16) (φ₂ := .bf16) dot_S512x1024_S1024x1024_S512x1024_1_0_0_1_n_n none (shapeCast (α := Ideal .bf16) S512x1024 v0 shapeCasts_S512x1024_S512x1024) (shapeCast (α := Ideal .bf16) S1024x1024 v2 shapeCasts_S1024x1024_S1024x1024) (constant S512x1024 .f32 0x00000000#32)) : FVec Ideal S512x1024 .f32) (ix2 r d) =
      preRow (fun e => v5 (ix2 r e)) (fun k => v0 (ix2 r k)) (fun k e => v2 (ix2 k e)) d := by
  unfold preRow
  rw [shapeCast_self, shapeCast_self, shapeCast_self]
  pointwise
theorem centred_at (H : FVec Ideal S512x1024 .f32) (r : Fin 512) (d : Fin 1024) :
    subf H (broadcastTo S512x1024 (divf (shapeCast S512x1 (multiReduction .add [1] S512 H 0x00000000#32 reduces_S512x1024_S512 (.inl rfl) rfl) shapeCasts_S512_S512x1)
      (broadcast S512x1 (Scalar.ofBits .f32 0x44800000#32))) broadcasts_S512x1_S512x1024) (ix2 r d) = centred (fun e => H (ix2 r e)) d := by
  unfold centred; pointwise
theorem scaled_at (Y : FVec Ideal S512x1024 .f32) (g b : Vec Ideal S1x1024 .f32) (r : Fin 512) (d : Fin 1024) :
    (addf (mulf (mulf Y (broadcastTo S512x1024 (rsqrt (addf (divf (shapeCast S512x1 (multiReduction .add [1] S512 (mulf Y Y) 0x00000000#32 reduces_S512x1024_S512 (.inl rfl) rfl) shapeCasts_S512_S512x1)
      (broadcast S512x1 (Scalar.ofBits .f32 0x44800000#32))) (broadcast S512x1 (Scalar.ofBits .f32 0x3727C5AC#32)))) broadcasts_S512x1_S512x1024))
      (broadcastTo S512x1024 (shapeCast (α := Ideal .f32) S1x1024 g shapeCasts_S1x1024_S1x1024) broadcasts_S1x1024_S512x1024))
      (broadcastTo S512x1024 (shapeCast (α := Ideal .f32) S1x1024 b shapeCasts_S1x1024_S1x1024) broadcasts_S1x1024_S512x1024) : FVec Ideal S512x1024 .f32) (ix2 r d) =
      scaled (fun e => Y (ix2 r e)) (fun e => g (ix2 0 e)) (fun e => b (ix2 0 e)) d := by
  unfold scaled
  rw [shapeCast_self, shapeCast_self]
  pointwise
/-- What the body stores. -/
theorem pay_at (v0 : Vec Ideal S512x1024 .bf16) (v2 : Vec Ideal S1024x1024 .bf16) (v5 : Vec Ideal S512x1024 .f32) (g b : Vec Ideal S1x1024 .f32) (r : Fin 512) (d : Fin 1024) :
    k0_pay1 v0 v2 v5 g b (ix2 r d) = outRow (fun e => v5 (ix2 r e)) (fun k => v0 (ix2 r k)) (fun k e => v2 (ix2 k e)) (fun e => g (ix2 0 e)) (fun e => b (ix2 0 e)) d := by
  unfold k0_pay1
  refine (scaled_at _ g b r d).trans ?_
  unfold outRow
  refine congrArg (fun y => scaled y _ _ d) (funext fun e => (centred_at _ r e).trans ?_)
  exact congrArg (fun y => centred y e) (funext fun e' => pre_at v0 v2 v5 r e')
theorem out_at (x0 : Vec Ideal S512x1024 .f32) (x1 : Vec Ideal S512x1024 .bf16) (x2 : Vec Ideal S1024x1024 .bf16) (x3 x4 : Vec Ideal S1x1024 .f32) (r : Fin 512) (d : Fin 1024) :
    out0_5 x0 x1 x2 x3 x4 (ix2 r d) = outRow (fun e => x0 (ix2 r e)) (fun k => x1 (ix2 r k)) (fun k e => x2 (ix2 k e)) (fun e => x3 (ix2 0 e)) (fun e => x4 (ix2 0 e)) d := by
  unfold out0_5
  have e0 : View.ld x0 r0_0 = x0 := View.ld_unit_lit' _ x0 (by decide)
  have e1 : View.ld x1 r0_0 = x1 := View.ld_unit_lit' _ x1 (by decide)
  have e2 : View.ld x2 r0_1 = x2 := View.ld_unit_lit' _ x2 (by decide)
  have e3 : View.ld x3 r0_2 = x3 := View.ld_unit_lit' _ x3 (by decide)
  have e4 : View.ld x4 r0_2 = x4 := View.ld_unit_lit' _ x4 (by decide)
  rw [e0, e1, e2, e3, e4]
  refine (congrFun (View.canon_cons_unit_lit (S := S512x1024) (off := ![0, 0]) (by decide) _ [] (by decide)) (ix2 r d)).trans ?_
  exact pay_at x1 x2 x0 x3 x4 r d

variable (m : (ℓ : Loc nD τ sig) → Buf (Elt Ideal) ℓ) (c : Dev nD)
theorem v6_at (i : Fin 16384) (d : Fin 1024) : V m c main_v6 (ix2 i d) = m (c, Proc.tc.devRef main_arg0) (ix3 ⟨i.val / 8192, by omega⟩ ⟨i.val % 8192, by omega⟩ d) := by
  unfold V; repeat after_reads_at
  all_goals (try simp only [id])
  all_goals pointwise
theorem v7_at (i : Fin 16384) (d : Fin 1024) : V m c main_v7 (ix2 i d) = m (c, Proc.tc.devRef main_arg1) (ix3 ⟨i.val / 8192, by omega⟩ ⟨i.val % 8192, by omega⟩ d) := by
  unfold V; repeat after_reads_at
  all_goals (try simp only [id])
  all_goals pointwise
theorem v1_at (k d : Fin 1024) : V m c main_v1 (ix2 k d) = m (c, Proc.tc.devRef main_arg2) (ix3 0 k d) := by
  unfold V; repeat after_reads_at
  all_goals (try simp only [id])
  all_goals pointwise
theorem v3_at (d : Fin 1024) : V m c main_v3 (ix2 0 d) = m (c, Proc.tc.devRef main_arg3) (ix2 0 d) := by
  unfold V; repeat after_reads_at
  all_goals (try simp only [id])
  all_goals pointwise
theorem v5_at (d : Fin 1024) : V m c main_v5 (ix2 0 d) = m (c, Proc.tc.devRef main_arg4) (ix2 0 d) := by
  unfold V; repeat after_reads_at
  all_goals (try simp only [id])
  all_goals pointwise
end Cert.Kernel2Ideal.Outp
-- ==== Proof.Outp.Arr.lean ====
module

public import proofs.«01_k».proof.Proof.Outp.Body
public import Idealize.ShloMosaic.Lib.Pipeline.ValueKit

/-! The result array, whole. -/

@[expose] public section
set_option maxRecDepth 16384
set_option Elab.async false
noncomputable section
namespace Cert.Kernel2Ideal.Outp
open Cert.Outp
open Cert.Kernel2Ideal Cert.Kernel2Ideal.Gen
open Idealize.ShloMosaic
open Idealize.ShloMosaic.TcCoe Idealize.ShloMosaic.Tactic
open Idealize.ShloMosaic.Pipeline (Dat Cfg Window)

variable (m : (ℓ : Loc nD τ sig) → Buf (Elt Ideal) ℓ) (c : Dev nD) (t : Fin cfg0.N)

theorem idx_rows : ∀ (t : Fin cfg0.N) (a : Fin 2), cc0_transform_0 (grid0.coords t) a = (![t.val, 0] : Fin 2 → ℕ) a :=
  (by decide +kernel : ∀ (t : Fin grid0.N) (a : Fin 2), cc0_transform_0 (grid0.coords t) a = (![t.val, 0] : Fin 2 → ℕ) a)
theorem idx_rows1 : ∀ (t : Fin cfg0.N) (a : Fin 2), cc0_transform_1 (grid0.coords t) a = (![t.val, 0] : Fin 2 → ℕ) a :=
  (by decide +kernel : ∀ (t : Fin grid0.N) (a : Fin 2), cc0_transform_1 (grid0.coords t) a = (![t.val, 0] : Fin 2 → ℕ) a)
theorem idx_rows5 : ∀ (t : Fin cfg0.N) (a : Fin 2), cc0_transform_5 (grid0.coords t) a = (![t.val, 0] : Fin 2 → ℕ) a :=
  (by decide +kernel : ∀ (t : Fin grid0.N) (a : Fin 2), cc0_transform_5 (grid0.coords t) a = (![t.val, 0] : Fin 2 → ℕ) a)
theorem idx_whole2 : ∀ (t : Fin cfg0.N) (a : Fin 2), cc0_transform_2 (grid0.coords t) a = (![0, 0] : Fin 2 → ℕ) a :=
  (by decide +kernel : ∀ (t : Fin grid0.N) (a : Fin 2), cc0_transform_2 (grid0.coords t) a = (![0, 0] : Fin 2 → ℕ) a)
theorem idx_whole3 : ∀ (t : Fin cfg0.N) (a : Fin 2), cc0_transform_3 (grid0.coords t) a = (![0, 0] : Fin 2 → ℕ) a :=
  (by decide +kernel : ∀ (t : Fin grid0.N) (a : Fin 2), cc0_transform_3 (grid0.coords t) a = (![0, 0] : Fin 2 → ℕ) a)
theorem idx_whole4 : ∀ (t : Fin cfg0.N) (a : Fin 2), cc0_transform_4 (grid0.coords t) a = (![0, 0] : Fin 2 → ℕ) a :=
  (by decide +kernel : ∀ (t : Fin grid0.N) (a : Fin 2), cc0_transform_4 (grid0.coords t) a = (![0, 0] : Fin 2 → ℕ) a)
theorem t_lt : t.val < 32 := t.isLt

/-- A row of the point's block, in the whole array. -/
abbrev rT (r : Fin 512) : Fin 16384 := ⟨t.val * 512 + r.val, by have := t_lt t; omega⟩

theorem iblk0_at (r : Fin 512) (j : Fin 1024) : iblk m c (0 : Fin 6) t (ix2 r j) = V m c main_v6 (ix2 (rT t r) j) := by
  unfold iblk
  show V m c main_v6 (((cfg0.win (0 : Fin 6)).rect t).emb (ix2 r j)) = _
  refine congrArg _ (funext fun x => Fin.ext ?_)
  refine ((cfg0.win (0 : Fin 6)).rect_emb_val t _ x rfl).trans ?_
  rw [show (cfg0.win (0 : Fin 6)).index t x = _ from idx_rows t x]
  match x with
  | ⟨0,_⟩ => show t.val * 512 + r.val = t.val * 512 + r.val; rfl
  | ⟨1,_⟩ => show 0 * 1024 + j.val = j.val; omega
theorem iblk1_at (r : Fin 512) (j : Fin 1024) : iblk m c (1 : Fin 6) t (ix2 r j) = V m c main_v7 (ix2 (rT t r) j) := by
  unfold iblk
  show V m c main_v7 (((cfg0.win (1 : Fin 6)).rect t).emb (ix2 r j)) = _
  refine congrArg _ (funext fun x => Fin.ext ?_)
  refine ((cfg0.win (1 : Fin 6)).rect_emb_val t _ x rfl).trans ?_
  rw [show (cfg0.win (1 : Fin 6)).index t x = _ from idx_rows1 t x]
  match x with
  | ⟨0,_⟩ => show t.val * 512 + r.val = t.val * 512 + r.val; rfl
  | ⟨1,_⟩ => show 0 * 1024 + j.val = j.val; omega
theorem iblk2_at (r : Fin 1024) (j : Fin 1024) : iblk m c (2 : Fin 6) t (ix2 r j) = V m c main_v1 (ix2 r j) := by
  unfold iblk
  show V m c main_v1 (((cfg0.win (2 : Fin 6)).rect t).emb (ix2 r j)) = _
  refine congrArg _ (funext fun x => Fin.ext ?_)
  refine ((cfg0.win (2 : Fin 6)).rect_emb_val t _ x rfl).trans ?_
  rw [show (cfg0.win (2 : Fin 6)).index t x = _ from idx_whole2 t x]
  match x with
  | ⟨0,_⟩ => show 0 * 1024 + r.val = r.val; omega
  | ⟨1,_⟩ => show 0 * 1024 + j.val = j.val; omega
theorem iblk3_at (r : Fin 1) (j : Fin 1024) : iblk m c (3 : Fin 6) t (ix2 r j) = V m c main_v3 (ix2 r j) := by
  unfold iblk
  show V m c main_v3 (((cfg0.win (3 : Fin 6)).rect t).emb (ix2 r j)) = _
  refine congrArg _ (funext fun x => Fin.ext ?_)
  refine ((cfg0.win (3 : Fin 6)).rect_emb_val t _ x rfl).trans ?_
  rw [show (cfg0.win (3 : Fin 6)).index t x = _ from idx_whole3 t x]
  match x with
  | ⟨0,_⟩ => show 0 * 1 + r.val = r.val; omega
  | ⟨1,_⟩ => show 0 * 1024 + j.val = j.val; omega
theorem iblk4_at (r : Fin 1) (j : Fin 1024) : iblk m c (4 : Fin 6) t (ix2 r j) = V m c main_v5 (ix2 r j) := by
  unfold iblk
  show V m c main_v5 (((cfg0.win (4 : Fin 6)).rect t).emb (ix2 r j)) = _
  refine congrArg _ (funext fun x => Fin.ext ?_)
  refine ((cfg0.win (4 : Fin 6)).rect_emb_val t _ x rfl).trans ?_
  rw [show (cfg0.win (4 : Fin 6)).index t x = _ from idx_whole4 t x]
  match x with
  | ⟨0,_⟩ => show 0 * 1 + r.val = r.val; omega
  | ⟨1,_⟩ => show 0 * 1024 + j.val = j.val; omega
theorem emb5 (r : Fin 512) (j : Fin 1024) : ((cfg0.win (5 : Fin 6)).blk t).view.emb (ix2 r j) = ix2 (rT t r) j := by
  show ((cfg0.win (5 : Fin 6)).rect t).emb (ix2 r j) = _
  refine funext fun a => Fin.ext ?_
  refine ((cfg0.win (5 : Fin 6)).rect_emb_val t _ a rfl).trans ?_
  rw [show (cfg0.win (5 : Fin 6)).index t a = _ from idx_rows5 t a]
  match a with
  | ⟨0,_⟩ => show t.val * 512 + r.val = t.val * 512 + r.val; rfl
  | ⟨1,_⟩ => show 0 * 1024 + j.val = j.val; omega

/-- The result at a row and a column, from the arguments. -/
def outV (i : Fin 16384) (d : Fin 1024) : EReal :=
  outRow (fun e => m (c, Proc.tc.devRef main_arg0) (ix3 ⟨i.val / 8192, by omega⟩ ⟨i.val % 8192, by omega⟩ e)) (fun k => m (c, Proc.tc.devRef main_arg1) (ix3 ⟨i.val / 8192, by omega⟩ ⟨i.val % 8192, by omega⟩ k))
    (fun k e => m (c, Proc.tc.devRef main_arg2) (ix3 0 k e)) (fun e => m (c, Proc.tc.devRef main_arg3) (ix2 0 e)) (fun e => m (c, Proc.tc.devRef main_arg4) (ix2 0 e)) d
/-- The result array. -/
def outG : S16384x1024.Idx → EReal := fun i => outV m c (i 0) (i 1)

theorem outRow_congr {x x' a a' : Fin 1024 → EReal} {w w' : Fin 1024 → Fin 1024 → EReal} {g g' b b' : Fin 1024 → EReal} (hx : x = x') (ha : a = a') (hw : w = w') (hg : g = g') (hb : b = b') (d : Fin 1024) :
    outRow x a w g b d = outRow x' a' w' g' b' d := by subst hx ha hw hg hb; rfl
theorem block_at (r : Fin 512) (d : Fin 1024) : out0_5 (iblk m c 0 t) (iblk m c 1 t) (iblk m c 2 t) (iblk m c 3 t) (iblk m c 4 t) (ix2 r d) = outG m c (((cfg0.win (5 : Fin 6)).blk t).view.emb (ix2 r d)) := by
  rw [emb5]
  refine (out_at _ _ _ _ _ r d).trans ?_
  show _ = outV m c (rT t r) d
  unfold outV
  exact outRow_congr (funext fun e => (iblk0_at m c t r e).trans (v6_at m c _ e)) (funext fun k => (iblk1_at m c t r k).trans (v7_at m c _ k))
    (funext fun k => funext fun e => (iblk2_at m c t k e).trans (v1_at m c k e)) (funext fun e => (iblk3_at m c t 0 e).trans (v3_at m c e)) (funext fun e => (iblk4_at m c t 0 e).trans (v5_at m c e)) d
theorem block_idx (y : S512x1024.Idx) : y = ix2 (y 0 : Fin 512) (y 1 : Fin 1024) := by funext a; fin_cases a <;> rfl
theorem cover_at (i : Fin 16384) (d : Fin 1024) : ∃ t : Fin cfg0.N, (cfg0.win (5 : Fin 6)).flush t = true ∧ ix2 i d ∈ ((cfg0.win (5 : Fin 6)).blk t).view.set := by
  have hl : i.val / 512 < cfg0.N := by show i.val / 512 < 32; omega
  refine ⟨⟨_, hl⟩, flush0_5 _, ?_⟩
  have hi : ((cfg0.win (5 : Fin 6)).blk ⟨_, hl⟩).view.emb (ix2 (⟨i.val % 512, by omega⟩ : Fin 512) d) = ix2 i d := by
    refine (emb5 ⟨_, hl⟩ _ d).trans ?_
    have h0 : rT ⟨_, hl⟩ (⟨i.val % 512, by omega⟩ : Fin 512) = i := Fin.ext (by show i.val / 512 * 512 + i.val % 512 = i.val; omega)
    rw [h0]
  exact hi ▸ View.emb_mem_set _ _
theorem cover5 (i : S16384x1024.Idx) : ∃ t : Fin cfg0.N, (cfg0.win (5 : Fin 6)).flush t = true ∧ i ∈ ((cfg0.win (5 : Fin 6)).blk t).view.set := by
  have ei : i = ix2 (i 0 : Fin 16384) (i 1 : Fin 1024) := by funext a; fin_cases a <;> rfl
  obtain ⟨t, h1, h2⟩ := cover_at (i 0 : Fin 16384) (i 1 : Fin 1024)
  exact ⟨t, h1, (congrArg (fun z => z ∈ ((cfg0.win (5 : Fin 6)).blk t).view.set) ei).mpr h2⟩
/-- The result array after the call. -/
theorem arr5 : (dats m 0 c).arrAt (5 : Fin 6) cfg0.N = outG m c := by
  refine Dat.arrAt_eq_of_emb (dats m 0 c) (5 : Fin 6) (outG m c) (fun t hf y => ?_) cover5
  refine Eq.trans (b := out0_5 (iblk m c 0 t) (iblk m c 1 t) (iblk m c 2 t) (iblk m c 3 t) (iblk m c 4 t) y) ?_ ?_
  · show (dats m 0 c).after (5 : Fin 6) t y = _
    rw [after0_5]
  · exact (congrArg (fun z : S512x1024.Idx => out0_5 (iblk m c 0 t) (iblk m c 1 t) (iblk m c 2 t) (iblk m c 3 t) (iblk m c 4 t) z = outG m c (((cfg0.win (5 : Fin 6)).blk t).view.emb z)) (block_idx y)).mpr (block_at m c t (y 0 : Fin 512) (y 1 : Fin 1024))
end Cert.Kernel2Ideal.Outp
-- ==== Proof.Outp.Ref.lean ====
module

public import proofs.«01_k».proof.Proof.Outp.Spec
public import proofs.«01_k».proof.Proof.Gen.Reference2Ideal.Run
public import Idealize.ShloMosaic.Lib.StableHlo.ReadAt
public import Idealize.ShloMosaic.Lib.Tactic.CleanTypes

/-! The reference's result read at an index. -/

@[expose] public section
set_option maxRecDepth 16384
set_option Elab.async false
noncomputable section
namespace Cert.Reference2Ideal.Outp
open Cert.Outp
open Cert.Reference2Ideal Cert.Reference2Ideal.Gen Cert.Reference2Ideal.Value
open Idealize.ShloMosaic
open Idealize.ShloMosaic.TcCoe Idealize.ShloMosaic.Tactic

/-- The scaled input plus the projection. -/
def preOf (X0 : FVec Ideal S2x8192x1024 .f32) (X1 : FVec Ideal S2x8192x1024 .bf16) (X2 : FVec Ideal S1x1024x1024 .f32) : FVec Ideal S2x8192x1024 .f32 :=
  addf (mulf (broadcastInDim S2x8192x1024 ![] bcast_S_S2x8192x1024 (constant S_ .f32 0x3F9837F0#32)) X0) (Host.dotGeneral dot_S2x8192x1024_S1024x1024_S2x8192x1024_2_0_01_1_n_n none (extf .f32 X1 bitsLt_bf16_f32) (shapeCast _ X2 shapeCasts_S1x1024x1024_S1024x1024))
/-- Its rows less their means. -/
def centredOf (H : FVec Ideal S2x8192x1024 .f32) : FVec Ideal S2x8192x1024 .f32 :=
  subf H (broadcastInDim S2x8192x1024 ![0, 1, 2] bcast_S2x8192x1_S2x8192x1024_0_1_2 (Host.divf (broadcastInDim S2x8192x1 ![0, 1] bcast_S2x8192_S2x8192x1_0_1 (Host.reduceAdd H (constant S_ .f32 0x00000000#32) reducesTo_S2x8192x1024_S2x8192_d2 h_S_)) (broadcastInDim S2x8192x1 ![] bcast_S_S2x8192x1 (constant S_ .f32 0x44800000#32))))
/-- The centred rows scaled and shifted. -/
def scaledOf (Y : FVec Ideal S2x8192x1024 .f32) (X3 X4 : FVec Ideal S1x1024 .f32) : FVec Ideal S2x8192x1024 .f32 :=
  addf (mulf (mulf Y (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf Y Y) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x3727C5AC#32))))))
    (broadcastInDim S2x8192x1024 ![0, 1, 2] bcast_S1x1x1024_S2x8192x1024_0_1_2 (broadcastInDim S1x1x1024 ![2] bcast_S1024_S1x1x1024_2 (shapeCast _ X3 shapeCasts_S1x1024_S1024))))
    (broadcastInDim S2x8192x1024 ![0, 1, 2] bcast_S1x1x1024_S2x8192x1024_0_1_2 (broadcastInDim S1x1x1024 ![2] bcast_S1024_S1x1x1024_2 (shapeCast _ X4 shapeCasts_S1x1024_S1024)))

theorem preOf_at (X0 : FVec Ideal S2x8192x1024 .f32) (X1 : FVec Ideal S2x8192x1024 .bf16) (X2 : FVec Ideal S1x1024x1024 .f32) (b : Fin 2) (q : Fin 8192) (d : Fin 1024) :
    preOf X0 X1 X2 (ix3 b q d) = preRow (fun e => X0 (ix3 b q e)) (fun k => X1 (ix3 b q k)) (fun k e => X2 (ix3 0 k e)) d := by
  unfold preOf preRow; pointwise
theorem centredOf_at (H : FVec Ideal S2x8192x1024 .f32) (b : Fin 2) (q : Fin 8192) (d : Fin 1024) : centredOf H (ix3 b q d) = centred (fun e => H (ix3 b q e)) d := by
  unfold centredOf centred; pointwise
theorem scaledOf_at (Y : FVec Ideal S2x8192x1024 .f32) (X3 X4 : FVec Ideal S1x1024 .f32) (b : Fin 2) (q : Fin 8192) (d : Fin 1024) :
    scaledOf Y X3 X4 (ix3 b q d) = scaled (fun e => Y (ix3 b q e)) (fun e => X3 (ix2 0 e)) (fun e => X4 (ix2 0 e)) d := by
  unfold scaledOf scaled; pointwise
theorem cast_at (Y : FVec Ideal S2x8192x1024 .f32) (i : Fin 16384) (d : Fin 1024) :
    shapeCast S16384x1024 Y shapeCasts_S2x8192x1024_S16384x1024 (ix2 i d) = Y (ix3 ⟨i.val / 8192, by omega⟩ ⟨i.val % 8192, by omega⟩ d) := by
  pointwise
variable (m : (ℓ : Loc nD τ sig) → Buf (Elt Ideal) ℓ) (c : Dev nD)
theorem res_at (i : Fin 16384) (d : Fin 1024) : res_main_v30 m c (ix2 i d) =
    outRow (fun e => m (c, Proc.tc.devRef main_arg0) (ix3 ⟨i.val / 8192, by omega⟩ ⟨i.val % 8192, by omega⟩ e)) (fun k => m (c, Proc.tc.devRef main_arg1) (ix3 ⟨i.val / 8192, by omega⟩ ⟨i.val % 8192, by omega⟩ k))
      (fun k e => m (c, Proc.tc.devRef main_arg2) (ix3 0 k e)) (fun e => m (c, Proc.tc.devRef main_arg3) (ix2 0 e)) (fun e => m (c, Proc.tc.devRef main_arg4) (ix2 0 e)) d := by
  refine (cast_at (scaledOf (centredOf (preOf (m (c, Proc.tc.devRef main_arg0)) (m (c, Proc.tc.devRef main_arg1)) (m (c, Proc.tc.devRef main_arg2)))) (m (c, Proc.tc.devRef main_arg3)) (m (c, Proc.tc.devRef main_arg4))) i d).trans ?_
  rw [scaledOf_at]
  unfold outRow
  refine congrArg (fun y => scaled y _ _ d) (funext fun e => (centredOf_at _ _ _ e).trans ?_)
  exact congrArg (fun y => centred y e) (funext fun e' => preOf_at _ _ _ _ _ e')
end Cert.Reference2Ideal.Outp
-- ==== Proof.KI.Base.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! The vocabulary of the prompt-attention frame: the tables, the scratch buffers, what one run of the body states. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The two tables of the schedule, whole: a point's query tile and its key tile. -/
abbrev tbQ : Memref sig .tc .smem S272 .i32 := Memref.whole main_c
abbrev tbK : Memref sig .tc .smem S272 .i32 := Memref.whole main_c_0
/-- The six scratch buffers, whole: running maximum, sum and weighted sum of the first head kind, then of the second. -/
abbrev sc0 : Memref sig .tc .vmem S2048x128 .f32 := Memref.whole cc0_scratch0
abbrev sc1 : Memref sig .tc .vmem S2048x128 .f32 := Memref.whole cc0_scratch1
abbrev sc2 : Memref sig .tc .vmem S2048x128 .f32 := Memref.whole cc0_scratch2
abbrev sc3 : Memref sig .tc .vmem S1024x128 .f32 := Memref.whole cc0_scratch3
abbrev sc4 : Memref sig .tc .vmem S1024x128 .f32 := Memref.whole cc0_scratch4
abbrev sc5 : Memref sig .tc .vmem S1024x256 .f32 := Memref.whole cc0_scratch5

/-- A table's word at the schedule step of a point. -/
abbrev wordQ (T0 : S272.Idx → Elt Ideal .i32) (i : grid0.Coords) : BitVec 32 :=
  View.readAt (Elt Ideal) tbQ.view (Rect.unit (s := S272) (k0_off1 i) S1.size (k0_off1_inb i)).toLoadRect T0 (Shape.Idx.first (numel1_S1.symm ▸ Nat.one_pos))
abbrev wordK (T1 : S272.Idx → Elt Ideal .i32) (i : grid0.Coords) : BitVec 32 :=
  View.readAt (Elt Ideal) tbK.view (Rect.unit (s := S272) (k0_off1 i) S1.size (k0_off1_inb i)).toLoadRect T1 (Shape.Idx.first (numel1_S1.symm ▸ Nat.one_pos))

/-- The body's four tests on the two words: first tile, near tile, far tile, last tile. -/
abbrev isInit (k : BitVec 32) : Prop := (Scalar.cmpi .ne (Scalar.extui (Scalar.cmpi .eq k 0#32)) 0#32) = 1#1
abbrev isNear (q k : BitVec 32) : Prop := (Scalar.cmpi .ne (Scalar.extui (Scalar.cmpi .slt (Scalar.subi q (Scalar.muli k 2#32)) 3#32)) 0#32) = 1#1
abbrev isFar (q k : BitVec 32) : Prop := (Scalar.cmpi .ne (Scalar.extui (Scalar.cmpi .sge (Scalar.subi q (Scalar.muli k 2#32)) 3#32)) 0#32) = 1#1
abbrev isFin (q k : BitVec 32) : Prop := k0_cond4 q k = 1#1

/-- The contents of the six scratch buffers of a core. -/
structure St (c : Dev nD) where
  s0 : Buf (Elt Ideal) ((c : Thread nD τ).loc cc0_scratch0)
  s1 : Buf (Elt Ideal) ((c : Thread nD τ).loc cc0_scratch1)
  s2 : Buf (Elt Ideal) ((c : Thread nD τ).loc cc0_scratch2)
  s3 : Buf (Elt Ideal) ((c : Thread nD τ).loc cc0_scratch3)
  s4 : Buf (Elt Ideal) ((c : Thread nD τ).loc cc0_scratch4)
  s5 : Buf (Elt Ideal) ((c : Thread nD τ).loc cc0_scratch5)

/-- The scratch buffers held at given contents. -/
def scr (c : Dev nD) (a : St c) : sProp 𝕄 :=
  iprop((sc0.view.loc (c : Thread nD τ) ↦{fullShare} a.s0) ∗ (sc1.view.loc (c : Thread nD τ) ↦{fullShare} a.s1)
    ∗ (sc2.view.loc (c : Thread nD τ) ↦{fullShare} a.s2) ∗ (sc3.view.loc (c : Thread nD τ) ↦{fullShare} a.s3)
    ∗ (sc4.view.loc (c : Thread nD τ) ↦{fullShare} a.s4) ∗ (sc5.view.loc (c : Thread nD τ) ↦{fullShare} a.s5))

/-- One staging buffer of the output window, through which what a point stores is stated. -/
abbrev VO : View sig .tc .vmem S1x256x1024 .bf16 := (Memref.whole cc0_stg9_0 : Memref sig .tc .vmem S1x256x1024 .bf16).view

section
variable (c : Dev nD) (i : grid0.Coords)
  (arg4 : Memref sig .tc .vmem S1x256x1024 .bf16) (harg4 : arg4.IsWhole) (arg5 : Memref sig .tc .vmem S1x512x1024 .bf16) (harg5 : arg5.IsWhole)
  (arg6 : Memref sig .tc .vmem S1x256x1536 .bf16) (harg6 : arg6.IsWhole) (arg7 : Memref sig .tc .vmem S1x512x384 .bf16) (harg7 : arg7.IsWhole)
  (arg8 : Memref sig .tc .vmem S1x5x256x512 .f32) (harg8 : arg8.IsWhole) (arg9 : Memref sig .tc .vmem S2048x128 .f32) (harg9 : arg9.IsWhole)
  (arg10 : Memref sig .tc .vmem S4x64 .f32) (harg10 : arg10.IsWhole) (arg11 : Memref sig .tc .vmem S1x128 .f32) (harg11 : arg11.IsWhole)
  (arg12 : Memref sig .tc .vmem S4x256x128 .bf16) (harg12 : arg12.IsWhole) (arg13 : Memref sig .tc .vmem S1x256x1024 .bf16) (harg13 : arg13.IsWhole)
  (T0 T1 : S272.Idx → Elt Ideal .i32)
  (x0 : S1x256x1024.Idx → Elt Ideal .bf16) (x1 : S1x512x1024.Idx → Elt Ideal .bf16) (x2 : S1x256x1536.Idx → Elt Ideal .bf16)
  (x3 : S1x512x384.Idx → Elt Ideal .bf16) (x4 : S1x5x256x512.Idx → Elt Ideal .f32) (x5 : S2048x128.Idx → Elt Ideal .f32)
  (x6 : S4x64.Idx → Elt Ideal .f32) (x7 : S1x128.Idx → Elt Ideal .f32) (x8 : S4x256x128.Idx → Elt Ideal .bf16)

/-- The nine inputs at their blocks and the two tables. -/
def ins : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (arg9.view.loc (c : Thread nD τ) ↦[arg9.view.set]{fullShare} arg9.view.rep x5)
    ∗ (arg10.view.loc (c : Thread nD τ) ↦[arg10.view.set]{fullShare} arg10.view.rep x6)
    ∗ (arg11.view.loc (c : Thread nD τ) ↦[arg11.view.set]{fullShare} arg11.view.rep x7)
    ∗ (arg12.view.loc (c : Thread nD τ) ↦[arg12.view.set]{fullShare} arg12.view.rep x8)
    ∗ (tbQ.view.loc (c : Thread nD τ) ↦{fullShare.right} T0)
    ∗ (tbK.view.loc (c : Thread nD τ) ↦{fullShare.right} T1))

/-- What a run of the body comes to: the pieces it stores into the output block, the scratch contents it leaves, and the
    proof that it runs to a continuation holding them. `keep` says that it reads the scratch contents left before. -/
structure BodyRun (keep : Prop) (prev : St c) where
  pcs : List (View.Piece (Elt Ideal) S1x256x1024 .bf16)
  out : St c
  spec : ∀ a : St c, (keep → a = prev) → ∀ (d9 : S1x256x1024.Idx → Elt Ideal .bf16) (K : PUnit → sProp 𝕄),
    iprop(ins c arg4 arg5 arg6 arg7 arg8 arg9 arg10 arg11 arg12 T0 T1 x0 x1 x2 x3 x4 x5 x6 x7 x8
      ∗ owns (c : Thread nD τ) arg13 fullShare d9 ∗ scr c a
      ∗ (iprop(ins c arg4 arg5 arg6 arg7 arg8 arg9 arg10 arg11 arg12 T0 T1 x0 x1 x2 x3 x4 x5 x6 x7 x8
          ∗ (∃ f, ⌜pcs = [] → arg13.view.read (Elt Ideal) f = d9⌝ ∗ arg13.view.loc (c : Thread nD τ) ↦[arg13.view.set]{fullShare} arg13.view.writes (Elt Ideal) f pcs) ∗ scr c out) -∗ K ⟨⟩))
    ⊢ wp frame (wpE (defs₀ (F := Ideal)) Variants.none c none) Set.univ
        (cc0_prompt_attn i tbQ (Memref.isWhole_whole _) tbK (Memref.isWhole_whole _) arg4 harg4 arg5 harg5 arg6 harg6 arg7 harg7 arg8 harg8 arg9 harg9 arg10 harg10 arg11 harg11 arg12 harg12 arg13 harg13 sc0 (Memref.isWhole_whole _) sc1 (Memref.isWhole_whole _) sc2 (Memref.isWhole_whole _) sc3 (Memref.isWhole_whole _) sc4 (Memref.isWhole_whole _) sc5 (Memref.isWhole_whole _)) K

end

end Cert.KernelIdeal.Attn
-- ==== Proof.KI.Sched.lean ====
module

public import proofs.«01_k».proof.Proof.KI.Base

/-! The schedule: the tables' words, the pipeline at them, and what holds at each of the 544 points, decided once. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The query tile of each step of the schedule. -/
def qL : List ℕ := [
  0, 1, 2, 2, 3, 3, 4, 4, 4, 5, 5, 5, 6, 6, 6, 6, 7, 7, 7, 7, 8, 8, 8, 8, 8, 9, 9, 9, 9, 9, 10, 10, 10, 10, 10, 10, 11, 11, 11, 11, 11, 11, 12, 12,
  12, 12, 12, 12, 12, 13, 13, 13, 13, 13, 13, 13, 14, 14, 14, 14, 14, 14, 14, 14, 15, 15, 15, 15, 15, 15, 15, 15, 16, 16, 16, 16, 16, 16, 16, 16, 16,
  17, 17, 17, 17, 17, 17, 17, 17, 17, 18, 18, 18, 18, 18, 18, 18, 18, 18, 18, 19, 19, 19, 19, 19, 19, 19, 19, 19, 19, 20, 20, 20, 20, 20, 20, 20, 20,
  20, 20, 20, 21, 21, 21, 21, 21, 21, 21, 21, 21, 21, 21, 22, 22, 22, 22, 22, 22, 22, 22, 22, 22, 22, 22, 23, 23, 23, 23, 23, 23, 23, 23, 23, 23, 23,
  23, 24, 24, 24, 24, 24, 24, 24, 24, 24, 24, 24, 24, 24, 25, 25, 25, 25, 25, 25, 25, 25, 25, 25, 25, 25, 25, 26, 26, 26, 26, 26, 26, 26, 26, 26, 26,
  26, 26, 26, 26, 27, 27, 27, 27, 27, 27, 27, 27, 27, 27, 27, 27, 27, 27, 28, 28, 28, 28, 28, 28, 28, 28, 28, 28, 28, 28, 28, 28, 28, 29, 29, 29, 29,
  29, 29, 29, 29, 29, 29, 29, 29, 29, 29, 29, 30, 30, 30, 30, 30, 30, 30, 30, 30, 30, 30, 30, 30, 30, 30, 30, 31, 31, 31, 31, 31, 31, 31, 31, 31, 31,
  31, 31, 31, 31, 31, 31]
/-- The key tile of each step of the schedule. -/
def kL : List ℕ := [
  0, 0, 0, 1, 0, 1, 0, 1, 2, 0, 1, 2, 0, 1, 2, 3, 0, 1, 2, 3, 0, 1, 2, 3, 4, 0, 1, 2, 3, 4, 0, 1, 2, 3, 4, 5, 0, 1, 2, 3, 4, 5, 0, 1, 2, 3, 4, 5, 6,
  0, 1, 2, 3, 4, 5, 6, 0, 1, 2, 3, 4, 5, 6, 7, 0, 1, 2, 3, 4, 5, 6, 7, 0, 1, 2, 3, 4, 5, 6, 7, 8, 0, 1, 2, 3, 4, 5, 6, 7, 8, 0, 1, 2, 3, 4, 5, 6, 7,
  8, 9, 0, 1, 2, 3, 4, 5, 6, 7, 8, 9, 0, 1, 2, 3, 4, 5, 6, 7, 8, 9, 10, 0, 1, 2, 3, 4, 5, 6, 7, 8, 9, 10, 0, 1, 2, 3, 4, 5, 6, 7, 8, 9, 10, 11, 0, 1,
  2, 3, 4, 5, 6, 7, 8, 9, 10, 11, 0, 1, 2, 3, 4, 5, 6, 7, 8, 9, 10, 11, 12, 0, 1, 2, 3, 4, 5, 6, 7, 8, 9, 10, 11, 12, 0, 1, 2, 3, 4, 5, 6, 7, 8, 9,
  10, 11, 12, 13, 0, 1, 2, 3, 4, 5, 6, 7, 8, 9, 10, 11, 12, 13, 0, 1, 2, 3, 4, 5, 6, 7, 8, 9, 10, 11, 12, 13, 14, 0, 1, 2, 3, 4, 5, 6, 7, 8, 9, 10,
  11, 12, 13, 14, 0, 1, 2, 3, 4, 5, 6, 7, 8, 9, 10, 11, 12, 13, 14, 15, 0, 1, 2, 3, 4, 5, 6, 7, 8, 9, 10, 11, 12, 13, 14, 15]

/-- A point's batch, query tile and key tile. -/
def bOf (t : ℕ) : ℕ := t / 272
def qOf (t : ℕ) : ℕ := qL.getD (t % 272) 0
def kOf (t : ℕ) : ℕ := kL.getD (t % 272) 0

/-- The tables' words. -/
def pinQ : S272.Idx → BitVec 32 := fun x => BitVec.ofNat 32 (qL.getD (x 0).val 0)
def pinK : S272.Idx → BitVec 32 := fun x => BitVec.ofNat 32 (kL.getD (x 0).val 0)

theorem lit0_eq : ∀ j : Fin 272, lit0 j = BitVec.ofNat 32 (qL.getD j.val 0) := by decide +kernel
theorem lit1_eq : ∀ j : Fin 272, lit1 j = BitVec.ofNat 32 (kL.getD j.val 0) := by decide +kernel

set_option backward.proofsInPublic true in
/-- The tables' contents. -/
def pfN : pre0.Contents (Elt Ideal) := fun | ⟨0, _⟩ => pinQ | ⟨1, _⟩ => pinK | ⟨_ + 2, h⟩ => absurd h (by simp)

theorem inb0 : ∀ i : grid0.Coords, ∀ a, (cc0_transform_0 k0_off1_inb numel1_S1 pfN i a + 1) * S1x256x1024.size a ≤ S2x8192x1024.size a := by decide +kernel
theorem inb1 : ∀ i : grid0.Coords, ∀ a, (cc0_transform_1 k0_off1_inb numel1_S1 pfN i a + 1) * S1x512x1024.size a ≤ S2x8192x1024.size a := by decide +kernel
theorem inb2 : ∀ i : grid0.Coords, ∀ a, (cc0_transform_2 k0_off1_inb numel1_S1 pfN i a + 1) * S1x256x1536.size a ≤ S2x8192x1536.size a := by decide +kernel
theorem inb3 : ∀ i : grid0.Coords, ∀ a, (cc0_transform_3 k0_off1_inb numel1_S1 pfN i a + 1) * S1x512x384.size a ≤ S2x8192x384.size a := by decide +kernel
theorem inb4 : ∀ i : grid0.Coords, ∀ a, (cc0_transform_4 k0_off1_inb numel1_S1 pfN i a + 1) * S1x5x256x512.size a ≤ S3x5x256x512.size a := by decide +kernel
theorem inb9 : ∀ i : grid0.Coords, ∀ a, (cc0_transform_9 k0_off1_inb numel1_S1 pfN i a + 1) * S1x256x1024.size a ≤ S2x8192x1024.size a := by decide +kernel

/-- Every block of the pipeline lies inside its array and moves as whole words. -/
theorem ok_pfN : ok0 (F := Ideal) pfN :=
  ⟨fun i => ⟨inb0 i, .inr (Affine.block_words_dvd (s := S2x8192x1024) (p := EltTy.packing .bf16) (by decide) (by decide))⟩,
   fun i => ⟨inb1 i, .inr (Affine.block_words_dvd (s := S2x8192x1024) (p := EltTy.packing .bf16) (by decide) (by decide))⟩,
   fun i => ⟨inb2 i, .inr (Affine.block_words_dvd (s := S2x8192x1536) (p := EltTy.packing .bf16) (by decide) (by decide))⟩,
   fun i => ⟨inb3 i, .inr (Affine.block_words_dvd (s := S2x8192x384) (p := EltTy.packing .bf16) (by decide) (by decide))⟩,
   fun i => ⟨inb4 i, .inl rfl⟩,
   fun i => ⟨inb9 i, .inr (Affine.block_words_dvd (s := S2x8192x1024) (p := EltTy.packing .bf16) (by decide) (by decide))⟩⟩

/-- The admissible tables and the pipeline at them. -/
def adm : (pcfg0 (F := Ideal)).Adm := ⟨pfN, ok_pfN⟩
abbrev cfgA : Pipeline.Cfg sig Λ₀ := cfg0 (F := Ideal) adm
abbrev pcs : Fin 1 → Pipeline.Cfg sig Λ₀ := Pipeline.pin (pcfgs (F := Ideal)) fun _ => adm

/-- Point `t`'s coordinates. -/
abbrev crd (t : Fin cfgA.N) : cfgA.grid.Coords := cfgA.grid.coords t

/-- What holds at a point: the four tests, when the output block is stored and written back, which point came before, and
    which block each window reads or writes. -/
abbrev FactsAt (t : Fin cfgA.N) : Prop :=
  (isInit (wordK pinK (crd t)) ↔ kOf t.val = 0)
  ∧ (isNear (wordQ pinQ (crd t)) (wordK pinK (crd t)) ↔ qOf t.val < 2 * kOf t.val + 3)
  ∧ (isFar (wordQ pinQ (crd t)) (wordK pinK (crd t)) ↔ ¬ qOf t.val < 2 * kOf t.val + 3)
  ∧ (isFin (wordQ pinQ (crd t)) (wordK pinK (crd t)) ↔ kOf t.val = qOf t.val / 2)
  ∧ (cfgA.idle (9 : Fin 10) (crd t) = !decide (kOf t.val = qOf t.val / 2))
  ∧ ((cfgA.win (9 : Fin 10)).flush t = decide (kOf t.val = qOf t.val / 2))
  ∧ (kOf t.val ≠ 0 → t.val ≠ 0 ∧ kOf t.val = kOf (t.val - 1) + 1 ∧ qOf t.val = qOf (t.val - 1) ∧ bOf t.val = bOf (t.val - 1))
  ∧ (∀ a, cc0_transform_0 k0_off1_inb numel1_S1 pfN (crd t) a = (![bOf t.val, qOf t.val, 0] : Fin 3 → ℕ) a)
  ∧ (∀ a, cc0_transform_1 k0_off1_inb numel1_S1 pfN (crd t) a = (![bOf t.val, kOf t.val, 0] : Fin 3 → ℕ) a)
  ∧ (∀ a, cc0_transform_2 k0_off1_inb numel1_S1 pfN (crd t) a = (![bOf t.val, qOf t.val, 0] : Fin 3 → ℕ) a)
  ∧ (∀ a, cc0_transform_3 k0_off1_inb numel1_S1 pfN (crd t) a = (![bOf t.val, kOf t.val, 0] : Fin 3 → ℕ) a)
  ∧ (∀ a, cc0_transform_4 k0_off1_inb numel1_S1 pfN (crd t) a = (![min (qOf t.val - 2 * kOf t.val) 2, 0, 0, 0] : Fin 4 → ℕ) a)
  ∧ (∀ a, cc0_transform_9 k0_off1_inb numel1_S1 pfN (crd t) a = (![bOf t.val, qOf t.val, 0] : Fin 3 → ℕ) a)
  ∧ kOf t.val ≤ qOf t.val / 2 ∧ qOf t.val < 32 ∧ bOf t.val < 2

theorem facts0 : ∀ t : Fin cfgA.N, 0 ≤ t.val → t.val < 68 → FactsAt t := by decide +kernel
theorem facts1 : ∀ t : Fin cfgA.N, 68 ≤ t.val → t.val < 136 → FactsAt t := by decide +kernel
theorem facts2 : ∀ t : Fin cfgA.N, 136 ≤ t.val → t.val < 204 → FactsAt t := by decide +kernel
theorem facts3 : ∀ t : Fin cfgA.N, 204 ≤ t.val → t.val < 272 → FactsAt t := by decide +kernel
theorem facts4 : ∀ t : Fin cfgA.N, 272 ≤ t.val → t.val < 340 → FactsAt t := by decide +kernel
theorem facts5 : ∀ t : Fin cfgA.N, 340 ≤ t.val → t.val < 408 → FactsAt t := by decide +kernel
theorem facts6 : ∀ t : Fin cfgA.N, 408 ≤ t.val → t.val < 476 → FactsAt t := by decide +kernel
theorem facts7 : ∀ t : Fin cfgA.N, 476 ≤ t.val → t.val < 544 → FactsAt t := by decide +kernel

theorem factsAt (t : Fin cfgA.N) : FactsAt t := by
  have h0 : 0 ≤ t.val := Nat.zero_le _
  rcases Nat.lt_or_ge t.val 68 with h1 | h1; · exact facts0 t h0 h1
  rcases Nat.lt_or_ge t.val 136 with h2 | h2; · exact facts1 t h1 h2
  rcases Nat.lt_or_ge t.val 204 with h3 | h3; · exact facts2 t h2 h3
  rcases Nat.lt_or_ge t.val 272 with h4 | h4; · exact facts3 t h3 h4
  rcases Nat.lt_or_ge t.val 340 with h5 | h5; · exact facts4 t h4 h5
  rcases Nat.lt_or_ge t.val 408 with h6 | h6; · exact facts5 t h5 h6
  rcases Nat.lt_or_ge t.val 476 with h7 | h7; · exact facts6 t h6 h7
  exact facts7 t h7 t.isLt

end Cert.KernelIdeal.Attn
-- ==== Proof.KI.Host.lean ====
module

public import proofs.«01_k».proof.Proof.KI.Sched
public import Idealize.ShloMosaic.Lib.StableHlo.RunRead

/-! The buffers' contents when the kernel is called: after the host operations that prepare its arguments. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The stretches of host operations before the call, in order. -/
abbrev opss : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]

/-- What they write, in order. -/
abbrev writesW : List (Ref sig .tc) := [
  main_c, main_c_0, main_v0, main_c_1, main_v1, main_v2, main_cst, main_v3, main_v4, main_cst_2, main_call0_v0, main_call0_v1, main_v5, main_cst_3,
  main_call1_v0, main_call1_v1, main_v6, main_v7, main_v8, main_v9, main_v10, main_v11, main_v12, main_v13, main_v14, main_v15, main_cst_4, main_v16,
  main_v17, main_cst_5, main_v18, main_v19, main_cst_6, main_v20, main_v21, main_v22, main_v23, main_v24, main_cst_7, main_v25, main_v26, main_v27,
  main_v28, main_v29, main_v30, main_v31, main_v32, main_v33, main_c_8, main_v34, main_v35, main_v36, main_v37, main_v38, main_v39, main_c_9,
  main_v40, main_v41, main_v42, main_c_10, main_v43, main_v44, main_c_11, main_v45, main_v46, main_c_12, main_v47, main_v48, main_v49, main_cst_13,
  main_v50, main_v51, main_v52, main_cst_14, main_v53, main_v54, main_cst_15, main_v55, main_v56, main_v57, main_c_16, main_v58, main_v59, main_c_17,
  main_v60, main_v61, main_c_18, main_v62, main_v63, main_v64, main_v65, main_v66, main_v67, main_v68, main_v69, main_v70, main_v71, main_v72,
  main_cst_19, main_call3_v0, main_call3_v1, main_call3_v2, main_v73, main_cst_20, main_cst_21, main_call4_v0, main_call4_v1, main_v74, main_v75,
  main_v76, main_v77, main_v78, main_c_22, main_v79, main_v80, main_v81, main_v82, main_v83, main_v84, main_c_23, main_v85, main_v86, main_v87,
  main_c_24, main_v88, main_v89, main_c_25, main_v90, main_v91, main_c_26, main_v92, main_v93, main_v94, main_cst_27, main_v95, main_v96, main_v97,
  main_cst_28, main_v98, main_v99, main_cst_29, main_v100, main_v101, main_v102, main_c_30, main_v103, main_v104, main_c_31, main_v105, main_v106,
  main_c_32, main_v107, main_v108, main_v109, main_v110, main_v111, main_v112, main_v113, main_v114, main_v115, main_v116, main_v117, main_cst_33,
  main_call6_v0, main_call6_v1, main_call6_v2, main_v118, main_cst_34, main_cst_35, main_call7_v0, main_call7_v1, main_v119, main_v120, main_v121,
  main_v122, main_v123, main_c_36, main_v124, main_v125, main_v126, main_v127, main_v128, main_v129, main_c_37, main_v130, main_v131, main_v132,
  main_c_38, main_v133, main_v134, main_c_39, main_v135, main_v136, main_c_40, main_v137, main_v138, main_v139, main_cst_41, main_v140, main_v141,
  main_v142, main_cst_42, main_v143, main_v144, main_cst_43, main_v145, main_v146, main_v147, main_c_44, main_v148, main_v149, main_c_45, main_v150,
  main_v151, main_c_46, main_v152, main_v153, main_v154, main_v155, main_v156, main_v157, main_v158, main_v159, main_v160, main_v161, main_v162,
  main_cst_47, main_call9_v0, main_call9_v1, main_call9_v2, main_v163, main_cst_48, main_cst_49, main_call10_v0, main_call10_v1, main_v164,
  main_v165, main_v166, main_v167, main_v168, main_v169, main_v170, main_v171, main_v172, main_v173, main_v174, main_v175, main_v176, main_v177,
  main_v178, main_v179, main_v180, main_v181]

set_option maxHeartbeats 4000000 in
theorem opss_writes : (opss.flatten).map HloOp.writes = writesW.map fun w => {Proc.devRef (τ := τ) .tc w} := rfl

set_option maxHeartbeats 4000000 in
theorem opss_fresh : opss.Forall fun ops => ops.Forall fun op => op.fresh = ∅ := by
  simp only [List.Forall]; repeat' apply And.intro
  all_goals rfl

theorem opss_sub : opss.Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub⟩

variable (m : (ℓ : Loc nD τ sig) → Buf (Elt Ideal) ℓ)

/-- A buffer's contents at the call. -/
def V (c : Dev nD) (b : Ref sig .tc) : Buf (Elt Ideal) ((c.tc : Thread nD τ).loc b) :=
  StableHlo.after opss.flatten (fun b => m (c, b)) (Proc.devRef .tc b)

/-- A buffer the host operations do not write still holds what it held at launch. -/
theorem V_keep (c : Dev nD) (b : Ref sig .tc) (h : b ∉ writesW) : V m c b = m ((c.tc : Thread nD τ).loc b) :=
  StableHlo.after_unwritten writesW opss_writes h _

/-- The tables hold the schedule's words. -/
theorem V_pre (c : Dev nD) (k : Fin 2) : V m c (pre0.ref k) = adm.1 k := by
  fin_cases k
  · show V m c main_c = pinQ
    unfold V; after_reads_simp
    funext x; exact (lit0_eq _).trans (by rw [show (S272.rowMajor x).val = (x 0).val from Shape.rowMajor_val_one x]; rfl)
  · show V m c main_c_0 = pinK
    unfold V; after_reads_simp
    funext x; exact (lit1_eq _).trans (by rw [show (S272.rowMajor x).val = (x 0).val from Shape.rowMajor_val_one x]; rfl)

end Cert.KernelIdeal.Attn
-- ==== Proof.KI.Runs.lean ====
module

public import proofs.«01_k».proof.Proof.KI.Base

/-! One run of the prompt-attention body for each of the six ways its tests can come out. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

section
variable (c : Dev nD) (i : grid0.Coords)
  (arg4 : Memref sig .tc .vmem S1x256x1024 .bf16) (harg4 : arg4.IsWhole) (arg5 : Memref sig .tc .vmem S1x512x1024 .bf16) (harg5 : arg5.IsWhole)
  (arg6 : Memref sig .tc .vmem S1x256x1536 .bf16) (harg6 : arg6.IsWhole) (arg7 : Memref sig .tc .vmem S1x512x384 .bf16) (harg7 : arg7.IsWhole)
  (arg8 : Memref sig .tc .vmem S1x5x256x512 .f32) (harg8 : arg8.IsWhole) (arg9 : Memref sig .tc .vmem S2048x128 .f32) (harg9 : arg9.IsWhole)
  (arg10 : Memref sig .tc .vmem S4x64 .f32) (harg10 : arg10.IsWhole) (arg11 : Memref sig .tc .vmem S1x128 .f32) (harg11 : arg11.IsWhole)
  (arg12 : Memref sig .tc .vmem S4x256x128 .bf16) (harg12 : arg12.IsWhole) (arg13 : Memref sig .tc .vmem S1x256x1024 .bf16) (harg13 : arg13.IsWhole)
  (T0 T1 : S272.Idx → Elt Ideal .i32)
  (x0 : S1x256x1024.Idx → Elt Ideal .bf16) (x1 : S1x512x1024.Idx → Elt Ideal .bf16) (x2 : S1x256x1536.Idx → Elt Ideal .bf16)
  (x3 : S1x512x384.Idx → Elt Ideal .bf16) (x4 : S1x5x256x512.Idx → Elt Ideal .f32) (x5 : S2048x128.Idx → Elt Ideal .f32)
  (x6 : S4x64.Idx → Elt Ideal .f32) (x7 : S1x128.Idx → Elt Ideal .f32) (x8 : S4x256x128.Idx → Elt Ideal .bf16)

  (prev : St c)

set_option backward.proofsInPublic true in
set_option maxHeartbeats 8000000 in
/-- First tile, near, last: the scratch buffers are set up, the tile added, the output block stored. -/
def runA (hc0 : isInit (wordK T1 i)) (hc1 : isNear (wordQ T0 i) (wordK T1 i)) (hc2 : ¬isFar (wordQ T0 i) (wordK T1 i)) (h4 : isFin (wordQ T0 i) (wordK T1 i)) :
    BodyRun c i arg4 harg4 arg5 harg5 arg6 harg6 arg7 harg7 arg8 harg8 arg9 harg9 arg10 harg10 arg11 harg11 arg12 harg12 arg13 harg13 T0 T1 x0 x1 x2 x3 x4 x5 x6 x7 x8 False prev :=
  ⟨_, ⟨_, _, _, _, _, _⟩, fun a ha d9 K => by
    clear ha
    unfold ins scr owns
    rw [cc0_prompt_attn_eq_skeleton]; unfold cc0_prompt_attn_skel
    iintro ⟨⟨H0, H1, H2, H3, H4, H5, H6, H7, H8, HT0, HT1⟩, ⟨%f9, %hf9, HO9⟩, ⟨HS0, HS1, HS2, HS3, HS4, HS5⟩, Hk⟩
    have hS0 : sc0.IsWhole := Memref.isWhole_whole _
    have hS1 : sc1.IsWhole := Memref.isWhole_whole _
    have hS2 : sc2.IsWhole := Memref.isWhole_whole _
    have hS3 : sc3.IsWhole := Memref.isWhole_whole _
    have hS4 : sc4.IsWhole := Memref.isWhole_whole _
    have hS5 : sc5.IsWhole := Memref.isWhole_whole _
    have hT0 : tbQ.IsWhole := Memref.isWhole_whole _
    have hT1 : tbK.IsWhole := Memref.isWhole_whole _
    sl_exec! (disch := first | (guard_target = Scalar.cmpi = _; exact hc0) | (guard_target = Scalar.cmpi = _; exact hc1) | (guard_target = ¬(Scalar.cmpi = _); exact hc2) | (guard_target = k0_cond4 _ _ = _; exact h4))
    sl_step
    iapply Hk
    isplitl [H0 H1 H2 H3 H4 H5 H6 H7 H8 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HT0]; · iexact HT0
      iexact HT1
    isplitl [HO9]
    · iexists _; isplitr; swap
      · iexact HO9
      · ipureintro; exact fun h => absurd h (List.cons_ne_nil _ _)
    isplitl [HS0]; · iexact HS0
    isplitl [HS1]; · iexact HS1
    isplitl [HS2]; · iexact HS2
    isplitl [HS3]; · iexact HS3
    isplitl [HS4]; · iexact HS4
    iexact HS5⟩

/-- The pieces of that run fill the output block. -/
theorem coverA (hc0 : isInit (wordK T1 i)) (hc1 : isNear (wordQ T0 i) (wordK T1 i)) (hc2 : ¬isFar (wordQ T0 i) (wordK T1 i)) (h4 : isFin (wordQ T0 i) (wordK T1 i)) (y : S1x256x1024.Idx) :
    ∃ pc ∈ (runA c i arg4 harg4 arg5 harg5 arg6 harg6 arg7 harg7 arg8 harg8 arg9 harg9 arg10 harg10 arg11 harg11 arg12 harg12 arg13 harg13 T0 T1 x0 x1 x2 x3 x4 x5 x6 x7 x8 prev hc0 hc1 hc2 h4).pcs, y ∈ pc.1.set :=
  View.cover_of_tiledL (runA c i arg4 harg4 arg5 harg5 arg6 harg6 arg7 harg7 arg8 harg8 arg9 harg9 arg10 harg10 arg11 harg11 arg12 harg12 arg13 harg13 T0 T1 x0 x1 x2 x3 x4 x5 x6 x7 x8 prev hc0 hc1 hc2 h4).pcs S1x256x128.size (by sl_kernel_rfl) y

set_option backward.proofsInPublic true in
set_option maxHeartbeats 8000000 in
/-- First tile, near, not last. -/
def runB (hc0 : isInit (wordK T1 i)) (hc1 : isNear (wordQ T0 i) (wordK T1 i)) (hc2 : ¬isFar (wordQ T0 i) (wordK T1 i)) (h4 : ¬isFin (wordQ T0 i) (wordK T1 i)) :
    BodyRun c i arg4 harg4 arg5 harg5 arg6 harg6 arg7 harg7 arg8 harg8 arg9 harg9 arg10 harg10 arg11 harg11 arg12 harg12 arg13 harg13 T0 T1 x0 x1 x2 x3 x4 x5 x6 x7 x8 False prev :=
  ⟨[], ⟨_, _, _, _, _, _⟩, fun a ha d9 K => by
    clear ha
    unfold ins scr owns
    rw [cc0_prompt_attn_eq_skeleton]; unfold cc0_prompt_attn_skel
    iintro ⟨⟨H0, H1, H2, H3, H4, H5, H6, H7, H8, HT0, HT1⟩, ⟨%f9, %hf9, HO9⟩, ⟨HS0, HS1, HS2, HS3, HS4, HS5⟩, Hk⟩
    have hS0 : sc0.IsWhole := Memref.isWhole_whole _
    have hS1 : sc1.IsWhole := Memref.isWhole_whole _
    have hS2 : sc2.IsWhole := Memref.isWhole_whole _
    have hS3 : sc3.IsWhole := Memref.isWhole_whole _
    have hS4 : sc4.IsWhole := Memref.isWhole_whole _
    have hS5 : sc5.IsWhole := Memref.isWhole_whole _
    have hT0 : tbQ.IsWhole := Memref.isWhole_whole _
    have hT1 : tbK.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ _ = _); exact h4))
    sl_step
    iapply Hk
    isplitl [H0 H1 H2 H3 H4 H5 H6 H7 H8 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HT0]; · iexact HT0
      iexact HT1
    isplitl [HO9]
    · iexists f9; isplitr
      · ipureintro; exact fun _ => hf9
      iexact HO9
    isplitl [HS0]; · iexact HS0
    isplitl [HS1]; · iexact HS1
    isplitl [HS2]; · iexact HS2
    isplitl [HS3]; · iexact HS3
    isplitl [HS4]; · iexact HS4
    iexact HS5⟩

set_option backward.proofsInPublic true in
set_option maxHeartbeats 8000000 in
/-- A later tile, near, last. -/
def runC (hc0 : ¬isInit (wordK T1 i)) (hc1 : isNear (wordQ T0 i) (wordK T1 i)) (hc2 : ¬isFar (wordQ T0 i) (wordK T1 i)) (h4 : isFin (wordQ T0 i) (wordK T1 i)) :
    BodyRun c i arg4 harg4 arg5 harg5 arg6 harg6 arg7 harg7 arg8 harg8 arg9 harg9 arg10 harg10 arg11 harg11 arg12 harg12 arg13 harg13 T0 T1 x0 x1 x2 x3 x4 x5 x6 x7 x8 True prev :=
  ⟨_, ⟨_, _, _, _, _, _⟩, fun a ha d9 K => by
    rw [ha trivial]; clear ha
    unfold ins scr owns
    rw [cc0_prompt_attn_eq_skeleton]; unfold cc0_prompt_attn_skel
    iintro ⟨⟨H0, H1, H2, H3, H4, H5, H6, H7, H8, HT0, HT1⟩, ⟨%f9, %hf9, HO9⟩, ⟨HS0, HS1, HS2, HS3, HS4, HS5⟩, Hk⟩
    have hS0 : sc0.IsWhole := Memref.isWhole_whole _
    have hS1 : sc1.IsWhole := Memref.isWhole_whole _
    have hS2 : sc2.IsWhole := Memref.isWhole_whole _
    have hS3 : sc3.IsWhole := Memref.isWhole_whole _
    have hS4 : sc4.IsWhole := Memref.isWhole_whole _
    have hS5 : sc5.IsWhole := Memref.isWhole_whole _
    have hT0 : tbQ.IsWhole := Memref.isWhole_whole _
    have hT1 : tbK.IsWhole := Memref.isWhole_whole _
    sl_exec! (disch := first | (guard_target = ¬(Scalar.cmpi = _); exact hc0) | (guard_target = Scalar.cmpi = _; exact hc1) | (guard_target = ¬(Scalar.cmpi = _); exact hc2) | (guard_target = k0_cond4 _ _ = _; exact h4))
    sl_step
    iapply Hk
    isplitl [H0 H1 H2 H3 H4 H5 H6 H7 H8 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HT0]; · iexact HT0
      iexact HT1
    isplitl [HO9]
    · iexists _; isplitr; swap
      · iexact HO9
      · ipureintro; exact fun h => absurd h (List.cons_ne_nil _ _)
    isplitl [HS0]; · iexact HS0
    isplitl [HS1]; · iexact HS1
    isplitl [HS2]; · iexact HS2
    isplitl [HS3]; · iexact HS3
    isplitl [HS4]; · iexact HS4
    iexact HS5⟩

/-- The pieces of that run fill the output block. -/
theorem coverC (hc0 : ¬isInit (wordK T1 i)) (hc1 : isNear (wordQ T0 i) (wordK T1 i)) (hc2 : ¬isFar (wordQ T0 i) (wordK T1 i)) (h4 : isFin (wordQ T0 i) (wordK T1 i)) (y : S1x256x1024.Idx) :
    ∃ pc ∈ (runC c i arg4 harg4 arg5 harg5 arg6 harg6 arg7 harg7 arg8 harg8 arg9 harg9 arg10 harg10 arg11 harg11 arg12 harg12 arg13 harg13 T0 T1 x0 x1 x2 x3 x4 x5 x6 x7 x8 prev hc0 hc1 hc2 h4).pcs, y ∈ pc.1.set :=
  View.cover_of_tiledL (runC c i arg4 harg4 arg5 harg5 arg6 harg6 arg7 harg7 arg8 harg8 arg9 harg9 arg10 harg10 arg11 harg11 arg12 harg12 arg13 harg13 T0 T1 x0 x1 x2 x3 x4 x5 x6 x7 x8 prev hc0 hc1 hc2 h4).pcs S1x256x128.size (by sl_kernel_rfl) y

set_option backward.proofsInPublic true in
set_option maxHeartbeats 8000000 in
/-- First tile, far, not last. -/
def runD (hc0 : isInit (wordK T1 i)) (hc1 : ¬isNear (wordQ T0 i) (wordK T1 i)) (hc2 : isFar (wordQ T0 i) (wordK T1 i)) (h4 : ¬isFin (wordQ T0 i) (wordK T1 i)) :
    BodyRun c i arg4 harg4 arg5 harg5 arg6 harg6 arg7 harg7 arg8 harg8 arg9 harg9 arg10 harg10 arg11 harg11 arg12 harg12 arg13 harg13 T0 T1 x0 x1 x2 x3 x4 x5 x6 x7 x8 False prev :=
  ⟨[], ⟨_, _, _, _, _, _⟩, fun a ha d9 K => by
    clear ha
    unfold ins scr owns
    rw [cc0_prompt_attn_eq_skeleton]; unfold cc0_prompt_attn_skel
    iintro ⟨⟨H0, H1, H2, H3, H4, H5, H6, H7, H8, HT0, HT1⟩, ⟨%f9, %hf9, HO9⟩, ⟨HS0, HS1, HS2, HS3, HS4, HS5⟩, Hk⟩
    have hS0 : sc0.IsWhole := Memref.isWhole_whole _
    have hS1 : sc1.IsWhole := Memref.isWhole_whole _
    have hS2 : sc2.IsWhole := Memref.isWhole_whole _
    have hS3 : sc3.IsWhole := Memref.isWhole_whole _
    have hS4 : sc4.IsWhole := Memref.isWhole_whole _
    have hS5 : sc5.IsWhole := Memref.isWhole_whole _
    have hT0 : tbQ.IsWhole := Memref.isWhole_whole _
    have hT1 : tbK.IsWhole := Memref.isWhole_whole _
    sl_exec! (disch := first | (guard_target = Scalar.cmpi = _; exact hc0) | (guard_target = ¬(Scalar.cmpi = _); exact hc1) | (guard_target = Scalar.cmpi = _; exact hc2) | (guard_target = ¬(k0_cond4 _ _ = _); exact h4))
    sl_step
    iapply Hk
    isplitl [H0 H1 H2 H3 H4 H5 H6 H7 H8 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HT0]; · iexact HT0
      iexact HT1
    isplitl [HO9]
    · iexists f9; isplitr
      · ipureintro; exact fun _ => hf9
      iexact HO9
    isplitl [HS0]; · iexact HS0
    isplitl [HS1]; · iexact HS1
    isplitl [HS2]; · iexact HS2
    isplitl [HS3]; · iexact HS3
    isplitl [HS4]; · iexact HS4
    iexact HS5⟩

set_option backward.proofsInPublic true in
set_option maxHeartbeats 8000000 in
/-- A later tile, near, not last. -/
def runE (hc0 : ¬isInit (wordK T1 i)) (hc1 : isNear (wordQ T0 i) (wordK T1 i)) (hc2 : ¬isFar (wordQ T0 i) (wordK T1 i)) (h4 : ¬isFin (wordQ T0 i) (wordK T1 i)) :
    BodyRun c i arg4 harg4 arg5 harg5 arg6 harg6 arg7 harg7 arg8 harg8 arg9 harg9 arg10 harg10 arg11 harg11 arg12 harg12 arg13 harg13 T0 T1 x0 x1 x2 x3 x4 x5 x6 x7 x8 True prev :=
  ⟨[], ⟨_, _, _, _, _, _⟩, fun a ha d9 K => by
    rw [ha trivial]; clear ha
    unfold ins scr owns
    rw [cc0_prompt_attn_eq_skeleton]; unfold cc0_prompt_attn_skel
    iintro ⟨⟨H0, H1, H2, H3, H4, H5, H6, H7, H8, HT0, HT1⟩, ⟨%f9, %hf9, HO9⟩, ⟨HS0, HS1, HS2, HS3, HS4, HS5⟩, Hk⟩
    have hS0 : sc0.IsWhole := Memref.isWhole_whole _
    have hS1 : sc1.IsWhole := Memref.isWhole_whole _
    have hS2 : sc2.IsWhole := Memref.isWhole_whole _
    have hS3 : sc3.IsWhole := Memref.isWhole_whole _
    have hS4 : sc4.IsWhole := Memref.isWhole_whole _
    have hS5 : sc5.IsWhole := Memref.isWhole_whole _
    have hT0 : tbQ.IsWhole := Memref.isWhole_whole _
    have hT1 : tbK.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ _ = _); exact h4))
    sl_step
    iapply Hk
    isplitl [H0 H1 H2 H3 H4 H5 H6 H7 H8 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HT0]; · iexact HT0
      iexact HT1
    isplitl [HO9]
    · iexists f9; isplitr
      · ipureintro; exact fun _ => hf9
      iexact HO9
    isplitl [HS0]; · iexact HS0
    isplitl [HS1]; · iexact HS1
    isplitl [HS2]; · iexact HS2
    isplitl [HS3]; · iexact HS3
    isplitl [HS4]; · iexact HS4
    iexact HS5⟩

set_option backward.proofsInPublic true in
set_option maxHeartbeats 8000000 in
/-- A later tile, far, not last. -/
def runF (hc0 : ¬isInit (wordK T1 i)) (hc1 : ¬isNear (wordQ T0 i) (wordK T1 i)) (hc2 : isFar (wordQ T0 i) (wordK T1 i)) (h4 : ¬isFin (wordQ T0 i) (wordK T1 i)) :
    BodyRun c i arg4 harg4 arg5 harg5 arg6 harg6 arg7 harg7 arg8 harg8 arg9 harg9 arg10 harg10 arg11 harg11 arg12 harg12 arg13 harg13 T0 T1 x0 x1 x2 x3 x4 x5 x6 x7 x8 True prev :=
  ⟨[], ⟨_, _, _, _, _, _⟩, fun a ha d9 K => by
    rw [ha trivial]; clear ha
    unfold ins scr owns
    rw [cc0_prompt_attn_eq_skeleton]; unfold cc0_prompt_attn_skel
    iintro ⟨⟨H0, H1, H2, H3, H4, H5, H6, H7, H8, HT0, HT1⟩, ⟨%f9, %hf9, HO9⟩, ⟨HS0, HS1, HS2, HS3, HS4, HS5⟩, Hk⟩
    have hS0 : sc0.IsWhole := Memref.isWhole_whole _
    have hS1 : sc1.IsWhole := Memref.isWhole_whole _
    have hS2 : sc2.IsWhole := Memref.isWhole_whole _
    have hS3 : sc3.IsWhole := Memref.isWhole_whole _
    have hS4 : sc4.IsWhole := Memref.isWhole_whole _
    have hS5 : sc5.IsWhole := Memref.isWhole_whole _
    have hT0 : tbQ.IsWhole := Memref.isWhole_whole _
    have hT1 : tbK.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(k0_cond4 _ _ = _); exact h4))
    sl_step
    iapply Hk
    isplitl [H0 H1 H2 H3 H4 H5 H6 H7 H8 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HT0]; · iexact HT0
      iexact HT1
    isplitl [HO9]
    · iexists f9; isplitr
      · ipureintro; exact fun _ => hf9
      iexact HO9
    isplitl [HS0]; · iexact HS0
    isplitl [HS1]; · iexact HS1
    isplitl [HS2]; · iexact HS2
    isplitl [HS3]; · iexact HS3
    isplitl [HS4]; · iexact HS4
    iexact HS5⟩

end

end Cert.KernelIdeal.Attn
-- ==== Proof.KI.Frame.lean ====
module

public import proofs.«01_k».proof.Proof.KI.Host
public import proofs.«01_k».proof.Proof.KI.Runs
public import Idealize.ShloMosaic.Lib.Pipeline.Quiescent
public import Idealize.ShloMosaic.Lib.Claim

/-! The frame of the prompt attention: what every point leaves, the body obligation, the launch. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev ms0 (t : Fin cfgA.N) := spec0_0.stage (cfgA.slots t (0 : Fin 10))
theorem hs0 (t : Fin cfgA.N) : (ms0 t).IsWhole := hstage0_0 ((cfgA.slots t (0 : Fin 10)).cast nbuf0_0)
abbrev ms1 (t : Fin cfgA.N) := spec0_1.stage (cfgA.slots t (1 : Fin 10))
theorem hs1 (t : Fin cfgA.N) : (ms1 t).IsWhole := hstage0_1 ((cfgA.slots t (1 : Fin 10)).cast nbuf0_1)
abbrev ms2 (t : Fin cfgA.N) := spec0_2.stage (cfgA.slots t (2 : Fin 10))
theorem hs2 (t : Fin cfgA.N) : (ms2 t).IsWhole := hstage0_2 ((cfgA.slots t (2 : Fin 10)).cast nbuf0_2)
abbrev ms3 (t : Fin cfgA.N) := spec0_3.stage (cfgA.slots t (3 : Fin 10))
theorem hs3 (t : Fin cfgA.N) : (ms3 t).IsWhole := hstage0_3 ((cfgA.slots t (3 : Fin 10)).cast nbuf0_3)
abbrev ms4 (t : Fin cfgA.N) := spec0_4.stage (cfgA.slots t (4 : Fin 10))
theorem hs4 (t : Fin cfgA.N) : (ms4 t).IsWhole := hstage0_4 ((cfgA.slots t (4 : Fin 10)).cast nbuf0_4)
abbrev ms5 (t : Fin cfgA.N) := spec0_5.stage (cfgA.slots t (5 : Fin 10))
theorem hs5 (t : Fin cfgA.N) : (ms5 t).IsWhole := hstage0_5 ((cfgA.slots t (5 : Fin 10)).cast nbuf0_5)
abbrev ms6 (t : Fin cfgA.N) := spec0_6.stage (cfgA.slots t (6 : Fin 10))
theorem hs6 (t : Fin cfgA.N) : (ms6 t).IsWhole := hstage0_6 ((cfgA.slots t (6 : Fin 10)).cast nbuf0_6)
abbrev ms7 (t : Fin cfgA.N) := spec0_7.stage (cfgA.slots t (7 : Fin 10))
theorem hs7 (t : Fin cfgA.N) : (ms7 t).IsWhole := hstage0_7 ((cfgA.slots t (7 : Fin 10)).cast nbuf0_7)
abbrev ms8 (t : Fin cfgA.N) := spec0_8.stage (cfgA.slots t (8 : Fin 10))
theorem hs8 (t : Fin cfgA.N) : (ms8 t).IsWhole := hstage0_8 ((cfgA.slots t (8 : Fin 10)).cast nbuf0_8)
abbrev ms9 (t : Fin cfgA.N) := spec0_9.stage (cfgA.slots t (9 : Fin 10))
theorem hs9 (t : Fin cfgA.N) : (ms9 t).IsWhole := hstage0_9 ((cfgA.slots t (9 : Fin 10)).cast nbuf0_9)

variable (m : (ℓ : Loc nD τ sig) → Buf (Elt Ideal) ℓ)

/-- The contents of window `w`'s block at point `t`, at the call. -/
def iblk (c : Dev nD) (w : Fin 10) (t : Fin cfgA.N) := ((cfgA.win w).blk t).view.read (Elt Ideal) (V m c (Pipeline.arrRef cfgA.spec w))

/-- A run stays one when it may read more of what was left before. -/
def BodyRun.weaken {c i} {arg4 harg4 arg5 harg5 arg6 harg6 arg7 harg7 arg8 harg8 arg9 harg9 arg10 harg10 arg11 harg11 arg12 harg12 arg13 harg13 T0 T1 x0 x1 x2 x3 x4 x5 x6 x7 x8}
    {keep keep' : Prop} {prev : St c} (h : keep → keep')
    (R : BodyRun c i arg4 harg4 arg5 harg5 arg6 harg6 arg7 harg7 arg8 harg8 arg9 harg9 arg10 harg10 arg11 harg11 arg12 harg12 arg13 harg13 T0 T1 x0 x1 x2 x3 x4 x5 x6 x7 x8 keep prev) :
    BodyRun c i arg4 harg4 arg5 harg5 arg6 harg6 arg7 harg7 arg8 harg8 arg9 harg9 arg10 harg10 arg11 harg11 arg12 harg12 arg13 harg13 T0 T1 x0 x1 x2 x3 x4 x5 x6 x7 x8 keep' prev :=
  ⟨R.pcs, R.out, fun a ha => R.spec a fun k => ha (h k)⟩

theorem fin_of_far {q k : ℕ} (h : ¬q < 2 * k + 3) : ¬k = q / 2 := by omega

/-- The run at point `t`, after the scratch contents `prev`. -/
def ptRun (c : Dev nD) (t : Fin cfgA.N) (prev : St c) : BodyRun c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) (kOf t.val ≠ 0) prev :=
  if h0 : kOf t.val = 0 then
    if h1 : qOf t.val < 2 * kOf t.val + 3 then
      if h4 : kOf t.val = qOf t.val / 2 then
        (runA c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev ((factsAt t).1.2 h0) ((factsAt t).2.1.2 h1) (fun h => (factsAt t).2.2.1.1 h h1) ((factsAt t).2.2.2.1.2 h4)).weaken False.elim
      else
        (runB c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev ((factsAt t).1.2 h0) ((factsAt t).2.1.2 h1) (fun h => (factsAt t).2.2.1.1 h h1) (fun h => h4 ((factsAt t).2.2.2.1.1 h))).weaken False.elim
    else
      (runD c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev ((factsAt t).1.2 h0) (fun h => h1 ((factsAt t).2.1.1 h)) ((factsAt t).2.2.1.2 h1) (fun h => fin_of_far h1 ((factsAt t).2.2.2.1.1 h))).weaken False.elim
  else
    if h1 : qOf t.val < 2 * kOf t.val + 3 then
      if h4 : kOf t.val = qOf t.val / 2 then
        (runC c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev (fun h => h0 ((factsAt t).1.1 h)) ((factsAt t).2.1.2 h1) (fun h => (factsAt t).2.2.1.1 h h1) ((factsAt t).2.2.2.1.2 h4)).weaken fun _ => h0
      else
        (runE c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev (fun h => h0 ((factsAt t).1.1 h)) ((factsAt t).2.1.2 h1) (fun h => (factsAt t).2.2.1.1 h h1) (fun h => h4 ((factsAt t).2.2.2.1.1 h))).weaken fun _ => h0
    else
      (runF c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev (fun h => h0 ((factsAt t).1.1 h)) (fun h => h1 ((factsAt t).2.1.1 h)) ((factsAt t).2.2.1.2 h1) (fun h => fin_of_far h1 ((factsAt t).2.2.2.1.1 h))).weaken fun _ => h0

/-- At a query tile's last point the run's pieces fill the output block. -/
theorem ptRun_cover (c : Dev nD) (t : Fin cfgA.N) (prev : St c) (h4 : kOf t.val = qOf t.val / 2) (y : S1x256x1024.Idx) :
    ∃ pc ∈ (ptRun m c t prev).pcs, y ∈ pc.1.set := by
  unfold ptRun
  by_cases h0 : kOf t.val = 0
  · rw [dif_pos h0]
    by_cases h1 : qOf t.val < 2 * kOf t.val + 3
    · rw [dif_pos h1, dif_pos h4]
      exact coverA c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev ((factsAt t).1.2 h0) ((factsAt t).2.1.2 h1) (fun h => (factsAt t).2.2.1.1 h h1) ((factsAt t).2.2.2.1.2 h4) y
    · exact absurd h4 (fin_of_far h1)
  · rw [dif_neg h0]
    by_cases h1 : qOf t.val < 2 * kOf t.val + 3
    · rw [dif_pos h1, dif_pos h4]
      exact coverC c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev (fun h => h0 ((factsAt t).1.1 h)) ((factsAt t).2.1.2 h1) (fun h => (factsAt t).2.2.1.1 h h1) ((factsAt t).2.2.2.1.2 h4) y
    · exact absurd h4 (fin_of_far h1)

/-- At any other point it stores nothing. -/
theorem ptRun_nil (c : Dev nD) (t : Fin cfgA.N) (prev : St c) (h4 : ¬kOf t.val = qOf t.val / 2) : (ptRun m c t prev).pcs = [] := by
  unfold ptRun
  by_cases h0 : kOf t.val = 0
  · rw [dif_pos h0]
    by_cases h1 : qOf t.val < 2 * kOf t.val + 3
    · rw [dif_pos h1, dif_neg h4]; rfl
    · rw [dif_neg h1]; rfl
  · rw [dif_neg h0]
    by_cases h1 : qOf t.val < 2 * kOf t.val + 3
    · rw [dif_pos h1, dif_neg h4]; rfl
    · rw [dif_neg h1]; rfl

/-- Some scratch contents, before any point has run. -/
def st0 (c : Dev nD) : St c := ⟨fun _ => default, fun _ => default, fun _ => default, fun _ => default, fun _ => default, fun _ => default⟩

/-- The scratch contents after the first `n` points. -/
def scrAt (c : Dev nD) : ℕ → St c
  | 0 => st0 c
  | n + 1 => if h : n < cfgA.N then (ptRun m c ⟨n, h⟩ (scrAt c n)).out else scrAt c n

theorem scrAt_succ (c : Dev nD) (t : Fin cfgA.N) : scrAt m c (t.val + 1) = (ptRun m c t (scrAt m c t.val)).out := by
  rw [scrAt, dif_pos t.isLt]

/-- What point `t` leaves in the output block where it stores it. -/
def outAt (c : Dev nD) (t : Fin cfgA.N) : S1x256x1024.Idx → Elt Ideal .bf16 :=
  VO.read (Elt Ideal) (VO.writes (Elt Ideal) (VO.junk (Val := Elt Ideal)) (ptRun m c t (scrAt m c t.val)).pcs)

/-- The invariant before point `n`: the scratch at what the points before left, the tables, the generator. -/
def Phi (c : Dev nD) (n : ℕ) : sProp 𝕄 :=
  iprop((∃ a : St c, ⌜n ≠ 0 → a = scrAt m c n⌝ ∗ scr c a)
    ∗ (tbQ.view.loc (c : Thread nD τ) ↦{fullShare.right} pinQ) ∗ (tbK.view.loc (c : Thread nD τ) ↦{fullShare.right} pinK)
    ∗ ∃ r, prngReg c r)

/-- The proof data of the pipeline. -/
def dats (_ : Fin 1) (c : Dev nD) : Dat τ (Elt Ideal) Unit ℕ (UR sig nD τ) ℕ cfgA c where
  A w := V m c (Pipeline.arrRef cfgA.spec w)
  after w t := match w with
    | ⟨0, _⟩ => iblk m c (0 : Fin 10) t
    | ⟨1, _⟩ => iblk m c (1 : Fin 10) t
    | ⟨2, _⟩ => iblk m c (2 : Fin 10) t
    | ⟨3, _⟩ => iblk m c (3 : Fin 10) t
    | ⟨4, _⟩ => iblk m c (4 : Fin 10) t
    | ⟨5, _⟩ => iblk m c (5 : Fin 10) t
    | ⟨6, _⟩ => iblk m c (6 : Fin 10) t
    | ⟨7, _⟩ => iblk m c (7 : Fin 10) t
    | ⟨8, _⟩ => iblk m c (8 : Fin 10) t
    | ⟨9, _⟩ => outAt m c t
  Φ t := Phi m c t.val
  q _ := fullShare
  owed _ := 0

theorem after0 (c : Dev nD) (t : Fin cfgA.N) : (dats m 0 c).after (0 : Fin 10) t = iblk m c (0 : Fin 10) t := rfl
theorem before0 (c : Dev nD) (t : Fin cfgA.N) (d) : (dats m 0 c).before (0 : Fin 10) t d = iblk m c (0 : Fin 10) t :=
  ((dats m 0 c).before_in_eq_fetched (0 : Fin 10) rfl (fun _ => rfl) (fun _ _ _ => rfl) (fun t => by rw [after0]; unfold Dat.blockOf iblk; rfl) t d).trans
    (by unfold Dat.fetched Dat.blockOf iblk; rfl)
theorem after1 (c : Dev nD) (t : Fin cfgA.N) : (dats m 0 c).after (1 : Fin 10) t = iblk m c (1 : Fin 10) t := rfl
theorem before1 (c : Dev nD) (t : Fin cfgA.N) (d) : (dats m 0 c).before (1 : Fin 10) t d = iblk m c (1 : Fin 10) t :=
  ((dats m 0 c).before_in_eq_fetched (1 : Fin 10) rfl (fun _ => rfl) (fun _ _ _ => rfl) (fun t => by rw [after1]; unfold Dat.blockOf iblk; rfl) t d).trans
    (by unfold Dat.fetched Dat.blockOf iblk; rfl)
theorem after2 (c : Dev nD) (t : Fin cfgA.N) : (dats m 0 c).after (2 : Fin 10) t = iblk m c (2 : Fin 10) t := rfl
theorem before2 (c : Dev nD) (t : Fin cfgA.N) (d) : (dats m 0 c).before (2 : Fin 10) t d = iblk m c (2 : Fin 10) t :=
  ((dats m 0 c).before_in_eq_fetched (2 : Fin 10) rfl (fun _ => rfl) (fun _ _ _ => rfl) (fun t => by rw [after2]; unfold Dat.blockOf iblk; rfl) t d).trans
    (by unfold Dat.fetched Dat.blockOf iblk; rfl)
theorem after3 (c : Dev nD) (t : Fin cfgA.N) : (dats m 0 c).after (3 : Fin 10) t = iblk m c (3 : Fin 10) t := rfl
theorem before3 (c : Dev nD) (t : Fin cfgA.N) (d) : (dats m 0 c).before (3 : Fin 10) t d = iblk m c (3 : Fin 10) t :=
  ((dats m 0 c).before_in_eq_fetched (3 : Fin 10) rfl (fun _ => rfl) (fun _ _ _ => rfl) (fun t => by rw [after3]; unfold Dat.blockOf iblk; rfl) t d).trans
    (by unfold Dat.fetched Dat.blockOf iblk; rfl)
theorem after4 (c : Dev nD) (t : Fin cfgA.N) : (dats m 0 c).after (4 : Fin 10) t = iblk m c (4 : Fin 10) t := rfl
theorem before4 (c : Dev nD) (t : Fin cfgA.N) (d) : (dats m 0 c).before (4 : Fin 10) t d = iblk m c (4 : Fin 10) t :=
  ((dats m 0 c).before_in_eq_fetched (4 : Fin 10) rfl (fun _ => rfl) (fun _ _ _ => rfl) (fun t => by rw [after4]; unfold Dat.blockOf iblk; rfl) t d).trans
    (by unfold Dat.fetched Dat.blockOf iblk; rfl)
theorem after5 (c : Dev nD) (t : Fin cfgA.N) : (dats m 0 c).after (5 : Fin 10) t = iblk m c (5 : Fin 10) t := rfl
theorem before5 (c : Dev nD) (t : Fin cfgA.N) (d) : (dats m 0 c).before (5 : Fin 10) t d = iblk m c (5 : Fin 10) t :=
  ((dats m 0 c).before_in_eq_fetched (5 : Fin 10) rfl (fun _ => rfl) (fun _ _ _ => rfl) (fun t => by rw [after5]; unfold Dat.blockOf iblk; rfl) t d).trans
    (by unfold Dat.fetched Dat.blockOf iblk; rfl)
theorem after6 (c : Dev nD) (t : Fin cfgA.N) : (dats m 0 c).after (6 : Fin 10) t = iblk m c (6 : Fin 10) t := rfl
theorem before6 (c : Dev nD) (t : Fin cfgA.N) (d) : (dats m 0 c).before (6 : Fin 10) t d = iblk m c (6 : Fin 10) t :=
  ((dats m 0 c).before_in_eq_fetched (6 : Fin 10) rfl (fun _ => rfl) (fun _ _ _ => rfl) (fun t => by rw [after6]; unfold Dat.blockOf iblk; rfl) t d).trans
    (by unfold Dat.fetched Dat.blockOf iblk; rfl)
theorem after7 (c : Dev nD) (t : Fin cfgA.N) : (dats m 0 c).after (7 : Fin 10) t = iblk m c (7 : Fin 10) t := rfl
theorem before7 (c : Dev nD) (t : Fin cfgA.N) (d) : (dats m 0 c).before (7 : Fin 10) t d = iblk m c (7 : Fin 10) t :=
  ((dats m 0 c).before_in_eq_fetched (7 : Fin 10) rfl (fun _ => rfl) (fun _ _ _ => rfl) (fun t => by rw [after7]; unfold Dat.blockOf iblk; rfl) t d).trans
    (by unfold Dat.fetched Dat.blockOf iblk; rfl)
theorem after8 (c : Dev nD) (t : Fin cfgA.N) : (dats m 0 c).after (8 : Fin 10) t = iblk m c (8 : Fin 10) t := rfl
theorem before8 (c : Dev nD) (t : Fin cfgA.N) (d) : (dats m 0 c).before (8 : Fin 10) t d = iblk m c (8 : Fin 10) t :=
  ((dats m 0 c).before_in_eq_fetched (8 : Fin 10) rfl (fun _ => rfl) (fun _ _ _ => rfl) (fun t => by rw [after8]; unfold Dat.blockOf iblk; rfl) t d).trans
    (by unfold Dat.fetched Dat.blockOf iblk; rfl)
theorem after9 (c : Dev nD) (t : Fin cfgA.N) : (dats m 0 c).after (9 : Fin 10) t = outAt m c t := rfl

/-- The body at point `t`, as the pipeline calls it. -/
abbrev bodyAt (t : Fin cfgA.N) : Prog (TpuEff nD τ sig (Elt Ideal) Λ₀ .tc) PUnit :=
  cc0_prompt_attn (crd t) tbQ (Memref.isWhole_whole _) tbK (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _)

set_option maxHeartbeats 9600000 in
/-- The body obligation at point `t`. -/
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before (0 : Fin 10) t d))
        ∗ (∃ d, owns (c : Thread nD τ) (ms1 t) fullShare ((dats m 0 c).before (1 : Fin 10) t d))
        ∗ (∃ d, owns (c : Thread nD τ) (ms2 t) fullShare ((dats m 0 c).before (2 : Fin 10) t d))
        ∗ (∃ d, owns (c : Thread nD τ) (ms3 t) fullShare ((dats m 0 c).before (3 : Fin 10) t d))
        ∗ (∃ d, owns (c : Thread nD τ) (ms4 t) fullShare ((dats m 0 c).before (4 : Fin 10) t d))
        ∗ (∃ d, owns (c : Thread nD τ) (ms5 t) fullShare ((dats m 0 c).before (5 : Fin 10) t d))
        ∗ (∃ d, owns (c : Thread nD τ) (ms6 t) fullShare ((dats m 0 c).before (6 : Fin 10) t d))
        ∗ (∃ d, owns (c : Thread nD τ) (ms7 t) fullShare ((dats m 0 c).before (7 : Fin 10) t d))
        ∗ (∃ d, owns (c : Thread nD τ) (ms8 t) fullShare ((dats m 0 c).before (8 : Fin 10) t d))
        ∗ (∃ d, owns (c : Thread nD τ) (ms9 t) fullShare ((dats m 0 c).before (9 : Fin 10) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  have hprev := (factsAt t).2.2.2.2.2.2.1
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  rw [scrAt_succ]
  by_cases h4 : kOf t.val = qOf t.val / 2
  · have hi9 : cfgA.idle (9 : Fin 10) (cfgA.grid.coords t) = false := (factsAt t).2.2.2.2.1.trans (by rw [decide_eq_true h4]; rfl)
    have hf9 : (cfgA.win (9 : Fin 10)).flush t = true := (factsAt t).2.2.2.2.2.1.trans (decide_eq_true h4)
    rewrite [hi9]
    simp only [before0, before1, before2, before3, before4, before5, before6, before7, before8, after0, after1, after2, after3, after4, after5, after6, after7, after8, after9, hf9]
    iintro ⟨⟨⟨%a, %ha, HS⟩, HT0, HT1, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((ptRun m c t (scrAt m c t.val)).spec a (fun hk => ha (hprev hk).1) ((dats m 0 c).before (9 : Fin 10) t d9) _)
    unfold ins
    isplitl [H0 H1 H2 H3 H4 H5 H6 H7 H8 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [HT0]; · iexact HT0
      iexact HT1
    isplitl [H9]; · iexact H9
    isplitl [HS]; · iexact HS
    iintro ⟨⟨H0, H1, H2, H3, H4, H5, H6, H7, H8, HT0, HT1⟩, ⟨%e9, %he9, H9⟩, HS⟩
    isplitl [HS HT0 HT1 Hp]
    · isplitl [HS]
      · iexists _; isplitr; swap
        · iexact HS
        · ipureintro; intro _; rfl
      isplitl [HT0]; · iexact HT0
      isplitl [HT1]; · iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    unfold owns outAt
    iexists _; isplitr; swap
    · iexact H9
    · ipureintro; exact View.read_writes_of_cover _ _ _ _ _ (ptRun_cover m c t _ h4)
  · have hi9 : cfgA.idle (9 : Fin 10) (cfgA.grid.coords t) = true := (factsAt t).2.2.2.2.1.trans (by rw [decide_eq_false h4]; rfl)
    have hf9 : (cfgA.win (9 : Fin 10)).flush t = false := (factsAt t).2.2.2.2.2.1.trans (decide_eq_false h4)
    rewrite [hi9]
    simp only [before0, before1, before2, before3, before4, before5, before6, before7, before8, after0, after1, after2, after3, after4, after5, after6, after7, after8, after9, hf9]
    iintro ⟨⟨⟨%a, %ha, HS⟩, HT0, HT1, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((ptRun m c t (scrAt m c t.val)).spec a (fun hk => ha (hprev hk).1) ((dats m 0 c).before (9 : Fin 10) t d9) _)
    unfold ins
    isplitl [H0 H1 H2 H3 H4 H5 H6 H7 H8 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [HT0]; · iexact HT0
      iexact HT1
    isplitl [H9]; · iexact H9
    isplitl [HS]; · iexact HS
    iintro ⟨⟨H0, H1, H2, H3, H4, H5, H6, H7, H8, HT0, HT1⟩, ⟨%e9, %he9, H9⟩, HS⟩
    isplitl [HS HT0 HT1 Hp]
    · isplitl [HS]
      · iexists _; isplitr; swap
        · iexact HS
        · ipureintro; intro _; rfl
      isplitl [HT0]; · iexact HT0
      isplitl [HT1]; · iexact HT1
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    iexists d9
    unfold owns
    iexists e9; isplitr
    · ipureintro; exact he9 (ptRun_nil m c t _ h4)
    · rw [ptRun_nil m c t _ h4]; iexact H9

theorem body_obligation (c : Dev nD) : BodyObligation (dats m 0 c) (defs₀ (F := Ideal)) Variants.none () Set.univ := fun t => by
  rw [bigSep_W0]
  exact sound_body m c t

theorem share_eq (c : Dev nD) (w : Fin cfgA.W) : (dats m 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(Pipeline.ΦA spec0 c ∗ Pipeline.ΦT pre0 adm.1 c) ⊢ (dats m 0 c).Φ 0 := by
  unfold Pipeline.ΦA Pipeline.ΦT
  rw [prefHeld_eq, scopedRest0_eq, show (dats m 0 c).Φ 0 = Phi m c 0 from rfl]
  unfold Phi scr
  iintro ⟨⟨⟨⟨%a0, HS0⟩, ⟨%a1, HS1⟩, ⟨%a2, HS2⟩, ⟨%a3, HS3⟩, ⟨%a4, HS4⟩, ⟨%a5, HS5⟩⟩, Hp⟩, ⟨HT0, HT1⟩⟩
  isplitl [HS0 HS1 HS2 HS3 HS4 HS5]
  · iexists ⟨a0, a1, a2, a3, a4, a5⟩
    isplitr
    · ipureintro; intro h; exact absurd rfl h
    isplitl [HS0]; · iexact HS0
    isplitl [HS1]; · iexact HS1
    isplitl [HS2]; · iexact HS2
    isplitl [HS3]; · iexact HS3
    isplitl [HS4]; · iexact HS4
    iexact HS5
  isplitl [HT0]; · iexact HT0
  isplitl [HT1]; · iexact HT1
  iexact Hp

theorem phiN_exit (c : Dev nD) : (dats m 0 c).Φ (Fin.last cfgA.N) ⊢ Pipeline.ΦA spec0 c := by
  unfold Pipeline.ΦA
  rw [scopedRest0_eq, show (dats m 0 c).Φ (Fin.last cfgA.N) = Phi m c cfgA.N from rfl]
  unfold Phi scr
  iintro ⟨⟨%a, -, HS0, HS1, HS2, HS3, HS4, HS5⟩, -, -, Hp⟩
  isplitl [HS0 HS1 HS2 HS3 HS4 HS5]
  · isplitl [HS0]; · iexists a.s0; iexact HS0
    isplitl [HS1]; · iexists a.s1; iexact HS1
    isplitl [HS2]; · iexists a.s2; iexact HS2
    isplitl [HS3]; · iexists a.s3; iexact HS3
    isplitl [HS4]; · iexists a.s4; iexact HS4
    iexists a.s5; iexact HS5
  iexact Hp

theorem main_shape : Pipeline.HMainP (Ix := Unit) (Name := ℕ) (U := UR sig nD τ) (Lvl := ℕ) (pcfgs (F := Ideal)) 0 (defs₀ (F := Ideal)) Variants.none m (main (F := Ideal)) (V m) :=
  Pipeline.hmainP_prefixes (pcfgs (F := Ideal)) 0 (defs₀ (F := Ideal)) Variants.none m (main (F := Ideal)) opss opss_sub opss_fresh main_chain

/-- The whole run: every window's array at what the pipeline leaves, every other buffer as the host operations left it,
    every semaphore counter at zero. -/
theorem run_main (g : Dev nD → PrngReg) :
    θ_run (defs (F := Ideal)) (onTc (τ := τ) (main (F := Ideal))) ⟨m, fun _ => 0, g⟩
      (fun r => Pipeline.FramePost pcs (dats m) 0 (V m) r ∧ r.2.sem = fun _ => 0) :=
  Pipeline.θ_run_frameP_track (pcfgs (F := Ideal)) (fun _ => adm) (dats m) 0 launch0 defs₀ Variants.none m g main
    (fun c => (body_obligation m c).loose) (share_eq m) (fun _ _ => rfl) (V m) (main_shape m) (fun _ _ => rfl) (V_pre m)
    (phi0_intro m) (phiN_exit m) (fun r => Pipeline.FramePost pcs (dats m) 0 (V m) r ∧ r.2.sem = fun _ => 0) (fun _ h => h)

/-- A buffer that is no window's array and that the host operations leave alone ends as it began. -/
theorem keep_of_post {r : PUnit × MemSt nD τ sig (Elt Ideal)} (h : Pipeline.FramePost pcs (dats m) 0 (V m) r) (c : Dev nD) (b : Ref sig .tc)
    (hb : b ∈ Pipeline.restRefs sig spec0) (hw : b ∉ writesW) : r.2.mem ((c.tc : Thread nD τ).loc b) = m ((c.tc : Thread nD τ).loc b) :=
  ((h c).2 b hb).trans (V_keep m c b hw)

theorem args_kept {r : PUnit × MemSt nD τ sig (Elt Ideal)} (h : Pipeline.FramePost pcs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨keep_of_post m h c main_arg0 (by decide) (by decide),
   keep_of_post m h c main_arg1 (by decide) (by decide),
   keep_of_post m h c main_arg2 (by decide) (by decide),
   keep_of_post m h c main_arg3 (by decide) (by decide),
   keep_of_post m h c main_arg4 (by decide) (by decide),
   keep_of_post m h c main_arg5 (by decide) (by decide),
   keep_of_post m h c main_arg6 (by decide) (by decide),
   keep_of_post m h c main_arg7 (by decide) (by decide),
   keep_of_post m h c main_arg8 (by decide) (by decide),
   keep_of_post m h c main_arg9 (by decide) (by decide),
   keep_of_post m h c main_arg10 (by decide) (by decide)⟩

/-- The frame: the run terminates, every argument array unchanged, every semaphore counter at zero. -/
theorem frame (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => args_kept m h.1 c, h.2⟩) (run_main m g)

end Cert.KernelIdeal.Attn
-- ==== Proof.KB.Base.lean ====
module

public import proofs.«01_k».proof.Defs
public import proofs.«01_k».proof.Proof.Gen.Kernel
public import proofs.«01_k».proof.Proof.Gen.Kernel.Launch
public import proofs.«01_k».proof.Proof.Gen.Kernel.Skeleton
public import Idealize.ShloMosaic.Lib.Pipeline.Kit
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! The vocabulary of the prompt-attention frame: the tables, the scratch buffers, what one run of the body states. -/

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The two tables of the schedule, whole: a point's query tile and its key tile. -/
abbrev tbQ : Memref sig .tc .smem S272 .i32 := Memref.whole main_c
abbrev tbK : Memref sig .tc .smem S272 .i32 := Memref.whole main_c_0
/-- The six scratch buffers, whole: running maximum, sum and weighted sum of the first head kind, then of the second. -/
abbrev sc0 : Memref sig .tc .vmem S2048x128 .f32 := Memref.whole cc0_scratch0
abbrev sc1 : Memref sig .tc .vmem S2048x128 .f32 := Memref.whole cc0_scratch1
abbrev sc2 : Memref sig .tc .vmem S2048x128 .f32 := Memref.whole cc0_scratch2
abbrev sc3 : Memref sig .tc .vmem S1024x128 .f32 := Memref.whole cc0_scratch3
abbrev sc4 : Memref sig .tc .vmem S1024x128 .f32 := Memref.whole cc0_scratch4
abbrev sc5 : Memref sig .tc .vmem S1024x256 .f32 := Memref.whole cc0_scratch5

/-- A table's word at the schedule step of a point. -/
abbrev wordQ (T0 : S272.Idx → Elt Bits .i32) (i : grid0.Coords) : BitVec 32 :=
  View.readAt (Elt Bits) tbQ.view (Rect.unit (s := S272) (k0_off1 i) S1.size (k0_off1_inb i)).toLoadRect T0 (Shape.Idx.first (numel1_S1.symm ▸ Nat.one_pos))
abbrev wordK (T1 : S272.Idx → Elt Bits .i32) (i : grid0.Coords) : BitVec 32 :=
  View.readAt (Elt Bits) tbK.view (Rect.unit (s := S272) (k0_off1 i) S1.size (k0_off1_inb i)).toLoadRect T1 (Shape.Idx.first (numel1_S1.symm ▸ Nat.one_pos))

/-- The body's four tests on the two words: first tile, near tile, far tile, last tile. -/
abbrev isInit (k : BitVec 32) : Prop := (Scalar.cmpi .ne (Scalar.extui (Scalar.cmpi .eq k 0#32)) 0#32) = 1#1
abbrev isNear (q k : BitVec 32) : Prop := (Scalar.cmpi .ne (Scalar.extui (Scalar.cmpi .slt (Scalar.subi q (Scalar.muli k 2#32)) 3#32)) 0#32) = 1#1
abbrev isFar (q k : BitVec 32) : Prop := (Scalar.cmpi .ne (Scalar.extui (Scalar.cmpi .sge (Scalar.subi q (Scalar.muli k 2#32)) 3#32)) 0#32) = 1#1
abbrev isFin (q k : BitVec 32) : Prop := k0_cond4 q k = 1#1

/-- The contents of the six scratch buffers of a core. -/
structure St (c : Dev nD) where
  s0 : Buf (Elt Bits) ((c : Thread nD τ).loc cc0_scratch0)
  s1 : Buf (Elt Bits) ((c : Thread nD τ).loc cc0_scratch1)
  s2 : Buf (Elt Bits) ((c : Thread nD τ).loc cc0_scratch2)
  s3 : Buf (Elt Bits) ((c : Thread nD τ).loc cc0_scratch3)
  s4 : Buf (Elt Bits) ((c : Thread nD τ).loc cc0_scratch4)
  s5 : Buf (Elt Bits) ((c : Thread nD τ).loc cc0_scratch5)

/-- The scratch buffers held at given contents. -/
def scr (c : Dev nD) (a : St c) : sProp 𝕄 :=
  iprop((sc0.view.loc (c : Thread nD τ) ↦{fullShare} a.s0) ∗ (sc1.view.loc (c : Thread nD τ) ↦{fullShare} a.s1)
    ∗ (sc2.view.loc (c : Thread nD τ) ↦{fullShare} a.s2) ∗ (sc3.view.loc (c : Thread nD τ) ↦{fullShare} a.s3)
    ∗ (sc4.view.loc (c : Thread nD τ) ↦{fullShare} a.s4) ∗ (sc5.view.loc (c : Thread nD τ) ↦{fullShare} a.s5))

/-- One staging buffer of the output window, through which what a point stores is stated. -/
abbrev VO : View sig .tc .vmem S1x256x1024 .bf16 := (Memref.whole cc0_stg9_0 : Memref sig .tc .vmem S1x256x1024 .bf16).view

section
variable (c : Dev nD) (i : grid0.Coords)
  (arg4 : Memref sig .tc .vmem S1x256x1024 .bf16) (harg4 : arg4.IsWhole) (arg5 : Memref sig .tc .vmem S1x512x1024 .bf16) (harg5 : arg5.IsWhole)
  (arg6 : Memref sig .tc .vmem S1x256x1536 .bf16) (harg6 : arg6.IsWhole) (arg7 : Memref sig .tc .vmem S1x512x384 .bf16) (harg7 : arg7.IsWhole)
  (arg8 : Memref sig .tc .vmem S1x5x256x512 .f32) (harg8 : arg8.IsWhole) (arg9 : Memref sig .tc .vmem S2048x128 .f32) (harg9 : arg9.IsWhole)
  (arg10 : Memref sig .tc .vmem S4x64 .f32) (harg10 : arg10.IsWhole) (arg11 : Memref sig .tc .vmem S1x128 .f32) (harg11 : arg11.IsWhole)
  (arg12 : Memref sig .tc .vmem S4x256x128 .bf16) (harg12 : arg12.IsWhole) (arg13 : Memref sig .tc .vmem S1x256x1024 .bf16) (harg13 : arg13.IsWhole)
  (T0 T1 : S272.Idx → Elt Bits .i32)
  (x0 : S1x256x1024.Idx → Elt Bits .bf16) (x1 : S1x512x1024.Idx → Elt Bits .bf16) (x2 : S1x256x1536.Idx → Elt Bits .bf16)
  (x3 : S1x512x384.Idx → Elt Bits .bf16) (x4 : S1x5x256x512.Idx → Elt Bits .f32) (x5 : S2048x128.Idx → Elt Bits .f32)
  (x6 : S4x64.Idx → Elt Bits .f32) (x7 : S1x128.Idx → Elt Bits .f32) (x8 : S4x256x128.Idx → Elt Bits .bf16)

/-- The nine inputs at their blocks and the two tables. -/
def ins : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (arg9.view.loc (c : Thread nD τ) ↦[arg9.view.set]{fullShare} arg9.view.rep x5)
    ∗ (arg10.view.loc (c : Thread nD τ) ↦[arg10.view.set]{fullShare} arg10.view.rep x6)
    ∗ (arg11.view.loc (c : Thread nD τ) ↦[arg11.view.set]{fullShare} arg11.view.rep x7)
    ∗ (arg12.view.loc (c : Thread nD τ) ↦[arg12.view.set]{fullShare} arg12.view.rep x8)
    ∗ (tbQ.view.loc (c : Thread nD τ) ↦{fullShare.right} T0)
    ∗ (tbK.view.loc (c : Thread nD τ) ↦{fullShare.right} T1))

/-- What a run of the body comes to: the pieces it stores into the output block, the scratch contents it leaves, and the
    proof that it runs to a continuation holding them. `keep` says that it reads the scratch contents left before. -/
structure BodyRun (keep : Prop) (prev : St c) where
  pcs : List (View.Piece (Elt Bits) S1x256x1024 .bf16)
  out : St c
  spec : ∀ a : St c, (keep → a = prev) → ∀ (d9 : S1x256x1024.Idx → Elt Bits .bf16) (K : PUnit → sProp 𝕄),
    iprop(ins c arg4 arg5 arg6 arg7 arg8 arg9 arg10 arg11 arg12 T0 T1 x0 x1 x2 x3 x4 x5 x6 x7 x8
      ∗ owns (c : Thread nD τ) arg13 fullShare d9 ∗ scr c a
      ∗ (iprop(ins c arg4 arg5 arg6 arg7 arg8 arg9 arg10 arg11 arg12 T0 T1 x0 x1 x2 x3 x4 x5 x6 x7 x8
          ∗ (∃ f, ⌜pcs = [] → arg13.view.read (Elt Bits) f = d9⌝ ∗ arg13.view.loc (c : Thread nD τ) ↦[arg13.view.set]{fullShare} arg13.view.writes (Elt Bits) f pcs) ∗ scr c out) -∗ K ⟨⟩))
    ⊢ wp frame (wpE (defs₀ (F := Bits)) Variants.none c none) Set.univ
        (cc0_prompt_attn i tbQ (Memref.isWhole_whole _) tbK (Memref.isWhole_whole _) arg4 harg4 arg5 harg5 arg6 harg6 arg7 harg7 arg8 harg8 arg9 harg9 arg10 harg10 arg11 harg11 arg12 harg12 arg13 harg13 sc0 (Memref.isWhole_whole _) sc1 (Memref.isWhole_whole _) sc2 (Memref.isWhole_whole _) sc3 (Memref.isWhole_whole _) sc4 (Memref.isWhole_whole _) sc5 (Memref.isWhole_whole _)) K

end

end Cert.Kernel.Attn
-- ==== Proof.Value.HostRaw.lean ====
module

public import proofs.«01_k».proof.Proof.KI.Host
public import Idealize.ShloMosaic.Lib.Pointwise
public import Idealize.ShloMosaic.Lib.StableHlo.ReadAt

/-! The windows' arrays as the host operations prepare them, read at an index. -/

@[expose] public section
set_option maxRecDepth 16384
set_option Elab.async false
noncomputable section
namespace Cert.KernelIdeal.Attn
open Cert.KernelIdeal Cert.KernelIdeal.Gen
open Idealize.ShloMosaic
open Idealize.ShloMosaic.TcCoe Idealize.ShloMosaic.Tactic
variable (m : (ℓ : Loc nD τ sig) → Buf (Elt Ideal) ℓ) (c : Dev nD)
set_option maxHeartbeats 2000000 in
theorem v11_at (b : Fin 2) (r : Fin 8192) (j : Fin 1024) : V m c main_v11 (ix3 b r j) = if h : j.val / 128 % 2 < 1 then Scalar.select (IntOp.cmpi .slt (BitVec.ofNat 32 (j.val % 128)) 64#32) (@HMul.hMul EReal EReal EReal instHMul (m (c, Proc.tc.devRef main_arg0) (ix4 b r ⟨j.val / 256, by omega⟩ ⟨j.val % 128, by omega⟩)) (Ideal.ofBits .f32 1040187392#32)) 0
    else Scalar.select (IntOp.cmpi .slt (BitVec.ofNat 32 (j.val % 128)) 64#32) (0 : EReal) (@HMul.hMul EReal EReal EReal instHMul (m (c, Proc.tc.devRef main_arg0) (ix4 b r ⟨j.val / 256, by omega⟩ ⟨j.val % 128, by omega⟩)) (Ideal.ofBits .f32 1040187392#32)) := by
  unfold V; repeat after_reads_at
  all_goals (try simp only [id])
  all_goals pointwise
set_option maxHeartbeats 2000000 in
theorem v15_at (b : Fin 2) (r : Fin 8192) (j : Fin 1024) : V m c main_v15 (ix3 b r j) = if h : j.val < 512 then m (c, Proc.tc.devRef main_arg1) (ix4 b r ⟨j.val / 128, by omega⟩ ⟨j.val % 128, by omega⟩)
    else m (c, Proc.tc.devRef main_arg2) (ix4 b r ⟨(j.val - 512) / 128, by omega⟩ ⟨(j.val - 512) % 128, by omega⟩) := by
  unfold V; repeat after_reads_at
  all_goals (try simp only [id])
  all_goals pointwise
set_option maxHeartbeats 2000000 in
theorem v24_at (b : Fin 2) (r : Fin 8192) (j : Fin 1536) : V m c main_v24 (ix3 b r j) = if h : j.val % 384 < 256 then (@HMul.hMul EReal EReal EReal instHMul (m (c, Proc.tc.devRef main_arg3) (ix4 b r ⟨j.val / 384, by omega⟩ ⟨j.val % 384, h⟩)) (Ideal.ofBits .f32 1033096506#32))
    else if h1 : j.val % 384 - 256 < 64 then (@HMul.hMul EReal EReal EReal instHMul (m (c, Proc.tc.devRef main_arg4) (ix4 b r ⟨j.val / 384, by omega⟩ ⟨j.val % 384 - 256, h1⟩)) (Ideal.ofBits .f32 1033096506#32)) else 0 := by
  unfold V; repeat after_reads_at
  all_goals (try simp only [id])
  all_goals pointwise
set_option maxHeartbeats 2000000 in
theorem v28_at (b : Fin 2) (r : Fin 8192) (j : Fin 384) : V m c main_v28 (ix3 b r j) = if h : j.val < 256 then m (c, Proc.tc.devRef main_arg5) (ix3 b r ⟨j.val, h⟩)
    else if h1 : j.val - 256 < 64 then m (c, Proc.tc.devRef main_arg6) (ix3 b r ⟨j.val - 256, h1⟩) else (0 : EReal) := by
  unfold V; repeat after_reads_at
  all_goals (try simp only [id])
  all_goals pointwise
set_option maxHeartbeats 2000000 in
theorem v175_at (R : Fin 2048) (l : Fin 128) : V m c main_v175 (ix2 R l) = m (c, Proc.tc.devRef main_arg7) (ix2 31 ⟨R.val / 512, by omega⟩) := by
  unfold V; repeat after_reads_at
  all_goals (try simp only [id])
  all_goals pointwise
set_option maxHeartbeats 2000000 in
theorem v179_at (R : Fin 4) (l : Fin 64) : V m c main_v179 (ix2 R l) = m (c, Proc.tc.devRef main_arg8) (ix3 0 R l) := by
  unfold V; repeat after_reads_at
  all_goals (try simp only [id])
  all_goals pointwise
set_option maxHeartbeats 2000000 in
theorem v181_at (l : Fin 128) : V m c main_v181 (ix2 0 l) = m (c, Proc.tc.devRef main_arg9) (ix2 0 l) := by
  unfold V; repeat after_reads_at
  all_goals (try simp only [id])
  all_goals pointwise
set_option maxHeartbeats 2000000 in
theorem v178_at (h : Fin 4) (a : Fin 256) (e : Fin 128) : V m c main_v178 (ix3 h a e) = m (c, Proc.tc.devRef main_arg10) (ix4 0 a h e) := by
  unfold V; repeat after_reads_at
  all_goals (try simp only [id])
  all_goals pointwise
end Cert.KernelIdeal.Attn
-- ==== Proof.Value.Online.lean ====
module

public import Idealize.ShloMosaic.PureOps.Ideal
public import Mathlib.Data.EReal.Operations
public import Mathlib.Analysis.SpecialFunctions.Exp
public import Mathlib.Algebra.BigOperators.Intervals

/-! Softmax taken tile by tile: a running maximum, a running sum and a running weighted sum, each rescaled when the maximum grows, against the
softmax over all keys at once. A score is an extended real below `⊤`; a masked one is `⊥`, and weighs nothing. -/

@[expose] public section

noncomputable section

namespace Cert.Online

open Idealize.ShloMosaic

/-- The weight of a score: its exponential, a real number; `0` for a masked key. -/
def wt (s : EReal) : ℝ := (Ideal.exp s).toReal

theorem wt_bot : wt ⊥ = 0 := by simp [wt]
theorem wt_coe (x : ℝ) : wt (x : EReal) = Real.exp x := by simp [wt]

theorem wt_nonneg (s : EReal) : 0 ≤ wt s := by
  induction s with
  | bot => rw [wt_bot]
  | coe x => rw [wt_coe]; exact (Real.exp_pos x).le
  | top => simp [wt]

theorem wt_pos {s : EReal} (hb : s ≠ ⊥) (ht : s ≠ ⊤) : 0 < wt s := by
  induction s with
  | bot => exact absurd rfl hb
  | coe x => rw [wt_coe]; exact Real.exp_pos x
  | top => exact absurd rfl ht

theorem exp_sub (s : EReal) (hs : s ≠ ⊤) (N : ℝ) : Ideal.exp (s - (N : EReal)) = ((wt s * Real.exp (-N) : ℝ) : EReal) := by
  induction s with
  | bot => rw [wt_bot]; simp [EReal.bot_sub]
  | coe x => rw [wt_coe, ← EReal.coe_sub, Ideal.exp_coe, sub_eq_add_neg, Real.exp_add]
  | top => exact absurd rfl hs

/-- The same with the row's bias taken off the maximum instead of put on the score. -/
theorem exp_sub_shift (s : EReal) (hs : s ≠ ⊤) (b N : ℝ) :
    Ideal.exp (s - ((N : EReal) - (b : EReal))) = ((wt (s + b) * Real.exp (-N) : ℝ) : EReal) := by
  induction s with
  | bot => rw [EReal.bot_add, wt_bot, ← EReal.coe_sub]; simp [EReal.bot_sub]
  | coe x =>
    rw [← EReal.coe_add, wt_coe, ← EReal.coe_sub, ← EReal.coe_sub, Ideal.exp_coe, ← Real.exp_add]
    congr 2; ring
  | top => exact absurd rfl hs

/-- `x` is `X` scaled down by the running maximum `m`; before any key both are `0` and the maximum is `⊥`. -/
def Held (m x : EReal) (X : ℝ) : Prop := (m = ⊥ ∧ x = 0 ∧ X = 0) ∨ ∃ M : ℝ, m = M ∧ x = ((X * Real.exp (-M) : ℝ) : EReal)

theorem held_start : Held ⊥ 0 0 := Or.inl ⟨rfl, rfl, rfl⟩

theorem coe_sum {n : ℕ} (f : Fin n → ℝ) : (((∑ j, f j : ℝ)) : EReal) = ∑ j, (f j : EReal) := by
  induction n with
  | zero => simp
  | succ n ih => rw [Fin.sum_univ_castSucc, Fin.sum_univ_castSucc, EReal.coe_add, ih]

/-- One tile: what was held is rescaled to the new maximum and the tile's part added. -/
theorem held_step {n : ℕ} {m x : EReal} {X : ℝ} (h : Held m x X) (N : ℝ) {t : Fin n → EReal} {τ : Fin n → ℝ}
    (ht : ∀ j, t j = ((τ j * Real.exp (-N) : ℝ) : EReal)) :
    Held (N : EReal) (Ideal.exp (m - (N : EReal)) * x + ∑ j, t j) (X + ∑ j, τ j) := by
  refine Or.inr ⟨N, rfl, ?_⟩
  have hs : (∑ j, t j) = (((∑ j, τ j) * Real.exp (-N) : ℝ) : EReal) := by
    rw [Finset.sum_mul, coe_sum]; exact Finset.sum_congr rfl fun j _ => ht j
  rw [hs]
  rcases h with ⟨rfl, rfl, rfl⟩ | ⟨M, rfl, rfl⟩
  · simp
  · rw [← EReal.coe_sub, Ideal.exp_coe, ← EReal.coe_mul, ← EReal.coe_add]
    congr 1
    have : Real.exp (M - N) * Real.exp (-M) = Real.exp (-N) := by rw [← Real.exp_add]; congr 1; ring
    rw [add_mul, ← this]; ring

theorem fold_max_ne_top {n : ℕ} (s : Fin n → EReal) (h : ∀ j, s j ≠ ⊤) : Finset.univ.fold max ⊥ s ≠ ⊤ := by
  have : Finset.univ.fold max ⊥ s < ⊤ := (Finset.fold_max_lt ⊤).2 ⟨bot_lt_top, fun j _ => lt_top_iff_ne_top.2 (h j)⟩
  exact this.ne

theorem fold_max_ne_bot {n : ℕ} (s : Fin n → EReal) (j : Fin n) (h : s j ≠ ⊥) : Finset.univ.fold max ⊥ s ≠ ⊥ := by
  have : ⊥ < Finset.univ.fold max ⊥ s := (Finset.lt_fold_max ⊥).2 (Or.inr ⟨j, Finset.mem_univ j, bot_lt_iff_ne_bot.2 h⟩)
  exact this.ne'

theorem real_of {x : EReal} (ht : x ≠ ⊤) (hb : x ≠ ⊥) : ∃ N : ℝ, x = N := ⟨x.toReal, (EReal.coe_toReal ht hb).symm⟩

/-- A maximum of real scores and masked ones, at least one real, is real. -/
theorem fold_max_real {n : ℕ} (s : Fin n → EReal) (h : ∀ j, s j ≠ ⊤) (j : Fin n) (hj : s j ≠ ⊥) : ∃ N : ℝ, Finset.univ.fold max ⊥ s = N :=
  real_of (fold_max_ne_top s h) (fold_max_ne_bot s j hj)

theorem Held.max_ne_top {m x : EReal} {X : ℝ} (h : Held m x X) : m ≠ ⊤ := by
  rcases h with ⟨rfl, -, -⟩ | ⟨M, rfl, -⟩
  · exact bot_ne_top
  · exact EReal.coe_ne_top M

theorem max_real {m y : EReal} (hm : m ≠ ⊤) (hy : y ≠ ⊤) (h : m ≠ ⊥ ∨ y ≠ ⊥) : ∃ N : ℝ, max m y = N := by
  refine real_of ?_ ?_
  · exact (max_lt (lt_top_iff_ne_top.2 hm) (lt_top_iff_ne_top.2 hy)).ne
  · rcases h with h | h
    · exact (lt_of_lt_of_le (bot_lt_iff_ne_bot.2 h) (le_max_left _ _)).ne'
    · exact (lt_of_lt_of_le (bot_lt_iff_ne_bot.2 h) (le_max_right _ _)).ne'

theorem div_coe_coe (x y : ℝ) (h : y ≠ 0) : Ideal.div (x : EReal) (y : EReal) = ((x / y : ℝ) : EReal) := by
  rw [Ideal.div_coe h, ← EReal.coe_mul]; congr 1; ring

/-- The quotient at the end: the maximum no longer matters. -/
theorem held_div {m x l : EReal} {X L : ℝ} (hx : Held m x X) (hl : Held m l L) (hm : m ≠ ⊥) (hL : 0 < L) :
    Ideal.div x l = ((X / L : ℝ) : EReal) := by
  rcases hx with ⟨rfl, -, -⟩ | ⟨M, rfl, rfl⟩
  · exact absurd rfl hm
  rcases hl with ⟨h, -, -⟩ | ⟨M', hM, rfl⟩
  · exact absurd h (EReal.coe_ne_bot _)
  obtain rfl : M = M' := EReal.coe_injective hM
  have he := Real.exp_pos (-M)
  rw [div_coe_coe _ _ (mul_pos hL he).ne', mul_div_mul_right _ _ he.ne']

/-- Softmax over all keys at once, as weights over their sum. -/
theorem softmax_eq {n : ℕ} (s : Fin n → EReal) (h : ∀ j, s j ≠ ⊤) (i : Fin n) (hi : s i ≠ ⊥) (k : Fin n) :
    Ideal.div (Ideal.exp (s k - Finset.univ.fold max ⊥ s)) (∑ j, Ideal.exp (s j - Finset.univ.fold max ⊥ s))
      = ((wt (s k) / ∑ j, wt (s j) : ℝ) : EReal) := by
  obtain ⟨N, hN⟩ := fold_max_real s h i hi
  have hp : 0 < ∑ j, wt (s j) := Finset.sum_pos' (fun j _ => wt_nonneg _) ⟨i, Finset.mem_univ i, wt_pos hi (h i)⟩
  have he := Real.exp_pos (-N)
  rw [hN, exp_sub _ (h k), Finset.sum_congr rfl fun j _ => exp_sub (s j) (h j) N, ← coe_sum, ← Finset.sum_mul,
    div_coe_coe _ _ (mul_pos hp he).ne', mul_div_mul_right _ _ he.ne']

/-- The sum over the tiles taken so far and one more. -/
theorem sum_tile (f : ℕ → ℝ) (k n : ℕ) :
    ∑ i ∈ Finset.range (n * (k + 1)), f i = ∑ i ∈ Finset.range (n * k), f i + ∑ j : Fin n, f (n * k + j.val) := by
  rw [Nat.mul_succ, Finset.sum_range_add, Finset.sum_range (n := n)]

/-- Keys beyond the tiles taken weigh nothing. -/
theorem sum_all (f : ℕ → ℝ) (K n : ℕ) (hK : K ≤ n) (h : ∀ i, K ≤ i → f i = 0) :
    ∑ i ∈ Finset.range K, f i = ∑ j : Fin n, f j.val := by
  rw [← Finset.sum_range (n := n) f]
  refine Finset.sum_subset (fun i hi => Finset.mem_range.2 (lt_of_lt_of_le (Finset.mem_range.1 hi) hK)) fun i _ hi => h i ?_
  exact not_lt.1 fun h' => hi (Finset.mem_range.2 h')

end Cert.Online
-- ==== Proof.Value.Spec.lean ====
module

public import proofs.«01_k».proof.Proof.Value.Online
public import Idealize.ShloMosaic.Lib.Pointwise
public import Idealize.ShloMosaic.Lib.WordCmp

/-! What both programs compute, at real arrays: the masked scores of each head, the softmax averages, the outputs. And the
    words the position buckets are computed by. -/

@[expose] public section

noncomputable section

namespace Cert.Spec

open Cert.Online
open Idealize.ShloMosaic Idealize.ShloMosaic.WordCmp

/-- The argument arrays; the last two stay as they are stored, the others are real. -/
structure Arr where
  q : Fin 2 → Fin 8192 → Fin 4 → Fin 128 → ℝ
  k : Fin 2 → Fin 8192 → Fin 4 → Fin 128 → ℝ
  v : Fin 2 → Fin 8192 → Fin 4 → Fin 128 → ℝ
  ql : Fin 2 → Fin 8192 → Fin 4 → Fin 256 → ℝ
  qr : Fin 2 → Fin 8192 → Fin 4 → Fin 64 → ℝ
  ck : Fin 2 → Fin 8192 → Fin 256 → ℝ
  kr : Fin 2 → Fin 8192 → Fin 64 → ℝ
  rb : Fin 32 → Fin 4 → ℝ
  lm : Fin 4 → Fin 64 → ℝ
  g : Fin 128 → EReal
  u : Fin 256 → Fin 4 → Fin 128 → EReal

/-- The arrays as the programs' arguments, coordinate by coordinate. -/
structure Holds (A : Arr) (x0 x1 x2 : Fin 2 → Fin 8192 → Fin 4 → Fin 128 → EReal) (x3 : Fin 2 → Fin 8192 → Fin 4 → Fin 256 → EReal) (x4 : Fin 2 → Fin 8192 → Fin 4 → Fin 64 → EReal)
    (x5 : Fin 2 → Fin 8192 → Fin 256 → EReal) (x6 : Fin 2 → Fin 8192 → Fin 64 → EReal) (x7 : Fin 32 → Fin 4 → EReal) (x8 : Fin 4 → Fin 64 → EReal) (x9 : Fin 128 → EReal)
    (x10 : Fin 256 → Fin 4 → Fin 128 → EReal) : Prop where
  q : ∀ b r h x, x0 b r h x = ((A.q b r h x : ℝ) : EReal)
  k : ∀ b r h x, x1 b r h x = ((A.k b r h x : ℝ) : EReal)
  v : ∀ b r h x, x2 b r h x = ((A.v b r h x : ℝ) : EReal)
  ql : ∀ b r h x, x3 b r h x = ((A.ql b r h x : ℝ) : EReal)
  qr : ∀ b r h x, x4 b r h x = ((A.qr b r h x : ℝ) : EReal)
  ck : ∀ b r x, x5 b r x = ((A.ck b r x : ℝ) : EReal)
  kr : ∀ b r x, x6 b r x = ((A.kr b r x : ℝ) : EReal)
  rb : ∀ n h, x7 n h = ((A.rb n h : ℝ) : EReal)
  lm : ∀ i x, x8 i x = ((A.lm i x : ℝ) : EReal)
  g : ∀ x, x9 x = A.g x
  u : ∀ a h e, x10 a h e = A.u a h e

/-! ## Constants -/

theorem c8 : Ideal.ofBits .f32 1040187392#32 = ((1 / 8 : ℝ) : EReal) := by
  simp [Ideal.ofBits, Ideal.ieee, -EReal.coe_mul]; norm_num
theorem c16 : Ideal.ofBits .f32 1098907648#32 = ((16 : ℝ) : EReal) := by
  simp [Ideal.ofBits, Ideal.ieee, -EReal.coe_mul]; norm_num
theorem cL : Ideal.ofBits .f32 1074075026#32 = ((8721810 / 4194304 : ℝ) : EReal) := by
  simp [Ideal.ofBits, Ideal.ieee, -EReal.coe_mul]; norm_num
theorem cM : Ideal.ofBits .f32 1033096506#32 = ((9686330 / 134217728 : ℝ) : EReal) := by
  simp [Ideal.ofBits, Ideal.ieee, -EReal.coe_mul]; norm_num
theorem cI : Ideal.ofBits .f32 1045220557#32 = ((13421773 / 67108864 : ℝ) : EReal) := by
  simp [Ideal.ofBits, Ideal.ieee, -EReal.coe_mul]; norm_num
theorem cLow : Ideal.ofBits .f32 4286578688#32 = (⊥ : EReal) := by
  simp [Ideal.ofBits, Ideal.ieee]

/-! ## Words -/

theorem sub_word {a j : ℕ} (ha : a < 2 ^ 30) (h : j ≤ a) : IntOp.subi (BitVec.ofNat 32 a) (BitVec.ofNat 32 j) = BitVec.ofNat 32 (a - j) := by
  apply BitVec.eq_of_toNat_eq
  simp only [IntOp.subi, BitVec.toNat_sub, BitVec.toNat_ofNat]; omega
theorem add_word {a j : ℕ} : IntOp.addi (BitVec.ofNat 32 a) (BitVec.ofNat 32 j) = BitVec.ofNat 32 (a + j) := by
  apply BitVec.eq_of_toNat_eq
  simp only [IntOp.addi, BitVec.toNat_add, BitVec.toNat_ofNat]; omega
theorem sge_sub {a j : ℕ} (ha : a < 2 ^ 30) (hj : j < 2 ^ 30) : IntOp.cmpi .sge (IntOp.subi (BitVec.ofNat 32 a) (BitVec.ofNat 32 j)) 0#32 = if j ≤ a then 1#1 else 0#1 := by
  rw [cmpi_sge_zero]
  have e : (IntOp.subi (BitVec.ofNat 32 a) (BitVec.ofNat 32 j)).toNat < 2 ^ (32 - 1) ↔ j ≤ a := by
    simp only [IntOp.subi, BitVec.toNat_sub, BitVec.toNat_ofNat]; omega
  by_cases h : j ≤ a
  · rw [if_pos h, decide_eq_true (e.2 h)]; rfl
  · rw [if_neg h, decide_eq_false fun h' => h (e.1 h')]; rfl
theorem slt_word {a j : ℕ} (ha : a < 2 ^ 30) (hj : j < 2 ^ 30) : (BitVec.ofNat 32 a).slt (BitVec.ofNat 32 j) = decide (a < j) := by
  rw [BitVec.slt, toInt_ofNat_of_lt (by omega), toInt_ofNat_of_lt (by omega)]
  simp
theorem max_word {a j : ℕ} (ha : a < 2 ^ 30) (hj : j < 2 ^ 30) : IntOp.maxsi (BitVec.ofNat 32 a) (BitVec.ofNat 32 j) = BitVec.ofNat 32 (max a j) := by
  unfold IntOp.maxsi
  rw [slt_word hj ha]
  by_cases h : j < a
  · rw [decide_eq_true h, if_pos rfl, max_eq_left h.le]
  · rw [decide_eq_false h, if_neg (by decide), max_eq_right (not_lt.1 h)]
theorem min_word {a j : ℕ} (ha : a < 2 ^ 30) (hj : j < 2 ^ 30) : IntOp.minsi (BitVec.ofNat 32 a) (BitVec.ofNat 32 j) = BitVec.ofNat 32 (min a j) := by
  unfold IntOp.minsi
  rw [slt_word ha hj]
  by_cases h : a < j
  · rw [decide_eq_true h, if_pos rfl, min_eq_left h.le]
  · rw [decide_eq_false h, if_neg (by decide), min_eq_right (not_lt.1 h)]
theorem max_zero_word {a : ℕ} (ha : a < 2 ^ 30) : IntOp.maxsi (BitVec.ofNat 32 a) 0#32 = BitVec.ofNat 32 a := by
  rw [show (0#32 : BitVec 32) = BitVec.ofNat 32 0 from rfl, max_word ha (by norm_num), max_eq_left (Nat.zero_le a)]

/-- The bucket of a distance, as both programs compute it. -/
def bucketW (n : BitVec 32) : BitVec 32 :=
  Scalar.select (IntOp.cmpi .slt n 16#32) n
    (IntOp.minsi (IntOp.addi 16#32 (FloatOps.fptosi (F := Ideal) (φ := .f32) 32
      (Ideal.div (Ideal.log (Ideal.div (FloatOps.sitofp (F := Ideal) .f32 (IntOp.maxsi n 1#32)) (Ideal.ofBits .f32 1098907648#32))) (Ideal.ofBits .f32 1074075026#32) * Ideal.ofBits .f32 1098907648#32))) 31#32)

theorem fptosi_nonneg (x : ℝ) (h0 : 0 ≤ x) (h1 : x < 2 ^ 20) : Ideal.fptosi 32 (x : EReal) = BitVec.ofNat 32 ⌊x⌋₊ := by
  have hf : (⌊x⌋ : ℤ) = (⌊x⌋₊ : ℤ) := (Int.natCast_floor_eq_floor h0).symm
  have hb : ⌊x⌋₊ < 2 ^ 20 := (Nat.floor_lt h0).2 (by exact_mod_cast h1)
  unfold Ideal.fptosi
  rw [Ideal.toIntClamped_coe, if_pos h0, hf]
  rw [min_eq_right (by norm_num; omega), max_eq_right (by norm_num)]
  exact BitVec.ofInt_natCast 32 _

theorem bucketW_small {n : ℕ} (h : n < 16) : bucketW (BitVec.ofNat 32 n) = BitVec.ofNat 32 n := by
  unfold bucketW
  have e : IntOp.cmpi .slt (BitVec.ofNat 32 n) 16#32 = 1#1 := by
    rw [cmpi_slt_eq, toInt_ofNat_of_lt (by omega)]
    rw [decide_eq_true (by show (n : ℤ) < 16; omega)]; rfl
  rw [e]; rfl

theorem bucketW_large {n : ℕ} (h : 16 ≤ n) (hn : n < 8192) :
    ∃ t : ℕ, bucketW (BitVec.ofNat 32 n) = BitVec.ofNat 32 (min (16 + t) 31) ∧ (257 ≤ n → 15 ≤ t) := by
  have hnr : (16 : ℝ) ≤ n := by exact_mod_cast h
  have hnr' : (n : ℝ) < 8192 := by exact_mod_cast hn
  have hq : (0 : ℝ) < n / 16 := by positivity
  have hl0 : 0 ≤ Real.log (n / 16) := Real.log_nonneg (by linarith)
  have hl1 : Real.log (n / 16) ≤ 512 := by
    have := Real.log_le_sub_one_of_pos hq
    linarith
  set x : ℝ := Real.log (n / 16) / (8721810 / 4194304) * 16 with hx
  have hx0 : 0 ≤ x := by positivity
  have hx1 : x < 2 ^ 20 := by
    have : x ≤ 512 / (8721810 / 4194304) * 16 := by rw [hx]; gcongr
    refine this.trans_lt (by norm_num)
  refine ⟨⌊x⌋₊, ?_, fun h257 => ?_⟩
  · have e : IntOp.cmpi .slt (BitVec.ofNat 32 n) 16#32 = 0#1 := by
      rw [cmpi_slt_eq, toInt_ofNat_of_lt (by omega)]
      rw [decide_eq_false (by show ¬ (n : ℤ) < 16; omega)]; rfl
    have em : IntOp.maxsi (BitVec.ofNat 32 n) 1#32 = BitVec.ofNat 32 n := by
      rw [show (1#32 : BitVec 32) = BitVec.ofNat 32 1 from rfl, max_word (by omega) (by norm_num), max_eq_left (by omega)]
    have es : FloatOps.sitofp (F := Ideal) .f32 (BitVec.ofNat 32 n) = ((n : ℝ) : EReal) := by
      show (((BitVec.ofNat 32 n).toInt : ℝ) : EReal) = _
      rw [toInt_ofNat_of_lt (by omega)]; simp
    have ef : FloatOps.fptosi (F := Ideal) (φ := .f32) 32 (x : EReal) = BitVec.ofNat 32 ⌊x⌋₊ := fptosi_nonneg x hx0 hx1
    have hb : ⌊x⌋₊ < 2 ^ 20 := (Nat.floor_lt hx0).2 (by exact_mod_cast hx1)
    unfold bucketW
    rw [e, select_zero, em, es, c16, cL, div_coe_coe _ _ (by norm_num), Ideal.log_coe, if_neg (not_le.2 hq), div_coe_coe _ _ (by norm_num), ← EReal.coe_mul, ← hx, ef,
      show (16#32 : BitVec 32) = BitVec.ofNat 32 16 from rfl, show (31#32 : BitVec 32) = BitVec.ofNat 32 31 from rfl, add_word, min_word (by omega) (by norm_num)]
  · refine Nat.le_floor ?_
    have h16 : (16 : ℝ) ≤ n / 16 := by
      have : (257 : ℝ) ≤ n := by exact_mod_cast h257
      linarith
    have hlog : Real.log 16 ≤ Real.log (n / 16) := Real.log_le_log (by norm_num) h16
    have h4 : Real.log 16 = 4 * Real.log 2 := by
      rw [show (16 : ℝ) = 2 ^ 4 by norm_num, Real.log_pow]; norm_num
    have h2 := Real.one_sub_inv_le_log_of_pos (show (0 : ℝ) < 2 by norm_num)
    norm_num at h2
    have : (2 : ℝ) ≤ Real.log (n / 16) := by linarith
    have : 2 / (8721810 / 4194304) * 16 ≤ x := by rw [hx]; gcongr
    refine le_trans ?_ this
    norm_num

theorem bucketW_lt {n : ℕ} (hn : n < 8192) : (bucketW (BitVec.ofNat 32 n)).toNat < 32 := by
  by_cases h : n < 16
  · rw [bucketW_small h, BitVec.toNat_ofNat]; omega
  · obtain ⟨t, e, -⟩ := bucketW_large (not_lt.1 h) hn
    rw [e, BitVec.toNat_ofNat]; omega

/-- The bucket of a distance. -/
def bucket (n : ℕ) : Fin 32 := ⟨(bucketW (BitVec.ofNat 32 n)).toNat % 32, Nat.mod_lt _ (by norm_num)⟩

theorem bucketW_eq {n : ℕ} (hn : n < 8192) : bucketW (BitVec.ofNat 32 n) = BitVec.ofNat 32 (bucket n).val := by
  apply BitVec.eq_of_toNat_eq
  have := bucketW_lt hn
  rw [BitVec.toNat_ofNat, bucket]
  dsimp only
  omega
/-- Past the last bucket's start every distance lies in it. -/
theorem bucket_far {n : ℕ} (h : 257 ≤ n) (hn : n < 8192) : bucket n = 31 := by
  obtain ⟨t, e, ht⟩ := bucketW_large (by omega) hn
  have := ht h
  apply Fin.ext
  rw [bucket]
  dsimp only
  rw [e, BitVec.toNat_ofNat]
  show _ = 31
  omega

/-- A row picked by its number's comparison with every row number. -/
theorem onehot (f : Fin 32 → EReal) (n : Fin 32) :
    ∑ x : Fin 32, f x * FloatOps.uitofp (F := Ideal) .f32 (IntOp.cmpi .eq (BitVec.ofNat 32 n.val) (BitVec.ofNat 32 x.val)) = f n := by
  rw [Finset.sum_eq_single n]
  · have e : IntOp.cmpi .eq (BitVec.ofNat 32 n.val) (BitVec.ofNat 32 n.val) = 1#1 := by
      rw [cmpi_eq_eq, decide_eq_true rfl]; rfl
    rw [e]
    show f n * (((1#1 : BitVec 1).toNat : ℝ) : EReal) = f n
    simp
  · intro x _ hx
    have e : IntOp.cmpi .eq (BitVec.ofNat 32 n.val) (BitVec.ofNat 32 x.val) = 0#1 := by
      rw [cmpi_eq_eq, decide_eq_false]
      · rfl
      · intro h
        have := congrArg BitVec.toNat h
        simp only [BitVec.toNat_ofNat] at this
        exact hx (Fin.ext (by omega))
    rw [e]
    show f x * (((0#1 : BitVec 1).toNat : ℝ) : EReal) = 0
    simp
  · intro h; exact absurd (Finset.mem_univ n) h

/-! ## The scores and the outputs -/

/-- A key's place. -/
def key (i : ℕ) : Fin 8192 := ⟨i % 8192, Nat.mod_lt _ (by norm_num)⟩
theorem key_val (j : Fin 8192) : key j.val = j := Fin.ext (Nat.mod_eq_of_lt j.isLt)
theorem key_lt {i : ℕ} (h : i < 8192) : key i = ⟨i, h⟩ := Fin.ext (Nat.mod_eq_of_lt h)

variable (A : Arr)

/-- One half's dot product of a query and a key, scaled. -/
def dotD (b : Fin 2) (h : Fin 4) (w : Fin 2) (q : Fin 8192) (i : ℕ) : ℝ :=
  (∑ x : Fin 64, A.q b q h ⟨w.val * 64 + x.val, by omega⟩ * A.k b (key i) h ⟨w.val * 64 + x.val, by omega⟩) * (1 / 8)
/-- Its masked score, the position's bias in it. -/
def sD (b : Fin 2) (h : Fin 4) (w : Fin 2) (q : Fin 8192) (i : ℕ) : EReal :=
  if i ≤ q.val then ((dotD A b h w q i + A.rb (bucket (q.val - i)) h : ℝ) : EReal) else ⊥
def dotM (b : Fin 2) (h : Fin 4) (q : Fin 8192) (i : ℕ) : ℝ :=
  (∑ x : Fin 256, A.ck b (key i) x * A.ql b q h x + ∑ x : Fin 64, A.kr b (key i) x * A.qr b q h x) * (9686330 / 134217728)
def sM (b : Fin 2) (h : Fin 4) (q : Fin 8192) (i : ℕ) : EReal := if i ≤ q.val then ((dotM A b h q i : ℝ) : EReal) else ⊥

theorem sD_top (b h w q i) : sD A b h w q i ≠ ⊤ := by unfold sD; split_ifs; exacts [EReal.coe_ne_top _, bot_ne_top]
theorem sM_top (b h q i) : sM A b h q i ≠ ⊤ := by unfold sM; split_ifs; exacts [EReal.coe_ne_top _, bot_ne_top]
theorem sD_zero (b h w q) : sD A b h w q 0 ≠ ⊥ := by unfold sD; rw [if_pos (Nat.zero_le _)]; exact EReal.coe_ne_bot _
theorem sM_zero (b h q) : sM A b h q 0 ≠ ⊥ := by unfold sM; rw [if_pos (Nat.zero_le _)]; exact EReal.coe_ne_bot _

/-- The sum of a head's weights, and an average under them. -/
def denD (b : Fin 2) (h : Fin 4) (w : Fin 2) (q : Fin 8192) : ℝ := ∑ j : Fin 8192, wt (sD A b h w q j.val)
def avgD (b : Fin 2) (h : Fin 4) (w : Fin 2) (q : Fin 8192) (e : Fin 128) : ℝ :=
  (∑ j : Fin 8192, wt (sD A b h w q j.val) * A.v b j h e) / denD A b h w q
def denM (b : Fin 2) (h : Fin 4) (q : Fin 8192) : ℝ := ∑ j : Fin 8192, wt (sM A b h q j.val)
def avgM (b : Fin 2) (h : Fin 4) (q : Fin 8192) (a : Fin 256) : ℝ :=
  (∑ j : Fin 8192, wt (sM A b h q j.val) * A.ck b j a) / denM A b h q

theorem denD_pos (b h w q) : 0 < denD A b h w q :=
  Finset.sum_pos' (fun j _ => wt_nonneg _) ⟨0, Finset.mem_univ _, wt_pos (sD_zero A b h w q) (sD_top A b h w q 0)⟩
theorem denM_pos (b h q) : 0 < denM A b h q :=
  Finset.sum_pos' (fun j _ => wt_nonneg _) ⟨0, Finset.mem_univ _, wt_pos (sM_zero A b h q) (sM_top A b h q 0)⟩

/-- The second half's learned weight. -/
def lam : ℝ := Real.exp (∑ x, A.lm 0 x * A.lm 1 x) - Real.exp (∑ x, A.lm 2 x * A.lm 3 x) + 13421773 / 67108864
/-- A head's difference of its two halves. -/
def dif (b : Fin 2) (h : Fin 4) (q : Fin 8192) (e : Fin 128) : ℝ := avgD A b h 0 q e - lam A * avgD A b h 1 q e
/-- Normed over its columns, its gain applied. -/
def outD (b : Fin 2) (h : Fin 4) (q : Fin 8192) (e : Fin 128) : EReal :=
  ((dif A b h q e : ℝ) : EReal) * Ideal.rsqrt (Ideal.div (∑ x : Fin 128, ((dif A b h q x : ℝ) : EReal) * ((dif A b h q x : ℝ) : EReal)) (Ideal.ofBits .f32 0x43000000#32) + Ideal.ofBits .f32 0x3727C5AC#32)
    * A.g e * Ideal.ofBits .f32 0x3F4CCCCD#32
/-- The second kind's output: the averaged latent against the output columns. -/
def outM (b : Fin 2) (h : Fin 4) (q : Fin 8192) (e : Fin 128) : EReal := ∑ a : Fin 256, ((avgM A b h q a : ℝ) : EReal) * A.u a h e
/-- The result: the first kind's heads, then the second's. -/
def out (b : Fin 2) (q : Fin 8192) (j : Fin 1024) : EReal :=
  if h : j.val < 512 then outD A b ⟨j.val / 128, by omega⟩ q ⟨j.val % 128, by omega⟩
  else outM A b ⟨(j.val - 512) / 128, by omega⟩ q ⟨(j.val - 512) % 128, by omega⟩

/-! ## Sums cut in parts -/

theorem sum128 (f : Fin 128 → EReal) : ∑ x, f x = ∑ x : Fin 64, f ⟨x.val, by omega⟩ + ∑ x : Fin 64, f ⟨64 + x.val, by omega⟩ :=
  Fin.sum_univ_add (a := 64) (b := 64) f
theorem sum384 (f : Fin 384 → EReal) : ∑ x, f x = ∑ x : Fin 256, f ⟨x.val, by omega⟩ + (∑ x : Fin 64, f ⟨256 + x.val, by omega⟩ + ∑ x : Fin 64, f ⟨320 + x.val, by omega⟩) := by
  rw [show ∑ x, f x = ∑ x : Fin 256, f ⟨x.val, by omega⟩ + ∑ x : Fin 128, f ⟨256 + x.val, by omega⟩ from Fin.sum_univ_add (a := 256) (b := 128) f]
  congr 1
  rw [sum128 fun x : Fin 128 => f ⟨256 + x.val, by omega⟩]
  congr 1

/-- The two averages' difference, from the quotients. -/
theorem dif_eq (b h q e) : (((avgD A b h 0 q e : ℝ) : EReal)) - (((lam A : ℝ) : EReal)) * ((avgD A b h 1 q e : ℝ) : EReal) = ((dif A b h q e : ℝ) : EReal) := by
  rw [← EReal.coe_mul, ← EReal.coe_sub]; rfl
/-- The learned weight, from the four rows. -/
theorem lam_eq (l : Fin 4 → Fin 64 → EReal) (hl : ∀ i x, l i x = ((A.lm i x : ℝ) : EReal)) :
    Ideal.exp (∑ x : Fin 64, l 0 x * l 1 x) - Ideal.exp (∑ x : Fin 64, l 2 x * l 3 x) + Ideal.ofBits .f32 1045220557#32 = ((lam A : ℝ) : EReal) := by
  have e : ∀ i j : Fin 4, ∑ x : Fin 64, l i x * l j x = ((∑ x : Fin 64, A.lm i x * A.lm j x : ℝ) : EReal) := fun i j => by
    rw [coe_sum]
    exact Finset.sum_congr rfl fun x _ => by rw [hl, hl, EReal.coe_mul]
  rw [e, e, Ideal.exp_coe, Ideal.exp_coe, cI, ← EReal.coe_sub, ← EReal.coe_add]; rfl

end Cert.Spec
-- ==== Proof.Value.HostBias.lean ====
module

public import proofs.«01_k».proof.Proof.KI.Host
public import proofs.«01_k».proof.Proof.Value.Spec
public import Idealize.ShloMosaic.Lib.Pointwise
public import Idealize.ShloMosaic.Lib.StableHlo.ReadAt

/-! The windows' arrays as the host operations prepare them, read at an index. -/

@[expose] public section
set_option maxRecDepth 16384
set_option Elab.async false
noncomputable section
namespace Cert.KernelIdeal.Attn
open Cert.KernelIdeal Cert.KernelIdeal.Gen
open Idealize.ShloMosaic
open Idealize.ShloMosaic.TcCoe Idealize.ShloMosaic.Tactic
variable (m : (ℓ : Loc nD τ sig) → Buf (Elt Ideal) ℓ) (c : Dev nD)
set_option maxHeartbeats 4000000 in
theorem v171_at (k : Fin 3) (h : Fin 5) (r : Fin 256) (j : Fin 512) : V m c main_v171 (ix4 k h r j) =
    if k.val < 1 then if hh : h.val < 4 then Scalar.select (IntOp.cmpi .sge (IntOp.subi (IntOp.addi 0#32 (BitVec.ofNat 32 r.val)) (BitVec.ofNat 32 j.val)) 0#32) (∑ x : Fin 32, @HMul.hMul EReal EReal EReal instHMul (m (c, Proc.tc.devRef main_arg7) (ix2 x ⟨h.val, hh⟩)) (FloatOps.uitofp (F := Ideal) .f32 (IntOp.cmpi .eq (Cert.Spec.bucketW (IntOp.maxsi (IntOp.maxsi (IntOp.subi (IntOp.addi 0#32 (BitVec.ofNat 32 r.val)) (BitVec.ofNat 32 j.val)) 0#32) 0#32)) (BitVec.ofNat 32 x.val)))) (Ideal.ofBits .f32 4286578688#32)
      else Scalar.select (IntOp.cmpi .sge (IntOp.subi (IntOp.addi 0#32 (BitVec.ofNat 32 r.val)) (BitVec.ofNat 32 j.val)) 0#32) (0 : EReal) (Ideal.ofBits .f32 4286578688#32)
    else if k.val - 1 < 1 then if hh : h.val < 4 then Scalar.select (IntOp.cmpi .sge (IntOp.subi (IntOp.addi 256#32 (BitVec.ofNat 32 r.val)) (BitVec.ofNat 32 j.val)) 0#32) (∑ x : Fin 32, @HMul.hMul EReal EReal EReal instHMul (m (c, Proc.tc.devRef main_arg7) (ix2 x ⟨h.val, hh⟩)) (FloatOps.uitofp (F := Ideal) .f32 (IntOp.cmpi .eq (Cert.Spec.bucketW (IntOp.maxsi (IntOp.maxsi (IntOp.subi (IntOp.addi 256#32 (BitVec.ofNat 32 r.val)) (BitVec.ofNat 32 j.val)) 0#32) 0#32)) (BitVec.ofNat 32 x.val)))) (Ideal.ofBits .f32 4286578688#32)
      else Scalar.select (IntOp.cmpi .sge (IntOp.subi (IntOp.addi 256#32 (BitVec.ofNat 32 r.val)) (BitVec.ofNat 32 j.val)) 0#32) (0 : EReal) (Ideal.ofBits .f32 4286578688#32)
    else if hh : h.val < 4 then Scalar.select (IntOp.cmpi .sge (IntOp.subi (IntOp.addi 512#32 (BitVec.ofNat 32 r.val)) (BitVec.ofNat 32 j.val)) 0#32) (∑ x : Fin 32, @HMul.hMul EReal EReal EReal instHMul (m (c, Proc.tc.devRef main_arg7) (ix2 x ⟨h.val, hh⟩)) (FloatOps.uitofp (F := Ideal) .f32 (IntOp.cmpi .eq (Cert.Spec.bucketW (IntOp.maxsi (IntOp.maxsi (IntOp.subi (IntOp.addi 512#32 (BitVec.ofNat 32 r.val)) (BitVec.ofNat 32 j.val)) 0#32) 0#32)) (BitVec.ofNat 32 x.val)))) (Ideal.ofBits .f32 4286578688#32)
      else Scalar.select (IntOp.cmpi .sge (IntOp.subi (IntOp.addi 512#32 (BitVec.ofNat 32 r.val)) (BitVec.ofNat 32 j.val)) 0#32) (0 : EReal) (Ideal.ofBits .f32 4286578688#32) := by
  unfold V; repeat after_reads_at
  simp only [id]; pointwise
  unfold Cert.Spec.bucketW
  rfl
end Cert.KernelIdeal.Attn
-- ==== Proof.Value.Flow.lean ====
module

public import proofs.«01_k».proof.Proof.KI.Runs
public import Idealize.ShloMosaic.Lib.Pipeline.ValueKit
public import Idealize.ShloMosaic.Lib.Pointwise
public import Idealize.ShloMosaic.Lib.Tactic.CleanTypes

/-! What one run of the body leaves in the scratch buffers, as functions of the blocks it reads. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The largest score of each row, in every lane. -/
abbrev topD (s : FVec Ideal S2048x512 .f32) : FVec Ideal S2048x128 .f32 :=
  broadcastTo S2048x128 (shapeCast S2048x1 (multiReduction .maximumf [1] S2048 s 0xFF800000#32 reduces_S2048x512_S2048 (.inl rfl) rfl) shapeCasts_S2048_S2048x1) broadcasts_S2048x1_S2048x128
/-- The sum of each row, in every lane. -/
abbrev sumD (s : FVec Ideal S2048x512 .f32) : FVec Ideal S2048x128 .f32 :=
  broadcastTo S2048x128 (shapeCast S2048x1 (multiReduction .add [1] S2048 s 0x00000000#32 reduces_S2048x512_S2048 (.inl rfl) rfl) shapeCasts_S2048_S2048x1) broadcasts_S2048x1_S2048x128
abbrev topM (s : FVec Ideal S1024x512 .f32) : FVec Ideal S1024x128 .f32 :=
  broadcastTo S1024x128 (shapeCast S1024x1 (multiReduction .maximumf [1] S1024 s 0xFF800000#32 reduces_S1024x512_S1024 (.inl rfl) rfl) shapeCasts_S1024_S1024x1) broadcasts_S1024x1_S1024x128
abbrev sumM (s : FVec Ideal S1024x512 .f32) : FVec Ideal S1024x128 .f32 :=
  broadcastTo S1024x128 (shapeCast S1024x1 (multiReduction .add [1] S1024 s 0x00000000#32 reduces_S1024x512_S1024 (.inl rfl) rfl) shapeCasts_S1024_S1024x1) broadcasts_S1024x1_S1024x128

/-- The columns of the query block that head half `o / 128` takes. -/
abbrev qCut (X : Vec Ideal S1x256x1024 .bf16) (o : ℕ) (ho : ∀ a, (![0, 0, o] : Fin 3 → ℕ) a + S1x256x128.size a ≤ S1x256x1024.size a) : FVec Ideal S256x128 .bf16 :=
  shapeCast S256x128 (View.ld X (Rect.unit ![0, 0, o] S1x256x128.size ho)) shapeCasts_S1x256x128_S256x128
/-- The columns of the key or value block that head `o / 128` takes. -/
abbrev kCut (X : Vec Ideal S1x512x1024 .bf16) (o : ℕ) (ho : ∀ a, (![0, 0, o] : Fin 3 → ℕ) a + S1x512x128.size a ≤ S1x512x1024.size a) : FVec Ideal S512x128 .bf16 :=
  shapeCast S512x128 (View.ld X (Rect.unit ![0, 0, o] S1x512x128.size ho)) shapeCasts_S1x512x128_S512x128
/-- One head's plane of the bias block. -/
abbrev bCut (X : Vec Ideal S1x5x256x512 .f32) (o : ℕ) (ho : ∀ a, (![0, o, 0, 0] : Fin 4 → ℕ) a + S1x1x256x512.size a ≤ S1x5x256x512.size a) : FVec Ideal S256x512 .f32 :=
  shapeCast S256x512 (View.ld X (Rect.unit ![0, o, 0, 0] S1x1x256x512.size ho)) shapeCasts_S1x1x256x512_S256x512
/-- The columns of the second head kind's query block that head `o / 384` takes. -/
abbrev mCut (X : Vec Ideal S1x256x1536 .bf16) (o : ℕ) (ho : ∀ a, (![0, 0, o] : Fin 3 → ℕ) a + S1x256x384.size a ≤ S1x256x1536.size a) : FVec Ideal S256x384 .bf16 :=
  shapeCast S256x384 (View.ld X (Rect.unit ![0, 0, o] S1x256x384.size ho)) shapeCasts_S1x256x384_S256x384

/-- The two halves of a head, one above the other, against the head's keys. -/
abbrev pairDot (a b : FVec Ideal S256x128 .bf16) (k : FVec Ideal S512x128 .bf16) : FVec Ideal S512x512 .f32 :=
  matmul dot_S512x128_S512x128_S512x512_1_1_0_0_n_n none (concatenate S512x128 0 [⟨S256x128, a⟩, ⟨S256x128, b⟩] concatenates_S256x128_S256x128_S512x128_d0) k (constant S512x512 .f32 0x00000000#32)
/-- One head's bias for its two halves. -/
abbrev pairBias (b : FVec Ideal S256x512 .f32) : FVec Ideal S512x512 .f32 :=
  concatenate S512x512 0 [⟨S256x512, b⟩, ⟨S256x512, b⟩] concatenates_S256x512_S256x512_S512x512_d0
abbrev stack4 (a b c d : FVec Ideal S512x512 .f32) : FVec Ideal S2048x512 .f32 :=
  concatenate S2048x512 0 [⟨S512x512, a⟩, ⟨S512x512, b⟩, ⟨S512x512, c⟩, ⟨S512x512, d⟩] concatenates_S512x512_S512x512_S512x512_S512x512_S2048x512_d0
/-- A row's value repeated over the tile's keys. -/
abbrev wideD (v : FVec Ideal S2048x128 .f32) : FVec Ideal S2048x512 .f32 :=
  concatenate S2048x512 1 [⟨S2048x128, v⟩, ⟨S2048x128, v⟩, ⟨S2048x128, v⟩, ⟨S2048x128, v⟩] concatenates_S2048x128_S2048x128_S2048x128_S2048x128_S2048x512_d1
abbrev wideM (v : FVec Ideal S1024x128 .f32) : FVec Ideal S1024x512 .f32 :=
  concatenate S1024x512 1 [⟨S1024x128, v⟩, ⟨S1024x128, v⟩, ⟨S1024x128, v⟩, ⟨S1024x128, v⟩] concatenates_S1024x128_S1024x128_S1024x128_S1024x128_S1024x512_d1

/-- The first head kind's scores of a far tile: no bias. -/
def sFar (X0 : Vec Ideal S1x256x1024 .bf16) (X1 : Vec Ideal S1x512x1024 .bf16) : FVec Ideal S2048x512 .f32 :=
  stack4 (pairDot (qCut X0 0 (by decide)) (qCut X0 128 (by decide)) (kCut X1 0 (by decide))) (pairDot (qCut X0 256 (by decide)) (qCut X0 384 (by decide)) (kCut X1 128 (by decide))) (pairDot (qCut X0 512 (by decide)) (qCut X0 640 (by decide)) (kCut X1 256 (by decide))) (pairDot (qCut X0 768 (by decide)) (qCut X0 896 (by decide)) (kCut X1 384 (by decide)))
/-- Of a near tile: the bias with the causal mask in it is added. -/
def sNear (X0 : Vec Ideal S1x256x1024 .bf16) (X1 : Vec Ideal S1x512x1024 .bf16) (X4 : Vec Ideal S1x5x256x512 .f32) : FVec Ideal S2048x512 .f32 :=
  stack4 (addf (pairDot (qCut X0 0 (by decide)) (qCut X0 128 (by decide)) (kCut X1 0 (by decide))) (pairBias (bCut X4 0 (by decide)))) (addf (pairDot (qCut X0 256 (by decide)) (qCut X0 384 (by decide)) (kCut X1 128 (by decide))) (pairBias (bCut X4 1 (by decide)))) (addf (pairDot (qCut X0 512 (by decide)) (qCut X0 640 (by decide)) (kCut X1 256 (by decide))) (pairBias (bCut X4 2 (by decide)))) (addf (pairDot (qCut X0 768 (by decide)) (qCut X0 896 (by decide)) (kCut X1 384 (by decide))) (pairBias (bCut X4 3 (by decide))))
/-- The second head kind's key block, and its leading columns, the values. -/
abbrev kmAll (X : Vec Ideal S1x512x384 .bf16) : FVec Ideal S512x384 .bf16 :=
  shapeCast S512x384 (View.ld X (Rect.unit ![0, 0, 0] S1x512x384.size (by decide))) shapeCasts_S1x512x384_S512x384
abbrev vmAll (X : Vec Ideal S1x512x384 .bf16) : FVec Ideal S512x256 .bf16 :=
  shapeCast S512x256 (View.ld X (Rect.unit ![0, 0, 0] S1x512x256.size (by decide))) shapeCasts_S1x512x256_S512x256
/-- The second head kind's scores of a far tile. -/
def tFar (X2 : Vec Ideal S1x256x1536 .bf16) (X3 : Vec Ideal S1x512x384 .bf16) : FVec Ideal S1024x512 .f32 :=
  matmul dot_S1024x384_S512x384_S1024x512_1_1_0_0_n_n none
    (concatenate S1024x384 0 [⟨S256x384, mCut X2 0 (by decide)⟩, ⟨S256x384, mCut X2 384 (by decide)⟩, ⟨S256x384, mCut X2 768 (by decide)⟩, ⟨S256x384, mCut X2 1152 (by decide)⟩] concatenates_S256x384_S256x384_S256x384_S256x384_S1024x384_d0)
    (kmAll X3) (constant S1024x512 .f32 0x00000000#32)
/-- Of a near tile. -/
def tNear (X2 : Vec Ideal S1x256x1536 .bf16) (X3 : Vec Ideal S1x512x384 .bf16) (X4 : Vec Ideal S1x5x256x512 .f32) : FVec Ideal S1024x512 .f32 :=
  addf (tFar X2 X3) (concatenate S1024x512 0 [⟨S256x512, bCut X4 4 (by decide)⟩, ⟨S256x512, bCut X4 4 (by decide)⟩, ⟨S256x512, bCut X4 4 (by decide)⟩, ⟨S256x512, bCut X4 4 (by decide)⟩] concatenates_S256x512_S256x512_S256x512_S256x512_S1024x512_d0)

/-- The running maximum after a near tile, and the tile's weights against it. -/
def mNear (M : FVec Ideal S2048x128 .f32) (s : FVec Ideal S2048x512 .f32) : FVec Ideal S2048x128 .f32 := maximumf M (topD s)
def pNear (M : FVec Ideal S2048x128 .f32) (s : FVec Ideal S2048x512 .f32) : FVec Ideal S2048x512 .f32 := exp (subf s (wideD (mNear M s)))
/-- The far tiles' bias, one number per row. -/
def cFar (X5 : Vec Ideal S2048x128 .f32) : FVec Ideal S2048x128 .f32 := shapeCast S2048x128 (View.ld X5 (Rect.unit ![0, 0] S2048x128.size (by decide))) shapeCasts_S2048x128_S2048x128
/-- After a far tile, whose bias is one number per row. -/
def mFar (M C : FVec Ideal S2048x128 .f32) (s : FVec Ideal S2048x512 .f32) : FVec Ideal S2048x128 .f32 := maximumf M (addf (topD s) C)
def pFar (M C : FVec Ideal S2048x128 .f32) (s : FVec Ideal S2048x512 .f32) : FVec Ideal S2048x512 .f32 := exp (subf s (wideD (subf (mFar M C s) C)))
def nM (M : FVec Ideal S1024x128 .f32) (s : FVec Ideal S1024x512 .f32) : FVec Ideal S1024x128 .f32 := maximumf M (topM s)
def pM (M : FVec Ideal S1024x128 .f32) (s : FVec Ideal S1024x512 .f32) : FVec Ideal S1024x512 .f32 := exp (subf s (wideM (nM M s)))

/-- The running sum and the running weighted sum, moved from maximum `M` to `N` and the tile's terms added. -/
def upL (M N L : FVec Ideal S2048x128 .f32) (p : FVec Ideal S2048x512 .f32) : FVec Ideal S2048x128 .f32 := shapeCast S2048x128 (addf (mulf (exp (subf M N)) L) (sumD p)) shapeCasts_S2048x128_S2048x128
/-- The weights of head `o / 512` against its values. -/
abbrev pv (p : FVec Ideal S2048x512 .f32) (o : ℕ) (ho : Shape.Slices S2048x512 ![o, 0] S512x512) (k : FVec Ideal S512x128 .bf16) : FVec Ideal S512x128 .f32 :=
  matmul dot_S512x512_S512x128_S512x128_1_0_0_1_n_n none (extractStridedSlice S512x512 ![o, 0] (truncf .bf16 p bitsLt_bf16_f32) ho) k (constant S512x128 .f32 0x00000000#32)
def upA (M N A : FVec Ideal S2048x128 .f32) (p : FVec Ideal S2048x512 .f32) (X1 : Vec Ideal S1x512x1024 .bf16) : FVec Ideal S2048x128 .f32 :=
  shapeCast S2048x128 (addf (mulf (exp (subf M N)) A) (concatenate S2048x128 0 [⟨S512x128, pv p 0 slices_S2048x512_o0_0_S512x512 (kCut X1 512 (by decide))⟩, ⟨S512x128, pv p 512 slices_S2048x512_o512_0_S512x512 (kCut X1 640 (by decide))⟩, ⟨S512x128, pv p 1024 slices_S2048x512_o1024_0_S512x512 (kCut X1 768 (by decide))⟩, ⟨S512x128, pv p 1536 slices_S2048x512_o1536_0_S512x512 (kCut X1 896 (by decide))⟩] concatenates_S512x128_S512x128_S512x128_S512x128_S2048x128_d0)) shapeCasts_S2048x128_S2048x128
def upLM (M N L : FVec Ideal S1024x128 .f32) (p : FVec Ideal S1024x512 .f32) : FVec Ideal S1024x128 .f32 := shapeCast S1024x128 (addf (mulf (exp (subf M N)) L) (sumM p)) shapeCasts_S1024x128_S1024x128
def upAM (M N : FVec Ideal S1024x128 .f32) (A : FVec Ideal S1024x256 .f32) (p : FVec Ideal S1024x512 .f32) (X3 : Vec Ideal S1x512x384 .bf16) : FVec Ideal S1024x256 .f32 :=
  shapeCast S1024x256 (addf (mulf (concatenate S1024x256 1 [⟨S1024x128, exp (subf M N)⟩, ⟨S1024x128, exp (subf M N)⟩] concatenates_S1024x128_S1024x128_S1024x256_d1) A)
    (matmul dot_S1024x512_S512x256_S1024x256_1_0_0_1_n_n none (truncf .bf16 p bitsLt_bf16_f32)
      (vmAll X3) (constant S1024x256 .f32 0x00000000#32))) shapeCasts_S1024x256_S1024x256
/-- What is stored of a maximum. -/
def keepD (N : FVec Ideal S2048x128 .f32) : FVec Ideal S2048x128 .f32 := shapeCast S2048x128 N shapeCasts_S2048x128_S2048x128
def keepM (N : FVec Ideal S1024x128 .f32) : FVec Ideal S1024x128 .f32 := shapeCast S1024x128 N shapeCasts_S1024x128_S1024x128

end Cert.KernelIdeal.Attn
-- ==== Proof.Value.Rows.lean ====
module

public import proofs.«01_k».proof.Proof.Value.Flow
public import Idealize.ShloMosaic.Lib.Pipeline.ValueKit
public import Idealize.ShloMosaic.Lib.Pointwise
public import Idealize.ShloMosaic.Lib.Tactic.CleanTypes
public import proofs.«01_k».proof.Proof.Value.Online

/-! The body's steps read at one row: the scores, the weights, the running sums. -/

@[expose] public section

set_option maxRecDepth 16384
set_option Elab.async false

noncomputable section

namespace Cert.KernelIdeal.Attn

open Cert.Online
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Row of the first head kind's scratch: head `h`, half `c`, query `r` of the tile. -/
def rowD (h : Fin 4) (c : Fin 2) (r : Fin 256) : Fin 2048 := ⟨512 * h.val + 256 * c.val + r.val, by omega⟩
/-- Row of the second's. -/
def rowM (h : Fin 4) (r : Fin 256) : Fin 1024 := ⟨256 * h.val + r.val, by omega⟩
/-- Row of one head's pair of halves. -/
abbrev rowP (u : Fin 2) (r : Fin 256) : Fin 512 := ⟨256 * u.val + r.val, by omega⟩

section read
variable (h : Fin 4) (u : Fin 2) (r : Fin 256)

theorem stack4_at (a b c d : FVec Ideal S512x512 .f32) (j : Fin 512) :
    stack4 a b c d (ix2 (rowD h u r) j) = (![a, b, c, d] h) (ix2 (rowP u r) j) := by
  fin_cases h <;> unfold rowD <;> pointwise
  · rw [dif_pos (by omega)]
  · rw [dif_neg (by omega), dif_pos (by omega)]; exact congrArg b (congrArg (fun z => ix2 z j) (Fin.ext (by dsimp only; omega)))
  · rw [dif_neg (by omega), dif_neg (by omega), dif_pos (by omega)]; exact congrArg c (congrArg (fun z => ix2 z j) (Fin.ext (by dsimp only; omega)))
  · rw [dif_neg (by omega), dif_neg (by omega), dif_neg (by omega)]; exact congrArg d (congrArg (fun z => ix2 z j) (Fin.ext (by dsimp only; omega)))
theorem stackA_at (a b c d : FVec Ideal S512x128 .f32) (e : Fin 128) :
    concatenate S2048x128 0 [⟨S512x128, a⟩, ⟨S512x128, b⟩, ⟨S512x128, c⟩, ⟨S512x128, d⟩] concatenates_S512x128_S512x128_S512x128_S512x128_S2048x128_d0 (ix2 (rowD h u r) e)
      = (![a, b, c, d] h) (ix2 (rowP u r) e) := by
  fin_cases h <;> unfold rowD <;> pointwise
  · rw [dif_pos (by omega)]
  · rw [dif_neg (by omega), dif_pos (by omega)]; exact congrArg b (congrArg (fun z => ix2 z e) (Fin.ext (by dsimp only; omega)))
  · rw [dif_neg (by omega), dif_neg (by omega), dif_pos (by omega)]; exact congrArg c (congrArg (fun z => ix2 z e) (Fin.ext (by dsimp only; omega)))
  · rw [dif_neg (by omega), dif_neg (by omega), dif_neg (by omega)]; exact congrArg d (congrArg (fun z => ix2 z e) (Fin.ext (by dsimp only; omega)))
theorem stackM_at (a b c d : FVec Ideal S256x384 .bf16) (x : Fin 384) :
    concatenate S1024x384 0 [⟨S256x384, a⟩, ⟨S256x384, b⟩, ⟨S256x384, c⟩, ⟨S256x384, d⟩] concatenates_S256x384_S256x384_S256x384_S256x384_S1024x384_d0 (ix2 (rowM h r) x)
      = (![a, b, c, d] h) (ix2 r x) := by
  fin_cases h <;> unfold rowM <;> pointwise
  all_goals (split_ifs <;> first | (exfalso; omega) | exact congrArg a (congrArg (fun z => ix2 z x) (Fin.ext (by dsimp only; omega))) | exact congrArg b (congrArg (fun z => ix2 z x) (Fin.ext (by dsimp only; omega))) | exact congrArg c (congrArg (fun z => ix2 z x) (Fin.ext (by dsimp only; omega))) | exact congrArg d (congrArg (fun z => ix2 z x) (Fin.ext (by dsimp only; omega))))
theorem biasM_at (b : FVec Ideal S256x512 .f32) (j : Fin 512) :
    concatenate S1024x512 0 [⟨S256x512, b⟩, ⟨S256x512, b⟩, ⟨S256x512, b⟩, ⟨S256x512, b⟩] concatenates_S256x512_S256x512_S256x512_S256x512_S1024x512_d0 (ix2 (rowM h r) j) = b (ix2 r j) := by
  fin_cases h <;> unfold rowM <;> pointwise
  all_goals (split_ifs <;> first | (exfalso; omega) | exact congrArg b (congrArg (fun z => ix2 z j) (Fin.ext (by dsimp only; omega))))
theorem pairDot_at (a b : FVec Ideal S256x128 .bf16) (k : FVec Ideal S512x128 .bf16) (j : Fin 512) :
    pairDot a b k (ix2 (rowP u r) j) = ∑ x : Fin 128, (![a, b] u) (ix2 r x) * k (ix2 j x) := by
  fin_cases u <;> pointwise
theorem pairBias_at (b : FVec Ideal S256x512 .f32) (j : Fin 512) : pairBias b (ix2 (rowP u r) j) = b (ix2 r j) := by
  fin_cases u <;> pointwise
theorem castQ_at (Y : Vec Ideal S1x256x128 .bf16) (x : Fin 128) : (shapeCast S256x128 Y shapeCasts_S1x256x128_S256x128 : FVec Ideal S256x128 .bf16) (ix2 r x) = Y (ix3 0 r x) := by
  pointwise
theorem castK_at (Y : Vec Ideal S1x512x128 .bf16) (j : Fin 512) (x : Fin 128) : (shapeCast S512x128 Y shapeCasts_S1x512x128_S512x128 : FVec Ideal S512x128 .bf16) (ix2 j x) = Y (ix3 0 j x) := by
  pointwise
theorem castB_at (Y : Vec Ideal S1x1x256x512 .f32) (j : Fin 512) : (shapeCast S256x512 Y shapeCasts_S1x1x256x512_S256x512 : FVec Ideal S256x512 .f32) (ix2 r j) = Y (ix4 0 0 r j) := by
  pointwise
theorem castM_at (Y : Vec Ideal S1x256x384 .bf16) (x : Fin 384) : (shapeCast S256x384 Y shapeCasts_S1x256x384_S256x384 : FVec Ideal S256x384 .bf16) (ix2 r x) = Y (ix3 0 r x) := by
  pointwise
theorem castKM_at (Y : Vec Ideal S1x512x384 .bf16) (j : Fin 512) (x : Fin 384) : (shapeCast S512x384 Y shapeCasts_S1x512x384_S512x384 : FVec Ideal S512x384 .bf16) (ix2 j x) = Y (ix3 0 j x) := by
  pointwise
theorem castVM_at (Y : Vec Ideal S1x512x256 .bf16) (j : Fin 512) (x : Fin 256) : (shapeCast S512x256 Y shapeCasts_S1x512x256_S512x256 : FVec Ideal S512x256 .bf16) (ix2 j x) = Y (ix3 0 j x) := by
  pointwise
theorem qCut_at (X : Vec Ideal S1x256x1024 .bf16) (o : ℕ) (ho) (x : Fin 128) (hx : o + x.val < 1024) :
    qCut X o ho (ix2 r x) = X (ix3 0 r ⟨o + x.val, hx⟩) := by
  rw [qCut, castQ_at]
  exact congrArg X (funext fun a => Fin.ext (by fin_cases a <;> simp [ix3]))
theorem kCut_at (X : Vec Ideal S1x512x1024 .bf16) (o : ℕ) (ho) (j : Fin 512) (x : Fin 128) (hx : o + x.val < 1024) :
    kCut X o ho (ix2 j x) = X (ix3 0 j ⟨o + x.val, hx⟩) := by
  rw [kCut, castK_at]
  exact congrArg X (funext fun a => Fin.ext (by fin_cases a <;> simp [ix3]))
theorem bCut_at (X : Vec Ideal S1x5x256x512 .f32) (o : ℕ) (ho) (j : Fin 512) (hx : o < 5) :
    bCut X o ho (ix2 r j) = X (ix4 0 ⟨o, hx⟩ r j) := by
  rw [bCut, castB_at]
  exact congrArg X (funext fun a => Fin.ext (by fin_cases a <;> simp [ix4]))
theorem mCut_at (X : Vec Ideal S1x256x1536 .bf16) (o : ℕ) (ho) (x : Fin 384) (hx : o + x.val < 1536) :
    mCut X o ho (ix2 r x) = X (ix3 0 r ⟨o + x.val, hx⟩) := by
  rw [mCut, castM_at]
  exact congrArg X (funext fun a => Fin.ext (by fin_cases a <;> simp [ix3]))
theorem kmAll_at (X : Vec Ideal S1x512x384 .bf16) (j : Fin 512) (x : Fin 384) : kmAll X (ix2 j x) = X (ix3 0 j x) := by
  rw [kmAll, castKM_at]
  exact congrArg X (funext fun a => Fin.ext (by fin_cases a <;> simp [ix3]))
theorem vmAll_at (X : Vec Ideal S1x512x384 .bf16) (j : Fin 512) (x : Fin 256) : vmAll X (ix2 j x) = X (ix3 0 j ⟨x.val, by omega⟩) := by
  rw [vmAll, castVM_at]
  exact congrArg X (funext fun a => Fin.ext (by fin_cases a <;> simp [ix3]))
theorem sumD_at (s : FVec Ideal S2048x512 .f32) (R : Fin 2048) (l : Fin 128) : sumD s (ix2 R l) = ∑ j, s (ix2 R j) := by
  pointwise
theorem sumM_at (s : FVec Ideal S1024x512 .f32) (R : Fin 1024) (l : Fin 128) : sumM s (ix2 R l) = ∑ j, s (ix2 R j) := by
  pointwise
theorem low_bits : Ideal.ofBits .f32 4286578688#32 = (⊥ : EReal) := by
  simp [Ideal.ofBits, Ideal.ieee]
theorem topD_at (s : FVec Ideal S2048x512 .f32) (R : Fin 2048) (l : Fin 128) : topD s (ix2 R l) = Finset.univ.fold max ⊥ fun j => s (ix2 R j) := by
  pointwise; rw [low_bits]
theorem topM_at (s : FVec Ideal S1024x512 .f32) (R : Fin 1024) (l : Fin 128) : topM s (ix2 R l) = Finset.univ.fold max ⊥ fun j => s (ix2 R j) := by
  pointwise; rw [low_bits]
theorem wideD_at (v : FVec Ideal S2048x128 .f32) (R : Fin 2048) (j : Fin 512) {y : EReal} (hv : ∀ l, v (ix2 R l) = y) : wideD v (ix2 R j) = y := by
  pointwise; split_ifs <;> exact hv _
theorem wideM_at (v : FVec Ideal S1024x128 .f32) (R : Fin 1024) (j : Fin 512) {y : EReal} (hv : ∀ l, v (ix2 R l) = y) : wideM v (ix2 R j) = y := by
  pointwise; split_ifs <;> exact hv _
theorem pv_at (p : FVec Ideal S2048x512 .f32) (o : ℕ) (ho) (k) (z : Fin 512) (e : Fin 128) (hz : o + z.val < 2048) : pv p o ho k (ix2 z e) = ∑ j : Fin 512, p (ix2 ⟨o + z.val, hz⟩ j) * k (ix2 j e) := by
  pointwise

theorem sFar_at (X0 : Vec Ideal S1x256x1024 .bf16) (X1 : Vec Ideal S1x512x1024 .bf16) (j : Fin 512) :
    sFar X0 X1 (ix2 (rowD h u r) j) = ∑ x : Fin 128, X0 (ix3 0 r ⟨256 * h.val + 128 * u.val + x.val, by omega⟩) * X1 (ix3 0 j ⟨128 * h.val + x.val, by omega⟩) := by
  unfold sFar
  rw [stack4_at]
  fin_cases h
  · refine (pairDot_at u r _ _ _ j).trans (Finset.sum_congr rfl fun x _ => ?_)
    fin_cases u
    · exact congrArg₂ _ (qCut_at r X0 0 (by decide) x (by omega)) (kCut_at X1 0 (by decide) j x (by omega))
    · exact congrArg₂ _ (qCut_at r X0 128 (by decide) x (by omega)) (kCut_at X1 0 (by decide) j x (by omega))
  · refine (pairDot_at u r _ _ _ j).trans (Finset.sum_congr rfl fun x _ => ?_)
    fin_cases u
    · exact congrArg₂ _ (qCut_at r X0 256 (by decide) x (by omega)) (kCut_at X1 128 (by decide) j x (by omega))
    · exact congrArg₂ _ (qCut_at r X0 384 (by decide) x (by omega)) (kCut_at X1 128 (by decide) j x (by omega))
  · refine (pairDot_at u r _ _ _ j).trans (Finset.sum_congr rfl fun x _ => ?_)
    fin_cases u
    · exact congrArg₂ _ (qCut_at r X0 512 (by decide) x (by omega)) (kCut_at X1 256 (by decide) j x (by omega))
    · exact congrArg₂ _ (qCut_at r X0 640 (by decide) x (by omega)) (kCut_at X1 256 (by decide) j x (by omega))
  · refine (pairDot_at u r _ _ _ j).trans (Finset.sum_congr rfl fun x _ => ?_)
    fin_cases u
    · exact congrArg₂ _ (qCut_at r X0 768 (by decide) x (by omega)) (kCut_at X1 384 (by decide) j x (by omega))
    · exact congrArg₂ _ (qCut_at r X0 896 (by decide) x (by omega)) (kCut_at X1 384 (by decide) j x (by omega))
theorem sNear_at (X0 : Vec Ideal S1x256x1024 .bf16) (X1 : Vec Ideal S1x512x1024 .bf16) (X4 : Vec Ideal S1x5x256x512 .f32) (j : Fin 512) :
    sNear X0 X1 X4 (ix2 (rowD h u r) j) = (∑ x : Fin 128, X0 (ix3 0 r ⟨256 * h.val + 128 * u.val + x.val, by omega⟩) * X1 (ix3 0 j ⟨128 * h.val + x.val, by omega⟩)) + X4 (ix4 0 ⟨h.val, by omega⟩ r j) := by
  unfold sNear
  rw [stack4_at]
  fin_cases h
  · refine congrArg₂ (fun y z : EReal => y + z) ((pairDot_at u r _ _ _ j).trans (Finset.sum_congr rfl fun x _ => ?_)) ((pairBias_at u r _ j).trans (bCut_at r X4 0 (by decide) j (by omega)))
    fin_cases u
    · exact congrArg₂ _ (qCut_at r X0 0 (by decide) x (by omega)) (kCut_at X1 0 (by decide) j x (by omega))
    · exact congrArg₂ _ (qCut_at r X0 128 (by decide) x (by omega)) (kCut_at X1 0 (by decide) j x (by omega))
  · refine congrArg₂ (fun y z : EReal => y + z) ((pairDot_at u r _ _ _ j).trans (Finset.sum_congr rfl fun x _ => ?_)) ((pairBias_at u r _ j).trans (bCut_at r X4 1 (by decide) j (by omega)))
    fin_cases u
    · exact congrArg₂ _ (qCut_at r X0 256 (by decide) x (by omega)) (kCut_at X1 128 (by decide) j x (by omega))
    · exact congrArg₂ _ (qCut_at r X0 384 (by decide) x (by omega)) (kCut_at X1 128 (by decide) j x (by omega))
  · refine congrArg₂ (fun y z : EReal => y + z) ((pairDot_at u r _ _ _ j).trans (Finset.sum_congr rfl fun x _ => ?_)) ((pairBias_at u r _ j).trans (bCut_at r X4 2 (by decide) j (by omega)))
    fin_cases u
    · exact congrArg₂ _ (qCut_at r X0 512 (by decide) x (by omega)) (kCut_at X1 256 (by decide) j x (by omega))
    · exact congrArg₂ _ (qCut_at r X0 640 (by decide) x (by omega)) (kCut_at X1 256 (by decide) j x (by omega))
  · refine congrArg₂ (fun y z : EReal => y + z) ((pairDot_at u r _ _ _ j).trans (Finset.sum_congr rfl fun x _ => ?_)) ((pairBias_at u r _ j).trans (bCut_at r X4 3 (by decide) j (by omega)))
    fin_cases u
    · exact congrArg₂ _ (qCut_at r X0 768 (by decide) x (by omega)) (kCut_at X1 384 (by decide) j x (by omega))
    · exact congrArg₂ _ (qCut_at r X0 896 (by decide) x (by omega)) (kCut_at X1 384 (by decide) j x (by omega))
theorem tFar_at (X2 : Vec Ideal S1x256x1536 .bf16) (X3 : Vec Ideal S1x512x384 .bf16) (j : Fin 512) :
    tFar X2 X3 (ix2 (rowM h r) j) = ∑ x : Fin 384, X2 (ix3 0 r ⟨384 * h.val + x.val, by omega⟩) * X3 (ix3 0 j x) := by
  have e : ∀ (a : FVec Ideal S1024x384 .bf16) (b : FVec Ideal S512x384 .bf16) (R : Fin 1024),
      matmul dot_S1024x384_S512x384_S1024x512_1_1_0_0_n_n none a b (constant S1024x512 .f32 0x00000000#32) (ix2 R j) = ∑ x : Fin 384, a (ix2 R x) * b (ix2 j x) := by
    intro a b R; pointwise
  unfold tFar
  rw [e]
  refine Finset.sum_congr rfl fun x _ => ?_
  rw [stackM_at, kmAll_at]
  fin_cases h
  · exact congrArg₂ _ (mCut_at r X2 0 (by decide) x (by omega)) rfl
  · exact congrArg₂ _ (mCut_at r X2 384 (by decide) x (by omega)) rfl
  · exact congrArg₂ _ (mCut_at r X2 768 (by decide) x (by omega)) rfl
  · exact congrArg₂ _ (mCut_at r X2 1152 (by decide) x (by omega)) rfl
theorem tNear_at (X2 : Vec Ideal S1x256x1536 .bf16) (X3 : Vec Ideal S1x512x384 .bf16) (X4 : Vec Ideal S1x5x256x512 .f32) (j : Fin 512) :
    tNear X2 X3 X4 (ix2 (rowM h r) j) = (∑ x : Fin 384, X2 (ix3 0 r ⟨384 * h.val + x.val, by omega⟩) * X3 (ix3 0 j x)) + X4 (ix4 0 4 r j) := by
  unfold tNear
  exact congrArg₂ (fun y z : EReal => y + z) (tFar_at h r X2 X3 j) ((biasM_at h r _ j).trans (bCut_at r X4 4 (by decide) j (by omega)))
end read
end Cert.KernelIdeal.Attn
-- ==== Proof.Value.HostAt.lean ====
module

public import proofs.«01_k».proof.Proof.Value.HostRaw
public import proofs.«01_k».proof.Proof.Value.HostBias
public import proofs.«01_k».proof.Proof.Value.Spec
public import proofs.«01_k».proof.Proof.Value.Rows
public import Idealize.ShloMosaic.Lib.Pipeline.ValueKit
public import Idealize.ShloMosaic.Lib.Pointwise
public import Idealize.ShloMosaic.Lib.Tactic.CleanTypes

/-! The windows' arrays as numbers, and the scores they give. -/

@[expose] public section

set_option maxRecDepth 16384
set_option Elab.async false

noncomputable section

namespace Cert.KernelIdeal.Attn

open Cert.Online Cert.Spec
open Cert.KernelIdeal Cert.KernelIdeal.Gen
open Idealize.ShloMosaic
open Idealize.ShloMosaic.TcCoe Idealize.ShloMosaic.Tactic
open Idealize.ShloMosaic.Pipeline (Dat Cfg Window)

variable (m : (ℓ : Loc nD τ sig) → Buf (Elt Ideal) ℓ) (c : Dev nD)

/-- The arguments hold the arrays. -/
abbrev HoldsK (A : Arr) : Prop := Holds A (fun b r h x => m (c, Proc.tc.devRef main_arg0) (ix4 b r h x)) (fun b r h x => m (c, Proc.tc.devRef main_arg1) (ix4 b r h x))
  (fun b r h x => m (c, Proc.tc.devRef main_arg2) (ix4 b r h x)) (fun b r h x => m (c, Proc.tc.devRef main_arg3) (ix4 b r h x)) (fun b r h x => m (c, Proc.tc.devRef main_arg4) (ix4 b r h x))
  (fun b r x => m (c, Proc.tc.devRef main_arg5) (ix3 b r x)) (fun b r x => m (c, Proc.tc.devRef main_arg6) (ix3 b r x)) (fun n h => m (c, Proc.tc.devRef main_arg7) (ix2 n h))
  (fun i x => m (c, Proc.tc.devRef main_arg8) (ix3 0 i x)) (fun x => m (c, Proc.tc.devRef main_arg9) (ix2 0 x)) (fun a h e => m (c, Proc.tc.devRef main_arg10) (ix4 0 a h e))

variable {m c} {A : Arr} (H : HoldsK m c A)
include H

theorem v11_num (b : Fin 2) (r : Fin 8192) (h : Fin 4) (u : Fin 2) (x : Fin 128) :
    V m c main_v11 (ix3 b r ⟨256 * h.val + 128 * u.val + x.val, by omega⟩) = ((if x.val / 64 = u.val then A.q b r h x * (1 / 8) else 0 : ℝ) : EReal) := by
  have e1 : (256 * h.val + 128 * u.val + x.val) / 128 % 2 = u.val := by omega
  have e2 : (256 * h.val + 128 * u.val + x.val) % 128 = x.val := by omega
  have e3 : (256 * h.val + 128 * u.val + x.val) / 256 = h.val := by omega
  have ec : IntOp.cmpi .slt (BitVec.ofNat 32 x.val) 64#32 = if x.val < 64 then 1#1 else 0#1 := by
    rw [WordCmp.cmpi_slt_eq, WordCmp.toInt_ofNat_of_lt (by omega)]
    by_cases hx : x.val < 64
    · rw [if_pos hx, decide_eq_true (by show (x.val : ℤ) < 64; omega)]; rfl
    · rw [if_neg hx, decide_eq_false (by show ¬ (x.val : ℤ) < 64; omega)]; rfl
  have eq : m (c, Proc.tc.devRef main_arg0) (ix4 b r h x) = ((A.q b r h x : ℝ) : EReal) := H.q b r h x
  rw [v11_at]
  simp only [e1, e2, e3, ec, Fin.eta, eq, c8]
  rw [← EReal.coe_mul]
  have hu : u.val = 0 ∨ u.val = 1 := by omega
  by_cases hx : x.val < 64
  · have hd : x.val / 64 = 0 := by omega
    rw [if_pos hx, hd]
    rcases hu with hu | hu
    · rw [dif_pos (by omega), if_pos hu.symm]; rfl
    · rw [dif_neg (by omega), if_neg (by omega)]; rfl
  · have hd : x.val / 64 = 1 := by omega
    rw [if_neg hx, hd]
    rcases hu with hu | hu
    · rw [dif_pos (by omega), if_neg (by omega)]; rfl
    · rw [dif_neg (by omega), if_pos hu.symm]; rfl
theorem v15_key (b : Fin 2) (r : Fin 8192) (h : Fin 4) (x : Fin 128) : V m c main_v15 (ix3 b r ⟨128 * h.val + x.val, by omega⟩) = ((A.k b r h x : ℝ) : EReal) := by
  have e2 : (128 * h.val + x.val) % 128 = x.val := by omega
  have e3 : (128 * h.val + x.val) / 128 = h.val := by omega
  rw [v15_at, dif_pos (by show 128 * h.val + x.val < 512; omega)]
  simp only [e2, e3, Fin.eta]
  exact H.k b r h x
theorem v15_val (b : Fin 2) (r : Fin 8192) (h : Fin 4) (x : Fin 128) : V m c main_v15 (ix3 b r ⟨512 + 128 * h.val + x.val, by omega⟩) = ((A.v b r h x : ℝ) : EReal) := by
  have e2 : (512 + 128 * h.val + x.val - 512) % 128 = x.val := by omega
  have e3 : (512 + 128 * h.val + x.val - 512) / 128 = h.val := by omega
  rw [v15_at, dif_neg (by show ¬ 512 + 128 * h.val + x.val < 512; omega)]
  simp only [e2, e3, Fin.eta]
  exact H.v b r h x
theorem v24_lat (b : Fin 2) (r : Fin 8192) (h : Fin 4) (x : Fin 256) : V m c main_v24 (ix3 b r ⟨384 * h.val + x.val, by omega⟩) = ((A.ql b r h x * (9686330 / 134217728) : ℝ) : EReal) := by
  have e2 : (384 * h.val + x.val) % 384 = x.val := by omega
  have e3 : (384 * h.val + x.val) / 384 = h.val := by omega
  rw [v24_at, dif_pos (by show (384 * h.val + x.val) % 384 < 256; omega)]
  simp only [e2, e3, Fin.eta]
  rw [show m (c, Proc.tc.devRef main_arg3) (ix4 b r h x) = ((A.ql b r h x : ℝ) : EReal) from H.ql b r h x, cM, EReal.coe_mul]
theorem v24_rope (b : Fin 2) (r : Fin 8192) (h : Fin 4) (x : Fin 64) : V m c main_v24 (ix3 b r ⟨384 * h.val + (256 + x.val), by omega⟩) = ((A.qr b r h x * (9686330 / 134217728) : ℝ) : EReal) := by
  have e2 : (384 * h.val + (256 + x.val)) % 384 - 256 = x.val := by omega
  have e3 : (384 * h.val + (256 + x.val)) / 384 = h.val := by omega
  rw [v24_at, dif_neg (by show ¬ (384 * h.val + (256 + x.val)) % 384 < 256; omega), dif_pos (by show (384 * h.val + (256 + x.val)) % 384 - 256 < 64; omega)]
  simp only [e2, e3, Fin.eta]
  rw [show m (c, Proc.tc.devRef main_arg4) (ix4 b r h x) = ((A.qr b r h x : ℝ) : EReal) from H.qr b r h x, cM, EReal.coe_mul]
omit H in
theorem v24_pad (b : Fin 2) (r : Fin 8192) (h : Fin 4) (x : Fin 64) : V m c main_v24 (ix3 b r ⟨384 * h.val + (320 + x.val), by omega⟩) = (0 : EReal) := by
  rw [v24_at, dif_neg (by show ¬ (384 * h.val + (320 + x.val)) % 384 < 256; omega), dif_neg (by show ¬ (384 * h.val + (320 + x.val)) % 384 - 256 < 64; omega)]
theorem v28_lat (b : Fin 2) (r : Fin 8192) (x : Fin 256) : V m c main_v28 (ix3 b r ⟨x.val, by omega⟩) = ((A.ck b r x : ℝ) : EReal) := by
  rw [v28_at, dif_pos (by show x.val < 256; omega)]
  exact H.ck b r x
theorem v28_rope (b : Fin 2) (r : Fin 8192) (x : Fin 64) : V m c main_v28 (ix3 b r ⟨256 + x.val, by omega⟩) = ((A.kr b r x : ℝ) : EReal) := by
  have e2 : 256 + x.val - 256 = x.val := by omega
  rw [v28_at, dif_neg (by show ¬ 256 + x.val < 256; omega), dif_pos (by show 256 + x.val - 256 < 64; omega)]
  simp only [e2, Fin.eta]
  exact H.kr b r x

theorem dotD_num (b : Fin 2) (q k : Fin 8192) (h : Fin 4) (u : Fin 2) :
    ∑ x : Fin 128, @HMul.hMul EReal EReal EReal instHMul (V m c main_v11 (ix3 b q ⟨256 * h.val + 128 * u.val + x.val, by omega⟩)) (V m c main_v15 (ix3 b k ⟨128 * h.val + x.val, by omega⟩)) = ((dotD A b h u q k.val : ℝ) : EReal) := by
  have e : ∀ x : Fin 128, @HMul.hMul EReal EReal EReal instHMul (V m c main_v11 (ix3 b q ⟨256 * h.val + 128 * u.val + x.val, by omega⟩)) (V m c main_v15 (ix3 b k ⟨128 * h.val + x.val, by omega⟩))
      = ((if x.val / 64 = u.val then A.q b q h x * A.k b k h x * (1 / 8) else 0 : ℝ) : EReal) := fun x => by
    rw [v11_num H b q h u x, v15_key H b k h x, ← EReal.coe_mul]
    split_ifs
    · congr 1; ring
    · rw [zero_mul]
  rw [Finset.sum_congr rfl fun x _ => e x, sum128, ← coe_sum, ← coe_sum, ← EReal.coe_add]
  congr 1
  unfold dotD
  rw [key_val, Finset.sum_mul]
  have hu : u.val = 0 ∨ u.val = 1 := by omega
  rcases hu with hu | hu
  · rw [Finset.sum_eq_zero (s := Finset.univ) (f := fun x : Fin 64 => if (64 + x.val) / 64 = u.val then _ else (0 : ℝ)) fun x _ => if_neg (by omega), add_zero]
    refine Finset.sum_congr rfl fun x _ => ?_
    rw [if_pos (by show x.val / 64 = u.val; omega)]
    have hi : (⟨u.val * 64 + x.val, by omega⟩ : Fin 128) = ⟨x.val, by omega⟩ := Fin.ext (by show u.val * 64 + x.val = x.val; omega)
    rw [hi]
  · rw [Finset.sum_eq_zero (s := Finset.univ) (f := fun x : Fin 64 => if x.val / 64 = u.val then _ else (0 : ℝ)) fun x _ => if_neg (by omega), zero_add]
    refine Finset.sum_congr rfl fun x _ => ?_
    rw [if_pos (by show (64 + x.val) / 64 = u.val; omega)]
    have hi : (⟨u.val * 64 + x.val, by omega⟩ : Fin 128) = ⟨64 + x.val, by omega⟩ := Fin.ext (by show u.val * 64 + x.val = 64 + x.val; omega)
    rw [hi]

theorem dotM_num (b : Fin 2) (q k : Fin 8192) (h : Fin 4) :
    ∑ x : Fin 384, @HMul.hMul EReal EReal EReal instHMul (V m c main_v24 (ix3 b q ⟨384 * h.val + x.val, by omega⟩)) (V m c main_v28 (ix3 b k x)) = ((dotM A b h q k.val : ℝ) : EReal) := by
  rw [sum384]
  have e1 : ∀ x : Fin 256, @HMul.hMul EReal EReal EReal instHMul (V m c main_v24 (ix3 b q ⟨384 * h.val + x.val, by omega⟩)) (V m c main_v28 (ix3 b k ⟨x.val, by omega⟩))
      = ((A.ck b k x * A.ql b q h x * (9686330 / 134217728) : ℝ) : EReal) := fun x => by
    rw [v24_lat H b q h x, v28_lat H b k x, ← EReal.coe_mul]; congr 1; ring
  have e2 : ∀ x : Fin 64, @HMul.hMul EReal EReal EReal instHMul (V m c main_v24 (ix3 b q ⟨384 * h.val + (256 + x.val), by omega⟩)) (V m c main_v28 (ix3 b k ⟨256 + x.val, by omega⟩))
      = ((A.kr b k x * A.qr b q h x * (9686330 / 134217728) : ℝ) : EReal) := fun x => by
    rw [v24_rope H b q h x, v28_rope H b k x, ← EReal.coe_mul]; congr 1; ring
  have e3 : ∀ x : Fin 64, @HMul.hMul EReal EReal EReal instHMul (V m c main_v24 (ix3 b q ⟨384 * h.val + (320 + x.val), by omega⟩)) (V m c main_v28 (ix3 b k ⟨320 + x.val, by omega⟩)) = 0 := fun x => by
    rw [v24_pad b q h x, zero_mul]
  rw [Finset.sum_congr rfl fun x _ => e1 x, Finset.sum_congr rfl fun x _ => e2 x, Finset.sum_congr rfl fun x _ => e3 x, Finset.sum_const_zero, add_zero, ← coe_sum, ← coe_sum, ← EReal.coe_add]
  congr 1
  unfold dotM
  rw [key_val, add_mul, Finset.sum_mul, Finset.sum_mul]

omit H in
theorem rel_word (o r j : ℕ) : IntOp.subi (IntOp.addi (BitVec.ofNat 32 o) (BitVec.ofNat 32 r)) (BitVec.ofNat 32 j) = IntOp.subi (BitVec.ofNat 32 (o + r)) (BitVec.ofNat 32 j) := by
  rw [add_word]

/-- One near tile's bias, at an offset. -/
theorem bias_num (o : ℕ) (ho : o < 8192 - 256) (h : Fin 4) (r : Fin 256) (j : Fin 512) :
    (Scalar.select (IntOp.cmpi .sge (IntOp.subi (IntOp.addi (BitVec.ofNat 32 o) (BitVec.ofNat 32 r.val)) (BitVec.ofNat 32 j.val)) 0#32)
      (∑ x : Fin 32, @HMul.hMul EReal EReal EReal instHMul (m (c, Proc.tc.devRef main_arg7) (ix2 x h)) (FloatOps.uitofp (F := Ideal) .f32 (IntOp.cmpi .eq (Cert.Spec.bucketW (IntOp.maxsi (IntOp.maxsi (IntOp.subi (IntOp.addi (BitVec.ofNat 32 o) (BitVec.ofNat 32 r.val)) (BitVec.ofNat 32 j.val)) 0#32) 0#32)) (BitVec.ofNat 32 x.val))))
      (Ideal.ofBits .f32 4286578688#32) : EReal)
      = if j.val ≤ o + r.val then ((A.rb (bucket (o + r.val - j.val)) h : ℝ) : EReal) else ⊥ := by
  rw [rel_word, sge_sub (by omega) (by omega), cLow]
  by_cases hj : j.val ≤ o + r.val
  · rw [if_pos hj, if_pos hj, WordCmp.select_one, sub_word (by omega) hj, max_zero_word (by omega), max_zero_word (by omega), bucketW_eq (by omega)]
    refine (onehot (fun x => m (c, Proc.tc.devRef main_arg7) (ix2 x h)) _).trans ?_
    exact H.rb _ h
  · rw [if_neg hj, if_neg hj, WordCmp.select_zero]
omit H in
theorem mask_num (o : ℕ) (ho : o < 8192 - 256) (r : Fin 256) (j : Fin 512) :
    (Scalar.select (IntOp.cmpi .sge (IntOp.subi (IntOp.addi (BitVec.ofNat 32 o) (BitVec.ofNat 32 r.val)) (BitVec.ofNat 32 j.val)) 0#32) (0 : EReal) (Ideal.ofBits .f32 4286578688#32) : EReal)
      = if j.val ≤ o + r.val then 0 else ⊥ := by
  rw [rel_word, sge_sub (by omega) (by omega), cLow]
  by_cases hj : j.val ≤ o + r.val
  · rw [if_pos hj, if_pos hj, WordCmp.select_one]
  · rw [if_neg hj, if_neg hj, WordCmp.select_zero]

theorem v171_num (k : Fin 3) (h : Fin 4) (r : Fin 256) (j : Fin 512) :
    V m c main_v171 (ix4 k ⟨h.val, by omega⟩ r j) = if j.val ≤ 256 * k.val + r.val then ((A.rb (bucket (256 * k.val + r.val - j.val)) h : ℝ) : EReal) else ⊥ := by
  rw [v171_at]
  simp only [dif_pos h.isLt, Fin.eta]
  have hk : k.val = 0 ∨ k.val = 1 ∨ k.val = 2 := by omega
  rcases hk with hk | hk | hk
  · rw [if_pos (by omega), hk]; exact bias_num H 0 (by omega) h r j
  · rw [if_neg (by omega), if_pos (by omega), hk]; exact bias_num H 256 (by omega) h r j
  · rw [if_neg (by omega), if_neg (by omega), hk]; exact bias_num H 512 (by omega) h r j
omit H in
theorem v171_mask (k : Fin 3) (r : Fin 256) (j : Fin 512) :
    V m c main_v171 (ix4 k 4 r j) = (if j.val ≤ 256 * k.val + r.val then 0 else ⊥ : EReal) := by
  rw [v171_at]
  have h4 : ¬ (4 : Fin 5).val < 4 := by decide
  simp only [dif_neg h4]
  have hk : k.val = 0 ∨ k.val = 1 ∨ k.val = 2 := by omega
  rcases hk with hk | hk | hk
  · rw [if_pos (by omega), hk]; exact mask_num 0 (by omega) r j
  · rw [if_neg (by omega), if_pos (by omega), hk]; exact mask_num 256 (by omega) r j
  · rw [if_neg (by omega), if_neg (by omega), hk]; exact mask_num 512 (by omega) r j
theorem v175_num (h : Fin 4) (u : Fin 2) (r : Fin 256) (l : Fin 128) : V m c main_v175 (ix2 (rowD h u r) l) = ((A.rb 31 h : ℝ) : EReal) := by
  rw [v175_at]
  have e : (rowD h u r).val / 512 = h.val := by show (512 * h.val + 256 * u.val + r.val) / 512 = h.val; omega
  simp only [e, Fin.eta]
  exact H.rb 31 h
end Cert.KernelIdeal.Attn
-- ==== Proof.Value.Finite.lean ====
module

public import proofs.«01_k».proof.Proof.Gen.Pre_finite
public import proofs.«01_k».proof.Proof.Value.HostAt
public import proofs.«01_k».proof.Defs
public import Idealize.ShloMosaic.Lib.ReduceAll
public import Idealize.ShloMosaic.Lib.Pointwise

/-! What the precondition says: the entries of the first nine arrays are real numbers. -/

@[expose] public section
set_option maxRecDepth 16384
set_option Elab.async false
noncomputable section
namespace Cert.Pre_finite
open Idealize.ShloMosaic Idealize.ShloMosaic.Ideal

theorem top_bits : Ideal.ofBits .f32 0x7F800000#32 = (⊤ : EReal) := by
  simp [Ideal.ofBits, Ideal.ieee]
theorem real_of_abs (x : EReal) (h : Ideal.cmp .olt (max x (-x)) ⊤ = 1#1) : ∃ r : ℝ, x = (r : EReal) := by
  have h3 : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := by rintro rfl; simp at h3
  have h2 : x ≠ ⊥ := by rintro rfl; simp at h3
  exact ⟨x.toReal, (EReal.coe_toReal h1 h2).symm⟩
/-- One array: its comparison with infinity folded over every entry. -/
theorem real_of_fold {s : Shape} {axes : List (Fin s.rank)} (X : FVec Ideal s .f32) (hb : S_.BroadcastsInDim s ![]) (hr : s.ReducesTo axes S_) (hu : 0 < S_.numel) (j : S_.Idx)
    (h : Host.reduce IntOp.andi (cmpf .olt (Host.absf X) (broadcastInDim s ![] hb (constant S_ .f32 0x7F800000#32))) (constantI S_ 1 1#1) hr hu j = 1#1) (i : s.Idx) : ∃ r : ℝ, X i = (r : EReal) := by
  haveI : Subsingleton S_.Idx := ⟨fun a b => funext fun x => x.elim0⟩
  have h1 := Host.reduce_andi_all _ _ _ _ _ h i
  have h2 : cmpf .olt (Host.absf X) (broadcastInDim s ![] hb (constant S_ .f32 0x7F800000#32)) i = FloatOps.cmpf (F := Ideal) .olt (FloatOps.hostAbsf (F := Ideal) (X i)) (Ideal.ofBits .f32 0x7F800000#32) := rfl
  rw [h2, top_bits, hostAbsf_def, absf_def, cmpf_def] at h1
  exact real_of_abs _ h1
theorem reals (x0 : FVec Ideal S2x8192x4x128 .f32) (x1 : FVec Ideal S2x8192x4x128 .f32) (x2 : FVec Ideal S2x8192x4x128 .f32) (x3 : FVec Ideal S2x8192x4x256 .f32) (x4 : FVec Ideal S2x8192x4x64 .f32) (x5 : FVec Ideal S2x8192x256 .f32) (x6 : FVec Ideal S2x8192x64 .f32) (x7 : FVec Ideal S32x4 .f32) (x8 : FVec Ideal S1x4x64 .f32) (x9 : FVec Ideal S1x128 .f32) (x10 : FVec Ideal S1x256x4x128 .f32)
    (h : fn (F := Ideal) x0 x1 x2 x3 x4 x5 x6 x7 x8 x9 x10 = fun _ => 1#1) :
    (∀ i, ∃ r : ℝ, x0 i = (r : EReal))
      ∧ (∀ i, ∃ r : ℝ, x1 i = (r : EReal))
      ∧ (∀ i, ∃ r : ℝ, x2 i = (r : EReal))
      ∧ (∀ i, ∃ r : ℝ, x3 i = (r : EReal))
      ∧ (∀ i, ∃ r : ℝ, x4 i = (r : EReal))
      ∧ (∀ i, ∃ r : ℝ, x5 i = (r : EReal))
      ∧ (∀ i, ∃ r : ℝ, x6 i = (r : EReal))
      ∧ (∀ i, ∃ r : ℝ, x7 i = (r : EReal))
      ∧ (∀ i, ∃ r : ℝ, x8 i = (r : EReal)) := by
  have h0 := congrFun h (fun a => a.elim0)
  unfold fn fn_part1 fn_part2 at h0
  dsimp only at h0
  obtain ⟨e7, r8⟩ := IntOp.andi_eq_one.1 h0
  obtain ⟨e6, r7⟩ := IntOp.andi_eq_one.1 e7
  obtain ⟨e5, r6⟩ := IntOp.andi_eq_one.1 e6
  obtain ⟨e4, r5⟩ := IntOp.andi_eq_one.1 e5
  obtain ⟨e3, r4⟩ := IntOp.andi_eq_one.1 e4
  obtain ⟨e2, r3⟩ := IntOp.andi_eq_one.1 e3
  obtain ⟨e1, r2⟩ := IntOp.andi_eq_one.1 e2
  obtain ⟨e0, r1⟩ := IntOp.andi_eq_one.1 e1
  exact ⟨real_of_fold x0 _ _ _ _ e0, real_of_fold x1 _ _ _ _ r1, real_of_fold x2 _ _ _ _ r2, real_of_fold x3 _ _ _ _ r3, real_of_fold x4 _ _ _ _ r4, real_of_fold x5 _ _ _ _ r5, real_of_fold x6 _ _ _ _ r6, real_of_fold x7 _ _ _ _ r7, real_of_fold x8 _ _ _ _ r8⟩
theorem coe_of {x : EReal} (h : ∃ r : ℝ, x = (r : EReal)) : x = ((x.toReal : ℝ) : EReal) := by
  obtain ⟨r, rfl⟩ := h
  rw [EReal.toReal_coe]
end Cert.Pre_finite

namespace Cert.KernelIdeal.Attn
open Cert.Online Cert.Spec
open Cert.KernelIdeal Cert.KernelIdeal.Gen
open Idealize.ShloMosaic

/-- The launch's arrays, as real numbers where the precondition makes them so. -/
def arrOf (m : (ℓ : Loc nD τ sig) → Buf (Elt Ideal) ℓ) (c : Dev nD) : Arr where
  q := fun b r h x => EReal.toReal (m (c, Proc.tc.devRef main_arg0) (ix4 b r h x))
  k := fun b r h x => EReal.toReal (m (c, Proc.tc.devRef main_arg1) (ix4 b r h x))
  v := fun b r h x => EReal.toReal (m (c, Proc.tc.devRef main_arg2) (ix4 b r h x))
  ql := fun b r h x => EReal.toReal (m (c, Proc.tc.devRef main_arg3) (ix4 b r h x))
  qr := fun b r h x => EReal.toReal (m (c, Proc.tc.devRef main_arg4) (ix4 b r h x))
  ck := fun b r x => EReal.toReal (m (c, Proc.tc.devRef main_arg5) (ix3 b r x))
  kr := fun b r x => EReal.toReal (m (c, Proc.tc.devRef main_arg6) (ix3 b r x))
  rb := fun n h => EReal.toReal (m (c, Proc.tc.devRef main_arg7) (ix2 n h))
  lm := fun i x => EReal.toReal (m (c, Proc.tc.devRef main_arg8) (ix3 0 i x))
  g := fun x => m (c, Proc.tc.devRef main_arg9) (ix2 0 x)
  u := fun a h e => m (c, Proc.tc.devRef main_arg10) (ix4 0 a h e)

theorem holds_arrOf (m : (ℓ : Loc nD τ sig) → Buf (Elt Ideal) ℓ) (hp : Cert.Pre_KernelIdeal_finite m) (c : Dev nD) : HoldsK m c (arrOf m c) := by
  obtain ⟨h0, h1, h2, h3, h4, h5, h6, h7, h8⟩ := Cert.Pre_finite.reals _ _ _ _ _ _ _ _ _ _ _ (hp c)
  exact {
    q := fun b r h x => Cert.Pre_finite.coe_of (h0 (ix4 b r h x))
    k := fun b r h x => Cert.Pre_finite.coe_of (h1 (ix4 b r h x))
    v := fun b r h x => Cert.Pre_finite.coe_of (h2 (ix4 b r h x))
    ql := fun b r h x => Cert.Pre_finite.coe_of (h3 (ix4 b r h x))
    qr := fun b r h x => Cert.Pre_finite.coe_of (h4 (ix4 b r h x))
    ck := fun b r x => Cert.Pre_finite.coe_of (h5 (ix3 b r x))
    kr := fun b r x => Cert.Pre_finite.coe_of (h6 (ix3 b r x))
    rb := fun n h => Cert.Pre_finite.coe_of (h7 (ix2 n h))
    lm := fun i x => Cert.Pre_finite.coe_of (h8 (ix3 0 i x))
    g := fun x => rfl
    u := fun a h e => rfl }
end Cert.KernelIdeal.Attn
-- ==== Proof.Value.Blocks.lean ====
module

public import proofs.«01_k».proof.Proof.Value.Spec
public import proofs.«01_k».proof.Proof.KI.Frame
public import Idealize.ShloMosaic.Lib.Pipeline.ValueKit
public import Idealize.ShloMosaic.Lib.Pointwise
public import Idealize.ShloMosaic.Lib.Tactic.CleanTypes

/-! A window's block read at an index: where in its array it lies. -/

@[expose] public section

set_option maxRecDepth 16384
set_option Elab.async false

noncomputable section

namespace Cert.KernelIdeal.Attn

open Cert.Online Cert.Spec
open Cert.KernelIdeal Cert.KernelIdeal.Gen
open Idealize.ShloMosaic
open Idealize.ShloMosaic.TcCoe Idealize.ShloMosaic.Tactic
open Idealize.ShloMosaic.Pipeline (Dat Cfg Window)

variable (m : (ℓ : Loc nD τ sig) → Buf (Elt Ideal) ℓ) (c : Dev nD) (t : Fin cfgA.N)

theorem b_lt : bOf t.val < 2 := (factsAt t).2.2.2.2.2.2.2.2.2.2.2.2.2.2.2
theorem q_lt : qOf t.val < 32 := (factsAt t).2.2.2.2.2.2.2.2.2.2.2.2.2.2.1
theorem k_le : kOf t.val ≤ qOf t.val / 2 := (factsAt t).2.2.2.2.2.2.2.2.2.2.2.2.2.1

/-- The point's batch entry, and a row of its query tile, of its key tile. -/
abbrev bT : Fin 2 := ⟨bOf t.val, b_lt t⟩
abbrev qT (r : Fin 256) : Fin 8192 := ⟨qOf t.val * 256 + r.val, by have := q_lt t; omega⟩
abbrev kT (j : Fin 512) : Fin 8192 := ⟨kOf t.val * 512 + j.val, by have := q_lt t; have := k_le t; omega⟩

theorem bread0 (B : (Proc.devRef .tc main_v11 : DevRef τ sig).ty.Contents (Elt Ideal)) (r : Fin 256) (j : Fin 1024) : ((cfgA.win (0 : Fin 10)).blk t).view.read (Elt Ideal) B (ix3 0 r j) = B (ix3 (bT t) (qT t r) j) := by
  show B (((cfgA.win (0 : Fin 10)).rect t).emb (ix3 0 r j)) = _
  refine congrArg _ (funext fun x => Fin.ext ?_)
  refine ((cfgA.win (0 : Fin 10)).rect_emb_val t _ x rfl).trans ?_
  rw [show (cfgA.win (0 : Fin 10)).index t x = _ from ((factsAt t).2.2.2.2.2.2.2.1 x)]
  match x with
  | ⟨0,_⟩ => show bOf t.val * 1 + 0 = bOf t.val; omega
  | ⟨1,_⟩ => show qOf t.val * 256 + r.val = qOf t.val * 256 + r.val; omega
  | ⟨2,_⟩ => show 0 * 1024 + j.val = j.val; omega
theorem bread1 (B : (Proc.devRef .tc main_v15 : DevRef τ sig).ty.Contents (Elt Ideal)) (r : Fin 512) (j : Fin 1024) : ((cfgA.win (1 : Fin 10)).blk t).view.read (Elt Ideal) B (ix3 0 r j) = B (ix3 (bT t) (kT t r) j) := by
  show B (((cfgA.win (1 : Fin 10)).rect t).emb (ix3 0 r j)) = _
  refine congrArg _ (funext fun x => Fin.ext ?_)
  refine ((cfgA.win (1 : Fin 10)).rect_emb_val t _ x rfl).trans ?_
  rw [show (cfgA.win (1 : Fin 10)).index t x = _ from ((factsAt t).2.2.2.2.2.2.2.2.1 x)]
  match x with
  | ⟨0,_⟩ => show bOf t.val * 1 + 0 = bOf t.val; omega
  | ⟨1,_⟩ => show kOf t.val * 512 + r.val = kOf t.val * 512 + r.val; omega
  | ⟨2,_⟩ => show 0 * 1024 + j.val = j.val; omega
theorem bread2 (B : (Proc.devRef .tc main_v24 : DevRef τ sig).ty.Contents (Elt Ideal)) (r : Fin 256) (j : Fin 1536) : ((cfgA.win (2 : Fin 10)).blk t).view.read (Elt Ideal) B (ix3 0 r j) = B (ix3 (bT t) (qT t r) j) := by
  show B (((cfgA.win (2 : Fin 10)).rect t).emb (ix3 0 r j)) = _
  refine congrArg _ (funext fun x => Fin.ext ?_)
  refine ((cfgA.win (2 : Fin 10)).rect_emb_val t _ x rfl).trans ?_
  rw [show (cfgA.win (2 : Fin 10)).index t x = _ from ((factsAt t).2.2.2.2.2.2.2.2.2.1 x)]
  match x with
  | ⟨0,_⟩ => show bOf t.val * 1 + 0 = bOf t.val; omega
  | ⟨1,_⟩ => show qOf t.val * 256 + r.val = qOf t.val * 256 + r.val; omega
  | ⟨2,_⟩ => show 0 * 1536 + j.val = j.val; omega
theorem bread3 (B : (Proc.devRef .tc main_v28 : DevRef τ sig).ty.Contents (Elt Ideal)) (r : Fin 512) (j : Fin 384) : ((cfgA.win (3 : Fin 10)).blk t).view.read (Elt Ideal) B (ix3 0 r j) = B (ix3 (bT t) (kT t r) j) := by
  show B (((cfgA.win (3 : Fin 10)).rect t).emb (ix3 0 r j)) = _
  refine congrArg _ (funext fun x => Fin.ext ?_)
  refine ((cfgA.win (3 : Fin 10)).rect_emb_val t _ x rfl).trans ?_
  rw [show (cfgA.win (3 : Fin 10)).index t x = _ from ((factsAt t).2.2.2.2.2.2.2.2.2.2.1 x)]
  match x with
  | ⟨0,_⟩ => show bOf t.val * 1 + 0 = bOf t.val; omega
  | ⟨1,_⟩ => show kOf t.val * 512 + r.val = kOf t.val * 512 + r.val; omega
  | ⟨2,_⟩ => show 0 * 384 + j.val = j.val; omega
theorem bread4 (B : (Proc.devRef .tc main_v171 : DevRef τ sig).ty.Contents (Elt Ideal)) (h : Fin 5) (r : Fin 256) (j : Fin 512) : ((cfgA.win (4 : Fin 10)).blk t).view.read (Elt Ideal) B (ix4 0 h r j) = B (ix4 (⟨min (qOf t.val - 2 * kOf t.val) 2, by omega⟩ : Fin 3) h r j) := by
  show B (((cfgA.win (4 : Fin 10)).rect t).emb (ix4 0 h r j)) = _
  refine congrArg _ (funext fun x => Fin.ext ?_)
  refine ((cfgA.win (4 : Fin 10)).rect_emb_val t _ x rfl).trans ?_
  rw [show (cfgA.win (4 : Fin 10)).index t x = _ from ((factsAt t).2.2.2.2.2.2.2.2.2.2.2.1 x)]
  match x with
  | ⟨0,_⟩ => show min (qOf t.val - 2 * kOf t.val) 2 * 1 + 0 = min (qOf t.val - 2 * kOf t.val) 2; omega
  | ⟨1,_⟩ => show 0 * 5 + h.val = h.val; omega
  | ⟨2,_⟩ => show 0 * 256 + r.val = r.val; omega
  | ⟨3,_⟩ => show 0 * 512 + j.val = j.val; omega
theorem bread5 (B : (Proc.devRef .tc main_v175 : DevRef τ sig).ty.Contents (Elt Ideal)) (R : Fin 2048) (l : Fin 128) : ((cfgA.win (5 : Fin 10)).blk t).view.read (Elt Ideal) B (ix2 R l) = B (ix2 R l) := by
  show B (((cfgA.win (5 : Fin 10)).rect t).emb (ix2 R l)) = _
  refine congrArg _ (funext fun x => Fin.ext ?_)
  refine ((cfgA.win (5 : Fin 10)).rect_emb_val t _ x rfl).trans ?_
  rw [show (cfgA.win (5 : Fin 10)).index t x = _ from rfl]
  match x with
  | ⟨0,_⟩ => show 0 * 2048 + R.val = R.val; omega
  | ⟨1,_⟩ => show 0 * 128 + l.val = l.val; omega
theorem bread6 (B : (Proc.devRef .tc main_v179 : DevRef τ sig).ty.Contents (Elt Ideal)) (R : Fin 4) (l : Fin 64) : ((cfgA.win (6 : Fin 10)).blk t).view.read (Elt Ideal) B (ix2 R l) = B (ix2 R l) := by
  show B (((cfgA.win (6 : Fin 10)).rect t).emb (ix2 R l)) = _
  refine congrArg _ (funext fun x => Fin.ext ?_)
  refine ((cfgA.win (6 : Fin 10)).rect_emb_val t _ x rfl).trans ?_
  rw [show (cfgA.win (6 : Fin 10)).index t x = _ from rfl]
  match x with
  | ⟨0,_⟩ => show 0 * 4 + R.val = R.val; omega
  | ⟨1,_⟩ => show 0 * 64 + l.val = l.val; omega
theorem bread7 (B : (Proc.devRef .tc main_v181 : DevRef τ sig).ty.Contents (Elt Ideal)) (R : Fin 1) (l : Fin 128) : ((cfgA.win (7 : Fin 10)).blk t).view.read (Elt Ideal) B (ix2 R l) = B (ix2 R l) := by
  show B (((cfgA.win (7 : Fin 10)).rect t).emb (ix2 R l)) = _
  refine congrArg _ (funext fun x => Fin.ext ?_)
  refine ((cfgA.win (7 : Fin 10)).rect_emb_val t _ x rfl).trans ?_
  rw [show (cfgA.win (7 : Fin 10)).index t x = _ from rfl]
  match x with
  | ⟨0,_⟩ => show 0 * 1 + R.val = R.val; omega
  | ⟨1,_⟩ => show 0 * 128 + l.val = l.val; omega
theorem bread8 (B : (Proc.devRef .tc main_v178 : DevRef τ sig).ty.Contents (Elt Ideal)) (h : Fin 4) (a : Fin 256) (e : Fin 128) : ((cfgA.win (8 : Fin 10)).blk t).view.read (Elt Ideal) B (ix3 h a e) = B (ix3 h a e) := by
  show B (((cfgA.win (8 : Fin 10)).rect t).emb (ix3 h a e)) = _
  refine congrArg _ (funext fun x => Fin.ext ?_)
  refine ((cfgA.win (8 : Fin 10)).rect_emb_val t _ x rfl).trans ?_
  rw [show (cfgA.win (8 : Fin 10)).index t x = _ from rfl]
  match x with
  | ⟨0,_⟩ => show 0 * 4 + h.val = h.val; omega
  | ⟨1,_⟩ => show 0 * 256 + a.val = a.val; omega
  | ⟨2,_⟩ => show 0 * 128 + e.val = e.val; omega

theorem outEmb (r : Fin 256) (j : Fin 1024) : ((cfgA.win (9 : Fin 10)).blk t).view.emb (ix3 0 r j) = ix3 (bT t) (qT t r) j := by
  show ((cfgA.win (9 : Fin 10)).rect t).emb (ix3 0 r j) = _
  refine funext fun a => Fin.ext ?_
  refine ((cfgA.win (9 : Fin 10)).rect_emb_val t _ a rfl).trans ?_
  rw [show (cfgA.win (9 : Fin 10)).index t a = _ from ((factsAt t).2.2.2.2.2.2.2.2.2.2.2.2.1 a)]
  match a with
  | ⟨0,_⟩ => show bOf t.val * 1 + 0 = bOf t.val; omega
  | ⟨1,_⟩ => show qOf t.val * 256 + r.val = qOf t.val * 256 + r.val; rfl
  | ⟨2,_⟩ => show 0 * 1024 + j.val = j.val; omega

theorem iblk0_at (r : Fin 256) (j : Fin 1024) : iblk m c (0 : Fin 10) t (ix3 0 r j) = V m c main_v11 (ix3 (bT t) (qT t r) j) := by
  unfold iblk; exact bread0 t (V m c main_v11) r j
theorem iblk1_at (r : Fin 512) (j : Fin 1024) : iblk m c (1 : Fin 10) t (ix3 0 r j) = V m c main_v15 (ix3 (bT t) (kT t r) j) := by
  unfold iblk; exact bread1 t (V m c main_v15) r j
theorem iblk2_at (r : Fin 256) (j : Fin 1536) : iblk m c (2 : Fin 10) t (ix3 0 r j) = V m c main_v24 (ix3 (bT t) (qT t r) j) := by
  unfold iblk; exact bread2 t (V m c main_v24) r j
theorem iblk3_at (r : Fin 512) (j : Fin 384) : iblk m c (3 : Fin 10) t (ix3 0 r j) = V m c main_v28 (ix3 (bT t) (kT t r) j) := by
  unfold iblk; exact bread3 t (V m c main_v28) r j
theorem iblk4_at (h : Fin 5) (r : Fin 256) (j : Fin 512) : iblk m c (4 : Fin 10) t (ix4 0 h r j) = V m c main_v171 (ix4 (⟨min (qOf t.val - 2 * kOf t.val) 2, by omega⟩ : Fin 3) h r j) := by
  unfold iblk; exact bread4 t (V m c main_v171) h r j
theorem iblk5_at (R : Fin 2048) (l : Fin 128) : iblk m c (5 : Fin 10) t (ix2 R l) = V m c main_v175 (ix2 R l) := by
  unfold iblk; exact bread5 t (V m c main_v175) R l
theorem iblk6_at (R : Fin 4) (l : Fin 64) : iblk m c (6 : Fin 10) t (ix2 R l) = V m c main_v179 (ix2 R l) := by
  unfold iblk; exact bread6 t (V m c main_v179) R l
theorem iblk7_at (R : Fin 1) (l : Fin 128) : iblk m c (7 : Fin 10) t (ix2 R l) = V m c main_v181 (ix2 R l) := by
  unfold iblk; exact bread7 t (V m c main_v181) R l
theorem iblk8_at (h : Fin 4) (a : Fin 256) (e : Fin 128) : iblk m c (8 : Fin 10) t (ix3 h a e) = V m c main_v178 (ix3 h a e) := by
  unfold iblk; exact bread8 t (V m c main_v178) h a e

/-- A query tile's last point. -/
def lastOf (b Q : ℕ) : ℕ := 272 * b + (Q / 2 * (Q / 2 + 1) + Q / 2 + Q % 2 * (Q / 2 + 1))
theorem last_lt : ∀ b : Fin 2, ∀ Q : Fin 32, lastOf b.val Q.val < 544 := by decide +kernel
theorem last_ok : ∀ b : Fin 2, ∀ Q : Fin 32, bOf (lastOf b.val Q.val) = b.val ∧ qOf (lastOf b.val Q.val) = Q.val ∧ kOf (lastOf b.val Q.val) = Q.val / 2 := by decide +kernel
end Cert.KernelIdeal.Attn
-- ==== Proof.Value.Fin.lean ====
module

public import proofs.«01_k».proof.Proof.Value.Flow
public import Idealize.ShloMosaic.Lib.Pipeline.ValueKit
public import Idealize.ShloMosaic.Lib.Pointwise
public import Idealize.ShloMosaic.Lib.Tactic.CleanTypes

/-! What one run of the body leaves in the scratch buffers, as functions of the blocks it reads. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- A head's rows of what was just stored. -/
abbrev cutA (T : List (View.Piece (Elt Ideal) S2048x128 .f32)) (W : FVec Ideal S2048x128 .f32) (o : ℕ) (ho : ∀ a, (![o, 0] : Fin 2 → ℕ) a + S256x128.size a ≤ S2048x128.size a) : FVec Ideal S256x128 .f32 :=
  sc2.view.readCov ((⟨Rect.unit ![0, 0] S2048x128.size (by decide), W⟩ : View.Piece (Elt Ideal) S2048x128 .f32) :: T) (Rect.unit ![o, 0] S256x128.size ho : Rect S2048x128).toLoadRect
abbrev cutL (T : List (View.Piece (Elt Ideal) S2048x128 .f32)) (W : FVec Ideal S2048x128 .f32) (o : ℕ) (ho : ∀ a, (![o, 0] : Fin 2 → ℕ) a + S256x128.size a ≤ S2048x128.size a) : FVec Ideal S256x128 .f32 :=
  sc1.view.readCov ((⟨Rect.unit ![0, 0] S2048x128.size (by decide), W⟩ : View.Piece (Elt Ideal) S2048x128 .f32) :: T) (Rect.unit ![o, 0] S256x128.size ho : Rect S2048x128).toLoadRect
abbrev cutAM (T : List (View.Piece (Elt Ideal) S1024x256 .f32)) (W : FVec Ideal S1024x256 .f32) (o : ℕ) (ho : ∀ a, (![o, 0] : Fin 2 → ℕ) a + S256x256.size a ≤ S1024x256.size a) : FVec Ideal S256x256 .f32 :=
  sc5.view.readCov ((⟨Rect.unit ![0, 0] S1024x256.size (by decide), W⟩ : View.Piece (Elt Ideal) S1024x256 .f32) :: T) (Rect.unit ![o, 0] S256x256.size ho : Rect S1024x256).toLoadRect
abbrev cutLM (T : List (View.Piece (Elt Ideal) S1024x128 .f32)) (W : FVec Ideal S1024x128 .f32) (o : ℕ) (ho : ∀ a, (![o, 0] : Fin 2 → ℕ) a + S256x128.size a ≤ S1024x128.size a) : FVec Ideal S256x128 .f32 :=
  sc4.view.readCov ((⟨Rect.unit ![0, 0] S1024x128.size (by decide), W⟩ : View.Piece (Elt Ideal) S1024x128 .f32) :: T) (Rect.unit ![o, 0] S256x128.size ho : Rect S1024x128).toLoadRect
/-- The weight of the second half, from the four learned rows. -/
def lamOf (X6 : Vec Ideal S4x64 .f32) : FVec Ideal S1x1 .f32 := k0_pay43 (F := Ideal) (View.ld X6 (Rect.unit ![0, 0] S4x64.size (by decide)))
def gainOf (X7 : Vec Ideal S1x128 .f32) : FVec Ideal S1x128 .f32 := k0_pay44 (F := Ideal) (View.ld X7 (Rect.unit ![0, 0] S1x128.size (by decide)))
/-- One head's difference of its two halves. -/
def diffOf (lam : FVec Ideal S1x1 .f32) (a0 l0 a1 l1 : FVec Ideal S256x128 .f32) : FVec Ideal S256x128 .f32 :=
  subf (divf a0 l0) (mulf (broadcastTo S256x128 lam broadcasts_S1x1_S256x128) (divf a1 l1))
/-- Its norm taken, its gain applied: what is stored. -/
def normOf (g : FVec Ideal S1x128 .f32) (o : FVec Ideal S256x128 .f32) : FVec Ideal S1x256x128 .bf16 :=
  shapeCast S1x256x128 (truncf .bf16 (mulf (mulf (mulf o (broadcastTo S256x128 (rsqrt (addf (divf (shapeCast S256x1 (multiReduction .add [1] S256 (mulf o o) 0x00000000#32 reduces_S256x128_S256 (.inl rfl) rfl) shapeCasts_S256_S256x1)
    (broadcast S256x1 (Scalar.ofBits .f32 0x43000000#32))) (broadcast S256x1 (Scalar.ofBits .f32 0x3727C5AC#32)))) broadcasts_S256x1_S256x128)) (broadcastTo S256x128 g broadcasts_S1x128_S256x128))
    (broadcast S256x128 (Scalar.ofBits .f32 0x3F4CCCCD#32))) bitsLt_bf16_f32) shapeCasts_S256x128_S1x256x128
/-- One head of the second kind: the quotient against its output columns. -/
def mlaOf (a : FVec Ideal S256x256 .f32) (l : FVec Ideal S256x128 .f32) (w : FVec Ideal S1x256x128 .bf16) : FVec Ideal S1x256x128 .bf16 :=
  shapeCast S1x256x128 (truncf .bf16 (matmul dot_S256x256_S256x128_S256x128_1_0_0_1_n_n none (truncf .bf16 (divf a (concatenate S256x256 1 [⟨S256x128, l⟩, ⟨S256x128, l⟩] concatenates_S256x128_S256x128_S256x256_d1)) bitsLt_bf16_f32)
    (shapeCast S256x128 w shapeCasts_S1x256x128_S256x128) (constant S256x128 .f32 0x00000000#32)) bitsLt_bf16_f32) shapeCasts_S256x128_S1x256x128
/-- The eight column blocks stored at a query tile's last point, from what the scratch then holds. -/
def finPieces (T1 T2 : List (View.Piece (Elt Ideal) S2048x128 .f32)) (T4 : List (View.Piece (Elt Ideal) S1024x128 .f32)) (T5 : List (View.Piece (Elt Ideal) S1024x256 .f32)) (L A : FVec Ideal S2048x128 .f32) (LM : FVec Ideal S1024x128 .f32) (AM : FVec Ideal S1024x256 .f32) (X6 : Vec Ideal S4x64 .f32) (X7 : Vec Ideal S1x128 .f32) (X8 : Vec Ideal S4x256x128 .bf16) :
    List (View.Piece (Elt Ideal) S1x256x1024 .bf16) :=
  [(⟨Rect.unit ![0, 0, 896] S1x256x128.size (by decide), mlaOf (cutAM T5 AM 768 (by decide)) (cutLM T4 LM 768 (by decide)) (View.ld X8 (Rect.unit ![3, 0, 0] S1x256x128.size (by decide)))⟩ : View.Piece (Elt Ideal) S1x256x1024 .bf16),
    (⟨Rect.unit ![0, 0, 768] S1x256x128.size (by decide), mlaOf (cutAM T5 AM 512 (by decide)) (cutLM T4 LM 512 (by decide)) (View.ld X8 (Rect.unit ![2, 0, 0] S1x256x128.size (by decide)))⟩ : View.Piece (Elt Ideal) S1x256x1024 .bf16),
    (⟨Rect.unit ![0, 0, 640] S1x256x128.size (by decide), mlaOf (cutAM T5 AM 256 (by decide)) (cutLM T4 LM 256 (by decide)) (View.ld X8 (Rect.unit ![1, 0, 0] S1x256x128.size (by decide)))⟩ : View.Piece (Elt Ideal) S1x256x1024 .bf16),
    (⟨Rect.unit ![0, 0, 512] S1x256x128.size (by decide), mlaOf (cutAM T5 AM 0 (by decide)) (cutLM T4 LM 0 (by decide)) (View.ld X8 (Rect.unit ![0, 0, 0] S1x256x128.size (by decide)))⟩ : View.Piece (Elt Ideal) S1x256x1024 .bf16),
    (⟨Rect.unit ![0, 0, 384] S1x256x128.size (by decide), normOf (gainOf X7) (diffOf (lamOf X6) (cutA T2 A 1536 (by decide)) (cutL T1 L 1536 (by decide)) (cutA T2 A 1792 (by decide)) (cutL T1 L 1792 (by decide)))⟩ : View.Piece (Elt Ideal) S1x256x1024 .bf16),
    (⟨Rect.unit ![0, 0, 256] S1x256x128.size (by decide), normOf (gainOf X7) (diffOf (lamOf X6) (cutA T2 A 1024 (by decide)) (cutL T1 L 1024 (by decide)) (cutA T2 A 1280 (by decide)) (cutL T1 L 1280 (by decide)))⟩ : View.Piece (Elt Ideal) S1x256x1024 .bf16),
    (⟨Rect.unit ![0, 0, 128] S1x256x128.size (by decide), normOf (gainOf X7) (diffOf (lamOf X6) (cutA T2 A 512 (by decide)) (cutL T1 L 512 (by decide)) (cutA T2 A 768 (by decide)) (cutL T1 L 768 (by decide)))⟩ : View.Piece (Elt Ideal) S1x256x1024 .bf16),
    (⟨Rect.unit ![0, 0, 0] S1x256x128.size (by decide), normOf (gainOf X7) (diffOf (lamOf X6) (cutA T2 A 0 (by decide)) (cutL T1 L 0 (by decide)) (cutA T2 A 256 (by decide)) (cutL T1 L 256 (by decide)))⟩ : View.Piece (Elt Ideal) S1x256x1024 .bf16)]

section
variable (c : Dev nD) (i : grid0.Coords)
  (arg4 : Memref sig .tc .vmem S1x256x1024 .bf16) (harg4 : arg4.IsWhole) (arg5 : Memref sig .tc .vmem S1x512x1024 .bf16) (harg5 : arg5.IsWhole)
  (arg6 : Memref sig .tc .vmem S1x256x1536 .bf16) (harg6 : arg6.IsWhole) (arg7 : Memref sig .tc .vmem S1x512x384 .bf16) (harg7 : arg7.IsWhole)
  (arg8 : Memref sig .tc .vmem S1x5x256x512 .f32) (harg8 : arg8.IsWhole) (arg9 : Memref sig .tc .vmem S2048x128 .f32) (harg9 : arg9.IsWhole)
  (arg10 : Memref sig .tc .vmem S4x64 .f32) (harg10 : arg10.IsWhole) (arg11 : Memref sig .tc .vmem S1x128 .f32) (harg11 : arg11.IsWhole)
  (arg12 : Memref sig .tc .vmem S4x256x128 .bf16) (harg12 : arg12.IsWhole) (arg13 : Memref sig .tc .vmem S1x256x1024 .bf16) (harg13 : arg13.IsWhole)
  (T0 T1 : S272.Idx → Elt Ideal .i32)
  (x0 : S1x256x1024.Idx → Elt Ideal .bf16) (x1 : S1x512x1024.Idx → Elt Ideal .bf16) (x2 : S1x256x1536.Idx → Elt Ideal .bf16)
  (x3 : S1x512x384.Idx → Elt Ideal .bf16) (x4 : S1x5x256x512.Idx → Elt Ideal .f32) (x5 : S2048x128.Idx → Elt Ideal .f32)
  (x6 : S4x64.Idx → Elt Ideal .f32) (x7 : S1x128.Idx → Elt Ideal .f32) (x8 : S4x256x128.Idx → Elt Ideal .bf16)

  (prev : St c)

set_option maxHeartbeats 1600000 in
theorem pcsA (h0 : isInit (wordK T1 i)) (h1 : isNear (wordQ T0 i) (wordK T1 i)) (h2 : ¬isFar (wordQ T0 i) (wordK T1 i)) (h3 : isFin (wordQ T0 i) (wordK T1 i)) : (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).pcs = finPieces [(⟨Rect.unit ![0, 0] S2048x128.size (by decide), k0_pay56 (F := Ideal)⟩ : View.Piece (Elt Ideal) S2048x128 .f32)] [(⟨Rect.unit ![0, 0] S2048x128.size (by decide), k0_pay57 (F := Ideal)⟩ : View.Piece (Elt Ideal) S2048x128 .f32)] [(⟨Rect.unit ![0, 0] S1024x128.size (by decide), k0_pay59 (F := Ideal)⟩ : View.Piece (Elt Ideal) S1024x128 .f32)] [(⟨Rect.unit ![0, 0] S1024x256.size (by decide), k0_pay60 (F := Ideal)⟩ : View.Piece (Elt Ideal) S1024x256 .f32)] (upL (sc0.view.readCov [(⟨Rect.unit ![0, 0] S2048x128.size (by decide), k0_pay55 (F := Ideal)⟩ : View.Piece (Elt Ideal) S2048x128 .f32)] (Rect.unit ![0, 0] S2048x128.size (by decide)).toLoadRect) (mNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) (sc1.view.readCov [(⟨Rect.unit ![0, 0] S2048x128.size (by decide), k0_pay56 (F := Ideal)⟩ : View.Piece (Elt Ideal) S2048x128 .f32)] (Rect.unit ![0, 0] S2048x128.size (by decide)).toLoadRect) (pNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4))))) (upA (sc0.view.readCov [(⟨Rect.unit ![0, 0] S2048x128.size (by decide), k0_pay55 (F := Ideal)⟩ : View.Piece (Elt Ideal) S2048x128 .f32)] (Rect.unit ![0, 0] S2048x128.size (by decide)).toLoadRect) (mNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) (sc2.view.readCov [(⟨Rect.unit ![0, 0] S2048x128.size (by decide), k0_pay57 (F := Ideal)⟩ : View.Piece (Elt Ideal) S2048x128 .f32)] (Rect.unit ![0, 0] S2048x128.size (by decide)).toLoadRect) (pNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) (View.read (Elt Ideal) arg5.view (arg5.view.rep x1))) (upLM (sc3.view.readCov [(⟨Rect.unit ![0, 0] S1024x128.size (by decide), k0_pay58 (F := Ideal)⟩ : View.Piece (Elt Ideal) S1024x128 .f32)] (Rect.unit ![0, 0] S1024x128.size (by decide)).toLoadRect) (nM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) (sc4.view.readCov [(⟨Rect.unit ![0, 0] S1024x128.size (by decide), k0_pay59 (F := Ideal)⟩ : View.Piece (Elt Ideal) S1024x128 .f32)] (Rect.unit ![0, 0] S1024x128.size (by decide)).toLoadRect) (pM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4))))) (upAM (sc3.view.readCov [(⟨Rect.unit ![0, 0] S1024x128.size (by decide), k0_pay58 (F := Ideal)⟩ : View.Piece (Elt Ideal) S1024x128 .f32)] (Rect.unit ![0, 0] S1024x128.size (by decide)).toLoadRect) (nM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) (sc5.view.readCov [(⟨Rect.unit ![0, 0] S1024x256.size (by decide), k0_pay60 (F := Ideal)⟩ : View.Piece (Elt Ideal) S1024x256 .f32)] (Rect.unit ![0, 0] S1024x256.size (by decide)).toLoadRect) (pM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) (View.read (Elt Ideal) arg7.view (arg7.view.rep x3))) (View.read (Elt Ideal) arg10.view (arg10.view.rep x6)) (View.read (Elt Ideal) arg11.view (arg11.view.rep x7)) (View.read (Elt Ideal) arg12.view (arg12.view.rep x8)) := by
  unfold runA; dsimp only
  frame_open
  rfl
set_option maxHeartbeats 1600000 in
theorem pcsC (h0 : ¬isInit (wordK T1 i)) (h1 : isNear (wordQ T0 i) (wordK T1 i)) (h2 : ¬isFar (wordQ T0 i) (wordK T1 i)) (h3 : isFin (wordQ T0 i) (wordK T1 i)) : (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).pcs = finPieces [] [] [] [] (upL (View.ld (sc0.view.read (Elt Ideal) prev.s0) (Rect.unit ![0, 0] S2048x128.size (by decide))) (mNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) (View.ld (sc1.view.read (Elt Ideal) prev.s1) (Rect.unit ![0, 0] S2048x128.size (by decide))) (pNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4))))) (upA (View.ld (sc0.view.read (Elt Ideal) prev.s0) (Rect.unit ![0, 0] S2048x128.size (by decide))) (mNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) (View.ld (sc2.view.read (Elt Ideal) prev.s2) (Rect.unit ![0, 0] S2048x128.size (by decide))) (pNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) (View.read (Elt Ideal) arg5.view (arg5.view.rep x1))) (upLM (View.ld (sc3.view.read (Elt Ideal) prev.s3) (Rect.unit ![0, 0] S1024x128.size (by decide))) (nM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) (View.ld (sc4.view.read (Elt Ideal) prev.s4) (Rect.unit ![0, 0] S1024x128.size (by decide))) (pM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4))))) (upAM (View.ld (sc3.view.read (Elt Ideal) prev.s3) (Rect.unit ![0, 0] S1024x128.size (by decide))) (nM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) (View.ld (sc5.view.read (Elt Ideal) prev.s5) (Rect.unit ![0, 0] S1024x256.size (by decide))) (pM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) (View.read (Elt Ideal) arg7.view (arg7.view.rep x3))) (View.read (Elt Ideal) arg10.view (arg10.view.rep x6)) (View.read (Elt Ideal) arg11.view (arg11.view.rep x7)) (View.read (Elt Ideal) arg12.view (arg12.view.rep x8)) := by
  unfold runC; dsimp only
  frame_open
  rfl
end
end Cert.KernelIdeal.Attn
-- ==== Proof.Value.Outs.lean ====
module

public import proofs.«01_k».proof.Proof.Value.Flow
public import Idealize.ShloMosaic.Lib.Pipeline.ValueKit
public import Idealize.ShloMosaic.Lib.Pointwise
public import Idealize.ShloMosaic.Lib.Tactic.CleanTypes

/-! For each of the six paths: what one run of the body leaves in the scratch buffers, as functions of the blocks it reads. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section
variable (c : Dev nD) (i : grid0.Coords)
  (arg4 : Memref sig .tc .vmem S1x256x1024 .bf16) (harg4 : arg4.IsWhole) (arg5 : Memref sig .tc .vmem S1x512x1024 .bf16) (harg5 : arg5.IsWhole)
  (arg6 : Memref sig .tc .vmem S1x256x1536 .bf16) (harg6 : arg6.IsWhole) (arg7 : Memref sig .tc .vmem S1x512x384 .bf16) (harg7 : arg7.IsWhole)
  (arg8 : Memref sig .tc .vmem S1x5x256x512 .f32) (harg8 : arg8.IsWhole) (arg9 : Memref sig .tc .vmem S2048x128 .f32) (harg9 : arg9.IsWhole)
  (arg10 : Memref sig .tc .vmem S4x64 .f32) (harg10 : arg10.IsWhole) (arg11 : Memref sig .tc .vmem S1x128 .f32) (harg11 : arg11.IsWhole)
  (arg12 : Memref sig .tc .vmem S4x256x128 .bf16) (harg12 : arg12.IsWhole) (arg13 : Memref sig .tc .vmem S1x256x1024 .bf16) (harg13 : arg13.IsWhole)
  (T0 T1 : S272.Idx → Elt Ideal .i32)
  (x0 : S1x256x1024.Idx → Elt Ideal .bf16) (x1 : S1x512x1024.Idx → Elt Ideal .bf16) (x2 : S1x256x1536.Idx → Elt Ideal .bf16)
  (x3 : S1x512x384.Idx → Elt Ideal .bf16) (x4 : S1x5x256x512.Idx → Elt Ideal .f32) (x5 : S2048x128.Idx → Elt Ideal .f32)
  (x6 : S4x64.Idx → Elt Ideal .f32) (x7 : S1x128.Idx → Elt Ideal .f32) (x8 : S4x256x128.Idx → Elt Ideal .bf16)

  (prev : St c)

theorem outA0 (h0 : isInit (wordK T1 i)) (h1 : isNear (wordQ T0 i) (wordK T1 i)) (h2 : ¬isFar (wordQ T0 i) (wordK T1 i)) (h3 : isFin (wordQ T0 i) (wordK T1 i)) : sc0.view.read (Elt Ideal) (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s0 = keepD (mNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) := by
  unfold runA; dsimp only
  refine (View.read_writes_junk_eq_canon _ _).trans ((View.canon_cons_unit_lit _ _ _ (by decide)).trans ?_)
  rfl
theorem outA1 (h0 : isInit (wordK T1 i)) (h1 : isNear (wordQ T0 i) (wordK T1 i)) (h2 : ¬isFar (wordQ T0 i) (wordK T1 i)) (h3 : isFin (wordQ T0 i) (wordK T1 i)) : sc1.view.read (Elt Ideal) (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s1 = upL (sc0.view.readCov [(⟨Rect.unit ![0, 0] S2048x128.size (by decide), k0_pay55 (F := Ideal)⟩ : View.Piece (Elt Ideal) S2048x128 .f32)] (Rect.unit ![0, 0] S2048x128.size (by decide)).toLoadRect) (mNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) (sc1.view.readCov [(⟨Rect.unit ![0, 0] S2048x128.size (by decide), k0_pay56 (F := Ideal)⟩ : View.Piece (Elt Ideal) S2048x128 .f32)] (Rect.unit ![0, 0] S2048x128.size (by decide)).toLoadRect) (pNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) := by
  unfold runA; dsimp only
  refine (View.read_writes_junk_eq_canon _ _).trans ((View.canon_cons_unit_lit _ _ _ (by decide)).trans ?_)
  rfl
theorem outA2 (h0 : isInit (wordK T1 i)) (h1 : isNear (wordQ T0 i) (wordK T1 i)) (h2 : ¬isFar (wordQ T0 i) (wordK T1 i)) (h3 : isFin (wordQ T0 i) (wordK T1 i)) : sc2.view.read (Elt Ideal) (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s2 = upA (sc0.view.readCov [(⟨Rect.unit ![0, 0] S2048x128.size (by decide), k0_pay55 (F := Ideal)⟩ : View.Piece (Elt Ideal) S2048x128 .f32)] (Rect.unit ![0, 0] S2048x128.size (by decide)).toLoadRect) (mNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) (sc2.view.readCov [(⟨Rect.unit ![0, 0] S2048x128.size (by decide), k0_pay57 (F := Ideal)⟩ : View.Piece (Elt Ideal) S2048x128 .f32)] (Rect.unit ![0, 0] S2048x128.size (by decide)).toLoadRect) (pNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) (View.read (Elt Ideal) arg5.view (arg5.view.rep x1)) := by
  unfold runA; dsimp only
  refine (View.read_writes_junk_eq_canon _ _).trans ((View.canon_cons_unit_lit _ _ _ (by decide)).trans ?_)
  rfl
theorem outA3 (h0 : isInit (wordK T1 i)) (h1 : isNear (wordQ T0 i) (wordK T1 i)) (h2 : ¬isFar (wordQ T0 i) (wordK T1 i)) (h3 : isFin (wordQ T0 i) (wordK T1 i)) : sc3.view.read (Elt Ideal) (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s3 = keepM (nM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) := by
  unfold runA; dsimp only
  frame_open
  refine (View.read_writes_junk_eq_canon _ _).trans ((View.canon_cons_unit_lit _ _ _ (by decide)).trans ?_)
  rfl
theorem outA4 (h0 : isInit (wordK T1 i)) (h1 : isNear (wordQ T0 i) (wordK T1 i)) (h2 : ¬isFar (wordQ T0 i) (wordK T1 i)) (h3 : isFin (wordQ T0 i) (wordK T1 i)) : sc4.view.read (Elt Ideal) (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s4 = upLM (sc3.view.readCov [(⟨Rect.unit ![0, 0] S1024x128.size (by decide), k0_pay58 (F := Ideal)⟩ : View.Piece (Elt Ideal) S1024x128 .f32)] (Rect.unit ![0, 0] S1024x128.size (by decide)).toLoadRect) (nM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) (sc4.view.readCov [(⟨Rect.unit ![0, 0] S1024x128.size (by decide), k0_pay59 (F := Ideal)⟩ : View.Piece (Elt Ideal) S1024x128 .f32)] (Rect.unit ![0, 0] S1024x128.size (by decide)).toLoadRect) (pM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) := by
  unfold runA; dsimp only
  frame_open
  refine (View.read_writes_junk_eq_canon _ _).trans ((View.canon_cons_unit_lit _ _ _ (by decide)).trans ?_)
  rfl
theorem outA5 (h0 : isInit (wordK T1 i)) (h1 : isNear (wordQ T0 i) (wordK T1 i)) (h2 : ¬isFar (wordQ T0 i) (wordK T1 i)) (h3 : isFin (wordQ T0 i) (wordK T1 i)) : sc5.view.read (Elt Ideal) (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s5 = upAM (sc3.view.readCov [(⟨Rect.unit ![0, 0] S1024x128.size (by decide), k0_pay58 (F := Ideal)⟩ : View.Piece (Elt Ideal) S1024x128 .f32)] (Rect.unit ![0, 0] S1024x128.size (by decide)).toLoadRect) (nM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) (sc5.view.readCov [(⟨Rect.unit ![0, 0] S1024x256.size (by decide), k0_pay60 (F := Ideal)⟩ : View.Piece (Elt Ideal) S1024x256 .f32)] (Rect.unit ![0, 0] S1024x256.size (by decide)).toLoadRect) (pM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) (View.read (Elt Ideal) arg7.view (arg7.view.rep x3)) := by
  unfold runA; dsimp only
  frame_open
  refine (View.read_writes_junk_eq_canon _ _).trans ((View.canon_cons_unit_lit _ _ _ (by decide)).trans ?_)
  rfl
theorem outB0 (h0 : isInit (wordK T1 i)) (h1 : isNear (wordQ T0 i) (wordK T1 i)) (h2 : ¬isFar (wordQ T0 i) (wordK T1 i)) (h3 : ¬isFin (wordQ T0 i) (wordK T1 i)) : sc0.view.read (Elt Ideal) (runB c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s0 = keepD (mNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) := by
  unfold runB; dsimp only
  refine (View.read_writes_junk_eq_canon _ _).trans ((View.canon_cons_unit_lit _ _ _ (by decide)).trans ?_)
  rfl
theorem outB1 (h0 : isInit (wordK T1 i)) (h1 : isNear (wordQ T0 i) (wordK T1 i)) (h2 : ¬isFar (wordQ T0 i) (wordK T1 i)) (h3 : ¬isFin (wordQ T0 i) (wordK T1 i)) : sc1.view.read (Elt Ideal) (runB c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s1 = upL (sc0.view.readCov [(⟨Rect.unit ![0, 0] S2048x128.size (by decide), k0_pay55 (F := Ideal)⟩ : View.Piece (Elt Ideal) S2048x128 .f32)] (Rect.unit ![0, 0] S2048x128.size (by decide)).toLoadRect) (mNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) (sc1.view.readCov [(⟨Rect.unit ![0, 0] S2048x128.size (by decide), k0_pay56 (F := Ideal)⟩ : View.Piece (Elt Ideal) S2048x128 .f32)] (Rect.unit ![0, 0] S2048x128.size (by decide)).toLoadRect) (pNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) := by
  unfold runB; dsimp only
  refine (View.read_writes_junk_eq_canon _ _).trans ((View.canon_cons_unit_lit _ _ _ (by decide)).trans ?_)
  rfl
theorem outB2 (h0 : isInit (wordK T1 i)) (h1 : isNear (wordQ T0 i) (wordK T1 i)) (h2 : ¬isFar (wordQ T0 i) (wordK T1 i)) (h3 : ¬isFin (wordQ T0 i) (wordK T1 i)) : sc2.view.read (Elt Ideal) (runB c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s2 = upA (sc0.view.readCov [(⟨Rect.unit ![0, 0] S2048x128.size (by decide), k0_pay55 (F := Ideal)⟩ : View.Piece (Elt Ideal) S2048x128 .f32)] (Rect.unit ![0, 0] S2048x128.size (by decide)).toLoadRect) (mNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) (sc2.view.readCov [(⟨Rect.unit ![0, 0] S2048x128.size (by decide), k0_pay57 (F := Ideal)⟩ : View.Piece (Elt Ideal) S2048x128 .f32)] (Rect.unit ![0, 0] S2048x128.size (by decide)).toLoadRect) (pNear (sc0.view.readCov [(⟨Rect.unit ![0, 0] S2048x128.size (by decide), k0_pay55 (F := Ideal)⟩ : View.Piece (Elt Ideal) S2048x128 .f32)] (Rect.unit ![0, 0] S2048x128.size (by decide)).toLoadRect) (sNear (View.read (Elt Ideal) arg4.view (arg4.view.rep x0)) (View.read (Elt Ideal) arg5.view (arg5.view.rep x1)) (View.read (Elt Ideal) arg8.view (arg8.view.rep x4)))) (View.read (Elt Ideal) arg5.view (arg5.view.rep x1)) := by
  unfold runB; dsimp only
  refine (View.read_writes_junk_eq_canon _ _).trans ((View.canon_cons_unit_lit _ _ _ (by decide)).trans ?_)
  rfl
theorem outB3 (h0 : isInit (wordK T1 i)) (h1 : isNear (wordQ T0 i) (wordK T1 i)) (h2 : ¬isFar (wordQ T0 i) (wordK T1 i)) (h3 : ¬isFin (wordQ T0 i) (wordK T1 i)) : sc3.view.read (Elt Ideal) (runB c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s3 = keepM (nM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) := by
  unfold runB; dsimp only
  frame_open
  refine (View.read_writes_junk_eq_canon _ _).trans ((View.canon_cons_unit_lit _ _ _ (by decide)).trans ?_)
  rfl
theorem outB4 (h0 : isInit (wordK T1 i)) (h1 : isNear (wordQ T0 i) (wordK T1 i)) (h2 : ¬isFar (wordQ T0 i) (wordK T1 i)) (h3 : ¬isFin (wordQ T0 i) (wordK T1 i)) : sc4.view.read (Elt Ideal) (runB c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s4 = upLM (sc3.view.readCov [(⟨Rect.unit ![0, 0] S1024x128.size (by decide), k0_pay58 (F := Ideal)⟩ : View.Piece (Elt Ideal) S1024x128 .f32)] (Rect.unit ![0, 0] S1024x128.size (by decide)).toLoadRect) (nM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) (sc4.view.readCov [(⟨Rect.unit ![0, 0] S1024x128.size (by decide), k0_pay59 (F := Ideal)⟩ : View.Piece (Elt Ideal) S1024x128 .f32)] (Rect.unit ![0, 0] S1024x128.size (by decide)).toLoadRect) (pM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) := by
  unfold runB; dsimp only
  frame_open
  refine (View.read_writes_junk_eq_canon _ _).trans ((View.canon_cons_unit_lit _ _ _ (by decide)).trans ?_)
  rfl
theorem outB5 (h0 : isInit (wordK T1 i)) (h1 : isNear (wordQ T0 i) (wordK T1 i)) (h2 : ¬isFar (wordQ T0 i) (wordK T1 i)) (h3 : ¬isFin (wordQ T0 i) (wordK T1 i)) : sc5.view.read (Elt Ideal) (runB c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s5 = upAM (sc3.view.readCov [(⟨Rect.unit ![0, 0] S1024x128.size (by decide), k0_pay58 (F := Ideal)⟩ : View.Piece (Elt Ideal) S1024x128 .f32)] (Rect.unit ![0, 0] S1024x128.size (by decide)).toLoadRect) (nM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) (sc5.view.readCov [(⟨Rect.unit ![0, 0] S1024x256.size (by decide), k0_pay60 (F := Ideal)⟩ : View.Piece (Elt Ideal) S1024x256 .f32)] (Rect.unit ![0, 0] S1024x256.size (by decide)).toLoadRect) (pM (sc3.view.readCov [(⟨Rect.unit ![0, 0] S1024x128.size (by decide), k0_pay58 (F := Ideal)⟩ : View.Piece (Elt Ideal) S1024x128 .f32)] (Rect.unit ![0, 0] S1024x128.size (by decide)).toLoadRect) (tNear (View.read (Elt Ideal) arg6.view (arg6.view.rep x2)) (View.read (Elt Ideal) arg7.view (arg7.view.rep x3)) (View.read (Elt Ideal) arg8.view (arg8.view.rep x4)))) (View.read (Elt Ideal) arg7.view (arg7.view.rep x3)) := by
  unfold runB; dsimp only
  frame_open
  refine (View.read_writes_junk_eq_canon _ _).trans ((View.canon_cons_unit_lit _ _ _ (by decide)).trans ?_)
  rfl
theorem outC0 (h0 : ¬isInit (wordK T1 i)) (h1 : isNear (wordQ T0 i) (wordK T1 i)) (h2 : ¬isFar (wordQ T0 i) (wordK T1 i)) (h3 : isFin (wordQ T0 i) (wordK T1 i)) : sc0.view.read (Elt Ideal) (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s0 = keepD (mNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) := by
  unfold runC; dsimp only
  refine (View.read_writes_junk_eq_canon _ _).trans ((View.canon_cons_unit_lit _ _ _ (by decide)).trans ?_)
  rfl
theorem outC1 (h0 : ¬isInit (wordK T1 i)) (h1 : isNear (wordQ T0 i) (wordK T1 i)) (h2 : ¬isFar (wordQ T0 i) (wordK T1 i)) (h3 : isFin (wordQ T0 i) (wordK T1 i)) : sc1.view.read (Elt Ideal) (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s1 = upL (View.ld (sc0.view.read (Elt Ideal) prev.s0) (Rect.unit ![0, 0] S2048x128.size (by decide))) (mNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) (View.ld (sc1.view.read (Elt Ideal) prev.s1) (Rect.unit ![0, 0] S2048x128.size (by decide))) (pNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) := by
  unfold runC; dsimp only
  refine (View.read_writes_junk_eq_canon _ _).trans ((View.canon_cons_unit_lit _ _ _ (by decide)).trans ?_)
  rfl
theorem outC2 (h0 : ¬isInit (wordK T1 i)) (h1 : isNear (wordQ T0 i) (wordK T1 i)) (h2 : ¬isFar (wordQ T0 i) (wordK T1 i)) (h3 : isFin (wordQ T0 i) (wordK T1 i)) : sc2.view.read (Elt Ideal) (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s2 = upA (View.ld (sc0.view.read (Elt Ideal) prev.s0) (Rect.unit ![0, 0] S2048x128.size (by decide))) (mNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) (View.ld (sc2.view.read (Elt Ideal) prev.s2) (Rect.unit ![0, 0] S2048x128.size (by decide))) (pNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) (View.read (Elt Ideal) arg5.view (arg5.view.rep x1)) := by
  unfold runC; dsimp only
  refine (View.read_writes_junk_eq_canon _ _).trans ((View.canon_cons_unit_lit _ _ _ (by decide)).trans ?_)
  rfl
theorem outC3 (h0 : ¬isInit (wordK T1 i)) (h1 : isNear (wordQ T0 i) (wordK T1 i)) (h2 : ¬isFar (wordQ T0 i) (wordK T1 i)) (h3 : isFin (wordQ T0 i) (wordK T1 i)) : sc3.view.read (Elt Ideal) (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s3 = keepM (nM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) := by
  unfold runC; dsimp only
  frame_open
  refine (View.read_writes_junk_eq_canon _ _).trans ((View.canon_cons_unit_lit _ _ _ (by decide)).trans ?_)
  rfl
theorem outC4 (h0 : ¬isInit (wordK T1 i)) (h1 : isNear (wordQ T0 i) (wordK T1 i)) (h2 : ¬isFar (wordQ T0 i) (wordK T1 i)) (h3 : isFin (wordQ T0 i) (wordK T1 i)) : sc4.view.read (Elt Ideal) (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s4 = upLM (View.ld (sc3.view.read (Elt Ideal) prev.s3) (Rect.unit ![0, 0] S1024x128.size (by decide))) (nM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) (View.ld (sc4.view.read (Elt Ideal) prev.s4) (Rect.unit ![0, 0] S1024x128.size (by decide))) (pM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) := by
  unfold runC; dsimp only
  frame_open
  refine (View.read_writes_junk_eq_canon _ _).trans ((View.canon_cons_unit_lit _ _ _ (by decide)).trans ?_)
  rfl
theorem outC5 (h0 : ¬isInit (wordK T1 i)) (h1 : isNear (wordQ T0 i) (wordK T1 i)) (h2 : ¬isFar (wordQ T0 i) (wordK T1 i)) (h3 : isFin (wordQ T0 i) (wordK T1 i)) : sc5.view.read (Elt Ideal) (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s5 = upAM (View.ld (sc3.view.read (Elt Ideal) prev.s3) (Rect.unit ![0, 0] S1024x128.size (by decide))) (nM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) (View.ld (sc5.view.read (Elt Ideal) prev.s5) (Rect.unit ![0, 0] S1024x256.size (by decide))) (pM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) (View.read (Elt Ideal) arg7.view (arg7.view.rep x3)) := by
  unfold runC; dsimp only
  frame_open
  refine (View.read_writes_junk_eq_canon _ _).trans ((View.canon_cons_unit_lit _ _ _ (by decide)).trans ?_)
  rfl
theorem outD0 (h0 : isInit (wordK T1 i)) (h1 : ¬isNear (wordQ T0 i) (wordK T1 i)) (h2 : isFar (wordQ T0 i) (wordK T1 i)) (h3 : ¬isFin (wordQ T0 i) (wordK T1 i)) : sc0.view.read (Elt Ideal) (runD c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s0 = keepD (mFar (sc0.view.readCov [(⟨Rect.unit ![0, 0] S2048x128.size (by decide), k0_pay55 (F := Ideal)⟩ : View.Piece (Elt Ideal) S2048x128 .f32)] (Rect.unit ![0, 0] S2048x128.size (by decide)).toLoadRect) (cFar (View.read (Elt Ideal) arg9.view (arg9.view.rep x5))) (sFar (View.read (Elt Ideal) arg4.view (arg4.view.rep x0)) (View.read (Elt Ideal) arg5.view (arg5.view.rep x1)))) := by
  unfold runD; dsimp only
  refine (View.read_writes_junk_eq_canon _ _).trans ((View.canon_cons_unit_lit _ _ _ (by decide)).trans ?_)
  rfl
theorem outD1 (h0 : isInit (wordK T1 i)) (h1 : ¬isNear (wordQ T0 i) (wordK T1 i)) (h2 : isFar (wordQ T0 i) (wordK T1 i)) (h3 : ¬isFin (wordQ T0 i) (wordK T1 i)) : sc1.view.read (Elt Ideal) (runD c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s1 = upL (sc0.view.readCov [(⟨Rect.unit ![0, 0] S2048x128.size (by decide), k0_pay55 (F := Ideal)⟩ : View.Piece (Elt Ideal) S2048x128 .f32)] (Rect.unit ![0, 0] S2048x128.size (by decide)).toLoadRect) (mFar (sc0.view.readCov [(⟨Rect.unit ![0, 0] S2048x128.size (by decide), k0_pay55 (F := Ideal)⟩ : View.Piece (Elt Ideal) S2048x128 .f32)] (Rect.unit ![0, 0] S2048x128.size (by decide)).toLoadRect) (cFar (View.read (Elt Ideal) arg9.view (arg9.view.rep x5))) (sFar (View.read (Elt Ideal) arg4.view (arg4.view.rep x0)) (View.read (Elt Ideal) arg5.view (arg5.view.rep x1)))) (sc1.view.readCov [(⟨Rect.unit ![0, 0] S2048x128.size (by decide), k0_pay56 (F := Ideal)⟩ : View.Piece (Elt Ideal) S2048x128 .f32)] (Rect.unit ![0, 0] S2048x128.size (by decide)).toLoadRect) (pFar (sc0.view.readCov [(⟨Rect.unit ![0, 0] S2048x128.size (by decide), k0_pay55 (F := Ideal)⟩ : View.Piece (Elt Ideal) S2048x128 .f32)] (Rect.unit ![0, 0] S2048x128.size (by decide)).toLoadRect) (cFar (View.read (Elt Ideal) arg9.view (arg9.view.rep x5))) (sFar (View.read (Elt Ideal) arg4.view (arg4.view.rep x0)) (View.read (Elt Ideal) arg5.view (arg5.view.rep x1)))) := by
  unfold runD; dsimp only
  refine (View.read_writes_junk_eq_canon _ _).trans ((View.canon_cons_unit_lit _ _ _ (by decide)).trans ?_)
  rfl
theorem outD2 (h0 : isInit (wordK T1 i)) (h1 : ¬isNear (wordQ T0 i) (wordK T1 i)) (h2 : isFar (wordQ T0 i) (wordK T1 i)) (h3 : ¬isFin (wordQ T0 i) (wordK T1 i)) : sc2.view.read (Elt Ideal) (runD c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s2 = upA (sc0.view.readCov [(⟨Rect.unit ![0, 0] S2048x128.size (by decide), k0_pay55 (F := Ideal)⟩ : View.Piece (Elt Ideal) S2048x128 .f32)] (Rect.unit ![0, 0] S2048x128.size (by decide)).toLoadRect) (mFar (sc0.view.readCov [(⟨Rect.unit ![0, 0] S2048x128.size (by decide), k0_pay55 (F := Ideal)⟩ : View.Piece (Elt Ideal) S2048x128 .f32)] (Rect.unit ![0, 0] S2048x128.size (by decide)).toLoadRect) (cFar (View.read (Elt Ideal) arg9.view (arg9.view.rep x5))) (sFar (View.read (Elt Ideal) arg4.view (arg4.view.rep x0)) (View.read (Elt Ideal) arg5.view (arg5.view.rep x1)))) (sc2.view.readCov [(⟨Rect.unit ![0, 0] S2048x128.size (by decide), k0_pay57 (F := Ideal)⟩ : View.Piece (Elt Ideal) S2048x128 .f32)] (Rect.unit ![0, 0] S2048x128.size (by decide)).toLoadRect) (pFar (sc0.view.readCov [(⟨Rect.unit ![0, 0] S2048x128.size (by decide), k0_pay55 (F := Ideal)⟩ : View.Piece (Elt Ideal) S2048x128 .f32)] (Rect.unit ![0, 0] S2048x128.size (by decide)).toLoadRect) (cFar (View.read (Elt Ideal) arg9.view (arg9.view.rep x5))) (sFar (View.read (Elt Ideal) arg4.view (arg4.view.rep x0)) (View.read (Elt Ideal) arg5.view (arg5.view.rep x1)))) (View.read (Elt Ideal) arg5.view (arg5.view.rep x1)) := by
  unfold runD; dsimp only
  refine (View.read_writes_junk_eq_canon _ _).trans ((View.canon_cons_unit_lit _ _ _ (by decide)).trans ?_)
  rfl
theorem outD3 (h0 : isInit (wordK T1 i)) (h1 : ¬isNear (wordQ T0 i) (wordK T1 i)) (h2 : isFar (wordQ T0 i) (wordK T1 i)) (h3 : ¬isFin (wordQ T0 i) (wordK T1 i)) : sc3.view.read (Elt Ideal) (runD c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s3 = keepM (nM (sc3.view.readCov [(⟨Rect.unit ![0, 0] S1024x128.size (by decide), k0_pay58 (F := Ideal)⟩ : View.Piece (Elt Ideal) S1024x128 .f32)] (Rect.unit ![0, 0] S1024x128.size (by decide)).toLoadRect) (tFar (View.read (Elt Ideal) arg6.view (arg6.view.rep x2)) (View.read (Elt Ideal) arg7.view (arg7.view.rep x3)))) := by
  unfold runD; dsimp only
  refine (View.read_writes_junk_eq_canon _ _).trans ((View.canon_cons_unit_lit _ _ _ (by decide)).trans ?_)
  rfl
theorem outD4 (h0 : isInit (wordK T1 i)) (h1 : ¬isNear (wordQ T0 i) (wordK T1 i)) (h2 : isFar (wordQ T0 i) (wordK T1 i)) (h3 : ¬isFin (wordQ T0 i) (wordK T1 i)) : sc4.view.read (Elt Ideal) (runD c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s4 = upLM (sc3.view.readCov [(⟨Rect.unit ![0, 0] S1024x128.size (by decide), k0_pay58 (F := Ideal)⟩ : View.Piece (Elt Ideal) S1024x128 .f32)] (Rect.unit ![0, 0] S1024x128.size (by decide)).toLoadRect) (nM (sc3.view.readCov [(⟨Rect.unit ![0, 0] S1024x128.size (by decide), k0_pay58 (F := Ideal)⟩ : View.Piece (Elt Ideal) S1024x128 .f32)] (Rect.unit ![0, 0] S1024x128.size (by decide)).toLoadRect) (tFar (View.read (Elt Ideal) arg6.view (arg6.view.rep x2)) (View.read (Elt Ideal) arg7.view (arg7.view.rep x3)))) (sc4.view.readCov [(⟨Rect.unit ![0, 0] S1024x128.size (by decide), k0_pay59 (F := Ideal)⟩ : View.Piece (Elt Ideal) S1024x128 .f32)] (Rect.unit ![0, 0] S1024x128.size (by decide)).toLoadRect) (pM (sc3.view.readCov [(⟨Rect.unit ![0, 0] S1024x128.size (by decide), k0_pay58 (F := Ideal)⟩ : View.Piece (Elt Ideal) S1024x128 .f32)] (Rect.unit ![0, 0] S1024x128.size (by decide)).toLoadRect) (tFar (View.read (Elt Ideal) arg6.view (arg6.view.rep x2)) (View.read (Elt Ideal) arg7.view (arg7.view.rep x3)))) := by
  unfold runD; dsimp only
  refine (View.read_writes_junk_eq_canon _ _).trans ((View.canon_cons_unit_lit _ _ _ (by decide)).trans ?_)
  rfl
theorem outD5 (h0 : isInit (wordK T1 i)) (h1 : ¬isNear (wordQ T0 i) (wordK T1 i)) (h2 : isFar (wordQ T0 i) (wordK T1 i)) (h3 : ¬isFin (wordQ T0 i) (wordK T1 i)) : sc5.view.read (Elt Ideal) (runD c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s5 = upAM (sc3.view.readCov [(⟨Rect.unit ![0, 0] S1024x128.size (by decide), k0_pay58 (F := Ideal)⟩ : View.Piece (Elt Ideal) S1024x128 .f32)] (Rect.unit ![0, 0] S1024x128.size (by decide)).toLoadRect) (nM (sc3.view.readCov [(⟨Rect.unit ![0, 0] S1024x128.size (by decide), k0_pay58 (F := Ideal)⟩ : View.Piece (Elt Ideal) S1024x128 .f32)] (Rect.unit ![0, 0] S1024x128.size (by decide)).toLoadRect) (tFar (View.read (Elt Ideal) arg6.view (arg6.view.rep x2)) (View.read (Elt Ideal) arg7.view (arg7.view.rep x3)))) (sc5.view.readCov [(⟨Rect.unit ![0, 0] S1024x256.size (by decide), k0_pay60 (F := Ideal)⟩ : View.Piece (Elt Ideal) S1024x256 .f32)] (Rect.unit ![0, 0] S1024x256.size (by decide)).toLoadRect) (pM (sc3.view.readCov [(⟨Rect.unit ![0, 0] S1024x128.size (by decide), k0_pay58 (F := Ideal)⟩ : View.Piece (Elt Ideal) S1024x128 .f32)] (Rect.unit ![0, 0] S1024x128.size (by decide)).toLoadRect) (tFar (View.read (Elt Ideal) arg6.view (arg6.view.rep x2)) (View.read (Elt Ideal) arg7.view (arg7.view.rep x3)))) (View.read (Elt Ideal) arg7.view (arg7.view.rep x3)) := by
  unfold runD; dsimp only
  refine (View.read_writes_junk_eq_canon _ _).trans ((View.canon_cons_unit_lit _ _ _ (by decide)).trans ?_)
  rfl
theorem outE0 (h0 : ¬isInit (wordK T1 i)) (h1 : isNear (wordQ T0 i) (wordK T1 i)) (h2 : ¬isFar (wordQ T0 i) (wordK T1 i)) (h3 : ¬isFin (wordQ T0 i) (wordK T1 i)) : sc0.view.read (Elt Ideal) (runE c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s0 = keepD (mNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) := by
  unfold runE; dsimp only
  refine (View.read_writes_junk_eq_canon _ _).trans ((View.canon_cons_unit_lit _ _ _ (by decide)).trans ?_)
  rfl
theorem outE1 (h0 : ¬isInit (wordK T1 i)) (h1 : isNear (wordQ T0 i) (wordK T1 i)) (h2 : ¬isFar (wordQ T0 i) (wordK T1 i)) (h3 : ¬isFin (wordQ T0 i) (wordK T1 i)) : sc1.view.read (Elt Ideal) (runE c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s1 = upL (View.ld (sc0.view.read (Elt Ideal) prev.s0) (Rect.unit ![0, 0] S2048x128.size (by decide))) (mNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) (View.ld (sc1.view.read (Elt Ideal) prev.s1) (Rect.unit ![0, 0] S2048x128.size (by decide))) (pNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) := by
  unfold runE; dsimp only
  refine (View.read_writes_junk_eq_canon _ _).trans ((View.canon_cons_unit_lit _ _ _ (by decide)).trans ?_)
  rfl
theorem outE2 (h0 : ¬isInit (wordK T1 i)) (h1 : isNear (wordQ T0 i) (wordK T1 i)) (h2 : ¬isFar (wordQ T0 i) (wordK T1 i)) (h3 : ¬isFin (wordQ T0 i) (wordK T1 i)) : sc2.view.read (Elt Ideal) (runE c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s2 = upA (View.ld (sc0.view.read (Elt Ideal) prev.s0) (Rect.unit ![0, 0] S2048x128.size (by decide))) (mNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) (View.ld (sc2.view.read (Elt Ideal) prev.s2) (Rect.unit ![0, 0] S2048x128.size (by decide))) (pNear (View.ld (sc0.view.read (Elt Ideal) prev.s0) (Rect.unit ![0, 0] S2048x128.size (by decide))) (sNear (View.read (Elt Ideal) arg4.view (arg4.view.rep x0)) (View.read (Elt Ideal) arg5.view (arg5.view.rep x1)) (View.read (Elt Ideal) arg8.view (arg8.view.rep x4)))) (View.read (Elt Ideal) arg5.view (arg5.view.rep x1)) := by
  unfold runE; dsimp only
  refine (View.read_writes_junk_eq_canon _ _).trans ((View.canon_cons_unit_lit _ _ _ (by decide)).trans ?_)
  rfl
theorem outE3 (h0 : ¬isInit (wordK T1 i)) (h1 : isNear (wordQ T0 i) (wordK T1 i)) (h2 : ¬isFar (wordQ T0 i) (wordK T1 i)) (h3 : ¬isFin (wordQ T0 i) (wordK T1 i)) : sc3.view.read (Elt Ideal) (runE c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s3 = keepM (nM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) := by
  unfold runE; dsimp only
  frame_open
  refine (View.read_writes_junk_eq_canon _ _).trans ((View.canon_cons_unit_lit _ _ _ (by decide)).trans ?_)
  rfl
theorem outE4 (h0 : ¬isInit (wordK T1 i)) (h1 : isNear (wordQ T0 i) (wordK T1 i)) (h2 : ¬isFar (wordQ T0 i) (wordK T1 i)) (h3 : ¬isFin (wordQ T0 i) (wordK T1 i)) : sc4.view.read (Elt Ideal) (runE c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s4 = upLM (View.ld (sc3.view.read (Elt Ideal) prev.s3) (Rect.unit ![0, 0] S1024x128.size (by decide))) (nM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) (View.ld (sc4.view.read (Elt Ideal) prev.s4) (Rect.unit ![0, 0] S1024x128.size (by decide))) (pM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) := by
  unfold runE; dsimp only
  frame_open
  refine (View.read_writes_junk_eq_canon _ _).trans ((View.canon_cons_unit_lit _ _ _ (by decide)).trans ?_)
  rfl
theorem outE5 (h0 : ¬isInit (wordK T1 i)) (h1 : isNear (wordQ T0 i) (wordK T1 i)) (h2 : ¬isFar (wordQ T0 i) (wordK T1 i)) (h3 : ¬isFin (wordQ T0 i) (wordK T1 i)) : sc5.view.read (Elt Ideal) (runE c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s5 = upAM (View.ld (sc3.view.read (Elt Ideal) prev.s3) (Rect.unit ![0, 0] S1024x128.size (by decide))) (nM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) (View.ld (sc5.view.read (Elt Ideal) prev.s5) (Rect.unit ![0, 0] S1024x256.size (by decide))) (pM (View.ld (sc3.view.read (Elt Ideal) prev.s3) (Rect.unit ![0, 0] S1024x128.size (by decide))) (tNear (View.read (Elt Ideal) arg6.view (arg6.view.rep x2)) (View.read (Elt Ideal) arg7.view (arg7.view.rep x3)) (View.read (Elt Ideal) arg8.view (arg8.view.rep x4)))) (View.read (Elt Ideal) arg7.view (arg7.view.rep x3)) := by
  unfold runE; dsimp only
  frame_open
  refine (View.read_writes_junk_eq_canon _ _).trans ((View.canon_cons_unit_lit _ _ _ (by decide)).trans ?_)
  rfl
theorem outF0 (h0 : ¬isInit (wordK T1 i)) (h1 : ¬isNear (wordQ T0 i) (wordK T1 i)) (h2 : isFar (wordQ T0 i) (wordK T1 i)) (h3 : ¬isFin (wordQ T0 i) (wordK T1 i)) : sc0.view.read (Elt Ideal) (runF c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s0 = keepD (mFar (View.ld (sc0.view.read (Elt Ideal) prev.s0) (Rect.unit ![0, 0] S2048x128.size (by decide))) (cFar (View.read (Elt Ideal) arg9.view (arg9.view.rep x5))) (sFar (View.read (Elt Ideal) arg4.view (arg4.view.rep x0)) (View.read (Elt Ideal) arg5.view (arg5.view.rep x1)))) := by
  unfold runF; dsimp only
  refine (View.read_writes_junk_eq_canon _ _).trans ((View.canon_cons_unit_lit _ _ _ (by decide)).trans ?_)
  rfl
theorem outF1 (h0 : ¬isInit (wordK T1 i)) (h1 : ¬isNear (wordQ T0 i) (wordK T1 i)) (h2 : isFar (wordQ T0 i) (wordK T1 i)) (h3 : ¬isFin (wordQ T0 i) (wordK T1 i)) : sc1.view.read (Elt Ideal) (runF c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s1 = upL (View.ld (sc0.view.read (Elt Ideal) prev.s0) (Rect.unit ![0, 0] S2048x128.size (by decide))) (mFar (View.ld (sc0.view.read (Elt Ideal) prev.s0) (Rect.unit ![0, 0] S2048x128.size (by decide))) (cFar (View.read (Elt Ideal) arg9.view (arg9.view.rep x5))) (sFar (View.read (Elt Ideal) arg4.view (arg4.view.rep x0)) (View.read (Elt Ideal) arg5.view (arg5.view.rep x1)))) (View.ld (sc1.view.read (Elt Ideal) prev.s1) (Rect.unit ![0, 0] S2048x128.size (by decide))) (pFar (View.ld (sc0.view.read (Elt Ideal) prev.s0) (Rect.unit ![0, 0] S2048x128.size (by decide))) (cFar (View.read (Elt Ideal) arg9.view (arg9.view.rep x5))) (sFar (View.read (Elt Ideal) arg4.view (arg4.view.rep x0)) (View.read (Elt Ideal) arg5.view (arg5.view.rep x1)))) := by
  unfold runF; dsimp only
  refine (View.read_writes_junk_eq_canon _ _).trans ((View.canon_cons_unit_lit _ _ _ (by decide)).trans ?_)
  rfl
theorem outF2 (h0 : ¬isInit (wordK T1 i)) (h1 : ¬isNear (wordQ T0 i) (wordK T1 i)) (h2 : isFar (wordQ T0 i) (wordK T1 i)) (h3 : ¬isFin (wordQ T0 i) (wordK T1 i)) : sc2.view.read (Elt Ideal) (runF c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s2 = upA (View.ld (sc0.view.read (Elt Ideal) prev.s0) (Rect.unit ![0, 0] S2048x128.size (by decide))) (mFar (View.ld (sc0.view.read (Elt Ideal) prev.s0) (Rect.unit ![0, 0] S2048x128.size (by decide))) (cFar (View.read (Elt Ideal) arg9.view (arg9.view.rep x5))) (sFar (View.read (Elt Ideal) arg4.view (arg4.view.rep x0)) (View.read (Elt Ideal) arg5.view (arg5.view.rep x1)))) (View.ld (sc2.view.read (Elt Ideal) prev.s2) (Rect.unit ![0, 0] S2048x128.size (by decide))) (pFar (View.ld (sc0.view.read (Elt Ideal) prev.s0) (Rect.unit ![0, 0] S2048x128.size (by decide))) (cFar (View.read (Elt Ideal) arg9.view (arg9.view.rep x5))) (sFar (View.read (Elt Ideal) arg4.view (arg4.view.rep x0)) (View.read (Elt Ideal) arg5.view (arg5.view.rep x1)))) (View.read (Elt Ideal) arg5.view (arg5.view.rep x1)) := by
  unfold runF; dsimp only
  refine (View.read_writes_junk_eq_canon _ _).trans ((View.canon_cons_unit_lit _ _ _ (by decide)).trans ?_)
  rfl
theorem outF3 (h0 : ¬isInit (wordK T1 i)) (h1 : ¬isNear (wordQ T0 i) (wordK T1 i)) (h2 : isFar (wordQ T0 i) (wordK T1 i)) (h3 : ¬isFin (wordQ T0 i) (wordK T1 i)) : sc3.view.read (Elt Ideal) (runF c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s3 = keepM (nM (View.ld (sc3.view.read (Elt Ideal) prev.s3) (Rect.unit ![0, 0] S1024x128.size (by decide))) (tFar (View.read (Elt Ideal) arg6.view (arg6.view.rep x2)) (View.read (Elt Ideal) arg7.view (arg7.view.rep x3)))) := by
  unfold runF; dsimp only
  refine (View.read_writes_junk_eq_canon _ _).trans ((View.canon_cons_unit_lit _ _ _ (by decide)).trans ?_)
  rfl
theorem outF4 (h0 : ¬isInit (wordK T1 i)) (h1 : ¬isNear (wordQ T0 i) (wordK T1 i)) (h2 : isFar (wordQ T0 i) (wordK T1 i)) (h3 : ¬isFin (wordQ T0 i) (wordK T1 i)) : sc4.view.read (Elt Ideal) (runF c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s4 = upLM (View.ld (sc3.view.read (Elt Ideal) prev.s3) (Rect.unit ![0, 0] S1024x128.size (by decide))) (nM (View.ld (sc3.view.read (Elt Ideal) prev.s3) (Rect.unit ![0, 0] S1024x128.size (by decide))) (tFar (View.read (Elt Ideal) arg6.view (arg6.view.rep x2)) (View.read (Elt Ideal) arg7.view (arg7.view.rep x3)))) (View.ld (sc4.view.read (Elt Ideal) prev.s4) (Rect.unit ![0, 0] S1024x128.size (by decide))) (pM (View.ld (sc3.view.read (Elt Ideal) prev.s3) (Rect.unit ![0, 0] S1024x128.size (by decide))) (tFar (View.read (Elt Ideal) arg6.view (arg6.view.rep x2)) (View.read (Elt Ideal) arg7.view (arg7.view.rep x3)))) := by
  unfold runF; dsimp only
  refine (View.read_writes_junk_eq_canon _ _).trans ((View.canon_cons_unit_lit _ _ _ (by decide)).trans ?_)
  rfl
theorem outF5 (h0 : ¬isInit (wordK T1 i)) (h1 : ¬isNear (wordQ T0 i) (wordK T1 i)) (h2 : isFar (wordQ T0 i) (wordK T1 i)) (h3 : ¬isFin (wordQ T0 i) (wordK T1 i)) : sc5.view.read (Elt Ideal) (runF c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out.s5 = upAM (View.ld (sc3.view.read (Elt Ideal) prev.s3) (Rect.unit ![0, 0] S1024x128.size (by decide))) (nM (View.ld (sc3.view.read (Elt Ideal) prev.s3) (Rect.unit ![0, 0] S1024x128.size (by decide))) (tFar (View.read (Elt Ideal) arg6.view (arg6.view.rep x2)) (View.read (Elt Ideal) arg7.view (arg7.view.rep x3)))) (View.ld (sc5.view.read (Elt Ideal) prev.s5) (Rect.unit ![0, 0] S1024x256.size (by decide))) (pM (View.ld (sc3.view.read (Elt Ideal) prev.s3) (Rect.unit ![0, 0] S1024x128.size (by decide))) (tFar (View.read (Elt Ideal) arg6.view (arg6.view.rep x2)) (View.read (Elt Ideal) arg7.view (arg7.view.rep x3)))) (View.read (Elt Ideal) arg7.view (arg7.view.rep x3)) := by
  unfold runF; dsimp only
  refine (View.read_writes_junk_eq_canon _ _).trans ((View.canon_cons_unit_lit _ _ _ (by decide)).trans ?_)
  rfl
end
end Cert.KernelIdeal.Attn
-- ==== Proof.Value.Points.lean ====
module

public import proofs.«01_k».proof.Proof.Value.Fin
public import proofs.«01_k».proof.Proof.Value.Outs
public import proofs.«01_k».proof.Proof.Value.Rows
public import proofs.«01_k».proof.Proof.KI.Frame
public import Idealize.ShloMosaic.Lib.Pipeline.ValueKit
public import Idealize.ShloMosaic.Lib.Pointwise
public import Idealize.ShloMosaic.Lib.Tactic.CleanTypes

/-! The scratch contents as six arrays, and what a point makes of them. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The six scratch arrays: for each head kind the running maximum, the running sum and the running weighted sum. -/
structure Sc where
  M : FVec Ideal S2048x128 .f32
  L : FVec Ideal S2048x128 .f32
  A : FVec Ideal S2048x128 .f32
  M2 : FVec Ideal S1024x128 .f32
  L2 : FVec Ideal S1024x128 .f32
  A2 : FVec Ideal S1024x256 .f32

/-- What a query tile starts from. -/
def Sc.start : Sc := ⟨k0_pay55 (F := Ideal), k0_pay56 (F := Ideal), k0_pay57 (F := Ideal), k0_pay58 (F := Ideal), k0_pay59 (F := Ideal), k0_pay60 (F := Ideal)⟩
/-- A near tile's step, and a far tile's. -/
def Sc.near (s : Sc) (X0 : Vec Ideal S1x256x1024 .bf16) (X1 : Vec Ideal S1x512x1024 .bf16) (X2 : Vec Ideal S1x256x1536 .bf16) (X3 : Vec Ideal S1x512x384 .bf16) (X4 : Vec Ideal S1x5x256x512 .f32) : Sc :=
  ⟨mNear s.M (sNear X0 X1 X4), upL s.M (mNear s.M (sNear X0 X1 X4)) s.L (pNear s.M (sNear X0 X1 X4)), upA s.M (mNear s.M (sNear X0 X1 X4)) s.A (pNear s.M (sNear X0 X1 X4)) X1,
   nM s.M2 (tNear X2 X3 X4), upLM s.M2 (nM s.M2 (tNear X2 X3 X4)) s.L2 (pM s.M2 (tNear X2 X3 X4)), upAM s.M2 (nM s.M2 (tNear X2 X3 X4)) s.A2 (pM s.M2 (tNear X2 X3 X4)) X3⟩
def Sc.far (s : Sc) (X0 : Vec Ideal S1x256x1024 .bf16) (X1 : Vec Ideal S1x512x1024 .bf16) (X2 : Vec Ideal S1x256x1536 .bf16) (X3 : Vec Ideal S1x512x384 .bf16) (X5 : Vec Ideal S2048x128 .f32) : Sc :=
  ⟨mFar s.M X5 (sFar X0 X1), upL s.M (mFar s.M X5 (sFar X0 X1)) s.L (pFar s.M X5 (sFar X0 X1)), upA s.M (mFar s.M X5 (sFar X0 X1)) s.A (pFar s.M X5 (sFar X0 X1)) X1,
   nM s.M2 (tFar X2 X3), upLM s.M2 (nM s.M2 (tFar X2 X3)) s.L2 (pM s.M2 (tFar X2 X3)), upAM s.M2 (nM s.M2 (tFar X2 X3)) s.A2 (pM s.M2 (tFar X2 X3)) X3⟩
/-- The arrays a scratch holds. -/
def scOf {c : Dev nD} (a : St c) : Sc := ⟨sc0.view.read (Elt Ideal) a.s0, sc1.view.read (Elt Ideal) a.s1, sc2.view.read (Elt Ideal) a.s2, sc3.view.read (Elt Ideal) a.s3, sc4.view.read (Elt Ideal) a.s4, sc5.view.read (Elt Ideal) a.s5⟩

theorem zero2 : ∀ a : Fin 2, (![0, 0] : Fin 2 → ℕ) a = 0 := by decide
theorem keepD_eq (N) : keepD N = N := shapeCast_self N _
theorem keepM_eq (N) : keepM N = N := shapeCast_self N _
theorem cFar_eq (X) : cFar X = X := (shapeCast_self _ _).trans (View.ld_unit_lit' _ X (by decide))
theorem ldD (X : Vec Ideal S2048x128 .f32) : View.ld X (Rect.unit ![0, 0] S2048x128.size (by decide)) = X := View.ld_unit_lit' _ X zero2
theorem ldM (X : Vec Ideal S1024x128 .f32) : View.ld X (Rect.unit ![0, 0] S1024x128.size (by decide)) = X := View.ld_unit_lit' _ X zero2
theorem ldW (X : Vec Ideal S1024x256 .f32) : View.ld X (Rect.unit ![0, 0] S1024x256.size (by decide)) = X := View.ld_unit_lit' _ X zero2
theorem rc0 (X : Vec Ideal S2048x128 .f32) : sc0.view.readCov [(⟨Rect.unit ![0, 0] S2048x128.size (by decide), X⟩ : View.Piece (Elt Ideal) S2048x128 .f32)] (Rect.unit ![0, 0] S2048x128.size (by decide)).toLoadRect = X := View.readCov_unit_lit' _ _ X zero2
theorem rc1 (X : Vec Ideal S2048x128 .f32) : sc1.view.readCov [(⟨Rect.unit ![0, 0] S2048x128.size (by decide), X⟩ : View.Piece (Elt Ideal) S2048x128 .f32)] (Rect.unit ![0, 0] S2048x128.size (by decide)).toLoadRect = X := View.readCov_unit_lit' _ _ X zero2
theorem rc2 (X : Vec Ideal S2048x128 .f32) : sc2.view.readCov [(⟨Rect.unit ![0, 0] S2048x128.size (by decide), X⟩ : View.Piece (Elt Ideal) S2048x128 .f32)] (Rect.unit ![0, 0] S2048x128.size (by decide)).toLoadRect = X := View.readCov_unit_lit' _ _ X zero2
theorem rc3 (X : Vec Ideal S1024x128 .f32) : sc3.view.readCov [(⟨Rect.unit ![0, 0] S1024x128.size (by decide), X⟩ : View.Piece (Elt Ideal) S1024x128 .f32)] (Rect.unit ![0, 0] S1024x128.size (by decide)).toLoadRect = X := View.readCov_unit_lit' _ _ X zero2
theorem rc4 (X : Vec Ideal S1024x128 .f32) : sc4.view.readCov [(⟨Rect.unit ![0, 0] S1024x128.size (by decide), X⟩ : View.Piece (Elt Ideal) S1024x128 .f32)] (Rect.unit ![0, 0] S1024x128.size (by decide)).toLoadRect = X := View.readCov_unit_lit' _ _ X zero2
theorem rc5 (X : Vec Ideal S1024x256 .f32) : sc5.view.readCov [(⟨Rect.unit ![0, 0] S1024x256.size (by decide), X⟩ : View.Piece (Elt Ideal) S1024x256 .f32)] (Rect.unit ![0, 0] S1024x256.size (by decide)).toLoadRect = X := View.readCov_unit_lit' _ _ X zero2

section
variable (c : Dev nD) (i : grid0.Coords)
  (arg4 : Memref sig .tc .vmem S1x256x1024 .bf16) (harg4 : arg4.IsWhole) (arg5 : Memref sig .tc .vmem S1x512x1024 .bf16) (harg5 : arg5.IsWhole)
  (arg6 : Memref sig .tc .vmem S1x256x1536 .bf16) (harg6 : arg6.IsWhole) (arg7 : Memref sig .tc .vmem S1x512x384 .bf16) (harg7 : arg7.IsWhole)
  (arg8 : Memref sig .tc .vmem S1x5x256x512 .f32) (harg8 : arg8.IsWhole) (arg9 : Memref sig .tc .vmem S2048x128 .f32) (harg9 : arg9.IsWhole)
  (arg10 : Memref sig .tc .vmem S4x64 .f32) (harg10 : arg10.IsWhole) (arg11 : Memref sig .tc .vmem S1x128 .f32) (harg11 : arg11.IsWhole)
  (arg12 : Memref sig .tc .vmem S4x256x128 .bf16) (harg12 : arg12.IsWhole) (arg13 : Memref sig .tc .vmem S1x256x1024 .bf16) (harg13 : arg13.IsWhole)
  (T0 T1 : S272.Idx → Elt Ideal .i32)
  (x0 : S1x256x1024.Idx → Elt Ideal .bf16) (x1 : S1x512x1024.Idx → Elt Ideal .bf16) (x2 : S1x256x1536.Idx → Elt Ideal .bf16)
  (x3 : S1x512x384.Idx → Elt Ideal .bf16) (x4 : S1x5x256x512.Idx → Elt Ideal .f32) (x5 : S2048x128.Idx → Elt Ideal .f32)
  (x6 : S4x64.Idx → Elt Ideal .f32) (x7 : S1x128.Idx → Elt Ideal .f32) (x8 : S4x256x128.Idx → Elt Ideal .bf16)

  (prev : St c)

theorem stepA (h0 : isInit (wordK T1 i)) (h1 : isNear (wordQ T0 i) (wordK T1 i)) (h2 : ¬isFar (wordQ T0 i) (wordK T1 i)) (h3 : isFin (wordQ T0 i) (wordK T1 i)) : scOf (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out = Sc.near Sc.start x0 x1 x2 x3 x4 := by
  unfold scOf Sc.near
  rw [outA0, outA1, outA2, outA3, outA4, outA5]
  rw [View.read_rep arg4.view x0, View.read_rep arg5.view x1, View.read_rep arg6.view x2, View.read_rep arg7.view x3, View.read_rep arg8.view x4, rc0, rc1, rc2, rc3, rc4, rc5, keepD_eq, keepM_eq]
  rfl
theorem stepB (h0 : isInit (wordK T1 i)) (h1 : isNear (wordQ T0 i) (wordK T1 i)) (h2 : ¬isFar (wordQ T0 i) (wordK T1 i)) (h3 : ¬isFin (wordQ T0 i) (wordK T1 i)) : scOf (runB c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out = Sc.near Sc.start x0 x1 x2 x3 x4 := by
  unfold scOf Sc.near
  rw [outB0, outB1, outB2, outB3, outB4, outB5]
  rw [View.read_rep arg4.view x0, View.read_rep arg5.view x1, View.read_rep arg6.view x2, View.read_rep arg7.view x3, View.read_rep arg8.view x4, rc0, rc1, rc2, rc3, rc4, rc5, keepD_eq, keepM_eq]
  rfl
theorem stepC (h0 : ¬isInit (wordK T1 i)) (h1 : isNear (wordQ T0 i) (wordK T1 i)) (h2 : ¬isFar (wordQ T0 i) (wordK T1 i)) (h3 : isFin (wordQ T0 i) (wordK T1 i)) : scOf (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out = Sc.near (scOf prev) x0 x1 x2 x3 x4 := by
  unfold scOf Sc.near
  rw [outC0, outC1, outC2, outC3, outC4, outC5]
  rw [View.read_rep arg4.view x0, View.read_rep arg5.view x1, View.read_rep arg6.view x2, View.read_rep arg7.view x3, View.read_rep arg8.view x4, ldD (sc0.view.read (Elt Ideal) prev.s0), ldD (sc1.view.read (Elt Ideal) prev.s1), ldD (sc2.view.read (Elt Ideal) prev.s2), ldM (sc3.view.read (Elt Ideal) prev.s3), ldM (sc4.view.read (Elt Ideal) prev.s4), ldW (sc5.view.read (Elt Ideal) prev.s5), keepD_eq, keepM_eq]
theorem stepD (h0 : isInit (wordK T1 i)) (h1 : ¬isNear (wordQ T0 i) (wordK T1 i)) (h2 : isFar (wordQ T0 i) (wordK T1 i)) (h3 : ¬isFin (wordQ T0 i) (wordK T1 i)) : scOf (runD c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out = Sc.far Sc.start x0 x1 x2 x3 x5 := by
  unfold scOf Sc.far
  rw [outD0, outD1, outD2, outD3, outD4, outD5]
  rw [View.read_rep arg4.view x0, View.read_rep arg5.view x1, View.read_rep arg6.view x2, View.read_rep arg7.view x3, View.read_rep arg9.view x5, rc0, rc1, rc2, rc3, rc4, rc5, keepD_eq, keepM_eq, cFar_eq]
  rfl
theorem stepE (h0 : ¬isInit (wordK T1 i)) (h1 : isNear (wordQ T0 i) (wordK T1 i)) (h2 : ¬isFar (wordQ T0 i) (wordK T1 i)) (h3 : ¬isFin (wordQ T0 i) (wordK T1 i)) : scOf (runE c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out = Sc.near (scOf prev) x0 x1 x2 x3 x4 := by
  unfold scOf Sc.near
  rw [outE0, outE1, outE2, outE3, outE4, outE5]
  rw [View.read_rep arg4.view x0, View.read_rep arg5.view x1, View.read_rep arg6.view x2, View.read_rep arg7.view x3, View.read_rep arg8.view x4, ldD (sc0.view.read (Elt Ideal) prev.s0), ldD (sc1.view.read (Elt Ideal) prev.s1), ldD (sc2.view.read (Elt Ideal) prev.s2), ldM (sc3.view.read (Elt Ideal) prev.s3), ldM (sc4.view.read (Elt Ideal) prev.s4), ldW (sc5.view.read (Elt Ideal) prev.s5), keepD_eq, keepM_eq]
theorem stepF (h0 : ¬isInit (wordK T1 i)) (h1 : ¬isNear (wordQ T0 i) (wordK T1 i)) (h2 : isFar (wordQ T0 i) (wordK T1 i)) (h3 : ¬isFin (wordQ T0 i) (wordK T1 i)) : scOf (runF c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out = Sc.far (scOf prev) x0 x1 x2 x3 x5 := by
  unfold scOf Sc.far
  rw [outF0, outF1, outF2, outF3, outF4, outF5]
  rw [View.read_rep arg4.view x0, View.read_rep arg5.view x1, View.read_rep arg6.view x2, View.read_rep arg7.view x3, View.read_rep arg9.view x5, ldD (sc0.view.read (Elt Ideal) prev.s0), ldD (sc1.view.read (Elt Ideal) prev.s1), ldD (sc2.view.read (Elt Ideal) prev.s2), ldM (sc3.view.read (Elt Ideal) prev.s3), ldM (sc4.view.read (Elt Ideal) prev.s4), ldW (sc5.view.read (Elt Ideal) prev.s5), keepD_eq, keepM_eq, cFar_eq]
theorem finA (h0 : isInit (wordK T1 i)) (h1 : isNear (wordQ T0 i) (wordK T1 i)) (h2 : ¬isFar (wordQ T0 i) (wordK T1 i)) (h3 : isFin (wordQ T0 i) (wordK T1 i)) : ∃ U1 U2 U4 U5, (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).pcs = finPieces U1 U2 U4 U5 (scOf (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out).L (scOf (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out).A
    (scOf (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out).L2 (scOf (runA c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out).A2 x6 x7 x8 := by
  unfold scOf
  rw [outA1, outA2, outA4, outA5, pcsA]
  rw [View.read_rep arg10.view x6, View.read_rep arg11.view x7, View.read_rep arg12.view x8]
  exact ⟨_, _, _, _, rfl⟩
theorem finC (h0 : ¬isInit (wordK T1 i)) (h1 : isNear (wordQ T0 i) (wordK T1 i)) (h2 : ¬isFar (wordQ T0 i) (wordK T1 i)) (h3 : isFin (wordQ T0 i) (wordK T1 i)) : ∃ U1 U2 U4 U5, (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).pcs = finPieces U1 U2 U4 U5 (scOf (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out).L (scOf (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out).A
    (scOf (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out).L2 (scOf (runC c i arg4 harg4 arg5 harg5 arg6 harg6 arg7 harg7 arg8 harg8 arg9 harg9 arg10 harg10 arg11 harg11 arg12 harg12 arg13 harg13 T0 T1 x0 x1 x2 x3 x4 x5 x6 x7 x8 prev h0 h1 h2 h3).out).A2 x6 x7 x8 := by
  unfold scOf
  rw [outC1, outC2, outC4, outC5, pcsC]
  rw [View.read_rep arg10.view x6, View.read_rep arg11.view x7, View.read_rep arg12.view x8]
  exact ⟨_, _, _, _, rfl⟩
end

variable (m : (ℓ : Loc nD τ sig) → Buf (Elt Ideal) ℓ)

/-- What point `t` makes of the scratch. -/
def ptStep (c : Dev nD) (t : Fin cfgA.N) (s : Sc) : Sc :=
  if qOf t.val < 2 * kOf t.val + 3 then (if kOf t.val = 0 then Sc.start else s).near (iblk m c (0 : Fin 10) t) (iblk m c (1 : Fin 10) t) (iblk m c (2 : Fin 10) t) (iblk m c (3 : Fin 10) t) (iblk m c (4 : Fin 10) t)
  else (if kOf t.val = 0 then Sc.start else s).far (iblk m c (0 : Fin 10) t) (iblk m c (1 : Fin 10) t) (iblk m c (2 : Fin 10) t) (iblk m c (3 : Fin 10) t) (iblk m c (5 : Fin 10) t)

theorem ptRun_step (c : Dev nD) (t : Fin cfgA.N) (prev : St c) : scOf (ptRun m c t prev).out = ptStep m c t (scOf prev) := by
  unfold ptRun ptStep
  by_cases h0 : kOf t.val = 0
  · rw [dif_pos h0, if_pos h0]
    by_cases h1 : qOf t.val < 2 * kOf t.val + 3
    · rw [dif_pos h1, if_pos h1]
      by_cases h4 : kOf t.val = qOf t.val / 2
      · rw [dif_pos h4]; exact stepA c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev ((factsAt t).1.2 h0) ((factsAt t).2.1.2 h1) (fun h => (factsAt t).2.2.1.1 h h1) ((factsAt t).2.2.2.1.2 h4)
      · rw [dif_neg h4]; exact stepB c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev ((factsAt t).1.2 h0) ((factsAt t).2.1.2 h1) (fun h => (factsAt t).2.2.1.1 h h1) (fun h => h4 ((factsAt t).2.2.2.1.1 h))
    · rw [dif_neg h1, if_neg h1]; exact stepD c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev ((factsAt t).1.2 h0) (fun h => h1 ((factsAt t).2.1.1 h)) ((factsAt t).2.2.1.2 h1) (fun h => fin_of_far h1 ((factsAt t).2.2.2.1.1 h))
  · rw [dif_neg h0, if_neg h0]
    by_cases h1 : qOf t.val < 2 * kOf t.val + 3
    · rw [dif_pos h1, if_pos h1]
      by_cases h4 : kOf t.val = qOf t.val / 2
      · rw [dif_pos h4]; exact stepC c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev (fun h => h0 ((factsAt t).1.1 h)) ((factsAt t).2.1.2 h1) (fun h => (factsAt t).2.2.1.1 h h1) ((factsAt t).2.2.2.1.2 h4)
      · rw [dif_neg h4]; exact stepE c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev (fun h => h0 ((factsAt t).1.1 h)) ((factsAt t).2.1.2 h1) (fun h => (factsAt t).2.2.1.1 h h1) (fun h => h4 ((factsAt t).2.2.2.1.1 h))
    · rw [dif_neg h1, if_neg h1]; exact stepF c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev (fun h => h0 ((factsAt t).1.1 h)) (fun h => h1 ((factsAt t).2.1.1 h)) ((factsAt t).2.2.1.2 h1) (fun h => fin_of_far h1 ((factsAt t).2.2.2.1.1 h))

/-- The arrays after the first `n` points. -/
theorem scAt_succ (c : Dev nD) (t : Fin cfgA.N) : scOf (scrAt m c (t.val + 1)) = ptStep m c t (scOf (scrAt m c t.val)) := by
  rw [scrAt_succ, ptRun_step]

/-- At a query tile's last point the eight column blocks are stored from what the scratch then holds. -/
theorem ptRun_fin (c : Dev nD) (t : Fin cfgA.N) (prev : St c) (h4 : kOf t.val = qOf t.val / 2) :
    ∃ U1 U2 U4 U5, (ptRun m c t prev).pcs = finPieces U1 U2 U4 U5 (scOf (ptRun m c t prev).out).L (scOf (ptRun m c t prev).out).A
      (scOf (ptRun m c t prev).out).L2 (scOf (ptRun m c t prev).out).A2 (iblk m c (6 : Fin 10) t) (iblk m c (7 : Fin 10) t) (iblk m c (8 : Fin 10) t) := by
  unfold ptRun
  by_cases h0 : kOf t.val = 0
  · rw [dif_pos h0]
    by_cases h1 : qOf t.val < 2 * kOf t.val + 3
    · rw [dif_pos h1, dif_pos h4]; exact finA c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev ((factsAt t).1.2 h0) ((factsAt t).2.1.2 h1) (fun h => (factsAt t).2.2.1.1 h h1) ((factsAt t).2.2.2.1.2 h4)
    · exact absurd h4 (fin_of_far h1)
  · rw [dif_neg h0]
    by_cases h1 : qOf t.val < 2 * kOf t.val + 3
    · rw [dif_pos h1, dif_pos h4]; exact finC c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) pinQ pinK (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t) prev (fun h => h0 ((factsAt t).1.1 h)) ((factsAt t).2.1.2 h1) (fun h => (factsAt t).2.2.1.1 h h1) ((factsAt t).2.2.2.1.2 h4)
    · exact absurd h4 (fin_of_far h1)

end Cert.KernelIdeal.Attn
-- ==== Proof.Value.Step.lean ====
module

public import proofs.«01_k».proof.Proof.Value.Points
public import proofs.«01_k».proof.Proof.Value.Online
public import Idealize.ShloMosaic.Lib.Pipeline.ValueKit
public import Idealize.ShloMosaic.Lib.Pointwise
public import Idealize.ShloMosaic.Lib.Tactic.CleanTypes

/-! One row of the scratch against the softmax over the keys taken so far: it holds before a query tile, and each tile's step keeps it. -/

@[expose] public section

set_option maxRecDepth 16384
set_option Elab.async false

noncomputable section

namespace Cert.KernelIdeal.Attn

open Cert.Online
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- A row of the first head kind's arrays holds the keys below `K`, of scores `σ` and values `v`. -/
structure RowD (s : Sc) (R : Fin 2048) (σ : ℕ → EReal) (v : ℕ → Fin 128 → ℝ) (K : ℕ) (mx : EReal) : Prop where
  ne : mx ≠ ⊤
  real : mx ≠ ⊥ ∨ K = 0
  top : ∀ l, s.M (ix2 R l) = mx
  sum : ∀ l, Held mx (s.L (ix2 R l)) (∑ i ∈ Finset.range K, wt (σ i))
  acc : ∀ e, Held mx (s.A (ix2 R e)) (∑ i ∈ Finset.range K, wt (σ i) * v i e)
/-- The same of the second's. -/
structure RowM (s : Sc) (R : Fin 1024) (σ : ℕ → EReal) (v : ℕ → Fin 256 → ℝ) (K : ℕ) (mx : EReal) : Prop where
  ne : mx ≠ ⊤
  real : mx ≠ ⊥ ∨ K = 0
  top : ∀ l, s.M2 (ix2 R l) = mx
  sum : ∀ l, Held mx (s.L2 (ix2 R l)) (∑ i ∈ Finset.range K, wt (σ i))
  acc : ∀ e, Held mx (s.A2 (ix2 R e)) (∑ i ∈ Finset.range K, wt (σ i) * v i e)

theorem low55 (R : Fin 2048) (l : Fin 128) : k0_pay55 (F := Ideal) (ix2 R l) = (⊥ : EReal) := by
  unfold k0_pay55; pointwise; rfl
theorem low58 (R : Fin 1024) (l : Fin 128) : k0_pay58 (F := Ideal) (ix2 R l) = (⊥ : EReal) := by
  unfold k0_pay58; pointwise; rfl
theorem zero56 (R : Fin 2048) (l : Fin 128) : k0_pay56 (F := Ideal) (ix2 R l) = (0 : EReal) := by
  unfold k0_pay56; pointwise
theorem zero57 (R : Fin 2048) (l : Fin 128) : k0_pay57 (F := Ideal) (ix2 R l) = (0 : EReal) := by
  unfold k0_pay57; pointwise
theorem zero59 (R : Fin 1024) (l : Fin 128) : k0_pay59 (F := Ideal) (ix2 R l) = (0 : EReal) := by
  unfold k0_pay59; pointwise
theorem zero60 (R : Fin 1024) (l : Fin 256) : k0_pay60 (F := Ideal) (ix2 R l) = (0 : EReal) := by
  unfold k0_pay60; pointwise

theorem startD (R : Fin 2048) (σ v) : RowD Sc.start R σ v 0 ⊥ where
  ne := bot_ne_top
  real := Or.inr rfl
  top l := low55 R l
  sum l := Eq.subst (motive := fun z => Held _ z _) (zero56 R l).symm held_start
  acc l := Eq.subst (motive := fun z => Held _ z _) (zero57 R l).symm held_start
theorem startM (R : Fin 1024) (σ v) : RowM Sc.start R σ v 0 ⊥ where
  ne := bot_ne_top
  real := Or.inr rfl
  top l := low58 R l
  sum l := Eq.subst (motive := fun z => Held _ z _) (zero59 R l).symm held_start
  acc l := Eq.subst (motive := fun z => Held _ z _) (zero60 R l).symm held_start

/-- One tile of a row: the new sum and weighted sum, from the new maximum and the tile's weights. -/
theorem held_tile {mx x : EReal} {σ : ℕ → EReal} {w : ℕ → ℝ} {k : ℕ} (h : Held mx x (∑ i ∈ Finset.range (512 * k), wt (σ i) * w i)) (N : ℝ) {p : Fin 512 → EReal} {y : Fin 512 → EReal}
    (hp : ∀ j, p j = ((wt (σ (512 * k + j.val)) * Real.exp (-N) : ℝ) : EReal)) (hy : ∀ j, y j = (w (512 * k + j.val) : EReal)) :
    Held (N : EReal) (Ideal.exp (mx - (N : EReal)) * x + ∑ j, p j * y j) (∑ i ∈ Finset.range (512 * (k + 1)), wt (σ i) * w i) := by
  rw [sum_tile (fun i => wt (σ i) * w i)]
  refine held_step h N fun j => ?_
  rw [hp, hy, ← EReal.coe_mul]; congr 1; ring
theorem held_tile1 {mx x : EReal} {σ : ℕ → EReal} {k : ℕ} (h : Held mx x (∑ i ∈ Finset.range (512 * k), wt (σ i))) (N : ℝ) {p : Fin 512 → EReal}
    (hp : ∀ j, p j = ((wt (σ (512 * k + j.val)) * Real.exp (-N) : ℝ) : EReal)) :
    Held (N : EReal) (Ideal.exp (mx - (N : EReal)) * x + ∑ j, p j) (∑ i ∈ Finset.range (512 * (k + 1)), wt (σ i)) := by
  rw [sum_tile fun i => wt (σ i)]
  exact held_step h N hp

section at_
theorem upL_at (M N L : FVec Ideal S2048x128 .f32) (p : FVec Ideal S2048x512 .f32) (R : Fin 2048) (l : Fin 128) :
    upL M N L p (ix2 R l) = Ideal.exp (M (ix2 R l) - N (ix2 R l)) * L (ix2 R l) + ∑ j, p (ix2 R j) := by
  unfold upL
  rw [shapeCast_self]
  exact congrArg₂ (fun a b : EReal => a + b) rfl (sumD_at p R l)
theorem upLM_at (M N L : FVec Ideal S1024x128 .f32) (p : FVec Ideal S1024x512 .f32) (R : Fin 1024) (l : Fin 128) :
    upLM M N L p (ix2 R l) = Ideal.exp (M (ix2 R l) - N (ix2 R l)) * L (ix2 R l) + ∑ j, p (ix2 R j) := by
  unfold upLM
  rw [shapeCast_self]
  exact congrArg₂ (fun a b : EReal => a + b) rfl (sumM_at p R l)
theorem upA_at (M N A : FVec Ideal S2048x128 .f32) (p : FVec Ideal S2048x512 .f32) (X1 : Vec Ideal S1x512x1024 .bf16) (h : Fin 4) (u : Fin 2) (r : Fin 256) (e : Fin 128) :
    upA M N A p X1 (ix2 (rowD h u r) e) = Ideal.exp (M (ix2 (rowD h u r) e) - N (ix2 (rowD h u r) e)) * A (ix2 (rowD h u r) e)
      + ∑ j : Fin 512, p (ix2 (rowD h u r) j) * X1 (ix3 0 j ⟨512 + 128 * h.val + e.val, by omega⟩) := by
  unfold upA
  rw [shapeCast_self]
  refine congrArg₂ (fun a b : EReal => a + b) rfl ((stackA_at h u r _ _ _ _ e).trans ?_)
  fin_cases h
  · refine (pv_at p 0 _ _ (rowP u r) e (by simp only [rowP]; omega)).trans (Finset.sum_congr rfl fun j _ => ?_)
    exact congrArg₂ (fun a b : EReal => a * b) (congrArg (fun z => p (ix2 z j)) (Fin.ext (by simp only [rowD, rowP]; omega))) (kCut_at X1 512 (by decide) j e (by omega))
  · refine (pv_at p 512 _ _ (rowP u r) e (by simp only [rowP]; omega)).trans (Finset.sum_congr rfl fun j _ => ?_)
    exact congrArg₂ (fun a b : EReal => a * b) (congrArg (fun z => p (ix2 z j)) (Fin.ext (by simp only [rowD, rowP]; omega))) (kCut_at X1 640 (by decide) j e (by omega))
  · refine (pv_at p 1024 _ _ (rowP u r) e (by simp only [rowP]; omega)).trans (Finset.sum_congr rfl fun j _ => ?_)
    exact congrArg₂ (fun a b : EReal => a * b) (congrArg (fun z => p (ix2 z j)) (Fin.ext (by simp only [rowD, rowP]; omega))) (kCut_at X1 768 (by decide) j e (by omega))
  · refine (pv_at p 1536 _ _ (rowP u r) e (by simp only [rowP]; omega)).trans (Finset.sum_congr rfl fun j _ => ?_)
    exact congrArg₂ (fun a b : EReal => a * b) (congrArg (fun z => p (ix2 z j)) (Fin.ext (by simp only [rowD, rowP]; omega))) (kCut_at X1 896 (by decide) j e (by omega))
theorem upAM_at (M N : FVec Ideal S1024x128 .f32) (A : FVec Ideal S1024x256 .f32) (p : FVec Ideal S1024x512 .f32) (X3 : Vec Ideal S1x512x384 .bf16) (R : Fin 1024) (e : Fin 256)
    {w : EReal} (hw : ∀ l, Ideal.exp (M (ix2 R l) - N (ix2 R l)) = w) :
    upAM M N A p X3 (ix2 R e) = w * A (ix2 R e) + ∑ j : Fin 512, p (ix2 R j) * X3 (ix3 0 j ⟨e.val, by omega⟩) := by
  have c1 : ∀ v : FVec Ideal S1024x128 .f32, (∀ l, v (ix2 R l) = w) →
      concatenate S1024x256 1 [⟨S1024x128, v⟩, ⟨S1024x128, v⟩] concatenates_S1024x128_S1024x128_S1024x256_d1 (ix2 R e) = w := by
    intro v hv; pointwise; split_ifs <;> exact hv _
  have c2 : ∀ (a : FVec Ideal S1024x512 .bf16) (b : FVec Ideal S512x256 .bf16),
      matmul dot_S1024x512_S512x256_S1024x256_1_0_0_1_n_n none a b (constant S1024x256 .f32 0x00000000#32) (ix2 R e) = ∑ j : Fin 512, a (ix2 R j) * b (ix2 j e) := by
    intro a b; pointwise
  unfold upAM
  rw [shapeCast_self]
  refine congrArg₂ (fun a b : EReal => a + b) (congrArg₂ (fun a b : EReal => a * b) (c1 _ hw) rfl) ((c2 _ _).trans (Finset.sum_congr rfl fun j _ => ?_))
  exact congrArg₂ (fun a b : EReal => a * b) rfl (vmAll_at X3 j e)
end at_

section step
variable {s : Sc} {k : ℕ}

/-- A near tile, the first head kind. -/
theorem RowD.near {h : Fin 4} {u : Fin 2} {r : Fin 256} {σ : ℕ → EReal} {v : ℕ → Fin 128 → ℝ} {mx : EReal} (H : RowD s (rowD h u r) σ v (512 * k) mx) {X0 X1 X2 X3 X4}
    (ht : ∀ j : Fin 512, sNear X0 X1 X4 (ix2 (rowD h u r) j) = σ (512 * k + j.val)) (hT : ∀ i, σ i ≠ ⊤) (h0 : σ 0 ≠ ⊥)
    (hv : ∀ (j : Fin 512) (e : Fin 128), X1 (ix3 0 j ⟨512 + 128 * h.val + e.val, by omega⟩) = ((v (512 * k + j.val) e : ℝ) : EReal)) :
    ∃ mx', RowD (s.near X0 X1 X2 X3 X4) (rowD h u r) σ v (512 * (k + 1)) mx' := by
  have eN : ∀ l, mNear s.M (sNear X0 X1 X4) (ix2 (rowD h u r) l) = max mx (Finset.univ.fold max ⊥ fun j : Fin 512 => σ (512 * k + j.val)) := fun l =>
    congrArg₂ (fun a b : EReal => max a b) (H.top l) ((topD_at _ _ l).trans (by simp only [ht]))
  obtain ⟨N, hN⟩ := max_real H.ne (fold_max_ne_top (fun j : Fin 512 => σ (512 * k + j.val)) fun j => hT _) (H.real.imp id fun hk => by
    have hk0 : k = 0 := by omega
    subst hk0
    exact fold_max_ne_bot _ (0 : Fin 512) h0)
  rw [hN] at eN
  have hp : ∀ j : Fin 512, pNear s.M (sNear X0 X1 X4) (ix2 (rowD h u r) j) = ((wt (σ (512 * k + j.val)) * Real.exp (-N) : ℝ) : EReal) := fun j => by
    refine Eq.trans ?_ (exp_sub _ (hT (512 * k + j.val)) N)
    exact congrArg Ideal.exp (congrArg₂ (fun a b : EReal => a - b) (ht j) (wideD_at _ _ j eN))
  refine ⟨N, ⟨EReal.coe_ne_top N, Or.inl (EReal.coe_ne_bot N), eN, fun l => ?_, fun e => ?_⟩⟩
  · refine Eq.subst (motive := fun z => Held _ z _) ?_ (held_tile1 (H.sum l) N hp)
    exact ((upL_at _ _ _ _ _ l).trans (by rw [H.top, eN])).symm
  · refine Eq.subst (motive := fun z => Held _ z _) ?_ (held_tile (w := fun i => v i e) (H.acc e) N hp fun j => hv j e)
    exact ((upA_at _ _ _ _ X1 h u r e).trans (by rw [H.top, eN])).symm

/-- A far tile: the row's bias is one number, taken off the maximum. -/
theorem RowD.far {h : Fin 4} {u : Fin 2} {r : Fin 256} {σ : ℕ → EReal} {v : ℕ → Fin 128 → ℝ} {mx : EReal} (H : RowD s (rowD h u r) σ v (512 * k) mx) {X0 X1 X2 X3 X5} {b : ℝ} {τ : ℕ → EReal}
    (hb : ∀ l, X5 (ix2 (rowD h u r) l) = (b : EReal)) (hτ : ∀ j : Fin 512, sFar X0 X1 (ix2 (rowD h u r) j) = τ (512 * k + j.val))
    (ht : ∀ j : Fin 512, σ (512 * k + j.val) = τ (512 * k + j.val) + b) (hTτ : ∀ j : Fin 512, τ (512 * k + j.val) ≠ ⊤) (hB : ∀ j : Fin 512, τ (512 * k + j.val) ≠ ⊥)
    (hv : ∀ (j : Fin 512) (e : Fin 128), X1 (ix3 0 j ⟨512 + 128 * h.val + e.val, by omega⟩) = ((v (512 * k + j.val) e : ℝ) : EReal)) :
    ∃ mx', RowD (s.far X0 X1 X2 X3 X5) (rowD h u r) σ v (512 * (k + 1)) mx' := by
  have eN : ∀ l, mFar s.M X5 (sFar X0 X1) (ix2 (rowD h u r) l) = max mx ((Finset.univ.fold max ⊥ fun j : Fin 512 => τ (512 * k + j.val)) + (b : EReal)) := fun l =>
    congrArg₂ (fun a b : EReal => max a b) (H.top l) (congrArg₂ (fun a b : EReal => a + b) ((topD_at _ _ l).trans (by simp only [hτ])) (hb l))
  obtain ⟨F, hF⟩ := fold_max_real (fun j : Fin 512 => τ (512 * k + j.val)) hTτ (0 : Fin 512) (hB 0)
  rw [hF, ← EReal.coe_add] at eN
  obtain ⟨N, hN⟩ := max_real H.ne (EReal.coe_ne_top (F + b)) (Or.inr (EReal.coe_ne_bot (F + b)))
  rw [hN] at eN
  have hp : ∀ j : Fin 512, pFar s.M X5 (sFar X0 X1) (ix2 (rowD h u r) j) = ((wt (σ (512 * k + j.val)) * Real.exp (-N) : ℝ) : EReal) := fun j => by
    rw [ht]
    refine Eq.trans ?_ (exp_sub_shift _ (hTτ j) b N)
    exact congrArg Ideal.exp (congrArg₂ (fun a b : EReal => a - b) (hτ j) (wideD_at _ _ j fun l => congrArg₂ (fun a b : EReal => a - b) (eN l) (hb l)))
  refine ⟨N, ⟨EReal.coe_ne_top N, Or.inl (EReal.coe_ne_bot N), eN, fun l => ?_, fun e => ?_⟩⟩
  · refine Eq.subst (motive := fun z => Held _ z _) ?_ (held_tile1 (H.sum l) N hp)
    exact ((upL_at _ _ _ _ _ l).trans (by rw [H.top, eN])).symm
  · refine Eq.subst (motive := fun z => Held _ z _) ?_ (held_tile (w := fun i => v i e) (H.acc e) N hp fun j => hv j e)
    exact ((upA_at _ _ _ _ X1 h u r e).trans (by rw [H.top, eN])).symm

/-- The second head kind's step, of any scores. -/
theorem stepM {R : Fin 1024} {σ : ℕ → EReal} {v : ℕ → Fin 256 → ℝ} {mx : EReal} (H : RowM s R σ v (512 * k) mx) {X3} {t : FVec Ideal S1024x512 .f32} {s' : Sc}
    (e1 : s'.M2 = nM s.M2 t) (e2 : s'.L2 = upLM s.M2 (nM s.M2 t) s.L2 (pM s.M2 t)) (e3 : s'.A2 = upAM s.M2 (nM s.M2 t) s.A2 (pM s.M2 t) X3)
    (ht : ∀ j : Fin 512, t (ix2 R j) = σ (512 * k + j.val)) (hT : ∀ i, σ i ≠ ⊤) (h0 : σ 0 ≠ ⊥)
    (hv : ∀ (j : Fin 512) (e : Fin 256), X3 (ix3 0 j ⟨e.val, by omega⟩) = ((v (512 * k + j.val) e : ℝ) : EReal)) :
    ∃ mx', RowM s' R σ v (512 * (k + 1)) mx' := by
  have eN : ∀ l, nM s.M2 t (ix2 R l) = max mx (Finset.univ.fold max ⊥ fun j : Fin 512 => σ (512 * k + j.val)) := fun l =>
    congrArg₂ (fun a b : EReal => max a b) (H.top l) ((topM_at _ _ l).trans (by simp only [ht]))
  obtain ⟨N, hN⟩ := max_real H.ne (fold_max_ne_top (fun j : Fin 512 => σ (512 * k + j.val)) fun j => hT _) (H.real.imp id fun hk => by
    have hk0 : k = 0 := by omega
    subst hk0
    exact fold_max_ne_bot _ (0 : Fin 512) h0)
  rw [hN] at eN
  have hp : ∀ j : Fin 512, pM s.M2 t (ix2 R j) = ((wt (σ (512 * k + j.val)) * Real.exp (-N) : ℝ) : EReal) := fun j => by
    refine Eq.trans ?_ (exp_sub _ (hT (512 * k + j.val)) N)
    exact congrArg Ideal.exp (congrArg₂ (fun a b : EReal => a - b) (ht j) (wideM_at _ _ j eN))
  refine ⟨N, ⟨EReal.coe_ne_top N, Or.inl (EReal.coe_ne_bot N), fun l => ?_, fun l => ?_, fun e => ?_⟩⟩
  · rw [e1]; exact eN l
  · rw [e2]
    refine Eq.subst (motive := fun z => Held _ z _) ?_ (held_tile1 (H.sum l) N hp)
    exact ((upLM_at _ _ _ _ _ l).trans (by rw [H.top, eN])).symm
  · rw [e3]
    refine Eq.subst (motive := fun z => Held _ z _) ?_ (held_tile (w := fun i => v i e) (H.acc e) N hp fun j => hv j e)
    exact (upAM_at _ _ _ _ X3 _ e (w := Ideal.exp (mx - (N : EReal))) fun l => by rw [H.top, eN]).symm
end step
end Cert.KernelIdeal.Attn
-- ==== Proof.Value.Induct.lean ====
module

public import proofs.«01_k».proof.Proof.Value.HostAt
public import proofs.«01_k».proof.Proof.Value.Blocks
public import proofs.«01_k».proof.Proof.Value.Step
public import Idealize.ShloMosaic.Lib.Pipeline.ValueKit
public import Idealize.ShloMosaic.Lib.Pointwise
public import Idealize.ShloMosaic.Lib.Tactic.CleanTypes

/-! Every row's running sums, by induction over the grid's points. -/

@[expose] public section

set_option maxRecDepth 16384
set_option Elab.async false

noncomputable section

namespace Cert.KernelIdeal.Attn

open Cert.Online Cert.Spec
open Cert.KernelIdeal Cert.KernelIdeal.Gen
open Idealize.ShloMosaic
open Idealize.ShloMosaic.TcCoe Idealize.ShloMosaic.Tactic
open Idealize.ShloMosaic.Pipeline (Dat Cfg Window)

variable {m : (ℓ : Loc nD τ sig) → Buf (Elt Ideal) ℓ} {c : Dev nD} {A : Arr} (H : HoldsK m c A)

/-- The values a row averages. -/
abbrev vD (A : Arr) (b : Fin 2) (h : Fin 4) (i : ℕ) (e : Fin 128) : ℝ := A.v b (key i) h e
abbrev vM (A : Arr) (b : Fin 2) (i : ℕ) (e : Fin 256) : ℝ := A.ck b (key i) e

theorem kT_val (t : Fin cfgA.N) (j : Fin 512) : (kT t j).val = 512 * kOf t.val + j.val := by
  show kOf t.val * 512 + j.val = _; omega
theorem key_kT (t : Fin cfgA.N) (j : Fin 512) : key (512 * kOf t.val + j.val) = kT t j := by rw [← kT_val, key_val]

include H
theorem score_near (t : Fin cfgA.N) (hn : qOf t.val < 2 * kOf t.val + 3) (h : Fin 4) (u : Fin 2) (r : Fin 256) (j : Fin 512) :
    sNear (iblk m c (0 : Fin 10) t) (iblk m c (1 : Fin 10) t) (iblk m c (4 : Fin 10) t) (ix2 (rowD h u r) j) = sD A (bT t) h u (qT t r) (512 * kOf t.val + j.val) := by
  have hk := k_le t
  have e : ∀ x : Fin 128, @HMul.hMul EReal EReal EReal instHMul (iblk m c (0 : Fin 10) t (ix3 0 r ⟨256 * h.val + 128 * u.val + x.val, by omega⟩)) (iblk m c (1 : Fin 10) t (ix3 0 j ⟨128 * h.val + x.val, by omega⟩))
      = @HMul.hMul EReal EReal EReal instHMul (V m c main_v11 (ix3 (bT t) (qT t r) ⟨256 * h.val + 128 * u.val + x.val, by omega⟩)) (V m c main_v15 (ix3 (bT t) (kT t j) ⟨128 * h.val + x.val, by omega⟩)) := fun x => by
    rw [iblk0_at, iblk1_at]
  refine (sNear_at h u r _ _ _ j).trans ?_
  rw [Finset.sum_congr rfl fun x _ => e x, dotD_num H (bT t) (qT t r) (kT t j) h u, iblk4_at, v171_num H, kT_val]
  unfold sD
  have hm : min (qOf t.val - 2 * kOf t.val) 2 = qOf t.val - 2 * kOf t.val := by omega
  have hq : (qT t r).val = qOf t.val * 256 + r.val := rfl
  by_cases hj : 512 * kOf t.val + j.val ≤ (qT t r).val
  · rw [if_pos hj, if_pos (by dsimp only; rw [hm]; omega), ← EReal.coe_add]
    congr 3
    dsimp only; rw [hm]; congr 1; omega
  · rw [if_neg hj, if_neg (by dsimp only; rw [hm]; omega)]; exact EReal.add_bot _
theorem score_far (t : Fin cfgA.N) (h : Fin 4) (u : Fin 2) (r : Fin 256) (j : Fin 512) :
    sFar (iblk m c (0 : Fin 10) t) (iblk m c (1 : Fin 10) t) (ix2 (rowD h u r) j) = ((dotD A (bT t) h u (qT t r) (512 * kOf t.val + j.val) : ℝ) : EReal) := by
  have e : ∀ x : Fin 128, @HMul.hMul EReal EReal EReal instHMul (iblk m c (0 : Fin 10) t (ix3 0 r ⟨256 * h.val + 128 * u.val + x.val, by omega⟩)) (iblk m c (1 : Fin 10) t (ix3 0 j ⟨128 * h.val + x.val, by omega⟩))
      = @HMul.hMul EReal EReal EReal instHMul (V m c main_v11 (ix3 (bT t) (qT t r) ⟨256 * h.val + 128 * u.val + x.val, by omega⟩)) (V m c main_v15 (ix3 (bT t) (kT t j) ⟨128 * h.val + x.val, by omega⟩)) := fun x => by
    rw [iblk0_at, iblk1_at]
  refine (sFar_at h u r _ _ j).trans ?_
  rw [Finset.sum_congr rfl fun x _ => e x, dotD_num H (bT t) (qT t r) (kT t j) h u, kT_val]
theorem scoreM_far (t : Fin cfgA.N) (h : Fin 4) (r : Fin 256) (j : Fin 512) :
    (∑ x : Fin 384, @HMul.hMul EReal EReal EReal instHMul (iblk m c (2 : Fin 10) t (ix3 0 r ⟨384 * h.val + x.val, by omega⟩)) (iblk m c (3 : Fin 10) t (ix3 0 j x))) = ((dotM A (bT t) h (qT t r) (512 * kOf t.val + j.val) : ℝ) : EReal) := by
  have e : ∀ x : Fin 384, @HMul.hMul EReal EReal EReal instHMul (iblk m c (2 : Fin 10) t (ix3 0 r ⟨384 * h.val + x.val, by omega⟩)) (iblk m c (3 : Fin 10) t (ix3 0 j x))
      = @HMul.hMul EReal EReal EReal instHMul (V m c main_v24 (ix3 (bT t) (qT t r) ⟨384 * h.val + x.val, by omega⟩)) (V m c main_v28 (ix3 (bT t) (kT t j) x)) := fun x => by
    rw [iblk2_at, iblk3_at]
  rw [Finset.sum_congr rfl fun x _ => e x, dotM_num H (bT t) (qT t r) (kT t j) h, kT_val]
theorem scoreM_near (t : Fin cfgA.N) (hn : qOf t.val < 2 * kOf t.val + 3) (h : Fin 4) (r : Fin 256) (j : Fin 512) :
    tNear (iblk m c (2 : Fin 10) t) (iblk m c (3 : Fin 10) t) (iblk m c (4 : Fin 10) t) (ix2 (rowM h r) j) = sM A (bT t) h (qT t r) (512 * kOf t.val + j.val) := by
  have hk := k_le t
  refine (tNear_at h r _ _ _ j).trans ?_
  rw [scoreM_far H t h r j, iblk4_at, v171_mask]
  unfold sM
  have hm : min (qOf t.val - 2 * kOf t.val) 2 = qOf t.val - 2 * kOf t.val := by omega
  have hq : (qT t r).val = qOf t.val * 256 + r.val := rfl
  by_cases hj : 512 * kOf t.val + j.val ≤ (qT t r).val
  · rw [if_pos hj, if_pos (by dsimp only; rw [hm]; omega)]; exact add_zero _
  · rw [if_neg hj, if_neg (by dsimp only; rw [hm]; omega)]; exact EReal.add_bot _

theorem tile_v (t : Fin cfgA.N) (h : Fin 4) (j : Fin 512) (e : Fin 128) :
    iblk m c (1 : Fin 10) t (ix3 0 j ⟨512 + 128 * h.val + e.val, by omega⟩) = ((vD A (bT t) h (512 * kOf t.val + j.val) e : ℝ) : EReal) := by
  rw [iblk1_at, v15_val H, vD, key_kT]
theorem tile_ck (t : Fin cfgA.N) (j : Fin 512) (e : Fin 256) :
    iblk m c (3 : Fin 10) t (ix3 0 j ⟨e.val, by omega⟩) = ((vM A (bT t) (512 * kOf t.val + j.val) e : ℝ) : EReal) := by
  rw [iblk3_at, v28_lat H, vM, key_kT]

/-- One point's step of a row. -/
theorem pointD (t : Fin cfgA.N) (s : Sc) (h : Fin 4) (u : Fin 2) (r : Fin 256) {mx : EReal}
    (hs : RowD (if kOf t.val = 0 then Sc.start else s) (rowD h u r) (sD A (bT t) h u (qT t r)) (vD A (bT t) h) (512 * kOf t.val) mx) :
    ∃ mx', RowD (ptStep m c t s) (rowD h u r) (sD A (bT t) h u (qT t r)) (vD A (bT t) h) (512 * (kOf t.val + 1)) mx' := by
  unfold ptStep
  by_cases hn : qOf t.val < 2 * kOf t.val + 3
  · rw [if_pos hn]
    exact RowD.near hs (fun j => score_near H t hn h u r j) (sD_top A (bT t) h u (qT t r)) (sD_zero A (bT t) h u (qT t r)) (fun j e => tile_v H t h j e)
  · rw [if_neg hn]
    refine RowD.far hs (b := A.rb 31 h) (τ := fun i => ((dotD A (bT t) h u (qT t r) i : ℝ) : EReal)) (fun l => ?_) (fun j => score_far H t h u r j) (fun j => ?_) (fun j => EReal.coe_ne_top _) (fun j => EReal.coe_ne_bot _) (fun j e => tile_v H t h j e)
    · rw [iblk5_at, v175_num H]
    · have hq : (qT t r).val = qOf t.val * 256 + r.val := rfl
      have hl := (qT t r).isLt
      unfold sD
      rw [if_pos (by omega), bucket_far (by omega) (by omega)]
      exact EReal.coe_add _ _
theorem pointM (t : Fin cfgA.N) (s : Sc) (h : Fin 4) (r : Fin 256) {mx : EReal}
    (hs : RowM (if kOf t.val = 0 then Sc.start else s) (rowM h r) (sM A (bT t) h (qT t r)) (vM A (bT t)) (512 * kOf t.val) mx) :
    ∃ mx', RowM (ptStep m c t s) (rowM h r) (sM A (bT t) h (qT t r)) (vM A (bT t)) (512 * (kOf t.val + 1)) mx' := by
  unfold ptStep
  by_cases hn : qOf t.val < 2 * kOf t.val + 3
  · rw [if_pos hn]
    exact stepM (X3 := iblk m c (3 : Fin 10) t) (t := tNear (iblk m c (2 : Fin 10) t) (iblk m c (3 : Fin 10) t) (iblk m c (4 : Fin 10) t)) hs rfl rfl rfl (fun j => scoreM_near H t hn h r j) (sM_top A (bT t) h (qT t r)) (sM_zero A (bT t) h (qT t r)) (fun j e => tile_ck H t j e)
  · rw [if_neg hn]
    refine stepM (X3 := iblk m c (3 : Fin 10) t) (t := tFar (iblk m c (2 : Fin 10) t) (iblk m c (3 : Fin 10) t)) hs rfl rfl rfl (fun j => ?_) (sM_top A (bT t) h (qT t r)) (sM_zero A (bT t) h (qT t r)) (fun j e => tile_ck H t j e)
    refine (tFar_at h r _ _ j).trans ((scoreM_far H t h r j).trans ?_)
    have hq : (qT t r).val = qOf t.val * 256 + r.val := rfl
    unfold sM
    rw [if_pos (by omega)]

theorem rowsD : ∀ (n : ℕ) (hn : n < cfgA.N) (h : Fin 4) (u : Fin 2) (r : Fin 256),
    ∃ mx, RowD (scOf (scrAt m c (n + 1))) (rowD h u r) (sD A (bT ⟨n, hn⟩) h u (qT ⟨n, hn⟩ r)) (vD A (bT ⟨n, hn⟩) h) (512 * (kOf n + 1)) mx := by
  intro n
  induction n with
  | zero =>
    intro hn h u r
    have e := scAt_succ m c ⟨0, hn⟩
    dsimp only at e
    rw [e]
    have hk : kOf 0 = 0 := by decide
    exact pointD H ⟨0, hn⟩ _ h u r (mx := ⊥) (by rw [if_pos hk]; dsimp only; rw [hk]; exact startD _ _ _)
  | succ n ih =>
    intro hn h u r
    have e := scAt_succ m c ⟨n + 1, hn⟩
    dsimp only at e
    rw [e]
    by_cases hk : kOf (n + 1) = 0
    · exact pointD H ⟨n + 1, hn⟩ _ h u r (mx := ⊥) (by rw [if_pos hk]; dsimp only; rw [hk]; exact startD _ _ _)
    · obtain ⟨-, p1, p2, p3⟩ := (factsAt ⟨n + 1, hn⟩).2.2.2.2.2.2.1 hk
      dsimp only at p1 p2 p3
      rw [Nat.add_sub_cancel] at p1 p2 p3
      obtain ⟨mx, hp⟩ := ih (by omega) h u r
      have eb : bT ⟨n, by omega⟩ = bT ⟨n + 1, hn⟩ := Fin.ext p3.symm
      have eq : qT ⟨n, by omega⟩ r = qT ⟨n + 1, hn⟩ r := Fin.ext (by show qOf n * 256 + r.val = qOf (n + 1) * 256 + r.val; rw [p2])
      rw [eb, eq, ← p1] at hp
      exact pointD H ⟨n + 1, hn⟩ _ h u r (mx := mx) (by rw [if_neg hk]; exact hp)
theorem rowsM : ∀ (n : ℕ) (hn : n < cfgA.N) (h : Fin 4) (r : Fin 256),
    ∃ mx, RowM (scOf (scrAt m c (n + 1))) (rowM h r) (sM A (bT ⟨n, hn⟩) h (qT ⟨n, hn⟩ r)) (vM A (bT ⟨n, hn⟩)) (512 * (kOf n + 1)) mx := by
  intro n
  induction n with
  | zero =>
    intro hn h r
    have e := scAt_succ m c ⟨0, hn⟩
    dsimp only at e
    rw [e]
    have hk : kOf 0 = 0 := by decide
    exact pointM H ⟨0, hn⟩ _ h r (mx := ⊥) (by rw [if_pos hk]; dsimp only; rw [hk]; exact startM _ _ _)
  | succ n ih =>
    intro hn h r
    have e := scAt_succ m c ⟨n + 1, hn⟩
    dsimp only at e
    rw [e]
    by_cases hk : kOf (n + 1) = 0
    · exact pointM H ⟨n + 1, hn⟩ _ h r (mx := ⊥) (by rw [if_pos hk]; dsimp only; rw [hk]; exact startM _ _ _)
    · obtain ⟨-, p1, p2, p3⟩ := (factsAt ⟨n + 1, hn⟩).2.2.2.2.2.2.1 hk
      dsimp only at p1 p2 p3
      rw [Nat.add_sub_cancel] at p1 p2 p3
      obtain ⟨mx, hp⟩ := ih (by omega) h r
      have eb : bT ⟨n, by omega⟩ = bT ⟨n + 1, hn⟩ := Fin.ext p3.symm
      have eq : qT ⟨n, by omega⟩ r = qT ⟨n + 1, hn⟩ r := Fin.ext (by show qOf n * 256 + r.val = qOf (n + 1) * 256 + r.val; rw [p2])
      rw [eb, eq, ← p1] at hp
      exact pointM H ⟨n + 1, hn⟩ _ h r (mx := mx) (by rw [if_neg hk]; exact hp)

/-- At a query tile's last point the quotients are the averages. -/
theorem quotD (t : Fin cfgA.N) (hf : kOf t.val = qOf t.val / 2) (h : Fin 4) (u : Fin 2) (r : Fin 256) (l e : Fin 128) :
    Ideal.div ((scOf (scrAt m c (t.val + 1))).A (ix2 (rowD h u r) e)) ((scOf (scrAt m c (t.val + 1))).L (ix2 (rowD h u r) l)) = ((avgD A (bT t) h u (qT t r) e : ℝ) : EReal) := by
  obtain ⟨mx, hr⟩ := rowsD H t.val t.isLt h u r
  have hq : (qT t r).val = qOf t.val * 256 + r.val := rfl
  have hz : ∀ i, 512 * (kOf t.val + 1) ≤ i → wt (sD A (bT t) h u (qT t r) i) = 0 := fun i hi => by
    unfold sD; rw [if_neg (by omega), wt_bot]
  have hlt := q_lt t
  have hK : 512 * (kOf t.val + 1) ≤ 8192 := by omega
  have eL := sum_all (fun i => wt (sD A (bT t) h u (qT t r) i)) (512 * (kOf t.val + 1)) 8192 hK hz
  have eA := sum_all (fun i => wt (sD A (bT t) h u (qT t r) i) * vD A (bT t) h i e) (512 * (kOf t.val + 1)) 8192 hK fun i hi => by rw [hz i hi, zero_mul]
  have hL := hr.sum l
  have hA := hr.acc e
  have hb : mx ≠ ⊥ := hr.real.resolve_right (by omega)
  rw [show (∑ i ∈ Finset.range (512 * (kOf t.val + 1)), wt (sD A (bT t) h u (qT t r) i)) = denD A (bT t) h u (qT t r) from eL] at hL
  rw [show (∑ i ∈ Finset.range (512 * (kOf t.val + 1)), wt (sD A (bT t) h u (qT t r) i) * vD A (bT t) h i e) = _ from eA] at hA
  refine (held_div hA hL hb (denD_pos A _ _ _ _)).trans ?_
  unfold avgD
  simp only [vD, key_val]
theorem quotM (t : Fin cfgA.N) (hf : kOf t.val = qOf t.val / 2) (h : Fin 4) (r : Fin 256) (l : Fin 128) (e : Fin 256) :
    Ideal.div ((scOf (scrAt m c (t.val + 1))).A2 (ix2 (rowM h r) e)) ((scOf (scrAt m c (t.val + 1))).L2 (ix2 (rowM h r) l)) = ((avgM A (bT t) h (qT t r) e : ℝ) : EReal) := by
  obtain ⟨mx, hr⟩ := rowsM H t.val t.isLt h r
  have hq : (qT t r).val = qOf t.val * 256 + r.val := rfl
  have hz : ∀ i, 512 * (kOf t.val + 1) ≤ i → wt (sM A (bT t) h (qT t r) i) = 0 := fun i hi => by
    unfold sM; rw [if_neg (by omega), wt_bot]
  have hlt := q_lt t
  have hK : 512 * (kOf t.val + 1) ≤ 8192 := by omega
  have eL := sum_all (fun i => wt (sM A (bT t) h (qT t r) i)) (512 * (kOf t.val + 1)) 8192 hK hz
  have eA := sum_all (fun i => wt (sM A (bT t) h (qT t r) i) * vM A (bT t) i e) (512 * (kOf t.val + 1)) 8192 hK fun i hi => by rw [hz i hi, zero_mul]
  have hL := hr.sum l
  have hA := hr.acc e
  have hb : mx ≠ ⊥ := hr.real.resolve_right (by omega)
  rw [show (∑ i ∈ Finset.range (512 * (kOf t.val + 1)), wt (sM A (bT t) h (qT t r) i)) = denM A (bT t) h (qT t r) from eL] at hL
  rw [show (∑ i ∈ Finset.range (512 * (kOf t.val + 1)), wt (sM A (bT t) h (qT t r) i) * vM A (bT t) i e) = _ from eA] at hA
  refine (held_div hA hL hb (denM_pos A _ _ _)).trans ?_
  unfold avgM
  simp only [vM, key_val]
end Cert.KernelIdeal.Attn
-- ==== Proof.Value.FinAt.lean ====
module

public import proofs.«01_k».proof.Proof.Value.Spec
public import proofs.«01_k».proof.Proof.Value.Fin
public import proofs.«01_k».proof.Proof.Value.Rows
public import Idealize.ShloMosaic.Lib.Pipeline.ValueKit
public import Idealize.ShloMosaic.Lib.Pointwise
public import Idealize.ShloMosaic.Lib.Tactic.CleanTypes

/-! What a query tile's last point stores, read at an index. -/

@[expose] public section

set_option maxRecDepth 16384
set_option Elab.async false

noncomputable section

namespace Cert.KernelIdeal.Attn

open Cert.Online Cert.Spec
open Cert.KernelIdeal Cert.KernelIdeal.Gen
open Idealize.ShloMosaic
open Idealize.ShloMosaic.TcCoe Idealize.ShloMosaic.Tactic
open Idealize.ShloMosaic.Pipeline (Dat Cfg Window)

theorem div_concat_at (a : FVec Ideal S256x256 .f32) (l : FVec Ideal S256x128 .f32) (r : Fin 256) (x : Fin 256) :
    divf a (concatenate S256x256 1 [⟨S256x128, l⟩, ⟨S256x128, l⟩] concatenates_S256x128_S256x128_S256x256_d1) (ix2 r x) = Ideal.div (a (ix2 r x)) (l (ix2 r ⟨x.val % 128, by omega⟩)) := by
  by_cases h : x.val < 128
  · have e : x.val % 128 = x.val := Nat.mod_eq_of_lt h
    pointwise
    simp [h, e]
  · have e : x.val % 128 = x.val - 128 := by omega
    pointwise
    simp [h, e]
theorem mlaOf_at (a : FVec Ideal S256x256 .f32) (l : FVec Ideal S256x128 .f32) (w : FVec Ideal S1x256x128 .bf16) (r : Fin 256) (e : Fin 128) :
    mlaOf a l w (ix3 0 r e) = ∑ x : Fin 256, @HMul.hMul EReal EReal EReal instHMul (Ideal.div (a (ix2 r x)) (l (ix2 r ⟨x.val % 128, by omega⟩))) (w (ix3 0 x e)) := by
  unfold mlaOf
  have d := div_concat_at a l r
  generalize divf a (concatenate S256x256 1 [⟨S256x128, l⟩, ⟨S256x128, l⟩] concatenates_S256x128_S256x128_S256x256_d1) = D at d ⊢
  simp only [← d]
  pointwise
theorem diffOf_at (lam : FVec Ideal S1x1 .f32) (a0 l0 a1 l1 : FVec Ideal S256x128 .f32) (r : Fin 256) (e : Fin 128) :
    diffOf lam a0 l0 a1 l1 (ix2 r e) = @HSub.hSub EReal EReal EReal instHSub (Ideal.div (a0 (ix2 r e)) (l0 (ix2 r e))) (@HMul.hMul EReal EReal EReal instHMul (lam (ix2 0 0)) (Ideal.div (a1 (ix2 r e)) (l1 (ix2 r e)))) := by
  unfold diffOf; pointwise
theorem normOf_at (g : FVec Ideal S1x128 .f32) (o : FVec Ideal S256x128 .f32) (r : Fin 256) (e : Fin 128) :
    normOf g o (ix3 0 r e) = ((fun D : Fin 128 → EReal => D e * Ideal.rsqrt (Ideal.div (∑ x : Fin 128, D x * D x) (Ideal.ofBits .f32 0x43000000#32) + Ideal.ofBits .f32 0x3727C5AC#32)
    * (show EReal from g (ix2 0 e)) * Ideal.ofBits .f32 0x3F4CCCCD#32) fun x => o (ix2 r x)) := by
  unfold normOf; pointwise
theorem lamOf_at (X6 : Vec Ideal S4x64 .f32) : lamOf X6 (ix2 0 0) =
    @HAdd.hAdd EReal EReal EReal instHAdd (@HSub.hSub EReal EReal EReal instHSub (Ideal.exp (∑ x : Fin 64, @HMul.hMul EReal EReal EReal instHMul (X6 (ix2 0 x)) (X6 (ix2 1 x)))) (Ideal.exp (∑ x : Fin 64, @HMul.hMul EReal EReal EReal instHMul (X6 (ix2 2 x)) (X6 (ix2 3 x))))) (Ideal.ofBits .f32 1045220557#32) := by
  have e : View.ld X6 (Rect.unit ![0, 0] S4x64.size (by decide)) = X6 := View.ld_unit_lit' _ X6 (by decide)
  unfold lamOf; rw [e]; unfold k0_pay43; pointwise
theorem gainOf_at (X7 : Vec Ideal S1x128 .f32) (e : Fin 128) : gainOf X7 (ix2 0 e) = X7 (ix2 0 e) := by
  have e' : View.ld X7 (Rect.unit ![0, 0] S1x128.size (by decide)) = X7 := View.ld_unit_lit' _ X7 (by decide)
  unfold gainOf; rw [e']; unfold k0_pay44; pointwise
theorem cutA_at (T : List (View.Piece (Elt Ideal) S2048x128 .f32)) (W : FVec Ideal S2048x128 .f32) (o : ℕ) (ho) (r : Fin 256) (e : Fin 128) (h : o + r.val < 2048) :
    cutA T W o ho (ix2 r e) = W (ix2 ⟨o + r.val, h⟩ e) := by
  unfold cutA
  rw [View.readCov_eq_canon']
  rw [View.canon_cons_unit_lit _ _ _ (by decide)]
  exact congrArg W (funext fun a => Fin.ext (by fin_cases a <;> simp [ix2]))
theorem cutL_at (T : List (View.Piece (Elt Ideal) S2048x128 .f32)) (W : FVec Ideal S2048x128 .f32) (o : ℕ) (ho) (r : Fin 256) (e : Fin 128) (h : o + r.val < 2048) :
    cutL T W o ho (ix2 r e) = W (ix2 ⟨o + r.val, h⟩ e) := by
  unfold cutL
  rw [View.readCov_eq_canon']
  rw [View.canon_cons_unit_lit _ _ _ (by decide)]
  exact congrArg W (funext fun a => Fin.ext (by fin_cases a <;> simp [ix2]))
theorem cutLM_at (T : List (View.Piece (Elt Ideal) S1024x128 .f32)) (W : FVec Ideal S1024x128 .f32) (o : ℕ) (ho) (r : Fin 256) (e : Fin 128) (h : o + r.val < 1024) :
    cutLM T W o ho (ix2 r e) = W (ix2 ⟨o + r.val, h⟩ e) := by
  unfold cutLM
  rw [View.readCov_eq_canon']
  rw [View.canon_cons_unit_lit _ _ _ (by decide)]
  exact congrArg W (funext fun a => Fin.ext (by fin_cases a <;> simp [ix2]))
theorem cutAM_at (T : List (View.Piece (Elt Ideal) S1024x256 .f32)) (W : FVec Ideal S1024x256 .f32) (o : ℕ) (ho) (r : Fin 256) (e : Fin 256) (h : o + r.val < 1024) :
    cutAM T W o ho (ix2 r e) = W (ix2 ⟨o + r.val, h⟩ e) := by
  unfold cutAM
  rw [View.readCov_eq_canon']
  rw [View.canon_cons_unit_lit _ _ _ (by decide)]
  exact congrArg W (funext fun a => Fin.ext (by fin_cases a <;> simp [ix2]))

theorem ldU_at (X8 : Vec Ideal S4x256x128 .bf16) (h : Fin 4) (ho) (a : Fin 256) (e : Fin 128) :
    View.ld X8 (Rect.unit ![h.val, 0, 0] S1x256x128.size ho) (ix3 0 a e) = X8 (ix3 h a e) :=
  congrArg X8 (funext fun x => Fin.ext (by fin_cases x <;> simp [ix3]))
end Cert.KernelIdeal.Attn
-- ==== Proof.Value.OutArr.lean ====
module

public import proofs.«01_k».proof.Proof.Value.Induct
public import proofs.«01_k».proof.Proof.Value.FinAt
public import Idealize.ShloMosaic.Lib.Pipeline.ValueKit
public import Idealize.ShloMosaic.Lib.Pointwise
public import Idealize.ShloMosaic.Lib.Tactic.CleanTypes

/-! The output array of the call. -/

@[expose] public section

set_option maxRecDepth 16384
set_option Elab.async false

noncomputable section

namespace Cert.KernelIdeal.Attn

open Cert.Online Cert.Spec
open Cert.KernelIdeal Cert.KernelIdeal.Gen
open Idealize.ShloMosaic
open Idealize.ShloMosaic.TcCoe Idealize.ShloMosaic.Tactic
open Idealize.ShloMosaic.Pipeline (Dat Cfg Window)

variable {m : (ℓ : Loc nD τ sig) → Buf (Elt Ideal) ℓ} {c : Dev nD} {A : Arr} (H : HoldsK m c A)
include H

theorem win6_num (t : Fin cfgA.N) (i : Fin 4) (x : Fin 64) : iblk m c (6 : Fin 10) t (ix2 i x) = ((A.lm i x : ℝ) : EReal) := by
  rw [iblk6_at, v179_at]; exact H.lm i x
theorem win7_num (t : Fin cfgA.N) (e : Fin 128) : iblk m c (7 : Fin 10) t (ix2 0 e) = A.g e := by
  rw [iblk7_at, v181_at]; exact H.g e
theorem win8_num (t : Fin cfgA.N) (h : Fin 4) (a : Fin 256) (e : Fin 128) : iblk m c (8 : Fin 10) t (ix3 h a e) = A.u a h e := by
  rw [iblk8_at, v178_at]; exact H.u a h e

theorem diff_num (t : Fin cfgA.N) (hf : kOf t.val = qOf t.val / 2) (h : Fin 4) (r : Fin 256) (e : Fin 128) (T1 T2 : List (View.Piece (Elt Ideal) S2048x128 .f32)) (o0 o1 : ℕ) (p0 p1 p2 p3) (e0 : o0 = 512 * h.val) (e1 : o1 = 512 * h.val + 256) :
    diffOf (lamOf (iblk m c (6 : Fin 10) t)) (cutA T2 (scOf (scrAt m c (t.val + 1))).A o0 p0) (cutL T1 (scOf (scrAt m c (t.val + 1))).L o0 p1)
      (cutA T2 (scOf (scrAt m c (t.val + 1))).A o1 p2) (cutL T1 (scOf (scrAt m c (t.val + 1))).L o1 p3) (ix2 r e) = ((dif A (bT t) h (qT t r) e : ℝ) : EReal) := by
  subst e0 e1
  have i0 : (⟨512 * h.val + r.val, by omega⟩ : Fin 2048) = rowD h 0 r := Fin.ext (by show 512 * h.val + r.val = 512 * h.val + 256 * 0 + r.val; omega)
  have i1 : (⟨512 * h.val + 256 + r.val, by omega⟩ : Fin 2048) = rowD h 1 r := Fin.ext (by show 512 * h.val + 256 + r.val = 512 * h.val + 256 * 1 + r.val; omega)
  rw [diffOf_at, cutA_at _ _ _ _ _ _ (by omega), cutL_at _ _ _ _ _ _ (by omega), cutA_at _ _ _ _ _ _ (by omega), cutL_at _ _ _ _ _ _ (by omega), i0, i1, quotD H t hf h 0 r e e, quotD H t hf h 1 r e e,
    lamOf_at]
  have hl := lam_eq A (fun i x => iblk m c (6 : Fin 10) t (ix2 i x)) fun i x => win6_num H t i x
  refine Eq.trans (congrArg (fun z : EReal => ((avgD A (bT t) h 0 (qT t r) e : ℝ) : EReal) - z * ((avgD A (bT t) h 1 (qT t r) e : ℝ) : EReal)) hl) (dif_eq A (bT t) h (qT t r) e)

theorem norm_num (t : Fin cfgA.N) (hf : kOf t.val = qOf t.val / 2) (h : Fin 4) (r : Fin 256) (e : Fin 128) (T1 T2 : List (View.Piece (Elt Ideal) S2048x128 .f32)) (o0 o1 : ℕ) (p0 p1 p2 p3) (e0 : o0 = 512 * h.val) (e1 : o1 = 512 * h.val + 256) :
    normOf (gainOf (iblk m c (7 : Fin 10) t)) (diffOf (lamOf (iblk m c (6 : Fin 10) t)) (cutA T2 (scOf (scrAt m c (t.val + 1))).A o0 p0) (cutL T1 (scOf (scrAt m c (t.val + 1))).L o0 p1)
      (cutA T2 (scOf (scrAt m c (t.val + 1))).A o1 p2) (cutL T1 (scOf (scrAt m c (t.val + 1))).L o1 p3)) (ix3 0 r e) = outD A (bT t) h (qT t r) e := by
  rw [normOf_at]
  have hd := fun x => diff_num H t hf h r x T1 T2 o0 o1 p0 p1 p2 p3 e0 e1
  rw [gainOf_at, win7_num H]
  rw [show (fun x : Fin 128 => diffOf (lamOf (iblk m c (6 : Fin 10) t)) (cutA T2 (scOf (scrAt m c (t.val + 1))).A o0 p0) (cutL T1 (scOf (scrAt m c (t.val + 1))).L o0 p1)
      (cutA T2 (scOf (scrAt m c (t.val + 1))).A o1 p2) (cutL T1 (scOf (scrAt m c (t.val + 1))).L o1 p3) (ix2 r x)) = fun x => ((dif A (bT t) h (qT t r) x : ℝ) : EReal) from funext hd]
  rfl

theorem mla_num (t : Fin cfgA.N) (hf : kOf t.val = qOf t.val / 2) (h : Fin 4) (r : Fin 256) (e : Fin 128) (T4 : List (View.Piece (Elt Ideal) S1024x128 .f32)) (T5 : List (View.Piece (Elt Ideal) S1024x256 .f32)) (o : ℕ) (p0 p1) (w : FVec Ideal S1x256x128 .bf16)
    (e0 : o = 256 * h.val) (hw : ∀ a, w (ix3 0 a e) = A.u a h e) :
    mlaOf (cutAM T5 (scOf (scrAt m c (t.val + 1))).A2 o p0) (cutLM T4 (scOf (scrAt m c (t.val + 1))).L2 o p1) w (ix3 0 r e) = outM A (bT t) h (qT t r) e := by
  subst e0
  rw [mlaOf_at]
  unfold outM
  refine Finset.sum_congr rfl fun a _ => congrArg₂ (fun y z : EReal => y * z) ?_ (hw a)
  rw [cutAM_at _ _ _ _ _ _ (by omega), cutLM_at _ _ _ _ _ _ (by omega)]
  exact quotM H t hf h r _ a

/-- A column of the output, by head. -/
theorem out_diff (b : Fin 2) (q : Fin 8192) (h : Fin 4) (e : Fin 128) (j : Fin 1024) (hj : j.val = 128 * h.val + e.val) : out A b q j = outD A b h q e := by
  unfold out
  rw [dif_pos (by omega)]
  congr 1 <;> apply Fin.ext <;> dsimp only <;> omega
theorem out_mla (b : Fin 2) (q : Fin 8192) (h : Fin 4) (e : Fin 128) (j : Fin 1024) (hj : j.val = 512 + 128 * h.val + e.val) : out A b q j = outM A b h q e := by
  unfold out
  rw [dif_neg (by omega)]
  congr 1 <;> apply Fin.ext <;> dsimp only <;> omega

/-- The block a query tile's last point stores. -/
def blockG (A : Arr) (t : Fin cfgA.N) : S1x256x1024.Idx → EReal := fun y => out A (bT t) (qT t (y 1)) (y 2)

theorem piece_diff (t : Fin cfgA.N) (hf : kOf t.val = qOf t.val / 2) (h : Fin 4) (T1 T2 : List (View.Piece (Elt Ideal) S2048x128 .f32)) (o0 o1 o : ℕ) (p0 p1 p2 p3) (po) (e0 : o0 = 512 * h.val) (e1 : o1 = 512 * h.val + 256) (eo : o = 128 * h.val)
    (x : (Rect.unit (s := S1x256x1024) ![0, 0, o] S1x256x128.size po).shape.Idx) :
    normOf (gainOf (iblk m c (7 : Fin 10) t)) (diffOf (lamOf (iblk m c (6 : Fin 10) t)) (cutA T2 (scOf (scrAt m c (t.val + 1))).A o0 p0) (cutL T1 (scOf (scrAt m c (t.val + 1))).L o0 p1)
      (cutA T2 (scOf (scrAt m c (t.val + 1))).A o1 p2) (cutL T1 (scOf (scrAt m c (t.val + 1))).L o1 p3)) x = blockG A t ((Rect.unit (s := S1x256x1024) ![0, 0, o] S1x256x128.size po).emb x) := by
  have ex : x = ix3 (0 : Fin 1) (x 1 : Fin 256) (x 2 : Fin 128) := by
    funext a; fin_cases a
    · exact Fin.ext (by have : (x 0).val < 1 := (x 0).isLt; show (x 0).val = 0; omega)
    · rfl
    · rfl
  have hx := norm_num H t hf h (x 1 : Fin 256) (x 2 : Fin 128) T1 T2 o0 o1 p0 p1 p2 p3 e0 e1
  refine ((congrArg (normOf _ (diffOf _ _ _ _ _)) ex).trans hx).trans ?_
  unfold blockG
  refine (out_diff H _ _ h (x 2 : Fin 128) _ ?_).symm.trans (congrArg (fun z => out A (bT t) (qT t z) _) (Fin.ext ?_))
  · show o + 1 * (x 2).val = 128 * h.val + (x 2).val
    omega
  · show (x 1).val = 0 + 1 * (x 1).val
    omega
theorem piece_mla (t : Fin cfgA.N) (hf : kOf t.val = qOf t.val / 2) (h : Fin 4) (T4 : List (View.Piece (Elt Ideal) S1024x128 .f32)) (T5 : List (View.Piece (Elt Ideal) S1024x256 .f32)) (o0 o : ℕ) (p0 p1) (po) (w : FVec Ideal S1x256x128 .bf16) (e0 : o0 = 256 * h.val) (eo : o = 512 + 128 * h.val)
    (hw : ∀ a e, w (ix3 0 a e) = A.u a h e)
    (x : (Rect.unit (s := S1x256x1024) ![0, 0, o] S1x256x128.size po).shape.Idx) :
    mlaOf (cutAM T5 (scOf (scrAt m c (t.val + 1))).A2 o0 p0) (cutLM T4 (scOf (scrAt m c (t.val + 1))).L2 o0 p1) w x = blockG A t ((Rect.unit (s := S1x256x1024) ![0, 0, o] S1x256x128.size po).emb x) := by
  have ex : x = ix3 (0 : Fin 1) (x 1 : Fin 256) (x 2 : Fin 128) := by
    funext a; fin_cases a
    · exact Fin.ext (by have : (x 0).val < 1 := (x 0).isLt; show (x 0).val = 0; omega)
    · rfl
    · rfl
  have hx := mla_num H t hf h (x 1 : Fin 256) (x 2 : Fin 128) T4 T5 o0 p0 p1 w e0 fun a => hw a _
  refine ((congrArg (mlaOf _ _ _) ex).trans hx).trans ?_
  unfold blockG
  refine (out_mla H _ _ h (x 2 : Fin 128) _ ?_).symm.trans (congrArg (fun z => out A (bT t) (qT t z) _) (Fin.ext ?_))
  · show o + 1 * (x 2).val = 512 + 128 * h.val + (x 2).val
    omega
  · show (x 1).val = 0 + 1 * (x 1).val
    omega

theorem outAt_eq (t : Fin cfgA.N) (hf : kOf t.val = qOf t.val / 2) : outAt m c t = blockG A t := by
  funext y
  unfold outAt
  rw [View.read_writes_junk_eq_canon]
  refine View.canon_apply_of_pieces (blockG A t) _ ?_ y (ptRun_cover m c t _ hf y)
  obtain ⟨U1, U2, U4, U5, e⟩ := ptRun_fin m c t (scrAt m c t.val) hf
  rw [e, ← scrAt_succ]
  intro p hp
  unfold finPieces at hp
  simp only [List.mem_cons, List.not_mem_nil, or_false] at hp
  rcases hp with rfl | rfl | rfl | rfl | rfl | rfl | rfl | rfl
  · exact fun x => piece_mla H t hf 3 U4 U5 768 896 _ _ (by decide) _ rfl rfl (fun a e => (ldU_at _ 3 _ a e).trans (win8_num H t 3 a e)) x
  · exact fun x => piece_mla H t hf 2 U4 U5 512 768 _ _ (by decide) _ rfl rfl (fun a e => (ldU_at _ 2 _ a e).trans (win8_num H t 2 a e)) x
  · exact fun x => piece_mla H t hf 1 U4 U5 256 640 _ _ (by decide) _ rfl rfl (fun a e => (ldU_at _ 1 _ a e).trans (win8_num H t 1 a e)) x
  · exact fun x => piece_mla H t hf 0 U4 U5 0 512 _ _ (by decide) _ rfl rfl (fun a e => (ldU_at _ 0 _ a e).trans (win8_num H t 0 a e)) x
  · exact fun x => piece_diff H t hf 3 U1 U2 1536 1792 384 _ _ _ _ (by decide) rfl rfl rfl x
  · exact fun x => piece_diff H t hf 2 U1 U2 1024 1280 256 _ _ _ _ (by decide) rfl rfl rfl x
  · exact fun x => piece_diff H t hf 1 U1 U2 512 768 128 _ _ _ _ (by decide) rfl rfl rfl x
  · exact fun x => piece_diff H t hf 0 U1 U2 0 256 0 _ _ _ _ (by decide) rfl rfl rfl x

/-- The output array, whole. -/
def outG (A : Arr) : S2x8192x1024.Idx → EReal := fun i => out A (i 0) (i 1) (i 2)

omit H in
theorem flush_last (t : Fin cfgA.N) : (cfgA.win (9 : Fin 10)).flush t = decide (kOf t.val = qOf t.val / 2) := (factsAt t).2.2.2.2.2.1

omit H in
theorem cover_at (b : Fin 2) (q : Fin 8192) (j : Fin 1024) : ∃ t : Fin cfgA.N, (cfgA.win (9 : Fin 10)).flush t = true ∧ ix3 b q j ∈ ((cfgA.win (9 : Fin 10)).blk t).view.set := by
  have hQ : q.val / 256 < 32 := by omega
  obtain ⟨eb, eq, ek⟩ := last_ok b ⟨q.val / 256, hQ⟩
  have hl : lastOf b.val (q.val / 256) < cfgA.N := last_lt b ⟨q.val / 256, hQ⟩
  dsimp only at eb eq ek
  refine ⟨⟨_, hl⟩, ?_, ?_⟩
  · rw [flush_last]
    apply decide_eq_true
    dsimp only
    rw [ek, eq]
  · have hi : ((cfgA.win (9 : Fin 10)).blk ⟨_, hl⟩).view.emb (ix3 (0 : Fin 1) (⟨q.val % 256, by omega⟩ : Fin 256) j) = ix3 b q j := by
      refine (outEmb ⟨_, hl⟩ _ j).trans ?_
      have h0 : bT ⟨_, hl⟩ = b := Fin.ext eb
      have h1 : qT ⟨_, hl⟩ (⟨q.val % 256, by omega⟩ : Fin 256) = q := Fin.ext (by show qOf (lastOf b.val (q.val / 256)) * 256 + q.val % 256 = q.val; rw [eq]; omega)
      rw [h0, h1]
    exact hi ▸ View.emb_mem_set _ _
omit H in
theorem cover9 (i : S2x8192x1024.Idx) : ∃ t : Fin cfgA.N, (cfgA.win (9 : Fin 10)).flush t = true ∧ i ∈ ((cfgA.win (9 : Fin 10)).blk t).view.set := by
  have ei : i = ix3 (i 0 : Fin 2) (i 1 : Fin 8192) (i 2 : Fin 1024) := by funext a; fin_cases a <;> rfl
  obtain ⟨t, h1, h2⟩ := cover_at (i 0 : Fin 2) (i 1 : Fin 8192) (i 2 : Fin 1024)
  exact ⟨t, h1, (congrArg (fun z => z ∈ ((cfgA.win (9 : Fin 10)).blk t).view.set) ei).mpr h2⟩

omit H in
theorem block_at (t : Fin cfgA.N) (r : Fin 256) (j : Fin 1024) : blockG A t (ix3 0 r j) = outG A (((cfgA.win (9 : Fin 10)).blk t).view.emb (ix3 0 r j)) := by
  rw [outEmb]; rfl
omit H in
theorem block_idx (y : S1x256x1024.Idx) : y = ix3 (0 : Fin 1) (y 1 : Fin 256) (y 2 : Fin 1024) := by
  funext a; fin_cases a
  · exact Fin.ext (by have : (y 0).val < 1 := (y 0).isLt; show (y 0).val = 0; omega)
  · rfl
  · rfl
theorem arr9 : (dats m 0 c).arrAt (9 : Fin 10) cfgA.N = outG A := by
  refine Dat.arrAt_eq_of_emb (dats m 0 c) (9 : Fin 10) (outG A) (fun t hf y => ?_) cover9
  have hk : kOf t.val = qOf t.val / 2 := of_decide_eq_true ((flush_last t).symm.trans hf)
  refine Eq.trans (b := blockG A t y) ?_ ?_
  · show (dats m 0 c).after (9 : Fin 10) t y = _
    rw [after9, outAt_eq H t hk]
  · exact (congrArg (fun z : S1x256x1024.Idx => blockG A t z = outG A (((cfgA.win (9 : Fin 10)).blk t).view.emb z)) (block_idx y)).mpr (block_at t (y 1 : Fin 256) (y 2 : Fin 1024))
end Cert.KernelIdeal.Attn
-- ==== Proof.Value.RefRaw.lean ====
module

public import proofs.«01_k».proof.Proof.Gen.ReferenceIdeal.Run
public import proofs.«01_k».proof.Proof.Value.Spec
public import Idealize.ShloMosaic.Lib.Pointwise
public import Idealize.ShloMosaic.Lib.StableHlo.ReadAt
public import Idealize.ShloMosaic.Lib.Tactic.CleanTypes

/-! The reference's stages read at an index. -/

@[expose] public section
set_option maxRecDepth 16384
set_option Elab.async false
noncomputable section
namespace Cert.ReferenceIdeal.Value
open Cert.ReferenceIdeal Cert.ReferenceIdeal.Gen
open Idealize.ShloMosaic
open Idealize.ShloMosaic.TcCoe Idealize.ShloMosaic.Tactic
variable (V0 : Valuation τ sig (Elt Ideal))

/-- A row looked up by its number, a number past the last row the last row. -/
theorem lookup_at (X : FVec Ideal S32x4 .f32) (I : IVec S8192x8192x1 32) (q k : Fin 8192) (h : Fin 4) (n : Fin 32) (e : I (ix3 q k 0) = BitVec.ofNat 32 n.val) :
    Host.gather gather_S32x4_S8192x8192x1_S8192x8192x4_2_0_n_n_0_2_14 X I (ix3 q k h) = X (ix2 n h) := by
  set d : GatherDims S32x4 S8192x8192x1 S8192x8192x4 := gather_S32x4_S8192x8192x1_S8192x8192x4_2_0_n_n_0_2_14 with hd
  unfold Host.gather
  congr 1
  funext a
  apply Fin.ext
  show d.start (ix3 q k h) I a + d.batchCoord (ix3 q k h) a + d.offCoord (ix3 q k h) a = _
  have hs : ∀ z : Fin d.startIndexMap.length, d.siIdx (ix3 q k h) z = ix3 q k 0 := fun z => by
    have hz : z = ⟨0, by rw [hd]; decide⟩ := Fin.ext (by have := z.isLt; have hl : d.startIndexMap.length = 1 := rfl; omega)
    subst hz
    funext x; apply Fin.ext
    fin_cases x <;> rfl
  have ha : a = (0 : Fin 2) ∨ a = (1 : Fin 2) := by
    have := a.isLt
    rcases (show a.val = 0 ∨ a.val = 1 by have h2 : a.val < 2 := this; omega) with e0 | e0
    · exact Or.inl (Fin.ext e0)
    · exact Or.inr (Fin.ext e0)
  rcases ha with rfl | rfl
  · have h1 : d.batchCoord (ix3 q k h) (0 : Fin 2) = 0 := rfl
    have h2 : d.offCoord (ix3 q k h) (0 : Fin 2) = 0 := rfl
    rw [h1, h2]
    unfold GatherDims.start
    rw [dif_pos (show (0 : Fin 2) ∈ d.startIndexMap from by rw [hd]; decide), hs, e]
    have ht : (BitVec.ofNat 32 n.val).toInt = (n.val : ℤ) := WordCmp.toInt_ofNat_of_lt (by omega)
    rw [ht]
    show min (Int.toNat (n.val : ℤ)) 31 + 0 + 0 = n.val
    rw [Int.toNat_natCast]; omega
  · have h1 : d.batchCoord (ix3 q k h) (1 : Fin 2) = 0 := rfl
    have h2 : d.offCoord (ix3 q k h) (1 : Fin 2) = h.val := rfl
    have h3 : d.start (ix3 q k h) I (1 : Fin 2) = 0 := by
      unfold GatherDims.start
      rw [dif_neg (show ¬ (1 : Fin 2) ∈ d.startIndexMap from by rw [hd]; decide)]
    rw [h1, h2, h3]
    show 0 + 0 + h.val = h.val
    omega

theorem lam_at (X : FVec Ideal S4x64 .f32) : ((addf (subf (Host.exp (Host.reduceAdd (mulf (shapeCast _ (extractStridedSlice S1x64 ![0, 0] X slices_S4x64_S1x64_0_0) shapeCasts_S1x64_S64) (shapeCast _ (extractStridedSlice S1x64 ![1, 0] X slices_S4x64_S1x64_1_0) shapeCasts_S1x64_S64)) (constant S_ .f32 0x00000000#32) reducesTo_S64_S_d0 h_S_)) (Host.exp (Host.reduceAdd (mulf (shapeCast _ (extractStridedSlice S1x64 ![2, 0] X slices_S4x64_S1x64_2_0) shapeCasts_S1x64_S64) (shapeCast _ (extractStridedSlice S1x64 ![3, 0] X slices_S4x64_S1x64_3_0) shapeCasts_S1x64_S64)) (constant S_ .f32 0x00000000#32) reducesTo_S64_S_d0 h_S_))) (constant S_ .f32 0x3E4CCCCD#32)) : FVec Ideal S_ .f32) ix0 =
    @HAdd.hAdd EReal EReal EReal instHAdd (@HSub.hSub EReal EReal EReal instHSub (Ideal.exp (∑ x : Fin 64, @HMul.hMul EReal EReal EReal instHMul (X (ix2 0 x)) (X (ix2 1 x)))) (Ideal.exp (∑ x : Fin 64, @HMul.hMul EReal EReal EReal instHMul (X (ix2 2 x)) (X (ix2 3 x))))) (Ideal.ofBits .f32 1045220557#32) := by
  pointwise
set_option maxHeartbeats 2000000 in
theorem mix_at (X : FVec Ideal S2x8192x4x128 .f32) (W : FVec Ideal S2x2x4x8192x8192 .f32) (L : FVec Ideal S_ .f32) (b : Fin 2) (q : Fin 8192) (h : Fin 4) (e : Fin 128) :
    (transpose S2x8192x4x128 [0, 3, 1, 2] (Host.dotGeneral dot_S2x8192x4x128_S2x4x8192x8192_S2x4x128x8192_1_3_3_2_02_01 none X (subf (shapeCast _ (extractStridedSlice S2x1x4x8192x8192 ![0, 0, 0, 0, 0] W slices_S2x2x4x8192x8192_S2x1x4x8192x8192_0_0_0_0_0) shapeCasts_S2x1x4x8192x8192_S2x4x8192x8192) (mulf (broadcastInDim S2x4x8192x8192 ![] bcast_S_S2x4x8192x8192 L) (shapeCast _ (extractStridedSlice S2x1x4x8192x8192 ![0, 1, 0, 0, 0] W slices_S2x2x4x8192x8192_S2x1x4x8192x8192_0_1_0_0_0) shapeCasts_S2x1x4x8192x8192_S2x4x8192x8192)))) transposes_S2x4x128x8192_S2x8192x4x128_0_3_1_2) (ix4 b q h e) =
      ∑ x : Fin 8192, @HMul.hMul EReal EReal EReal instHMul (X (ix4 b x h e)) (@HSub.hSub EReal EReal EReal instHSub (W (ix5 b 0 h q x)) (@HMul.hMul EReal EReal EReal instHMul (L ix0) (W (ix5 b 1 h q x)))) := by
  pointwise

set_option maxHeartbeats 2000000 in
theorem norm_at (D : FVec Ideal S2x8192x4x128 .f32) (G : FVec Ideal S1x128 .f32) (b : Fin 2) (q : Fin 8192) (j : Fin 512) :
    (shapeCast S2x8192x512 (mulf (mulf (mulf D (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf D D) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x3727C5AC#32)))))) (broadcastInDim S2x8192x4x128 ![0, 1, 2, 3] bcast_S1x1x1x128_S2x8192x4x128_0_1_2_3 (broadcastInDim S1x1x1x128 ![3] bcast_S128_S1x1x1x128_3 (shapeCast _ G shapeCasts_S1x128_S128)))) (broadcastInDim S2x8192x4x128 ![] bcast_S_S2x8192x4x128 (constant S_ .f32 0x3F4CCCCD#32))) shapeCasts_S2x8192x4x128_S2x8192x512) (ix3 b q j) = ((fun D : Fin 128 → EReal => D ⟨j.val % 128, by omega⟩ * Ideal.rsqrt (Ideal.div (∑ x : Fin 128, D x * D x) (Ideal.ofBits .f32 0x43000000#32) + Ideal.ofBits .f32 0x3727C5AC#32)
    * (show EReal from G (ix2 0 ⟨j.val % 128, by omega⟩)) * Ideal.ofBits .f32 0x3F4CCCCD#32) fun x => D (ix4 b q ⟨j.val / 128, by omega⟩ x)) := by
  pointwise
set_option maxHeartbeats 2000000 in
theorem mla_at (U : FVec Ideal S1x256x4x128 .f32) (C : FVec Ideal S2x8192x256 .f32) (P : FVec Ideal S2x4x8192x8192 .f32) (b : Fin 2) (q : Fin 8192) (j : Fin 512) :
    (shapeCast S2x8192x512 (transpose S2x8192x4x128 [2, 3, 0, 1] (Host.dotGeneral dot_S256x4x128_S2x8192x4x256_S4x128x2x8192_0_3_2_01_1_2 none (shapeCast _ U shapeCasts_S1x256x4x128_S256x4x128) (transpose S2x8192x4x256 [0, 3, 2, 1] (Host.dotGeneral dot_S2x8192x256_S2x4x8192x8192_S2x256x4x8192_1_3_2_12_0_0 none C P) transposes_S2x256x4x8192_S2x8192x4x256_0_3_2_1)) transposes_S4x128x2x8192_S2x8192x4x128_2_3_0_1) shapeCasts_S2x8192x4x128_S2x8192x512) (ix3 b q j) = ∑ a : Fin 256, @HMul.hMul EReal EReal EReal instHMul (U (ix4 0 a ⟨j.val / 128, by omega⟩ ⟨j.val % 128, by omega⟩))
      (∑ k : Fin 8192, @HMul.hMul EReal EReal EReal instHMul (C (ix3 b k a)) (P (ix4 b ⟨j.val / 128, by omega⟩ q k))) := by
  pointwise
theorem soft_at (E : FVec Ideal S2x4x8192x8192 .f32) (b : Fin 2) (h : Fin 4) (q k : Fin 8192) :
    (Host.divf E (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduceAdd E (constant S_ .f32 0x00000000#32) reducesTo_S2x4x8192x8192_S2x4x8192_d3 h_S_)))) (ix4 b h q k) = Ideal.div (E (ix4 b h q k)) (∑ x : Fin 8192, (show EReal from E (ix4 b h q x))) := by
  pointwise
theorem cat_at (X Y : FVec Ideal S2x8192x512 .f32) (b : Fin 2) (q : Fin 8192) (j : Fin 1024) :
    truncf .bf16 (concatenate S2x8192x1024 2 [⟨S2x8192x512, X⟩, ⟨S2x8192x512, Y⟩] concatenates_S2x8192x512_S2x8192x512_S2x8192x1024_d2) bitsLt_bf16_f32 (ix3 b q j) =
      (if h : j.val < 512 then X (ix3 b q ⟨j.val, h⟩) else Y (ix3 b q ⟨j.val - 512, by omega⟩) : EReal) := by
  pointwise
theorem v66_at (b c : Fin 2) (h : Fin 4) (q k : Fin 8192) : res_main_v66 V0 (ix5 b c h q k) =
    Ideal.exp (@HSub.hSub EReal EReal EReal instHSub (res_main_v61 V0 (ix5 b c h q k)) (Finset.fold max (Ideal.ofBits FTy.f32 4286578688#32) (fun x : Fin 8192 => (show EReal from res_main_v61 V0 (ix5 b c h q x))) Finset.univ)) := by
  unfold res_main_v66; clean_types; pointwise
theorem v70_at (b c : Fin 2) (h : Fin 4) (q k : Fin 8192) : res_main_v70 V0 (ix5 b c h q k) = Ideal.div (res_main_v66 V0 (ix5 b c h q k)) (∑ x : Fin 8192, (show EReal from res_main_v66 V0 (ix5 b c h q x))) := by
  unfold res_main_v70; clean_types; pointwise
theorem v114_at (b : Fin 2) (h : Fin 4) (q k : Fin 8192) : res_main_v114 V0 (ix4 b h q k) =
    Ideal.exp (@HSub.hSub EReal EReal EReal instHSub (res_main_v109 V0 (ix4 b h q k)) (Finset.fold max (Ideal.ofBits FTy.f32 4286578688#32) (fun x : Fin 8192 => (show EReal from res_main_v109 V0 (ix4 b h q x))) Finset.univ)) := by
  unfold res_main_v114; clean_types; pointwise
theorem v6_at (x : Fin 4) (y : Fin 64) : res_main_v6 V0 (ix2 x y) = (show EReal from V0 (Proc.devRef .tc main_arg8) (ix3 0 x y)) := by
  unfold res_main_v6; clean_types; pointwise
theorem v0_at (k : Fin 8192) : res_main_v0 V0 (ix1 k) = BitVec.ofNat 32 k.val := by
  unfold res_main_v0; clean_types; pointwise
theorem v5_at (q k : Fin 8192) : res_main_v5 V0 (ix2 q k) = IntOp.subi (BitVec.ofNat 32 q.val) (BitVec.ofNat 32 k.val) := by
  rw [← v0_at V0 q, ← v0_at V0 k]
  unfold res_main_v5; clean_types; pointwise
theorem v29_at (q k : Fin 8192) : res_main_v29 V0 (ix2 q k) = IntOp.maxsi (IntOp.subi (BitVec.ofNat 32 q.val) (BitVec.ofNat 32 k.val)) 0#32 := by
  rw [← v5_at V0 q k]
  unfold res_main_v29; clean_types; pointwise
theorem v47_at (q k : Fin 8192) : res_main_v47 V0 (ix2 q k) = Cert.Spec.bucketW (res_main_v29 V0 (ix2 q k)) := by
  unfold res_main_v47 Cert.Spec.bucketW; clean_types; pointwise
set_option maxHeartbeats 2000000 in
theorem v61_at (b c : Fin 2) (h : Fin 4) (q k : Fin 8192) (n : Fin 32) (hn : Cert.Spec.bucketW (res_main_v29 V0 (ix2 q k)) = BitVec.ofNat 32 n.val) : res_main_v61 V0 (ix5 b c h q k) =
    (Scalar.select (IntOp.cmpi .sge (IntOp.subi (BitVec.ofNat 32 q.val) (BitVec.ofNat 32 k.val)) 0#32)
      (@HAdd.hAdd EReal EReal EReal instHAdd (@HMul.hMul EReal EReal EReal instHMul (∑ x : Fin 64, @HMul.hMul EReal EReal EReal instHMul (V0 (Proc.devRef .tc main_arg0) (ix4 b q h ⟨c.val * 64 + x.val, by omega⟩)) (V0 (Proc.devRef .tc main_arg1) (ix4 b k h ⟨c.val * 64 + x.val, by omega⟩)))
        (Ideal.ofBits .f32 1040187392#32)) (V0 (Proc.devRef .tc main_arg7) (ix2 n h))) (Ideal.ofBits .f32 4286578688#32) : EReal) := by
  have hw := v47_at V0 q k
  rw [hn] at hw
  rw [← v5_at V0 q k]
  rw [← lookup_at (V0 (Proc.devRef .tc main_arg7)) (broadcastInDim S8192x8192x1 ![0, 1] bcast_S8192x8192_S8192x8192x1_0_1
    (select (cmpi .slt (res_main_v47 V0) (broadcastInDim S8192x8192 ![] bcast_S_S8192x8192 (constantI S_ 32 0#32))) (addi (res_main_v47 V0) (broadcastInDim S8192x8192 ![] bcast_S_S8192x8192 (constantI S_ 32 32#32))) (res_main_v47 V0))) q k h n ?_]
  · unfold res_main_v61; clean_types; pointwise
    rfl
  · pointwise
    rw [hw]
    have hs : IntOp.cmpi .slt (BitVec.ofNat 32 n.val) 0#32 = 0#1 := by
      rw [WordCmp.cmpi_slt_eq, WordCmp.toInt_ofNat_of_lt (by omega), decide_eq_false (by show ¬ (n.val : ℤ) < 0; omega)]; rfl
    rw [hs, WordCmp.select_zero]
theorem v109_at (b : Fin 2) (h : Fin 4) (q k : Fin 8192) : res_main_v109 V0 (ix4 b h q k) =
    (Scalar.select (IntOp.cmpi .sle (BitVec.ofNat 32 k.val) (BitVec.ofNat 32 q.val))
      (@HMul.hMul EReal EReal EReal instHMul (@HAdd.hAdd EReal EReal EReal instHAdd (∑ x : Fin 256, @HMul.hMul EReal EReal EReal instHMul (V0 (Proc.devRef .tc main_arg5) (ix3 b k x)) (V0 (Proc.devRef .tc main_arg3) (ix4 b q h x)))
        (∑ x : Fin 64, @HMul.hMul EReal EReal EReal instHMul (V0 (Proc.devRef .tc main_arg6) (ix3 b k x)) (V0 (Proc.devRef .tc main_arg4) (ix4 b q h x)))) (Ideal.ofBits .f32 1033096506#32)) (Ideal.ofBits .f32 4286578688#32) : EReal) := by
  rw [← v0_at V0 q, ← v0_at V0 k]
  unfold res_main_v109; clean_types; pointwise
  rfl
end Cert.ReferenceIdeal.Value
-- ==== Proof.Value.RefAt.lean ====
module

public import proofs.«01_k».proof.Proof.Value.RefRaw

/-! The reference's result as a function of the arrays. -/

@[expose] public section
set_option maxRecDepth 16384
set_option Elab.async false
noncomputable section
namespace Cert.ReferenceIdeal.Value
open Cert.Online Cert.Spec
open Cert.ReferenceIdeal Cert.ReferenceIdeal.Gen
open Idealize.ShloMosaic
open Idealize.ShloMosaic.TcCoe Idealize.ShloMosaic.Tactic

/-- The reference's arguments hold the arrays. -/
abbrev HoldsR (V0 : Valuation τ sig (Elt Ideal)) (A : Arr) : Prop := Holds A (fun b r h x => V0 (Proc.devRef .tc main_arg0) (ix4 b r h x)) (fun b r h x => V0 (Proc.devRef .tc main_arg1) (ix4 b r h x))
  (fun b r h x => V0 (Proc.devRef .tc main_arg2) (ix4 b r h x)) (fun b r h x => V0 (Proc.devRef .tc main_arg3) (ix4 b r h x)) (fun b r h x => V0 (Proc.devRef .tc main_arg4) (ix4 b r h x))
  (fun b r x => V0 (Proc.devRef .tc main_arg5) (ix3 b r x)) (fun b r x => V0 (Proc.devRef .tc main_arg6) (ix3 b r x)) (fun n h => V0 (Proc.devRef .tc main_arg7) (ix2 n h))
  (fun i x => V0 (Proc.devRef .tc main_arg8) (ix3 0 i x)) (fun x => V0 (Proc.devRef .tc main_arg9) (ix2 0 x)) (fun a h e => V0 (Proc.devRef .tc main_arg10) (ix4 0 a h e))

variable {V0 : Valuation τ sig (Elt Ideal)} {A : Arr} (H : HoldsR V0 A)
include H

theorem score61 (b c : Fin 2) (h : Fin 4) (q k : Fin 8192) : res_main_v61 V0 (ix5 b c h q k) = sD A b h c q k.val := by
  by_cases hk : k.val ≤ q.val
  · have hw : Cert.Spec.bucketW (res_main_v29 V0 (ix2 q k)) = BitVec.ofNat 32 (bucket (q.val - k.val)).val := by
      rw [v29_at, sub_word (by omega) hk, max_zero_word (by omega), bucketW_eq (by omega)]
    rw [v61_at V0 b c h q k _ hw, sge_sub (by omega) (by omega), if_pos hk, WordCmp.select_one]
    have e : ∀ x : Fin 64, @HMul.hMul EReal EReal EReal instHMul (V0 (Proc.devRef .tc main_arg0) (ix4 b q h ⟨c.val * 64 + x.val, by omega⟩)) (V0 (Proc.devRef .tc main_arg1) (ix4 b k h ⟨c.val * 64 + x.val, by omega⟩))
        = ((A.q b q h ⟨c.val * 64 + x.val, by omega⟩ * A.k b k h ⟨c.val * 64 + x.val, by omega⟩ : ℝ) : EReal) := fun x => by
      rw [EReal.coe_mul]; exact congrArg₂ (fun y z : EReal => y * z) (H.q b q h _) (H.k b k h _)
    have er : V0 (Proc.devRef .tc main_arg7) (ix2 (bucket (q.val - k.val)) h) = ((A.rb (bucket (q.val - k.val)) h : ℝ) : EReal) := H.rb _ h
    rw [Finset.sum_congr rfl fun x _ => e x, ← coe_sum, c8, er, ← EReal.coe_mul, ← EReal.coe_add]
    unfold sD dotD
    rw [if_pos hk, key_val]
  · have hw : Cert.Spec.bucketW (res_main_v29 V0 (ix2 q k)) = BitVec.ofNat 32 (bucket 0).val := by
      have hz : IntOp.maxsi (IntOp.subi (BitVec.ofNat 32 q.val) (BitVec.ofNat 32 k.val)) 0#32 = BitVec.ofNat 32 0 := by
        have hs := sge_sub (a := q.val) (j := k.val) (by omega) (by omega)
        rw [if_neg hk, WordCmp.cmpi_sge_eq] at hs
        unfold IntOp.maxsi
        rw [if_neg]
        intro hc
        rw [BitVec.slt_iff_toInt_lt] at hc
        rw [decide_eq_true (le_of_lt hc)] at hs
        exact absurd hs (by decide)
      rw [v29_at, hz, bucketW_eq (by omega)]
    rw [v61_at V0 b c h q k _ hw, sge_sub (by omega) (by omega), if_neg hk, WordCmp.select_zero, cLow]
    unfold sD
    rw [if_neg hk]

theorem score109 (b : Fin 2) (h : Fin 4) (q k : Fin 8192) : res_main_v109 V0 (ix4 b h q k) = sM A b h q k.val := by
  have hc : IntOp.cmpi .sle (BitVec.ofNat 32 k.val) (BitVec.ofNat 32 q.val) = if k.val ≤ q.val then 1#1 else 0#1 := by
    rw [WordCmp.cmpi_sle_eq, WordCmp.toInt_ofNat_of_lt (by omega), WordCmp.toInt_ofNat_of_lt (by omega)]
    by_cases hk : k.val ≤ q.val
    · rw [if_pos hk, decide_eq_true (by omega)]; rfl
    · rw [if_neg hk, decide_eq_false (by omega)]; rfl
  rw [v109_at, hc]
  unfold sM
  by_cases hk : k.val ≤ q.val
  · rw [if_pos hk, if_pos hk, WordCmp.select_one]
    have e1 : ∀ x : Fin 256, @HMul.hMul EReal EReal EReal instHMul (V0 (Proc.devRef .tc main_arg5) (ix3 b k x)) (V0 (Proc.devRef .tc main_arg3) (ix4 b q h x)) = ((A.ck b k x * A.ql b q h x : ℝ) : EReal) := fun x => by
      rw [EReal.coe_mul]; exact congrArg₂ (fun y z : EReal => y * z) (H.ck b k x) (H.ql b q h x)
    have e2 : ∀ x : Fin 64, @HMul.hMul EReal EReal EReal instHMul (V0 (Proc.devRef .tc main_arg6) (ix3 b k x)) (V0 (Proc.devRef .tc main_arg4) (ix4 b q h x)) = ((A.kr b k x * A.qr b q h x : ℝ) : EReal) := fun x => by
      rw [EReal.coe_mul]; exact congrArg₂ (fun y z : EReal => y * z) (H.kr b k x) (H.qr b q h x)
    rw [Finset.sum_congr rfl fun x _ => e1 x, Finset.sum_congr rfl fun x _ => e2 x, ← coe_sum, ← coe_sum, cM, ← EReal.coe_add, ← EReal.coe_mul]
    unfold dotM
    rw [key_val]
  · rw [if_neg hk, if_neg hk, WordCmp.select_zero, cLow]

theorem weight70 (b c : Fin 2) (h : Fin 4) (q k : Fin 8192) : res_main_v70 V0 (ix5 b c h q k) = ((wt (sD A b h c q k.val) / denD A b h c q : ℝ) : EReal) := by
  have e : ∀ x : Fin 8192, res_main_v66 V0 (ix5 b c h q x) = Ideal.exp (sD A b h c q x.val - Finset.univ.fold max ⊥ fun j : Fin 8192 => sD A b h c q j.val) := fun x => by
    rw [v66_at, score61 H, cLow]
    congr 3
    funext j
    exact score61 H b c h q j
  rw [v70_at, e]
  rw [show (∑ x : Fin 8192, (show EReal from res_main_v66 V0 (ix5 b c h q x))) = _ from Finset.sum_congr rfl fun x _ => e x]
  exact softmax_eq (fun j : Fin 8192 => sD A b h c q j.val) (fun j => sD_top A b h c q j.val) 0 (sD_zero A b h c q) k
theorem weight114 (b : Fin 2) (h : Fin 4) (q k : Fin 8192) : Ideal.div (res_main_v114 V0 (ix4 b h q k)) (∑ x : Fin 8192, (show EReal from res_main_v114 V0 (ix4 b h q x))) = ((wt (sM A b h q k.val) / denM A b h q : ℝ) : EReal) := by
  have e : ∀ x : Fin 8192, res_main_v114 V0 (ix4 b h q x) = Ideal.exp (sM A b h q x.val - Finset.univ.fold max ⊥ fun j : Fin 8192 => sM A b h q j.val) := fun x => by
    rw [v114_at, score109 H, cLow]
    congr 3
    funext j
    exact score109 H b h q j
  rw [e]
  rw [show (∑ x : Fin 8192, (show EReal from res_main_v114 V0 (ix4 b h q x))) = _ from Finset.sum_congr rfl fun x _ => e x]
  exact softmax_eq (fun j : Fin 8192 => sM A b h q j.val) (fun j => sM_top A b h q j.val) 0 (sM_zero A b h q) k

theorem dif79 (b : Fin 2) (q : Fin 8192) (h : Fin 4) (e : Fin 128) : res_main_v79 V0 (ix4 b q h e) = ((dif A b h q e : ℝ) : EReal) := by
  unfold res_main_v79
  rw [mix_at]
  have hl := (lam_at (res_main_v6 V0)).trans (lam_eq A (fun i x => res_main_v6 V0 (ix2 i x)) fun i x => (v6_at V0 i x).trans (H.lm i x))
  rw [hl]
  have et : ∀ x : Fin 8192, @HMul.hMul EReal EReal EReal instHMul (V0 (Proc.devRef .tc main_arg2) (ix4 b x h e)) (@HSub.hSub EReal EReal EReal instHSub (res_main_v70 V0 (ix5 b 0 h q x)) (@HMul.hMul EReal EReal EReal instHMul ((lam A : ℝ) : EReal) (res_main_v70 V0 (ix5 b 1 h q x))))
      = ((wt (sD A b h 0 q x.val) * A.v b x h e / denD A b h 0 q - lam A * (wt (sD A b h 1 q x.val) * A.v b x h e / denD A b h 1 q) : ℝ) : EReal) := fun x => by
    rw [weight70 H, weight70 H, show V0 (Proc.devRef .tc main_arg2) (ix4 b x h e) = ((A.v b x h e : ℝ) : EReal) from H.v b x h e, ← EReal.coe_mul, ← EReal.coe_sub, ← EReal.coe_mul]
    congr 1; ring
  refine (Finset.sum_congr rfl fun x _ => et x).trans ((coe_sum _).symm.trans ?_)
  congr 1
  rw [Finset.sum_sub_distrib, ← Finset.sum_div, ← Finset.mul_sum, ← Finset.sum_div]
  rfl

theorem headD (b : Fin 2) (q : Fin 8192) (j : Fin 512) :
    (shapeCast S2x8192x512 (mulf (mulf (mulf (res_main_v79 V0) (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf (res_main_v79 V0) (res_main_v79 V0)) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x3727C5AC#32)))))) (broadcastInDim S2x8192x4x128 ![0, 1, 2, 3] bcast_S1x1x1x128_S2x8192x4x128_0_1_2_3 (broadcastInDim S1x1x1x128 ![3] bcast_S128_S1x1x1x128_3 (shapeCast (α := Ideal .f32) _ (V0 (Proc.devRef .tc main_arg9)) shapeCasts_S1x128_S128)))) (broadcastInDim S2x8192x4x128 ![] bcast_S_S2x8192x4x128 (constant S_ .f32 0x3F4CCCCD#32))) shapeCasts_S2x8192x4x128_S2x8192x512) (ix3 b q j) = outD A b ⟨j.val / 128, by omega⟩ q ⟨j.val % 128, by omega⟩ := by
  rw [norm_at]
  have e : (fun x : Fin 128 => res_main_v79 V0 (ix4 b q (⟨j.val / 128, by omega⟩ : Fin 4) x)) = fun x => ((dif A b ⟨j.val / 128, by omega⟩ q x : ℝ) : EReal) := funext fun x => dif79 H b q _ x
  rw [e, show V0 (Proc.devRef .tc main_arg9) (ix2 0 ⟨j.val % 128, by omega⟩) = A.g ⟨j.val % 128, by omega⟩ from H.g _]
  rfl
theorem headM (b : Fin 2) (q : Fin 8192) (j : Fin 512) :
    (shapeCast S2x8192x512 (transpose S2x8192x4x128 [2, 3, 0, 1] (Host.dotGeneral (φ₁ := .f32) (φ₂ := .f32) dot_S256x4x128_S2x8192x4x256_S4x128x2x8192_0_3_2_01_1_2 none (shapeCast (α := Ideal .f32) _ (V0 (Proc.devRef .tc main_arg10)) shapeCasts_S1x256x4x128_S256x4x128) (transpose S2x8192x4x256 [0, 3, 2, 1] (Host.dotGeneral (φ₁ := .f32) (φ₂ := .f32) dot_S2x8192x256_S2x4x8192x8192_S2x256x4x8192_1_3_2_12_0_0 none (V0 (Proc.devRef .tc main_arg5)) (Host.divf (res_main_v114 V0) (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduceAdd (res_main_v114 V0) (constant S_ .f32 0x00000000#32) reducesTo_S2x4x8192x8192_S2x4x8192_d3 h_S_))))) transposes_S2x256x4x8192_S2x8192x4x256_0_3_2_1)) transposes_S4x128x2x8192_S2x8192x4x128_2_3_0_1) shapeCasts_S2x8192x4x128_S2x8192x512) (ix3 b q j) = outM A b ⟨j.val / 128, by omega⟩ q ⟨j.val % 128, by omega⟩ := by
  rw [mla_at]
  unfold outM
  refine Finset.sum_congr rfl fun a _ => ?_
  rw [mul_comm]
  refine congrArg₂ (fun y z : EReal => y * z) ?_ (H.u a _ _)
  have et : ∀ k : Fin 8192, @HMul.hMul EReal EReal EReal instHMul (V0 (Proc.devRef .tc main_arg5) (ix3 b k a)) ((Host.divf (res_main_v114 V0) (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduceAdd (res_main_v114 V0) (constant S_ .f32 0x00000000#32) reducesTo_S2x4x8192x8192_S2x4x8192_d3 h_S_)))) (ix4 b ⟨j.val / 128, by omega⟩ q k))
      = ((wt (sM A b ⟨j.val / 128, by omega⟩ q k.val) * A.ck b k a / denM A b ⟨j.val / 128, by omega⟩ q : ℝ) : EReal) := fun k => by
    rw [soft_at, weight114 H, show V0 (Proc.devRef .tc main_arg5) (ix3 b k a) = ((A.ck b k a : ℝ) : EReal) from H.ck b k a, ← EReal.coe_mul]
    congr 1; ring
  refine (Finset.sum_congr rfl fun x _ => et x).trans ((coe_sum _).symm.trans ?_)
  congr 1
  rw [← Finset.sum_div]
  rfl

/-- The reference's result. -/
theorem result_eq (b : Fin 2) (q : Fin 8192) (j : Fin 1024) :
    (truncf .bf16 (concatenate S2x8192x1024 2 [⟨S2x8192x512, (shapeCast _ (mulf (mulf (mulf (res_main_v79 V0) (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf (res_main_v79 V0) (res_main_v79 V0)) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x3727C5AC#32)))))) (broadcastInDim S2x8192x4x128 ![0, 1, 2, 3] bcast_S1x1x1x128_S2x8192x4x128_0_1_2_3 (broadcastInDim S1x1x1x128 ![3] bcast_S128_S1x1x1x128_3 (shapeCast (α := Ideal .f32) _ (V0 (Proc.devRef .tc main_arg9)) shapeCasts_S1x128_S128)))) (broadcastInDim S2x8192x4x128 ![] bcast_S_S2x8192x4x128 (constant S_ .f32 0x3F4CCCCD#32))) shapeCasts_S2x8192x4x128_S2x8192x512)⟩, ⟨S2x8192x512, (shapeCast _ (transpose S2x8192x4x128 [2, 3, 0, 1] (Host.dotGeneral (φ₁ := .f32) (φ₂ := .f32) dot_S256x4x128_S2x8192x4x256_S4x128x2x8192_0_3_2_01_1_2 none (shapeCast (α := Ideal .f32) _ (V0 (Proc.devRef .tc main_arg10)) shapeCasts_S1x256x4x128_S256x4x128) (transpose S2x8192x4x256 [0, 3, 2, 1] (Host.dotGeneral (φ₁ := .f32) (φ₂ := .f32) dot_S2x8192x256_S2x4x8192x8192_S2x256x4x8192_1_3_2_12_0_0 none (V0 (Proc.devRef .tc main_arg5)) (Host.divf (res_main_v114 V0) (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduceAdd (res_main_v114 V0) (constant S_ .f32 0x00000000#32) reducesTo_S2x4x8192x8192_S2x4x8192_d3 h_S_))))) transposes_S2x256x4x8192_S2x8192x4x256_0_3_2_1)) transposes_S4x128x2x8192_S2x8192x4x128_2_3_0_1) shapeCasts_S2x8192x4x128_S2x8192x512)⟩] concatenates_S2x8192x512_S2x8192x512_S2x8192x1024_d2) bitsLt_bf16_f32) (ix3 b q j) = out A b q j := by
  rw [cat_at]
  unfold out
  split_ifs with h
  · exact headD H b q ⟨j.val, h⟩
  · exact headM H b q ⟨j.val - 512, by omega⟩
end Cert.ReferenceIdeal.Value
-- ==== Proof.lean ====
module

public import proofs.«01_k».proof.Proof.Gen.Reference3Ideal.Run
public import proofs.«01_k».proof.Proof.Gen.Kernel3.Launch
public import proofs.«01_k».proof.Proof.Gen.Kernel3.Skeleton
public import proofs.«01_k».proof.Proof.Gen.Kernel3.Points
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.PB.Frame
public import proofs.«01_k».proof.Proof.Projn.Arr
public import proofs.«01_k».proof.Proof.Projn.Ref
public import proofs.«01_k».proof.Proof.Gen.Reference2Ideal.Run
public import proofs.«01_k».proof.Proof.Gen.Kernel2.Frame
public import proofs.«01_k».proof.Proof.Gen.Kernel2Ideal.Value
public import proofs.«01_k».proof.Proof.Outp.Arr
public import proofs.«01_k».proof.Proof.Outp.Ref
public import proofs.«01_k».proof.Proof.Gen.Pre_finite
public import proofs.«01_k».proof.Proof.Gen.ReferenceIdeal.Run
public import proofs.«01_k».proof.Proof.KI.Frame
public import proofs.«01_k».proof.Proof.KB.Frame
public import proofs.«01_k».proof.Proof.Value.Finite
public import proofs.«01_k».proof.Proof.Value.OutArr
public import proofs.«01_k».proof.Proof.Value.RefAt

@[expose] public section

set_option maxRecDepth 16384

noncomputable section

namespace Cert.Proof

open Idealize.ShloMosaic Idealize.SL.Sem

theorem frame_kernel : Cert.quiescent_Kernel := fun m g _ => Cert.Kernel.Attn.frame m g
theorem frame_kernelIdeal : Cert.quiescent_KernelIdeal := fun m g _ => Cert.KernelIdeal.Attn.frame m g
theorem frame_kernelIdeal_pre : Cert.quiescent_KernelIdeal_pre_finite := fun m g _ => Cert.KernelIdeal.Attn.frame m g

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)
theorem frame_reference_pre : Cert.quiescent_ReferenceIdeal_pre_finite := fun m g _ => frame_reference m g trivial

theorem preserves : Cert.preserves_Kernel_KernelIdeal := IdealRules.named_const.statement _ _ _ _ _ rfl

open Cert.KernelIdeal.Attn (arrOf holds_arrOf outG) in
/-- The kernel's and the reference's results are one function of the arguments. -/
theorem algebraic : Cert.algebraic_KernelIdeal_ReferenceIdeal_pre_finite := by
  intro m g m' g' hp hm
  refine ⟨fun c => outG (arrOf m c), ?_, ?_⟩
  · refine (θ_run Cert.KernelIdeal.defs _ _).mono (fun r h c => ⟨?_, Cert.KernelIdeal.Attn.args_kept m h.1 c⟩) (Cert.KernelIdeal.Attn.run_main m g)
    exact (Pipeline.FramePost.out_eq h.1 c (9 : Fin 10)).trans (Cert.KernelIdeal.Attn.arr9 (holds_arrOf m hp c))
  · refine (θ_run Cert.ReferenceIdeal.defs _ _).mono (fun r h c => ⟨(h c).1.trans ?_, (h c).2⟩) (Cert.ReferenceIdeal.Value.run m' g')
    have H := holds_arrOf m hp c
    obtain ⟨a0, a1, a2, a3, a4, a5, a6, a7, a8, a9, a10⟩ := hm c
    have HR : Cert.ReferenceIdeal.Value.HoldsR (StableHlo.launchContents m' c) (arrOf m c) := {
      q := fun b r h x => (congrFun a0 (ix4 b r h x)).trans (H.q b r h x)
      k := fun b r h x => (congrFun a1 (ix4 b r h x)).trans (H.k b r h x)
      v := fun b r h x => (congrFun a2 (ix4 b r h x)).trans (H.v b r h x)
      ql := fun b r h x => (congrFun a3 (ix4 b r h x)).trans (H.ql b r h x)
      qr := fun b r h x => (congrFun a4 (ix4 b r h x)).trans (H.qr b r h x)
      ck := fun b r x => (congrFun a5 (ix3 b r x)).trans (H.ck b r x)
      kr := fun b r x => (congrFun a6 (ix3 b r x)).trans (H.kr b r x)
      rb := fun n h => (congrFun a7 (ix2 n h)).trans (H.rb n h)
      lm := fun i x => (congrFun a8 (ix3 0 i x)).trans (H.lm i x)
      g := fun x => (congrFun a9 (ix2 0 x)).trans (H.g x)
      u := fun a h e => (congrFun a10 (ix4 0 a h e)).trans (H.u a h e) }
    funext i
    have ei : i = ix3 (i 0 : Fin 2) (i 1 : Fin 8192) (i 2 : Fin 1024) := by funext a; fin_cases a <;> rfl
    exact (congrArg _ ei).trans (Cert.ReferenceIdeal.Value.result_eq HR (i 0 : Fin 2) (i 1 : Fin 8192) (i 2 : Fin 1024))

theorem frame_kernel2 : Cert.quiescent_Kernel2 := fun m g _ => Cert.Kernel2.Gen.frame m g
theorem frame_kernel2Ideal : Cert.quiescent_Kernel2Ideal := fun m g _ => Cert.Kernel2Ideal.Gen.frame m g
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)
theorem preserves2 : Cert.preserves_Kernel2_Kernel2Ideal := trivial

open Cert.Kernel2Ideal.Outp (outG outV outRow_congr) in
/-- The projection's and its reference's results are one function of the arguments. -/
theorem algebraic2 : Cert.algebraic_Kernel2Ideal_Reference2Ideal := by
  intro m g m' g' hp hm
  refine ⟨fun c => outG m c, ?_, ?_⟩
  · exact (θ_run Cert.Kernel2Ideal.defs _ _).mono (fun r h c => ⟨(h c).1.trans (Cert.Kernel2Ideal.Outp.arr5 m c), (h c).2⟩) (Cert.Kernel2Ideal.Value.run_blocks m g)
  · refine (θ_run Cert.Reference2Ideal.defs _ _).mono (fun r h c => ⟨(h c).1.trans ?_, (h c).2⟩) (Cert.Reference2Ideal.Value.run m' g')
    obtain ⟨a0, a1, a2, a3, a4⟩ := hm c
    funext i
    have ei : i = ix2 (i 0 : Fin 16384) (i 1 : Fin 1024) := by funext a; fin_cases a <;> rfl
    refine (congrArg _ ei).trans ((Cert.Reference2Ideal.Outp.res_at m' c (i 0 : Fin 16384) (i 1 : Fin 1024)).trans ?_)
    show _ = outV m c (i 0 : Fin 16384) (i 1 : Fin 1024)
    unfold outV
    exact outRow_congr (funext fun e => congrFun a0 _) (funext fun k => congrFun a1 _) (funext fun k => funext fun e => congrFun a2 _) (funext fun e => congrFun a3 _) (funext fun e => congrFun a4 _) _

theorem frame_kernel3 : Cert.quiescent_Kernel3 := fun m g _ => Cert.Kernel3.Projn.frame m g
theorem frame_kernel3Ideal : Cert.quiescent_Kernel3Ideal := fun m g _ => Cert.Kernel3Ideal.Projn.frame m g
theorem frame_reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)
theorem preserves3 : Cert.preserves_Kernel3_Kernel3Ideal := trivial

open Cert.Kernel3Ideal.Projn (kvArr latArr zTok) in
/-- The input projection's two results and its reference's are one function of the arguments. -/
theorem algebraic3 : Cert.algebraic_Kernel3Ideal_Reference3Ideal := by
  intro m g m' g' hp hm
  refine ⟨fun c => kvArr m c, fun c => latArr m c, ?_, ?_⟩
  · refine (θ_run Cert.Kernel3Ideal.defs _ _).mono (fun r h c => ⟨?_, ?_, Cert.Kernel3Ideal.Projn.args_kept m h c⟩) (Cert.Kernel3Ideal.Projn.run_main m g)
    · exact (Pipeline.FramePost.out_eq h c (9 : Fin 14)).trans (Cert.Kernel3Ideal.Projn.arr9 m c)
    · exact (Pipeline.FramePost.out_eq h c (12 : Fin 14)).trans (Cert.Kernel3Ideal.Projn.arr12 m c)
  · refine (θ_run Cert.Reference3Ideal.defs _ _).mono (fun r h c => ⟨(h c).1.trans ?_, (h c).2.1.trans ?_, (h c).2.2⟩) (Cert.Reference3Ideal.Value.run m' g')
    · obtain ⟨a0, a1, a2, a3, a4, a5⟩ := hm c
      funext i
      have ei : i = ix2 (i 0 : Fin 131072) (i 1 : Fin 128) := by funext a; fin_cases a <;> rfl
      refine (congrArg _ ei).trans ((Cert.Reference3Ideal.Projn.res_kv_at m' c (i 0 : Fin 131072) (i 1 : Fin 128)).trans ?_)
      refine congrArg (fun z => Cert.Projn.kvRow z _ _) ?_
      exact congrArg₂ Cert.Projn.zRow (funext fun k => congrFun a0 _) (funext fun k => funext fun n => congrFun a1 _)
    · obtain ⟨a0, a1, a2, a3, a4, a5⟩ := hm c
      funext i
      have ei : i = ix2 (i 0 : Fin 16384) (i 1 : Fin 320) := by funext a; fin_cases a <;> rfl
      refine (congrArg _ ei).trans ((Cert.Reference3Ideal.Projn.res_lat_at m' c (i 0 : Fin 16384) (i 1 : Fin 320)).trans ?_)
      exact congrArg₂ (fun z e => Cert.Projn.latRow z e _ _) (congrArg₂ Cert.Projn.zRow (funext fun k => congrFun a0 _) (funext fun k => funext fun n => congrFun a1 _)) (funext fun e => congrFun a4 _)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite.Gen.facts,
  frame_kernel, frame_kernelIdeal, frame_kernelIdeal_pre, frame_reference, frame_reference_pre, frame_kernel2, frame_kernel2Ideal, frame_reference2, frame_kernel3, frame_kernel3Ideal, frame_reference3, preserves, algebraic, preserves2, algebraic2, preserves3, algebraic3⟩

end Cert.Proof

end
